-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S2x512x2048 : Shape := ⟨3, ![2, 512, 2048]⟩
abbrev S512x4096 : Shape := ⟨2, ![512, 4096]⟩
abbrev S6x512x512 : Shape := ⟨3, ![6, 512, 512]⟩
abbrev S24 : Shape := ⟨1, ![24]⟩
abbrev S4 : Shape := ⟨1, ![4]⟩
abbrev S2 : Shape := ⟨1, ![2]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S2048x1024 : Shape := ⟨2, ![2048, 1024]⟩
abbrev S512x1024 : Shape := ⟨2, ![512, 1024]⟩
abbrev S1x128x512 : Shape := ⟨3, ![1, 128, 512]⟩
abbrev S128x512 : Shape := ⟨2, ![128, 512]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .local _ .vmem, ⟨0, _⟩ => ⟨S2048x4096, .f32⟩
  | .local _ .vmem, ⟨1, _⟩ => ⟨S2x512x2048, .f32⟩
  | .local _ .vmem, ⟨2, _⟩ => ⟨S512x4096, .f32⟩
  | .local _ .vmem, ⟨3, _⟩ => ⟨S6x512x512, .f32⟩
  | .local _ .vmem, ⟨4, _⟩ => ⟨S6x512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  (ofTc nBuf bufTy 1 110 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_14 : BitVec 32 := 0#32
  let v28 : BitVec 1 := Scalar.cmpi .eq arg0 c0_i32_14
  let v29 : BitVec 32 := Scalar.extui v28
  let c0_i32_15 : BitVec 32 := 0#32
  let v30 : BitVec 1 := Scalar.cmpi .ne v29 c0_i32_15
  v30

def k0_dev1 (d0 : Dev nD) : Nat :=
  let c0_i32_2005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2004 : BitVec 32 := 1#32
  let v2289 : BitVec 32 := Scalar.muli v13 c1_i32_2004
  let v2290 : BitVec 32 := Scalar.addi c0_i32_2005 v2289
  v2290.toNat
def k0_dev2 (d0 : Dev nD) : Nat :=
  let c0_i32_2008 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2007 : BitVec 32 := 1#32
  let v2291 : BitVec 32 := Scalar.muli v24 c1_i32_2007
  let v2292 : BitVec 32 := Scalar.addi c0_i32_2008 v2291
  v2292.toNat
def k0_off1 (d0 : Dev nD) (c0_i32_2016 : BitVec 32) : Fin 2 → Nat :=
  let c0_i32_2025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2298 : BitVec 32 := Scalar.addi v2 c0_i32_2016
  let c4_i32_2017 : BitVec 32 := 4#32
  let c0_i32_2018 : BitVec 32 := 0#32
  let v2299 : BitVec 1 := Scalar.cmpi .eq c4_i32_2017 c0_i32_2018
  let c1_i32_2019 : BitVec 32 := 1#32
  let v2300 : BitVec 32 := Scalar.select v2299 c1_i32_2019 c4_i32_2017
  let v2301 : BitVec 32 := Scalar.remsi v2298 v2300
  let c0_i32_2021 : BitVec 32 := 0#32
  let v2303 : BitVec 1 := Scalar.cmpi .slt v2301 c0_i32_2021
  let c0_i32_2022 : BitVec 32 := 0#32
  let v2304 : BitVec 1 := Scalar.cmpi .slt v2300 c0_i32_2022
  let v2305 : BitVec 1 := Scalar.xori v2303 v2304
  let c0_i32_2020 : BitVec 32 := 0#32
  let v2302 : BitVec 1 := Scalar.cmpi .ne v2301 c0_i32_2020
  let v2306 : BitVec 1 := Scalar.andi v2305 v2302
  let v2307 : BitVec 32 := Scalar.addi v2301 v2300
  let v2308 : BitVec 32 := Scalar.select v2306 v2307 v2301
  let c1024_i32_2023 : BitVec 32 := 1024#32
  let v2309 : BitVec 32 := Scalar.muli v2308 c1024_i32_2023
  ![0, v2309.toNat]
def k0_off2 (d0 : Dev nD) : Fin 2 → Nat :=
  let c0_2088 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2077 : BitVec 32 := 0#32
  let v2383 : BitVec 32 := Scalar.addi v2 c0_i32_2077
  let c4_i32_2078 : BitVec 32 := 4#32
  let c0_i32_2079 : BitVec 32 := 0#32
  let v2384 : BitVec 1 := Scalar.cmpi .eq c4_i32_2078 c0_i32_2079
  let c1_i32_2080 : BitVec 32 := 1#32
  let v2385 : BitVec 32 := Scalar.select v2384 c1_i32_2080 c4_i32_2078
  let v2386 : BitVec 32 := Scalar.remsi v2383 v2385
  let c0_i32_2082 : BitVec 32 := 0#32
  let v2388 : BitVec 1 := Scalar.cmpi .slt v2386 c0_i32_2082
  let c0_i32_2083 : BitVec 32 := 0#32
  let v2389 : BitVec 1 := Scalar.cmpi .slt v2385 c0_i32_2083
  let v2390 : BitVec 1 := Scalar.xori v2388 v2389
  let c0_i32_2081 : BitVec 32 := 0#32
  let v2387 : BitVec 1 := Scalar.cmpi .ne v2386 c0_i32_2081
  let v2391 : BitVec 1 := Scalar.andi v2390 v2387
  let v2392 : BitVec 32 := Scalar.addi v2386 v2385
  let v2393 : BitVec 32 := Scalar.select v2391 v2392 v2386
  let c1024_i32_2084 : BitVec 32 := 1024#32
  let v2394 : BitVec 32 := Scalar.muli v2393 c1024_i32_2084
  let v2397 : Index := Scalar.indexCast v2394
  ![0, v2397.toNat]
def k0_off3 (d0 : Dev nD) : Fin 2 → Nat :=
  let c0_2090 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2077 : BitVec 32 := 0#32
  let v2383 : BitVec 32 := Scalar.addi v2 c0_i32_2077
  let c4_i32_2078 : BitVec 32 := 4#32
  let c0_i32_2079 : BitVec 32 := 0#32
  let v2384 : BitVec 1 := Scalar.cmpi .eq c4_i32_2078 c0_i32_2079
  let c1_i32_2080 : BitVec 32 := 1#32
  let v2385 : BitVec 32 := Scalar.select v2384 c1_i32_2080 c4_i32_2078
  let v2386 : BitVec 32 := Scalar.remsi v2383 v2385
  let c0_i32_2082 : BitVec 32 := 0#32
  let v2388 : BitVec 1 := Scalar.cmpi .slt v2386 c0_i32_2082
  let c0_i32_2083 : BitVec 32 := 0#32
  let v2389 : BitVec 1 := Scalar.cmpi .slt v2385 c0_i32_2083
  let v2390 : BitVec 1 := Scalar.xori v2388 v2389
  let c0_i32_2081 : BitVec 32 := 0#32
  let v2387 : BitVec 1 := Scalar.cmpi .ne v2386 c0_i32_2081
  let v2391 : BitVec 1 := Scalar.andi v2390 v2387
  let v2392 : BitVec 32 := Scalar.addi v2386 v2385
  let v2393 : BitVec 32 := Scalar.select v2391 v2392 v2386
  let c1024_i32_2084 : BitVec 32 := 1024#32
  let v2394 : BitVec 32 := Scalar.muli v2393 c1024_i32_2084
  let v2400 : Index := Scalar.indexCast v2394
  ![0, v2400.toNat]
def k0_cond2 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v31 : BitVec 32 := Scalar.extui v27
  let c0_i32_16 : BitVec 32 := 0#32
  let v32 : BitVec 1 := Scalar.cmpi .ne v31 c0_i32_16
  v32

def k0_off4 (i : grid0.Coords) : Fin 1 → Nat :=
  let arg0 : BitVec 32 := BitVec.ofNat 32 (i 0).val
  let c1_i32_2012 : BitVec 32 := 1#32
  let v2301 : BitVec 32 := Scalar.addi arg0 c1_i32_2012
  let c2_i32_2013 : BitVec 32 := 2#32
  let c0_i32_2014 : BitVec 32 := 0#32
  let v2302 : BitVec 1 := Scalar.cmpi .eq c2_i32_2013 c0_i32_2014
  let c1_i32_2015 : BitVec 32 := 1#32
  let v2303 : BitVec 32 := Scalar.select v2302 c1_i32_2015 c2_i32_2013
  let v2304 : BitVec 32 := Scalar.remsi v2301 v2303
  let c0_i32_2017 : BitVec 32 := 0#32
  let v2306 : BitVec 1 := Scalar.cmpi .slt v2304 c0_i32_2017
  let c0_i32_2018 : BitVec 32 := 0#32
  let v2307 : BitVec 1 := Scalar.cmpi .slt v2303 c0_i32_2018
  let v2308 : BitVec 1 := Scalar.xori v2306 v2307
  let c0_i32_2016 : BitVec 32 := 0#32
  let v2305 : BitVec 1 := Scalar.cmpi .ne v2304 c0_i32_2016
  let v2309 : BitVec 1 := Scalar.andi v2308 v2305
  let v2310 : BitVec 32 := Scalar.addi v2304 v2303
  let v2311 : BitVec 32 := Scalar.select v2309 v2310 v2304
  ![v2311.toNat]
def k0_off5 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let c0_i32_2019 : BitVec 32 := 0#32
  let c0_i32_2020 : BitVec 32 := 0#32
  ![v2300.toNat, 0, 0]
def k0_off6 (i : grid0.Coords) : Fin 2 → Nat :=
  let arg0 : BitVec 32 := BitVec.ofNat 32 (i 0).val
  let c1_i32_2003 : BitVec 32 := 1#32
  let v2288 : BitVec 32 := Scalar.addi arg0 c1_i32_2003
  let c512_i32_2004 : BitVec 32 := 512#32
  let v2289 : BitVec 32 := Scalar.muli v2288 c512_i32_2004
  let c0_i32_2021 : BitVec 32 := 0#32
  ![v2289.toNat, 0]
def k0_cond3 (i : grid0.Coords) : BitVec 1 :=
  let arg0 : BitVec 32 := BitVec.ofNat 32 (i 0).val
  let c0_i32_245 : BitVec 32 := 0#32
  let v367 : BitVec 1 := Scalar.cmpi .eq arg0 c0_i32_245
  let v368 : BitVec 32 := Scalar.extui v367
  let c0_i32_269 : BitVec 32 := 0#32
  let v369 : BitVec 1 := Scalar.cmpi .ne v368 c0_i32_269
  v369

def k0_off7 (d0 : Dev nD) : Fin 2 → Nat :=
  let c0_i32_2007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v55 : BitVec 32 := Scalar.subi v2 c0_i32_31
  let c4_i32_32 : BitVec 32 := 4#32
  let c0_i32_33 : BitVec 32 := 0#32
  let v56 : BitVec 1 := Scalar.cmpi .eq c4_i32_32 c0_i32_33
  let c1_i32_34 : BitVec 32 := 1#32
  let v57 : BitVec 32 := Scalar.select v56 c1_i32_34 c4_i32_32
  let v58 : BitVec 32 := Scalar.remsi v55 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let c1024_i32 : BitVec 32 := 1024#32
  let v77 : BitVec 32 := Scalar.muli v65 c1024_i32
  ![0, v77.toNat]
def k0_dev3 (d0 : Dev nD) : Nat :=
  let c0_i32_2004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2003 : BitVec 32 := 1#32
  let v2288 : BitVec 32 := Scalar.muli v24 c1_i32_2003
  let v2289 : BitVec 32 := Scalar.addi c0_i32_2004 v2288
  v2289.toNat
def k0_off8 (d0 : Dev nD) : Fin 2 → Nat :=
  let c0_i32_2012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let v66 : BitVec 32 := Scalar.addi v2 c0_i32_38
  let c4_i32_39 : BitVec 32 := 4#32
  let c0_i32_40 : BitVec 32 := 0#32
  let v67 : BitVec 1 := Scalar.cmpi .eq c4_i32_39 c0_i32_40
  let c1_i32_41 : BitVec 32 := 1#32
  let v68 : BitVec 32 := Scalar.select v67 c1_i32_41 c4_i32_39
  let v69 : BitVec 32 := Scalar.remsi v66 v68
  let c0_i32_43 : BitVec 32 := 0#32
  let v71 : BitVec 1 := Scalar.cmpi .slt v69 c0_i32_43
  let c0_i32_44 : BitVec 32 := 0#32
  let v72 : BitVec 1 := Scalar.cmpi .slt v68 c0_i32_44
  let v73 : BitVec 1 := Scalar.xori v71 v72
  let c0_i32_42 : BitVec 32 := 0#32
  let v70 : BitVec 1 := Scalar.cmpi .ne v69 c0_i32_42
  let v74 : BitVec 1 := Scalar.andi v73 v70
  let v75 : BitVec 32 := Scalar.addi v69 v68
  let v76 : BitVec 32 := Scalar.select v74 v75 v69
  let c1024_i32_45 : BitVec 32 := 1024#32
  let v78 : BitVec 32 := Scalar.muli v76 c1024_i32_45
  let c512_i32_46 : BitVec 32 := 512#32
  let v79 : BitVec 32 := Scalar.addi v78 c512_i32_46
  ![0, v79.toNat]
def k0_dev4 (d0 : Dev nD) : Nat :=
  let c0_i32_2009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2008 : BitVec 32 := 1#32
  let v2297 : BitVec 32 := Scalar.muli v13 c1_i32_2008
  let v2298 : BitVec 32 := Scalar.addi c0_i32_2009 v2297
  v2298.toNat
def k0_off9 (d0 : Dev nD) : Fin 2 → Nat :=
  let c128_i32_2017 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let v80 : BitVec 32 := Scalar.subi v2 c0_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1024_i32_61 : BitVec 32 := 1024#32
  let v102 : BitVec 32 := Scalar.muli v90 c1024_i32_61
  ![128, v102.toNat]
def k0_dev5 (d0 : Dev nD) : Nat :=
  let c0_i32_2014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2013 : BitVec 32 := 1#32
  let v2306 : BitVec 32 := Scalar.muli v24 c1_i32_2013
  let v2307 : BitVec 32 := Scalar.addi c0_i32_2014 v2306
  v2307.toNat
def k0_off10 (d0 : Dev nD) : Fin 2 → Nat :=
  let c128_i32_2022 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let v91 : BitVec 32 := Scalar.addi v2 c0_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1024_i32_62 : BitVec 32 := 1024#32
  let v103 : BitVec 32 := Scalar.muli v101 c1024_i32_62
  let c512_i32_63 : BitVec 32 := 512#32
  let v104 : BitVec 32 := Scalar.addi v103 c512_i32_63
  ![128, v104.toNat]
def k0_dev6 (d0 : Dev nD) : Nat :=
  let c0_i32_2019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2018 : BitVec 32 := 1#32
  let v2315 : BitVec 32 := Scalar.muli v13 c1_i32_2018
  let v2316 : BitVec 32 := Scalar.addi c0_i32_2019 v2315
  v2316.toNat
def k0_off11 (d0 : Dev nD) : Fin 2 → Nat :=
  let c256_i32_2027 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_64 : BitVec 32 := 0#32
  let v105 : BitVec 32 := Scalar.subi v2 c0_i32_64
  let c4_i32_65 : BitVec 32 := 4#32
  let c0_i32_66 : BitVec 32 := 0#32
  let v106 : BitVec 1 := Scalar.cmpi .eq c4_i32_65 c0_i32_66
  let c1_i32_67 : BitVec 32 := 1#32
  let v107 : BitVec 32 := Scalar.select v106 c1_i32_67 c4_i32_65
  let v108 : BitVec 32 := Scalar.remsi v105 v107
  let c0_i32_69 : BitVec 32 := 0#32
  let v110 : BitVec 1 := Scalar.cmpi .slt v108 c0_i32_69
  let c0_i32_70 : BitVec 32 := 0#32
  let v111 : BitVec 1 := Scalar.cmpi .slt v107 c0_i32_70
  let v112 : BitVec 1 := Scalar.xori v110 v111
  let c0_i32_68 : BitVec 32 := 0#32
  let v109 : BitVec 1 := Scalar.cmpi .ne v108 c0_i32_68
  let v113 : BitVec 1 := Scalar.andi v112 v109
  let v114 : BitVec 32 := Scalar.addi v108 v107
  let v115 : BitVec 32 := Scalar.select v113 v114 v108
  let c1024_i32_78 : BitVec 32 := 1024#32
  let v127 : BitVec 32 := Scalar.muli v115 c1024_i32_78
  ![256, v127.toNat]
def k0_dev7 (d0 : Dev nD) : Nat :=
  let c0_i32_2024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2023 : BitVec 32 := 1#32
  let v2324 : BitVec 32 := Scalar.muli v24 c1_i32_2023
  let v2325 : BitVec 32 := Scalar.addi c0_i32_2024 v2324
  v2325.toNat
def k0_off12 (d0 : Dev nD) : Fin 2 → Nat :=
  let c256_i32_2032 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_71 : BitVec 32 := 0#32
  let v116 : BitVec 32 := Scalar.addi v2 c0_i32_71
  let c4_i32_72 : BitVec 32 := 4#32
  let c0_i32_73 : BitVec 32 := 0#32
  let v117 : BitVec 1 := Scalar.cmpi .eq c4_i32_72 c0_i32_73
  let c1_i32_74 : BitVec 32 := 1#32
  let v118 : BitVec 32 := Scalar.select v117 c1_i32_74 c4_i32_72
  let v119 : BitVec 32 := Scalar.remsi v116 v118
  let c0_i32_76 : BitVec 32 := 0#32
  let v121 : BitVec 1 := Scalar.cmpi .slt v119 c0_i32_76
  let c0_i32_77 : BitVec 32 := 0#32
  let v122 : BitVec 1 := Scalar.cmpi .slt v118 c0_i32_77
  let v123 : BitVec 1 := Scalar.xori v121 v122
  let c0_i32_75 : BitVec 32 := 0#32
  let v120 : BitVec 1 := Scalar.cmpi .ne v119 c0_i32_75
  let v124 : BitVec 1 := Scalar.andi v123 v120
  let v125 : BitVec 32 := Scalar.addi v119 v118
  let v126 : BitVec 32 := Scalar.select v124 v125 v119
  let c1024_i32_79 : BitVec 32 := 1024#32
  let v128 : BitVec 32 := Scalar.muli v126 c1024_i32_79
  let c512_i32_80 : BitVec 32 := 512#32
  let v129 : BitVec 32 := Scalar.addi v128 c512_i32_80
  ![256, v129.toNat]
def k0_dev8 (d0 : Dev nD) : Nat :=
  let c0_i32_2029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2028 : BitVec 32 := 1#32
  let v2333 : BitVec 32 := Scalar.muli v13 c1_i32_2028
  let v2334 : BitVec 32 := Scalar.addi c0_i32_2029 v2333
  v2334.toNat
def k0_off13 (d0 : Dev nD) : Fin 2 → Nat :=
  let c384_i32_2037 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v130 : BitVec 32 := Scalar.subi v2 c0_i32_81
  let c4_i32_82 : BitVec 32 := 4#32
  let c0_i32_83 : BitVec 32 := 0#32
  let v131 : BitVec 1 := Scalar.cmpi .eq c4_i32_82 c0_i32_83
  let c1_i32_84 : BitVec 32 := 1#32
  let v132 : BitVec 32 := Scalar.select v131 c1_i32_84 c4_i32_82
  let v133 : BitVec 32 := Scalar.remsi v130 v132
  let c0_i32_86 : BitVec 32 := 0#32
  let v135 : BitVec 1 := Scalar.cmpi .slt v133 c0_i32_86
  let c0_i32_87 : BitVec 32 := 0#32
  let v136 : BitVec 1 := Scalar.cmpi .slt v132 c0_i32_87
  let v137 : BitVec 1 := Scalar.xori v135 v136
  let c0_i32_85 : BitVec 32 := 0#32
  let v134 : BitVec 1 := Scalar.cmpi .ne v133 c0_i32_85
  let v138 : BitVec 1 := Scalar.andi v137 v134
  let v139 : BitVec 32 := Scalar.addi v133 v132
  let v140 : BitVec 32 := Scalar.select v138 v139 v133
  let c1024_i32_95 : BitVec 32 := 1024#32
  let v152 : BitVec 32 := Scalar.muli v140 c1024_i32_95
  ![384, v152.toNat]
def k0_dev9 (d0 : Dev nD) : Nat :=
  let c0_i32_2034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2033 : BitVec 32 := 1#32
  let v2342 : BitVec 32 := Scalar.muli v24 c1_i32_2033
  let v2343 : BitVec 32 := Scalar.addi c0_i32_2034 v2342
  v2343.toNat
def k0_off14 (d0 : Dev nD) : Fin 2 → Nat :=
  let c384_i32_2042 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_88 : BitVec 32 := 0#32
  let v141 : BitVec 32 := Scalar.addi v2 c0_i32_88
  let c4_i32_89 : BitVec 32 := 4#32
  let c0_i32_90 : BitVec 32 := 0#32
  let v142 : BitVec 1 := Scalar.cmpi .eq c4_i32_89 c0_i32_90
  let c1_i32_91 : BitVec 32 := 1#32
  let v143 : BitVec 32 := Scalar.select v142 c1_i32_91 c4_i32_89
  let v144 : BitVec 32 := Scalar.remsi v141 v143
  let c0_i32_93 : BitVec 32 := 0#32
  let v146 : BitVec 1 := Scalar.cmpi .slt v144 c0_i32_93
  let c0_i32_94 : BitVec 32 := 0#32
  let v147 : BitVec 1 := Scalar.cmpi .slt v143 c0_i32_94
  let v148 : BitVec 1 := Scalar.xori v146 v147
  let c0_i32_92 : BitVec 32 := 0#32
  let v145 : BitVec 1 := Scalar.cmpi .ne v144 c0_i32_92
  let v149 : BitVec 1 := Scalar.andi v148 v145
  let v150 : BitVec 32 := Scalar.addi v144 v143
  let v151 : BitVec 32 := Scalar.select v149 v150 v144
  let c1024_i32_96 : BitVec 32 := 1024#32
  let v153 : BitVec 32 := Scalar.muli v151 c1024_i32_96
  let c512_i32_97 : BitVec 32 := 512#32
  let v154 : BitVec 32 := Scalar.addi v153 c512_i32_97
  ![384, v154.toNat]
def k0_dev10 (d0 : Dev nD) : Nat :=
  let c0_i32_2039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2038 : BitVec 32 := 1#32
  let v2351 : BitVec 32 := Scalar.muli v13 c1_i32_2038
  let v2352 : BitVec 32 := Scalar.addi c0_i32_2039 v2351
  v2352.toNat
def k0_cond4 (i : grid0.Coords) : BitVec 1 :=
  let arg0 : BitVec 32 := BitVec.ofNat 32 (i 0).val
  let c0_i32_270 : BitVec 32 := 0#32
  let v370 : BitVec 1 := Scalar.cmpi .eq arg0 c0_i32_270
  let v371 : BitVec 32 := Scalar.extui v370
  let c0_i32_271 : BitVec 32 := 0#32
  let v372 : BitVec 1 := Scalar.cmpi .ne v371 c0_i32_271
  v372

def k0_off15 (d0 : Dev nD) (c1_i32_2003 : BitVec 32) : Fin 2 → Nat :=
  let c0_i32_2012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2288 : BitVec 32 := Scalar.addi v2 c1_i32_2003
  let c4_i32_2004 : BitVec 32 := 4#32
  let c0_i32_2005 : BitVec 32 := 0#32
  let v2289 : BitVec 1 := Scalar.cmpi .eq c4_i32_2004 c0_i32_2005
  let c1_i32_2006 : BitVec 32 := 1#32
  let v2290 : BitVec 32 := Scalar.select v2289 c1_i32_2006 c4_i32_2004
  let v2291 : BitVec 32 := Scalar.remsi v2288 v2290
  let c0_i32_2008 : BitVec 32 := 0#32
  let v2293 : BitVec 1 := Scalar.cmpi .slt v2291 c0_i32_2008
  let c0_i32_2009 : BitVec 32 := 0#32
  let v2294 : BitVec 1 := Scalar.cmpi .slt v2290 c0_i32_2009
  let v2295 : BitVec 1 := Scalar.xori v2293 v2294
  let c0_i32_2007 : BitVec 32 := 0#32
  let v2292 : BitVec 1 := Scalar.cmpi .ne v2291 c0_i32_2007
  let v2296 : BitVec 1 := Scalar.andi v2295 v2292
  let v2297 : BitVec 32 := Scalar.addi v2291 v2290
  let v2298 : BitVec 32 := Scalar.select v2296 v2297 v2291
  let c1024_i32_2010 : BitVec 32 := 1024#32
  let v2299 : BitVec 32 := Scalar.muli v2298 c1024_i32_2010
  ![0, v2299.toNat]
def k0_off16 (d0 : Dev nD) (c1_i32_2014 : BitVec 32) : Fin 2 → Nat :=
  let c0_2025 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2304 : BitVec 32 := Scalar.addi v2 c1_i32_2014
  let c4_i32_2015 : BitVec 32 := 4#32
  let c0_i32_2016 : BitVec 32 := 0#32
  let v2305 : BitVec 1 := Scalar.cmpi .eq c4_i32_2015 c0_i32_2016
  let c1_i32_2017 : BitVec 32 := 1#32
  let v2306 : BitVec 32 := Scalar.select v2305 c1_i32_2017 c4_i32_2015
  let v2307 : BitVec 32 := Scalar.remsi v2304 v2306
  let c0_i32_2019 : BitVec 32 := 0#32
  let v2309 : BitVec 1 := Scalar.cmpi .slt v2307 c0_i32_2019
  let c0_i32_2020 : BitVec 32 := 0#32
  let v2310 : BitVec 1 := Scalar.cmpi .slt v2306 c0_i32_2020
  let v2311 : BitVec 1 := Scalar.xori v2309 v2310
  let c0_i32_2018 : BitVec 32 := 0#32
  let v2308 : BitVec 1 := Scalar.cmpi .ne v2307 c0_i32_2018
  let v2312 : BitVec 1 := Scalar.andi v2311 v2308
  let v2313 : BitVec 32 := Scalar.addi v2307 v2306
  let v2314 : BitVec 32 := Scalar.select v2312 v2313 v2307
  let c1024_i32_2021 : BitVec 32 := 1024#32
  let v2315 : BitVec 32 := Scalar.muli v2314 c1024_i32_2021
  let v2318 : Index := Scalar.indexCast v2315
  ![0, v2318.toNat]
def k0_off17 (d0 : Dev nD) (c1_i32_2014 : BitVec 32) : Fin 2 → Nat :=
  let c0_2027 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2304 : BitVec 32 := Scalar.addi v2 c1_i32_2014
  let c4_i32_2015 : BitVec 32 := 4#32
  let c0_i32_2016 : BitVec 32 := 0#32
  let v2305 : BitVec 1 := Scalar.cmpi .eq c4_i32_2015 c0_i32_2016
  let c1_i32_2017 : BitVec 32 := 1#32
  let v2306 : BitVec 32 := Scalar.select v2305 c1_i32_2017 c4_i32_2015
  let v2307 : BitVec 32 := Scalar.remsi v2304 v2306
  let c0_i32_2019 : BitVec 32 := 0#32
  let v2309 : BitVec 1 := Scalar.cmpi .slt v2307 c0_i32_2019
  let c0_i32_2020 : BitVec 32 := 0#32
  let v2310 : BitVec 1 := Scalar.cmpi .slt v2306 c0_i32_2020
  let v2311 : BitVec 1 := Scalar.xori v2309 v2310
  let c0_i32_2018 : BitVec 32 := 0#32
  let v2308 : BitVec 1 := Scalar.cmpi .ne v2307 c0_i32_2018
  let v2312 : BitVec 1 := Scalar.andi v2311 v2308
  let v2313 : BitVec 32 := Scalar.addi v2307 v2306
  let v2314 : BitVec 32 := Scalar.select v2312 v2313 v2307
  let c1024_i32_2021 : BitVec 32 := 1024#32
  let v2315 : BitVec 32 := Scalar.muli v2314 c1024_i32_2021
  let v2321 : Index := Scalar.indexCast v2315
  ![0, v2321.toNat]
def k0_off18 (d0 : Dev nD) (c0_i32_31 : BitVec 32) : Fin 2 → Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.subi v2 c0_i32_31
  let c4_i32_32 : BitVec 32 := 4#32
  let c0_i32_33 : BitVec 32 := 0#32
  let v56 : BitVec 1 := Scalar.cmpi .eq c4_i32_32 c0_i32_33
  let c1_i32_34 : BitVec 32 := 1#32
  let v57 : BitVec 32 := Scalar.select v56 c1_i32_34 c4_i32_32
  let v58 : BitVec 32 := Scalar.remsi v55 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let c1024_i32 : BitVec 32 := 1024#32
  let v77 : BitVec 32 := Scalar.muli v65 c1024_i32
  ![0, v77.toNat]
def k0_off19 (d0 : Dev nD) (c0_i32_38 : BitVec 32) : Fin 2 → Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c0_i32_38
  let c4_i32_39 : BitVec 32 := 4#32
  let c0_i32_40 : BitVec 32 := 0#32
  let v67 : BitVec 1 := Scalar.cmpi .eq c4_i32_39 c0_i32_40
  let c1_i32_41 : BitVec 32 := 1#32
  let v68 : BitVec 32 := Scalar.select v67 c1_i32_41 c4_i32_39
  let v69 : BitVec 32 := Scalar.remsi v66 v68
  let c0_i32_43 : BitVec 32 := 0#32
  let v71 : BitVec 1 := Scalar.cmpi .slt v69 c0_i32_43
  let c0_i32_44 : BitVec 32 := 0#32
  let v72 : BitVec 1 := Scalar.cmpi .slt v68 c0_i32_44
  let v73 : BitVec 1 := Scalar.xori v71 v72
  let c0_i32_42 : BitVec 32 := 0#32
  let v70 : BitVec 1 := Scalar.cmpi .ne v69 c0_i32_42
  let v74 : BitVec 1 := Scalar.andi v73 v70
  let v75 : BitVec 32 := Scalar.addi v69 v68
  let v76 : BitVec 32 := Scalar.select v74 v75 v69
  let c1024_i32_45 : BitVec 32 := 1024#32
  let v78 : BitVec 32 := Scalar.muli v76 c1024_i32_45
  let c512_i32_46 : BitVec 32 := 512#32
  let v79 : BitVec 32 := Scalar.addi v78 c512_i32_46
  ![0, v79.toNat]
def k0_off20 (d0 : Dev nD) (c0_i32_288 : BitVec 32) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v387 : BitVec 32 := Scalar.subi v2 c0_i32_288
  let c1_i32_289 : BitVec 32 := 1#32
  let v388 : BitVec 32 := Scalar.subi v387 c1_i32_289
  let c4_i32_290 : BitVec 32 := 4#32
  let c0_i32_291 : BitVec 32 := 0#32
  let v389 : BitVec 1 := Scalar.cmpi .eq c4_i32_290 c0_i32_291
  let c1_i32_292 : BitVec 32 := 1#32
  let v390 : BitVec 32 := Scalar.select v389 c1_i32_292 c4_i32_290
  let v391 : BitVec 32 := Scalar.remsi v388 v390
  let c0_i32_294 : BitVec 32 := 0#32
  let v393 : BitVec 1 := Scalar.cmpi .slt v391 c0_i32_294
  let c0_i32_295 : BitVec 32 := 0#32
  let v394 : BitVec 1 := Scalar.cmpi .slt v390 c0_i32_295
  let v395 : BitVec 1 := Scalar.xori v393 v394
  let c0_i32_293 : BitVec 32 := 0#32
  let v392 : BitVec 1 := Scalar.cmpi .ne v391 c0_i32_293
  let v396 : BitVec 1 := Scalar.andi v395 v392
  let v397 : BitVec 32 := Scalar.addi v391 v390
  let v398 : BitVec 32 := Scalar.select v396 v397 v391
  let c1024_i32_304 : BitVec 32 := 1024#32
  let v411 : BitVec 32 := Scalar.muli v398 c1024_i32_304
  let v412 : Index := Scalar.indexCast v411
  ![0, v412.toNat]
def k0_off21 (d0 : Dev nD) (c0_i32_296 : BitVec 32) : Fin 2 → Nat :=
  let c0_312 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v399 : BitVec 32 := Scalar.addi v2 c0_i32_296
  let c1_i32_297 : BitVec 32 := 1#32
  let v400 : BitVec 32 := Scalar.addi v399 c1_i32_297
  let c4_i32_298 : BitVec 32 := 4#32
  let c0_i32_299 : BitVec 32 := 0#32
  let v401 : BitVec 1 := Scalar.cmpi .eq c4_i32_298 c0_i32_299
  let c1_i32_300 : BitVec 32 := 1#32
  let v402 : BitVec 32 := Scalar.select v401 c1_i32_300 c4_i32_298
  let v403 : BitVec 32 := Scalar.remsi v400 v402
  let c0_i32_302 : BitVec 32 := 0#32
  let v405 : BitVec 1 := Scalar.cmpi .slt v403 c0_i32_302
  let c0_i32_303 : BitVec 32 := 0#32
  let v406 : BitVec 1 := Scalar.cmpi .slt v402 c0_i32_303
  let v407 : BitVec 1 := Scalar.xori v405 v406
  let c0_i32_301 : BitVec 32 := 0#32
  let v404 : BitVec 1 := Scalar.cmpi .ne v403 c0_i32_301
  let v408 : BitVec 1 := Scalar.andi v407 v404
  let v409 : BitVec 32 := Scalar.addi v403 v402
  let v410 : BitVec 32 := Scalar.select v408 v409 v403
  let c1024_i32_310 : BitVec 32 := 1024#32
  let v422 : BitVec 32 := Scalar.muli v410 c1024_i32_310
  let c512_i32_311 : BitVec 32 := 512#32
  let v423 : BitVec 32 := Scalar.addi v422 c512_i32_311
  let v424 : Index := Scalar.indexCast v423
  ![0, v424.toNat]
def k0_dev11 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_322 : BitVec 32 := 1#32
  let v435 : BitVec 32 := Scalar.muli v24 c1_i32_322
  let v436 : BitVec 32 := Scalar.addi c0_i32_323 v435
  v436.toNat
def k0_dev12 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_330 : BitVec 32 := 1#32
  let v444 : BitVec 32 := Scalar.muli v13 c1_i32_330
  let v445 : BitVec 32 := Scalar.addi c0_i32_331 v444
  v445.toNat
def k0_off22 (d0 : Dev nD) (c0_i32_47 : BitVec 32) : Fin 2 → Nat :=
  let c128_i32_341 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v80 : BitVec 32 := Scalar.subi v2 c0_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1024_i32_61 : BitVec 32 := 1024#32
  let v102 : BitVec 32 := Scalar.muli v90 c1024_i32_61
  ![128, v102.toNat]
def k0_off23 (d0 : Dev nD) (c0_i32_54 : BitVec 32) : Fin 2 → Nat :=
  let c128_i32_349 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c0_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1024_i32_62 : BitVec 32 := 1024#32
  let v103 : BitVec 32 := Scalar.muli v101 c1024_i32_62
  let c512_i32_63 : BitVec 32 := 512#32
  let v104 : BitVec 32 := Scalar.addi v103 c512_i32_63
  ![128, v104.toNat]
def k0_off24 (d0 : Dev nD) (c0_i32_350 : BitVec 32) : Fin 2 → Nat :=
  let c128 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v467 : BitVec 32 := Scalar.subi v2 c0_i32_350
  let c1_i32_351 : BitVec 32 := 1#32
  let v468 : BitVec 32 := Scalar.subi v467 c1_i32_351
  let c4_i32_352 : BitVec 32 := 4#32
  let c0_i32_353 : BitVec 32 := 0#32
  let v469 : BitVec 1 := Scalar.cmpi .eq c4_i32_352 c0_i32_353
  let c1_i32_354 : BitVec 32 := 1#32
  let v470 : BitVec 32 := Scalar.select v469 c1_i32_354 c4_i32_352
  let v471 : BitVec 32 := Scalar.remsi v468 v470
  let c0_i32_356 : BitVec 32 := 0#32
  let v473 : BitVec 1 := Scalar.cmpi .slt v471 c0_i32_356
  let c0_i32_357 : BitVec 32 := 0#32
  let v474 : BitVec 1 := Scalar.cmpi .slt v470 c0_i32_357
  let v475 : BitVec 1 := Scalar.xori v473 v474
  let c0_i32_355 : BitVec 32 := 0#32
  let v472 : BitVec 1 := Scalar.cmpi .ne v471 c0_i32_355
  let v476 : BitVec 1 := Scalar.andi v475 v472
  let v477 : BitVec 32 := Scalar.addi v471 v470
  let v478 : BitVec 32 := Scalar.select v476 v477 v471
  let c1024_i32_366 : BitVec 32 := 1024#32
  let v491 : BitVec 32 := Scalar.muli v478 c1024_i32_366
  let v492 : Index := Scalar.indexCast v491
  ![128, v492.toNat]
def k0_off25 (d0 : Dev nD) (c0_i32_358 : BitVec 32) : Fin 2 → Nat :=
  let c128_374 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v479 : BitVec 32 := Scalar.addi v2 c0_i32_358
  let c1_i32_359 : BitVec 32 := 1#32
  let v480 : BitVec 32 := Scalar.addi v479 c1_i32_359
  let c4_i32_360 : BitVec 32 := 4#32
  let c0_i32_361 : BitVec 32 := 0#32
  let v481 : BitVec 1 := Scalar.cmpi .eq c4_i32_360 c0_i32_361
  let c1_i32_362 : BitVec 32 := 1#32
  let v482 : BitVec 32 := Scalar.select v481 c1_i32_362 c4_i32_360
  let v483 : BitVec 32 := Scalar.remsi v480 v482
  let c0_i32_364 : BitVec 32 := 0#32
  let v485 : BitVec 1 := Scalar.cmpi .slt v483 c0_i32_364
  let c0_i32_365 : BitVec 32 := 0#32
  let v486 : BitVec 1 := Scalar.cmpi .slt v482 c0_i32_365
  let v487 : BitVec 1 := Scalar.xori v485 v486
  let c0_i32_363 : BitVec 32 := 0#32
  let v484 : BitVec 1 := Scalar.cmpi .ne v483 c0_i32_363
  let v488 : BitVec 1 := Scalar.andi v487 v484
  let v489 : BitVec 32 := Scalar.addi v483 v482
  let v490 : BitVec 32 := Scalar.select v488 v489 v483
  let c1024_i32_372 : BitVec 32 := 1024#32
  let v502 : BitVec 32 := Scalar.muli v490 c1024_i32_372
  let c512_i32_373 : BitVec 32 := 512#32
  let v503 : BitVec 32 := Scalar.addi v502 c512_i32_373
  let v504 : Index := Scalar.indexCast v503
  ![128, v504.toNat]
def k0_dev13 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_383 : BitVec 32 := 1#32
  let v515 : BitVec 32 := Scalar.muli v24 c1_i32_383
  let v516 : BitVec 32 := Scalar.addi c0_i32_384 v515
  v516.toNat
def k0_dev14 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_391 : BitVec 32 := 1#32
  let v524 : BitVec 32 := Scalar.muli v13 c1_i32_391
  let v525 : BitVec 32 := Scalar.addi c0_i32_392 v524
  v525.toNat
def k0_off26 (d0 : Dev nD) (c0_i32_64 : BitVec 32) : Fin 2 → Nat :=
  let c256_i32_402 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.subi v2 c0_i32_64
  let c4_i32_65 : BitVec 32 := 4#32
  let c0_i32_66 : BitVec 32 := 0#32
  let v106 : BitVec 1 := Scalar.cmpi .eq c4_i32_65 c0_i32_66
  let c1_i32_67 : BitVec 32 := 1#32
  let v107 : BitVec 32 := Scalar.select v106 c1_i32_67 c4_i32_65
  let v108 : BitVec 32 := Scalar.remsi v105 v107
  let c0_i32_69 : BitVec 32 := 0#32
  let v110 : BitVec 1 := Scalar.cmpi .slt v108 c0_i32_69
  let c0_i32_70 : BitVec 32 := 0#32
  let v111 : BitVec 1 := Scalar.cmpi .slt v107 c0_i32_70
  let v112 : BitVec 1 := Scalar.xori v110 v111
  let c0_i32_68 : BitVec 32 := 0#32
  let v109 : BitVec 1 := Scalar.cmpi .ne v108 c0_i32_68
  let v113 : BitVec 1 := Scalar.andi v112 v109
  let v114 : BitVec 32 := Scalar.addi v108 v107
  let v115 : BitVec 32 := Scalar.select v113 v114 v108
  let c1024_i32_78 : BitVec 32 := 1024#32
  let v127 : BitVec 32 := Scalar.muli v115 c1024_i32_78
  ![256, v127.toNat]
def k0_off27 (d0 : Dev nD) (c0_i32_71 : BitVec 32) : Fin 2 → Nat :=
  let c256_i32_410 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.addi v2 c0_i32_71
  let c4_i32_72 : BitVec 32 := 4#32
  let c0_i32_73 : BitVec 32 := 0#32
  let v117 : BitVec 1 := Scalar.cmpi .eq c4_i32_72 c0_i32_73
  let c1_i32_74 : BitVec 32 := 1#32
  let v118 : BitVec 32 := Scalar.select v117 c1_i32_74 c4_i32_72
  let v119 : BitVec 32 := Scalar.remsi v116 v118
  let c0_i32_76 : BitVec 32 := 0#32
  let v121 : BitVec 1 := Scalar.cmpi .slt v119 c0_i32_76
  let c0_i32_77 : BitVec 32 := 0#32
  let v122 : BitVec 1 := Scalar.cmpi .slt v118 c0_i32_77
  let v123 : BitVec 1 := Scalar.xori v121 v122
  let c0_i32_75 : BitVec 32 := 0#32
  let v120 : BitVec 1 := Scalar.cmpi .ne v119 c0_i32_75
  let v124 : BitVec 1 := Scalar.andi v123 v120
  let v125 : BitVec 32 := Scalar.addi v119 v118
  let v126 : BitVec 32 := Scalar.select v124 v125 v119
  let c1024_i32_79 : BitVec 32 := 1024#32
  let v128 : BitVec 32 := Scalar.muli v126 c1024_i32_79
  let c512_i32_80 : BitVec 32 := 512#32
  let v129 : BitVec 32 := Scalar.addi v128 c512_i32_80
  ![256, v129.toNat]
def k0_off28 (d0 : Dev nD) (c0_i32_411 : BitVec 32) : Fin 2 → Nat :=
  let c256 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v547 : BitVec 32 := Scalar.subi v2 c0_i32_411
  let c1_i32_412 : BitVec 32 := 1#32
  let v548 : BitVec 32 := Scalar.subi v547 c1_i32_412
  let c4_i32_413 : BitVec 32 := 4#32
  let c0_i32_414 : BitVec 32 := 0#32
  let v549 : BitVec 1 := Scalar.cmpi .eq c4_i32_413 c0_i32_414
  let c1_i32_415 : BitVec 32 := 1#32
  let v550 : BitVec 32 := Scalar.select v549 c1_i32_415 c4_i32_413
  let v551 : BitVec 32 := Scalar.remsi v548 v550
  let c0_i32_417 : BitVec 32 := 0#32
  let v553 : BitVec 1 := Scalar.cmpi .slt v551 c0_i32_417
  let c0_i32_418 : BitVec 32 := 0#32
  let v554 : BitVec 1 := Scalar.cmpi .slt v550 c0_i32_418
  let v555 : BitVec 1 := Scalar.xori v553 v554
  let c0_i32_416 : BitVec 32 := 0#32
  let v552 : BitVec 1 := Scalar.cmpi .ne v551 c0_i32_416
  let v556 : BitVec 1 := Scalar.andi v555 v552
  let v557 : BitVec 32 := Scalar.addi v551 v550
  let v558 : BitVec 32 := Scalar.select v556 v557 v551
  let c1024_i32_427 : BitVec 32 := 1024#32
  let v571 : BitVec 32 := Scalar.muli v558 c1024_i32_427
  let v572 : Index := Scalar.indexCast v571
  ![256, v572.toNat]
def k0_off29 (d0 : Dev nD) (c0_i32_419 : BitVec 32) : Fin 2 → Nat :=
  let c256_435 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v559 : BitVec 32 := Scalar.addi v2 c0_i32_419
  let c1_i32_420 : BitVec 32 := 1#32
  let v560 : BitVec 32 := Scalar.addi v559 c1_i32_420
  let c4_i32_421 : BitVec 32 := 4#32
  let c0_i32_422 : BitVec 32 := 0#32
  let v561 : BitVec 1 := Scalar.cmpi .eq c4_i32_421 c0_i32_422
  let c1_i32_423 : BitVec 32 := 1#32
  let v562 : BitVec 32 := Scalar.select v561 c1_i32_423 c4_i32_421
  let v563 : BitVec 32 := Scalar.remsi v560 v562
  let c0_i32_425 : BitVec 32 := 0#32
  let v565 : BitVec 1 := Scalar.cmpi .slt v563 c0_i32_425
  let c0_i32_426 : BitVec 32 := 0#32
  let v566 : BitVec 1 := Scalar.cmpi .slt v562 c0_i32_426
  let v567 : BitVec 1 := Scalar.xori v565 v566
  let c0_i32_424 : BitVec 32 := 0#32
  let v564 : BitVec 1 := Scalar.cmpi .ne v563 c0_i32_424
  let v568 : BitVec 1 := Scalar.andi v567 v564
  let v569 : BitVec 32 := Scalar.addi v563 v562
  let v570 : BitVec 32 := Scalar.select v568 v569 v563
  let c1024_i32_433 : BitVec 32 := 1024#32
  let v582 : BitVec 32 := Scalar.muli v570 c1024_i32_433
  let c512_i32_434 : BitVec 32 := 512#32
  let v583 : BitVec 32 := Scalar.addi v582 c512_i32_434
  let v584 : Index := Scalar.indexCast v583
  ![256, v584.toNat]
def k0_dev15 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_444 : BitVec 32 := 1#32
  let v595 : BitVec 32 := Scalar.muli v24 c1_i32_444
  let v596 : BitVec 32 := Scalar.addi c0_i32_445 v595
  v596.toNat
def k0_dev16 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_452 : BitVec 32 := 1#32
  let v604 : BitVec 32 := Scalar.muli v13 c1_i32_452
  let v605 : BitVec 32 := Scalar.addi c0_i32_453 v604
  v605.toNat
def k0_off30 (d0 : Dev nD) (c0_i32_81 : BitVec 32) : Fin 2 → Nat :=
  let c384_i32_463 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v130 : BitVec 32 := Scalar.subi v2 c0_i32_81
  let c4_i32_82 : BitVec 32 := 4#32
  let c0_i32_83 : BitVec 32 := 0#32
  let v131 : BitVec 1 := Scalar.cmpi .eq c4_i32_82 c0_i32_83
  let c1_i32_84 : BitVec 32 := 1#32
  let v132 : BitVec 32 := Scalar.select v131 c1_i32_84 c4_i32_82
  let v133 : BitVec 32 := Scalar.remsi v130 v132
  let c0_i32_86 : BitVec 32 := 0#32
  let v135 : BitVec 1 := Scalar.cmpi .slt v133 c0_i32_86
  let c0_i32_87 : BitVec 32 := 0#32
  let v136 : BitVec 1 := Scalar.cmpi .slt v132 c0_i32_87
  let v137 : BitVec 1 := Scalar.xori v135 v136
  let c0_i32_85 : BitVec 32 := 0#32
  let v134 : BitVec 1 := Scalar.cmpi .ne v133 c0_i32_85
  let v138 : BitVec 1 := Scalar.andi v137 v134
  let v139 : BitVec 32 := Scalar.addi v133 v132
  let v140 : BitVec 32 := Scalar.select v138 v139 v133
  let c1024_i32_95 : BitVec 32 := 1024#32
  let v152 : BitVec 32 := Scalar.muli v140 c1024_i32_95
  ![384, v152.toNat]
def k0_off31 (d0 : Dev nD) (c0_i32_88 : BitVec 32) : Fin 2 → Nat :=
  let c384_i32_471 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v141 : BitVec 32 := Scalar.addi v2 c0_i32_88
  let c4_i32_89 : BitVec 32 := 4#32
  let c0_i32_90 : BitVec 32 := 0#32
  let v142 : BitVec 1 := Scalar.cmpi .eq c4_i32_89 c0_i32_90
  let c1_i32_91 : BitVec 32 := 1#32
  let v143 : BitVec 32 := Scalar.select v142 c1_i32_91 c4_i32_89
  let v144 : BitVec 32 := Scalar.remsi v141 v143
  let c0_i32_93 : BitVec 32 := 0#32
  let v146 : BitVec 1 := Scalar.cmpi .slt v144 c0_i32_93
  let c0_i32_94 : BitVec 32 := 0#32
  let v147 : BitVec 1 := Scalar.cmpi .slt v143 c0_i32_94
  let v148 : BitVec 1 := Scalar.xori v146 v147
  let c0_i32_92 : BitVec 32 := 0#32
  let v145 : BitVec 1 := Scalar.cmpi .ne v144 c0_i32_92
  let v149 : BitVec 1 := Scalar.andi v148 v145
  let v150 : BitVec 32 := Scalar.addi v144 v143
  let v151 : BitVec 32 := Scalar.select v149 v150 v144
  let c1024_i32_96 : BitVec 32 := 1024#32
  let v153 : BitVec 32 := Scalar.muli v151 c1024_i32_96
  let c512_i32_97 : BitVec 32 := 512#32
  let v154 : BitVec 32 := Scalar.addi v153 c512_i32_97
  ![384, v154.toNat]
def k0_off32 (d0 : Dev nD) (c0_i32_472 : BitVec 32) : Fin 2 → Nat :=
  let c384 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v627 : BitVec 32 := Scalar.subi v2 c0_i32_472
  let c1_i32_473 : BitVec 32 := 1#32
  let v628 : BitVec 32 := Scalar.subi v627 c1_i32_473
  let c4_i32_474 : BitVec 32 := 4#32
  let c0_i32_475 : BitVec 32 := 0#32
  let v629 : BitVec 1 := Scalar.cmpi .eq c4_i32_474 c0_i32_475
  let c1_i32_476 : BitVec 32 := 1#32
  let v630 : BitVec 32 := Scalar.select v629 c1_i32_476 c4_i32_474
  let v631 : BitVec 32 := Scalar.remsi v628 v630
  let c0_i32_478 : BitVec 32 := 0#32
  let v633 : BitVec 1 := Scalar.cmpi .slt v631 c0_i32_478
  let c0_i32_479 : BitVec 32 := 0#32
  let v634 : BitVec 1 := Scalar.cmpi .slt v630 c0_i32_479
  let v635 : BitVec 1 := Scalar.xori v633 v634
  let c0_i32_477 : BitVec 32 := 0#32
  let v632 : BitVec 1 := Scalar.cmpi .ne v631 c0_i32_477
  let v636 : BitVec 1 := Scalar.andi v635 v632
  let v637 : BitVec 32 := Scalar.addi v631 v630
  let v638 : BitVec 32 := Scalar.select v636 v637 v631
  let c1024_i32_488 : BitVec 32 := 1024#32
  let v651 : BitVec 32 := Scalar.muli v638 c1024_i32_488
  let v652 : Index := Scalar.indexCast v651
  ![384, v652.toNat]
def k0_off33 (d0 : Dev nD) (c0_i32_480 : BitVec 32) : Fin 2 → Nat :=
  let c384_496 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v639 : BitVec 32 := Scalar.addi v2 c0_i32_480
  let c1_i32_481 : BitVec 32 := 1#32
  let v640 : BitVec 32 := Scalar.addi v639 c1_i32_481
  let c4_i32_482 : BitVec 32 := 4#32
  let c0_i32_483 : BitVec 32 := 0#32
  let v641 : BitVec 1 := Scalar.cmpi .eq c4_i32_482 c0_i32_483
  let c1_i32_484 : BitVec 32 := 1#32
  let v642 : BitVec 32 := Scalar.select v641 c1_i32_484 c4_i32_482
  let v643 : BitVec 32 := Scalar.remsi v640 v642
  let c0_i32_486 : BitVec 32 := 0#32
  let v645 : BitVec 1 := Scalar.cmpi .slt v643 c0_i32_486
  let c0_i32_487 : BitVec 32 := 0#32
  let v646 : BitVec 1 := Scalar.cmpi .slt v642 c0_i32_487
  let v647 : BitVec 1 := Scalar.xori v645 v646
  let c0_i32_485 : BitVec 32 := 0#32
  let v644 : BitVec 1 := Scalar.cmpi .ne v643 c0_i32_485
  let v648 : BitVec 1 := Scalar.andi v647 v644
  let v649 : BitVec 32 := Scalar.addi v643 v642
  let v650 : BitVec 32 := Scalar.select v648 v649 v643
  let c1024_i32_494 : BitVec 32 := 1024#32
  let v662 : BitVec 32 := Scalar.muli v650 c1024_i32_494
  let c512_i32_495 : BitVec 32 := 512#32
  let v663 : BitVec 32 := Scalar.addi v662 c512_i32_495
  let v664 : Index := Scalar.indexCast v663
  ![384, v664.toNat]
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_505 : BitVec 32 := 1#32
  let v675 : BitVec 32 := Scalar.muli v24 c1_i32_505
  let v676 : BitVec 32 := Scalar.addi c0_i32_506 v675
  v676.toNat
def k0_dev18 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_513 : BitVec 32 := 1#32
  let v684 : BitVec 32 := Scalar.muli v13 c1_i32_513
  let v685 : BitVec 32 := Scalar.addi c0_i32_514 v684
  v685.toNat
def k0_cond5 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v733 : BitVec 32 := Scalar.extui v27
  let c0_i32_574 : BitVec 32 := 0#32
  let v734 : BitVec 1 := Scalar.cmpi .ne v733 c0_i32_574
  v734

def k0_off34 (i : grid0.Coords) : Fin 1 → Nat :=
  let arg0 : BitVec 32 := BitVec.ofNat 32 (i 0).val
  let c1_i32_2012 : BitVec 32 := 1#32
  let v2301 : BitVec 32 := Scalar.addi arg0 c1_i32_2012
  let c2_i32_2013 : BitVec 32 := 2#32
  let c0_i32_2014 : BitVec 32 := 0#32
  let v2302 : BitVec 1 := Scalar.cmpi .eq c2_i32_2013 c0_i32_2014
  let c1_i32_2015 : BitVec 32 := 1#32
  let v2303 : BitVec 32 := Scalar.select v2302 c1_i32_2015 c2_i32_2013
  let v2304 : BitVec 32 := Scalar.remsi v2301 v2303
  let c0_i32_2017 : BitVec 32 := 0#32
  let v2306 : BitVec 1 := Scalar.cmpi .slt v2304 c0_i32_2017
  let c0_i32_2018 : BitVec 32 := 0#32
  let v2307 : BitVec 1 := Scalar.cmpi .slt v2303 c0_i32_2018
  let v2308 : BitVec 1 := Scalar.xori v2306 v2307
  let c0_i32_2016 : BitVec 32 := 0#32
  let v2305 : BitVec 1 := Scalar.cmpi .ne v2304 c0_i32_2016
  let v2309 : BitVec 1 := Scalar.andi v2308 v2305
  let v2310 : BitVec 32 := Scalar.addi v2304 v2303
  let v2311 : BitVec 32 := Scalar.select v2309 v2310 v2304
  ![v2311.toNat]
def k0_off35 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let c0_i32_2019 : BitVec 32 := 0#32
  let c0_i32_2020 : BitVec 32 := 0#32
  ![v2300.toNat, 0, 0]
def k0_off36 (i : grid0.Coords) : Fin 2 → Nat :=
  let arg0 : BitVec 32 := BitVec.ofNat 32 (i 0).val
  let c1_i32_2003 : BitVec 32 := 1#32
  let v2288 : BitVec 32 := Scalar.addi arg0 c1_i32_2003
  let c512_i32_2004 : BitVec 32 := 512#32
  let v2289 : BitVec 32 := Scalar.muli v2288 c512_i32_2004
  let c0_i32_2021 : BitVec 32 := 0#32
  ![v2289.toNat, 0]
def k0_cond6 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v757 : BitVec 32 := Scalar.extui v27
  let c0_i32_589 : BitVec 32 := 0#32
  let v758 : BitVec 1 := Scalar.cmpi .ne v757 c0_i32_589
  v758

def k0_off37 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let v2301 : Index := Scalar.indexCast v2300
  let c0_2012 : Index := 0#32
  let c0_2013 : Index := 0#32
  ![v2301.toNat, 0, 0]
def k0_off38 (d0 : Dev nD) (c0_i32_2004 : BitVec 32) : Fin 2 → Nat :=
  let c0_2014 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_575 : BitVec 32 := 0#32
  let v735 : BitVec 32 := Scalar.addi v2 c0_i32_575
  let c4_i32_576 : BitVec 32 := 4#32
  let c0_i32_577 : BitVec 32 := 0#32
  let v736 : BitVec 1 := Scalar.cmpi .eq c4_i32_576 c0_i32_577
  let c1_i32_578 : BitVec 32 := 1#32
  let v737 : BitVec 32 := Scalar.select v736 c1_i32_578 c4_i32_576
  let v738 : BitVec 32 := Scalar.remsi v735 v737
  let c0_i32_580 : BitVec 32 := 0#32
  let v740 : BitVec 1 := Scalar.cmpi .slt v738 c0_i32_580
  let c0_i32_581 : BitVec 32 := 0#32
  let v741 : BitVec 1 := Scalar.cmpi .slt v737 c0_i32_581
  let v742 : BitVec 1 := Scalar.xori v740 v741
  let c0_i32_579 : BitVec 32 := 0#32
  let v739 : BitVec 1 := Scalar.cmpi .ne v738 c0_i32_579
  let v743 : BitVec 1 := Scalar.andi v742 v739
  let v744 : BitVec 32 := Scalar.addi v738 v737
  let v745 : BitVec 32 := Scalar.select v743 v744 v738
  let c1024_i32_2003 : BitVec 32 := 1024#32
  let v2288 : BitVec 32 := Scalar.muli v745 c1024_i32_2003
  let v2289 : BitVec 32 := Scalar.addi v2288 c0_i32_2004
  let v2304 : Index := Scalar.indexCast v2289
  ![0, v2304.toNat]
def k0_off39 (d0 : Dev nD) (c0_i32_2004 : BitVec 32) : Fin 2 → Nat :=
  let c0_2016 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_575 : BitVec 32 := 0#32
  let v735 : BitVec 32 := Scalar.addi v2 c0_i32_575
  let c4_i32_576 : BitVec 32 := 4#32
  let c0_i32_577 : BitVec 32 := 0#32
  let v736 : BitVec 1 := Scalar.cmpi .eq c4_i32_576 c0_i32_577
  let c1_i32_578 : BitVec 32 := 1#32
  let v737 : BitVec 32 := Scalar.select v736 c1_i32_578 c4_i32_576
  let v738 : BitVec 32 := Scalar.remsi v735 v737
  let c0_i32_580 : BitVec 32 := 0#32
  let v740 : BitVec 1 := Scalar.cmpi .slt v738 c0_i32_580
  let c0_i32_581 : BitVec 32 := 0#32
  let v741 : BitVec 1 := Scalar.cmpi .slt v737 c0_i32_581
  let v742 : BitVec 1 := Scalar.xori v740 v741
  let c0_i32_579 : BitVec 32 := 0#32
  let v739 : BitVec 1 := Scalar.cmpi .ne v738 c0_i32_579
  let v743 : BitVec 1 := Scalar.andi v742 v739
  let v744 : BitVec 32 := Scalar.addi v738 v737
  let v745 : BitVec 32 := Scalar.select v743 v744 v738
  let c1024_i32_2003 : BitVec 32 := 1024#32
  let v2288 : BitVec 32 := Scalar.muli v745 c1024_i32_2003
  let v2289 : BitVec 32 := Scalar.addi v2288 c0_i32_2004
  let v2307 : Index := Scalar.indexCast v2289
  ![0, v2307.toNat]
def k0_dev19 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_639 : BitVec 32 := 1#32
  let v821 : BitVec 32 := Scalar.muli v24 c1_i32_639
  let v822 : BitVec 32 := Scalar.addi c0_i32_640 v821
  v822.toNat
def k0_dev20 (d0 : Dev nD) : Nat :=
  let c0_i32_648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_647 : BitVec 32 := 1#32
  let v830 : BitVec 32 := Scalar.muli v13 c1_i32_647
  let v831 : BitVec 32 := Scalar.addi c0_i32_648 v830
  v831.toNat
def k0_dev21 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_702 : BitVec 32 := 1#32
  let v901 : BitVec 32 := Scalar.muli v24 c1_i32_702
  let v902 : BitVec 32 := Scalar.addi c0_i32_703 v901
  v902.toNat
def k0_dev22 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_710 : BitVec 32 := 1#32
  let v910 : BitVec 32 := Scalar.muli v13 c1_i32_710
  let v911 : BitVec 32 := Scalar.addi c0_i32_711 v910
  v911.toNat
def k0_dev23 (d0 : Dev nD) : Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_765 : BitVec 32 := 1#32
  let v981 : BitVec 32 := Scalar.muli v24 c1_i32_765
  let v982 : BitVec 32 := Scalar.addi c0_i32_766 v981
  v982.toNat
def k0_dev24 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_773 : BitVec 32 := 1#32
  let v990 : BitVec 32 := Scalar.muli v13 c1_i32_773
  let v991 : BitVec 32 := Scalar.addi c0_i32_774 v990
  v991.toNat
def k0_dev25 (d0 : Dev nD) : Nat :=
  let c0_i32_829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_828 : BitVec 32 := 1#32
  let v1061 : BitVec 32 := Scalar.muli v24 c1_i32_828
  let v1062 : BitVec 32 := Scalar.addi c0_i32_829 v1061
  v1062.toNat
def k0_dev26 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_836 : BitVec 32 := 1#32
  let v1070 : BitVec 32 := Scalar.muli v13 c1_i32_836
  let v1071 : BitVec 32 := Scalar.addi c0_i32_837 v1070
  v1071.toNat
def k0_cond7 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v1141 : BitVec 32 := Scalar.extui v27
  let c0_i32_910 : BitVec 32 := 0#32
  let v1142 : BitVec 1 := Scalar.cmpi .ne v1141 c0_i32_910
  v1142

def k0_off40 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let v2301 : Index := Scalar.indexCast v2300
  let c0_2012 : Index := 0#32
  let c0_2013 : Index := 0#32
  ![v2301.toNat, 0, 0]
def k0_off41 (d0 : Dev nD) (c_m1_i32 : BitVec 32) (c0_i32_2004 : BitVec 32) : Fin 2 → Nat :=
  let c0_2014 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1119 : BitVec 32 := Scalar.addi v2 c_m1_i32
  let c4_i32_897 : BitVec 32 := 4#32
  let c0_i32_898 : BitVec 32 := 0#32
  let v1120 : BitVec 1 := Scalar.cmpi .eq c4_i32_897 c0_i32_898
  let c1_i32_899 : BitVec 32 := 1#32
  let v1121 : BitVec 32 := Scalar.select v1120 c1_i32_899 c4_i32_897
  let v1122 : BitVec 32 := Scalar.remsi v1119 v1121
  let c0_i32_901 : BitVec 32 := 0#32
  let v1124 : BitVec 1 := Scalar.cmpi .slt v1122 c0_i32_901
  let c0_i32_902 : BitVec 32 := 0#32
  let v1125 : BitVec 1 := Scalar.cmpi .slt v1121 c0_i32_902
  let v1126 : BitVec 1 := Scalar.xori v1124 v1125
  let c0_i32_900 : BitVec 32 := 0#32
  let v1123 : BitVec 1 := Scalar.cmpi .ne v1122 c0_i32_900
  let v1127 : BitVec 1 := Scalar.andi v1126 v1123
  let v1128 : BitVec 32 := Scalar.addi v1122 v1121
  let v1129 : BitVec 32 := Scalar.select v1127 v1128 v1122
  let c1024_i32_2003 : BitVec 32 := 1024#32
  let v2288 : BitVec 32 := Scalar.muli v1129 c1024_i32_2003
  let v2289 : BitVec 32 := Scalar.addi v2288 c0_i32_2004
  let v2304 : Index := Scalar.indexCast v2289
  ![0, v2304.toNat]
def k0_off41_at (r : Fin 2) : BitVec 32 × BitVec 32 :=
  if r.val < 1 then
    (4294967295#32, 0#32)
  else
    (1#32, 512#32)
def k0_off42 (d0 : Dev nD) (c_m1_i32 : BitVec 32) (c0_i32_2004 : BitVec 32) : Fin 2 → Nat :=
  let c0_2016 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1119 : BitVec 32 := Scalar.addi v2 c_m1_i32
  let c4_i32_897 : BitVec 32 := 4#32
  let c0_i32_898 : BitVec 32 := 0#32
  let v1120 : BitVec 1 := Scalar.cmpi .eq c4_i32_897 c0_i32_898
  let c1_i32_899 : BitVec 32 := 1#32
  let v1121 : BitVec 32 := Scalar.select v1120 c1_i32_899 c4_i32_897
  let v1122 : BitVec 32 := Scalar.remsi v1119 v1121
  let c0_i32_901 : BitVec 32 := 0#32
  let v1124 : BitVec 1 := Scalar.cmpi .slt v1122 c0_i32_901
  let c0_i32_902 : BitVec 32 := 0#32
  let v1125 : BitVec 1 := Scalar.cmpi .slt v1121 c0_i32_902
  let v1126 : BitVec 1 := Scalar.xori v1124 v1125
  let c0_i32_900 : BitVec 32 := 0#32
  let v1123 : BitVec 1 := Scalar.cmpi .ne v1122 c0_i32_900
  let v1127 : BitVec 1 := Scalar.andi v1126 v1123
  let v1128 : BitVec 32 := Scalar.addi v1122 v1121
  let v1129 : BitVec 32 := Scalar.select v1127 v1128 v1122
  let c1024_i32_2003 : BitVec 32 := 1024#32
  let v2288 : BitVec 32 := Scalar.muli v1129 c1024_i32_2003
  let v2289 : BitVec 32 := Scalar.addi v2288 c0_i32_2004
  let v2307 : Index := Scalar.indexCast v2289
  ![0, v2307.toNat]
def k0_off42_at (r : Fin 2) : BitVec 32 × BitVec 32 :=
  if r.val < 1 then
    (4294967295#32, 0#32)
  else
    (1#32, 512#32)
def k0_off43 (d0 : Dev nD) : Fin 2 → Nat :=
  let c0_959 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_958 : BitVec 32 := 1024#32
  let v1205 : BitVec 32 := Scalar.muli v43 c1024_i32_958
  let v1206 : Index := Scalar.indexCast v1205
  ![0, v1206.toNat]
def k0_off44 (d0 : Dev nD) : Fin 2 → Nat :=
  let c0_965 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_963 : BitVec 32 := 1024#32
  let v1219 : BitVec 32 := Scalar.muli v54 c1024_i32_963
  let c512_i32_964 : BitVec 32 := 512#32
  let v1220 : BitVec 32 := Scalar.addi v1219 c512_i32_964
  let v1221 : Index := Scalar.indexCast v1220
  ![0, v1221.toNat]
def k0_off45 (d0 : Dev nD) : Fin 2 → Nat :=
  let c0_i32_977 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_233 : BitVec 32 := 1024#32
  let v355 : BitVec 32 := Scalar.muli v43 c1024_i32_233
  ![0, v355.toNat]
def k0_dev27 (d0 : Dev nD) : Nat :=
  let c0_i32_974 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_973 : BitVec 32 := 1#32
  let v1235 : BitVec 32 := Scalar.muli v24 c1_i32_973
  let v1236 : BitVec 32 := Scalar.addi c0_i32_974 v1235
  v1236.toNat
def k0_off46 (d0 : Dev nD) : Fin 2 → Nat :=
  let c0_i32_985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_234 : BitVec 32 := 1024#32
  let v356 : BitVec 32 := Scalar.muli v54 c1024_i32_234
  let c512_i32_235 : BitVec 32 := 512#32
  let v357 : BitVec 32 := Scalar.addi v356 c512_i32_235
  ![0, v357.toNat]
def k0_dev28 (d0 : Dev nD) : Nat :=
  let c0_i32_982 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_981 : BitVec 32 := 1#32
  let v1244 : BitVec 32 := Scalar.muli v13 c1_i32_981
  let v1245 : BitVec 32 := Scalar.addi c0_i32_982 v1244
  v1245.toNat
def k0_off47 (d0 : Dev nD) : Fin 2 → Nat :=
  let c128_1035 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_1034 : BitVec 32 := 1024#32
  let v1315 : BitVec 32 := Scalar.muli v43 c1024_i32_1034
  let v1316 : Index := Scalar.indexCast v1315
  ![128, v1316.toNat]
def k0_off48 (d0 : Dev nD) : Fin 2 → Nat :=
  let c128_1042 : Index := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_1040 : BitVec 32 := 1024#32
  let v1329 : BitVec 32 := Scalar.muli v54 c1024_i32_1040
  let c512_i32_1041 : BitVec 32 := 512#32
  let v1330 : BitVec 32 := Scalar.addi v1329 c512_i32_1041
  let v1331 : Index := Scalar.indexCast v1330
  ![128, v1331.toNat]
def k0_off49 (d0 : Dev nD) : Fin 2 → Nat :=
  let c128_i32_1054 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_236 : BitVec 32 := 1024#32
  let v358 : BitVec 32 := Scalar.muli v43 c1024_i32_236
  ![128, v358.toNat]
def k0_dev29 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1050 : BitVec 32 := 1#32
  let v1345 : BitVec 32 := Scalar.muli v24 c1_i32_1050
  let v1346 : BitVec 32 := Scalar.addi c0_i32_1051 v1345
  v1346.toNat
def k0_off50 (d0 : Dev nD) : Fin 2 → Nat :=
  let c128_i32_1062 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_237 : BitVec 32 := 1024#32
  let v359 : BitVec 32 := Scalar.muli v54 c1024_i32_237
  let c512_i32_238 : BitVec 32 := 512#32
  let v360 : BitVec 32 := Scalar.addi v359 c512_i32_238
  ![128, v360.toNat]
def k0_dev30 (d0 : Dev nD) : Nat :=
  let c0_i32_1059 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1058 : BitVec 32 := 1#32
  let v1354 : BitVec 32 := Scalar.muli v13 c1_i32_1058
  let v1355 : BitVec 32 := Scalar.addi c0_i32_1059 v1354
  v1355.toNat
def k0_off51 (d0 : Dev nD) : Fin 2 → Nat :=
  let c256_1112 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_1111 : BitVec 32 := 1024#32
  let v1425 : BitVec 32 := Scalar.muli v43 c1024_i32_1111
  let v1426 : Index := Scalar.indexCast v1425
  ![256, v1426.toNat]
def k0_off52 (d0 : Dev nD) : Fin 2 → Nat :=
  let c256_1119 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_1117 : BitVec 32 := 1024#32
  let v1439 : BitVec 32 := Scalar.muli v54 c1024_i32_1117
  let c512_i32_1118 : BitVec 32 := 512#32
  let v1440 : BitVec 32 := Scalar.addi v1439 c512_i32_1118
  let v1441 : Index := Scalar.indexCast v1440
  ![256, v1441.toNat]
def k0_off53 (d0 : Dev nD) : Fin 2 → Nat :=
  let c256_i32_1131 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_239 : BitVec 32 := 1024#32
  let v361 : BitVec 32 := Scalar.muli v43 c1024_i32_239
  ![256, v361.toNat]
def k0_dev31 (d0 : Dev nD) : Nat :=
  let c0_i32_1128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1127 : BitVec 32 := 1#32
  let v1455 : BitVec 32 := Scalar.muli v24 c1_i32_1127
  let v1456 : BitVec 32 := Scalar.addi c0_i32_1128 v1455
  v1456.toNat
def k0_off54 (d0 : Dev nD) : Fin 2 → Nat :=
  let c256_i32_1139 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_240 : BitVec 32 := 1024#32
  let v362 : BitVec 32 := Scalar.muli v54 c1024_i32_240
  let c512_i32_241 : BitVec 32 := 512#32
  let v363 : BitVec 32 := Scalar.addi v362 c512_i32_241
  ![256, v363.toNat]
def k0_dev32 (d0 : Dev nD) : Nat :=
  let c0_i32_1136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1135 : BitVec 32 := 1#32
  let v1464 : BitVec 32 := Scalar.muli v13 c1_i32_1135
  let v1465 : BitVec 32 := Scalar.addi c0_i32_1136 v1464
  v1465.toNat
def k0_off55 (d0 : Dev nD) : Fin 2 → Nat :=
  let c384_1189 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_1188 : BitVec 32 := 1024#32
  let v1535 : BitVec 32 := Scalar.muli v43 c1024_i32_1188
  let v1536 : Index := Scalar.indexCast v1535
  ![384, v1536.toNat]
def k0_off56 (d0 : Dev nD) : Fin 2 → Nat :=
  let c384_1196 : Index := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_1194 : BitVec 32 := 1024#32
  let v1549 : BitVec 32 := Scalar.muli v54 c1024_i32_1194
  let c512_i32_1195 : BitVec 32 := 512#32
  let v1550 : BitVec 32 := Scalar.addi v1549 c512_i32_1195
  let v1551 : Index := Scalar.indexCast v1550
  ![384, v1551.toNat]
def k0_off57 (d0 : Dev nD) : Fin 2 → Nat :=
  let c384_i32_1208 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_242 : BitVec 32 := 1024#32
  let v364 : BitVec 32 := Scalar.muli v43 c1024_i32_242
  ![384, v364.toNat]
def k0_dev33 (d0 : Dev nD) : Nat :=
  let c0_i32_1205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1204 : BitVec 32 := 1#32
  let v1565 : BitVec 32 := Scalar.muli v24 c1_i32_1204
  let v1566 : BitVec 32 := Scalar.addi c0_i32_1205 v1565
  v1566.toNat
def k0_off58 (d0 : Dev nD) : Fin 2 → Nat :=
  let c384_i32_1216 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_243 : BitVec 32 := 1024#32
  let v365 : BitVec 32 := Scalar.muli v54 c1024_i32_243
  let c512_i32_244 : BitVec 32 := 512#32
  let v366 : BitVec 32 := Scalar.addi v365 c512_i32_244
  ![384, v366.toNat]
def k0_dev34 (d0 : Dev nD) : Nat :=
  let c0_i32_1213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1212 : BitVec 32 := 1#32
  let v1574 : BitVec 32 := Scalar.muli v13 c1_i32_1212
  let v1575 : BitVec 32 := Scalar.addi c0_i32_1213 v1574
  v1575.toNat
def k0_cond8 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v1645 : BitVec 32 := Scalar.extui v27
  let c0_i32_1286 : BitVec 32 := 0#32
  let v1646 : BitVec 1 := Scalar.cmpi .ne v1645 c0_i32_1286
  v1646

def k0_off59 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let v2301 : Index := Scalar.indexCast v2300
  let c0_2012 : Index := 0#32
  let c0_2013 : Index := 0#32
  ![v2301.toNat, 0, 0]
def k0_off60 (d0 : Dev nD) (c_m2_i32 : BitVec 32) (c0_i32_2004 : BitVec 32) : Fin 2 → Nat :=
  let c0_2014 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1623 : BitVec 32 := Scalar.addi v2 c_m2_i32
  let c4_i32_1273 : BitVec 32 := 4#32
  let c0_i32_1274 : BitVec 32 := 0#32
  let v1624 : BitVec 1 := Scalar.cmpi .eq c4_i32_1273 c0_i32_1274
  let c1_i32_1275 : BitVec 32 := 1#32
  let v1625 : BitVec 32 := Scalar.select v1624 c1_i32_1275 c4_i32_1273
  let v1626 : BitVec 32 := Scalar.remsi v1623 v1625
  let c0_i32_1277 : BitVec 32 := 0#32
  let v1628 : BitVec 1 := Scalar.cmpi .slt v1626 c0_i32_1277
  let c0_i32_1278 : BitVec 32 := 0#32
  let v1629 : BitVec 1 := Scalar.cmpi .slt v1625 c0_i32_1278
  let v1630 : BitVec 1 := Scalar.xori v1628 v1629
  let c0_i32_1276 : BitVec 32 := 0#32
  let v1627 : BitVec 1 := Scalar.cmpi .ne v1626 c0_i32_1276
  let v1631 : BitVec 1 := Scalar.andi v1630 v1627
  let v1632 : BitVec 32 := Scalar.addi v1626 v1625
  let v1633 : BitVec 32 := Scalar.select v1631 v1632 v1626
  let c1024_i32_2003 : BitVec 32 := 1024#32
  let v2288 : BitVec 32 := Scalar.muli v1633 c1024_i32_2003
  let v2289 : BitVec 32 := Scalar.addi v2288 c0_i32_2004
  let v2304 : Index := Scalar.indexCast v2289
  ![0, v2304.toNat]
def k0_off60_at (r : Fin 2) : BitVec 32 × BitVec 32 :=
  if r.val < 1 then
    (4294967294#32, 0#32)
  else
    (2#32, 512#32)
def k0_off61 (d0 : Dev nD) (c_m2_i32 : BitVec 32) (c0_i32_2004 : BitVec 32) : Fin 2 → Nat :=
  let c0_2016 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1623 : BitVec 32 := Scalar.addi v2 c_m2_i32
  let c4_i32_1273 : BitVec 32 := 4#32
  let c0_i32_1274 : BitVec 32 := 0#32
  let v1624 : BitVec 1 := Scalar.cmpi .eq c4_i32_1273 c0_i32_1274
  let c1_i32_1275 : BitVec 32 := 1#32
  let v1625 : BitVec 32 := Scalar.select v1624 c1_i32_1275 c4_i32_1273
  let v1626 : BitVec 32 := Scalar.remsi v1623 v1625
  let c0_i32_1277 : BitVec 32 := 0#32
  let v1628 : BitVec 1 := Scalar.cmpi .slt v1626 c0_i32_1277
  let c0_i32_1278 : BitVec 32 := 0#32
  let v1629 : BitVec 1 := Scalar.cmpi .slt v1625 c0_i32_1278
  let v1630 : BitVec 1 := Scalar.xori v1628 v1629
  let c0_i32_1276 : BitVec 32 := 0#32
  let v1627 : BitVec 1 := Scalar.cmpi .ne v1626 c0_i32_1276
  let v1631 : BitVec 1 := Scalar.andi v1630 v1627
  let v1632 : BitVec 32 := Scalar.addi v1626 v1625
  let v1633 : BitVec 32 := Scalar.select v1631 v1632 v1626
  let c1024_i32_2003 : BitVec 32 := 1024#32
  let v2288 : BitVec 32 := Scalar.muli v1633 c1024_i32_2003
  let v2289 : BitVec 32 := Scalar.addi v2288 c0_i32_2004
  let v2307 : Index := Scalar.indexCast v2289
  ![0, v2307.toNat]
def k0_off61_at (r : Fin 2) : BitVec 32 × BitVec 32 :=
  if r.val < 1 then
    (4294967294#32, 0#32)
  else
    (2#32, 512#32)
def k0_off62 (i : grid0.Coords) (d0 : Dev nD) : Fin 2 → Nat :=
  let arg0 : BitVec 32 := BitVec.ofNat 32 (i 0).val
  let c512_i32 : BitVec 32 := 512#32
  let v25 : BitVec 32 := Scalar.muli arg0 c512_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_1288 : BitVec 32 := 1024#32
  let v1648 : BitVec 32 := Scalar.muli v43 c1024_i32_1288
  ![v25.toNat, v1648.toNat]
def k0_off63 (d0 : Dev nD) : Fin 2 → Nat :=
  let c0_i32_1294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_1287 : BitVec 32 := 1024#32
  let v1647 : BitVec 32 := Scalar.muli v43 c1024_i32_1287
  ![0, v1647.toNat]
def k0_off64 (i : grid0.Coords) (d0 : Dev nD) : Fin 2 → Nat :=
  let arg0 : BitVec 32 := BitVec.ofNat 32 (i 0).val
  let c512_i32 : BitVec 32 := 512#32
  let v25 : BitVec 32 := Scalar.muli arg0 c512_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_1291 : BitVec 32 := 1024#32
  let v1651 : BitVec 32 := Scalar.muli v54 c1024_i32_1291
  let c512_i32_1292 : BitVec 32 := 512#32
  let v1652 : BitVec 32 := Scalar.addi v1651 c512_i32_1292
  ![v25.toNat, v1652.toNat]
def k0_off65 (d0 : Dev nD) : Fin 2 → Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_1289 : BitVec 32 := 1024#32
  let v1649 : BitVec 32 := Scalar.muli v54 c1024_i32_1289
  let c512_i32_1290 : BitVec 32 := 512#32
  let v1650 : BitVec 32 := Scalar.addi v1649 c512_i32_1290
  ![0, v1650.toNat]
def k0_dev35 (d0 : Dev nD) : Nat :=
  let c0_i32_1318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1317 : BitVec 32 := 1#32
  let v1675 : BitVec 32 := Scalar.muli v24 c1_i32_1317
  let v1676 : BitVec 32 := Scalar.addi c0_i32_1318 v1675
  v1676.toNat
def k0_dev36 (d0 : Dev nD) : Nat :=
  let c0_i32_1328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1327 : BitVec 32 := 1#32
  let v1685 : BitVec 32 := Scalar.muli v13 c1_i32_1327
  let v1686 : BitVec 32 := Scalar.addi c0_i32_1328 v1685
  v1686.toNat
def k0_dev37 (d0 : Dev nD) : Nat :=
  let c0_i32_1353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1352 : BitVec 32 := 1#32
  let v1709 : BitVec 32 := Scalar.muli v24 c1_i32_1352
  let v1710 : BitVec 32 := Scalar.addi c0_i32_1353 v1709
  v1710.toNat
def k0_dev38 (d0 : Dev nD) : Nat :=
  let c0_i32_1363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1362 : BitVec 32 := 1#32
  let v1719 : BitVec 32 := Scalar.muli v13 c1_i32_1362
  let v1720 : BitVec 32 := Scalar.addi c0_i32_1363 v1719
  v1720.toNat
def k0_dev39 (d0 : Dev nD) : Nat :=
  let c0_i32_1388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1387 : BitVec 32 := 1#32
  let v1743 : BitVec 32 := Scalar.muli v24 c1_i32_1387
  let v1744 : BitVec 32 := Scalar.addi c0_i32_1388 v1743
  v1744.toNat
def k0_dev40 (d0 : Dev nD) : Nat :=
  let c0_i32_1398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1397 : BitVec 32 := 1#32
  let v1753 : BitVec 32 := Scalar.muli v13 c1_i32_1397
  let v1754 : BitVec 32 := Scalar.addi c0_i32_1398 v1753
  v1754.toNat
def k0_dev41 (d0 : Dev nD) : Nat :=
  let c0_i32_1423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1422 : BitVec 32 := 1#32
  let v1777 : BitVec 32 := Scalar.muli v24 c1_i32_1422
  let v1778 : BitVec 32 := Scalar.addi c0_i32_1423 v1777
  v1778.toNat
def k0_dev42 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1432 : BitVec 32 := 1#32
  let v1787 : BitVec 32 := Scalar.muli v13 c1_i32_1432
  let v1788 : BitVec 32 := Scalar.addi c0_i32_1433 v1787
  v1788.toNat
def k0_off66 (i : grid0.Coords) (d0 : Dev nD) (c0_i32_1438 : BitVec 32) : Fin 2 → Nat :=
  let arg0 : BitVec 32 := BitVec.ofNat 32 (i 0).val
  let c512_i32 : BitVec 32 := 512#32
  let v25 : BitVec 32 := Scalar.muli arg0 c512_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1797 : BitVec 32 := Scalar.subi v2 c0_i32_1438
  let c4_i32_1439 : BitVec 32 := 4#32
  let c0_i32_1440 : BitVec 32 := 0#32
  let v1798 : BitVec 1 := Scalar.cmpi .eq c4_i32_1439 c0_i32_1440
  let c1_i32_1441 : BitVec 32 := 1#32
  let v1799 : BitVec 32 := Scalar.select v1798 c1_i32_1441 c4_i32_1439
  let v1800 : BitVec 32 := Scalar.remsi v1797 v1799
  let c0_i32_1443 : BitVec 32 := 0#32
  let v1802 : BitVec 1 := Scalar.cmpi .slt v1800 c0_i32_1443
  let c0_i32_1444 : BitVec 32 := 0#32
  let v1803 : BitVec 1 := Scalar.cmpi .slt v1799 c0_i32_1444
  let v1804 : BitVec 1 := Scalar.xori v1802 v1803
  let c0_i32_1442 : BitVec 32 := 0#32
  let v1801 : BitVec 1 := Scalar.cmpi .ne v1800 c0_i32_1442
  let v1805 : BitVec 1 := Scalar.andi v1804 v1801
  let v1806 : BitVec 32 := Scalar.addi v1800 v1799
  let v1807 : BitVec 32 := Scalar.select v1805 v1806 v1800
  let c1024_i32_1452 : BitVec 32 := 1024#32
  let v1819 : BitVec 32 := Scalar.muli v1807 c1024_i32_1452
  ![v25.toNat, v1819.toNat]
def k0_off67 (i : grid0.Coords) (d0 : Dev nD) (c0_i32_1445 : BitVec 32) : Fin 2 → Nat :=
  let arg0 : BitVec 32 := BitVec.ofNat 32 (i 0).val
  let c512_i32 : BitVec 32 := 512#32
  let v25 : BitVec 32 := Scalar.muli arg0 c512_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1808 : BitVec 32 := Scalar.addi v2 c0_i32_1445
  let c4_i32_1446 : BitVec 32 := 4#32
  let c0_i32_1447 : BitVec 32 := 0#32
  let v1809 : BitVec 1 := Scalar.cmpi .eq c4_i32_1446 c0_i32_1447
  let c1_i32_1448 : BitVec 32 := 1#32
  let v1810 : BitVec 32 := Scalar.select v1809 c1_i32_1448 c4_i32_1446
  let v1811 : BitVec 32 := Scalar.remsi v1808 v1810
  let c0_i32_1450 : BitVec 32 := 0#32
  let v1813 : BitVec 1 := Scalar.cmpi .slt v1811 c0_i32_1450
  let c0_i32_1451 : BitVec 32 := 0#32
  let v1814 : BitVec 1 := Scalar.cmpi .slt v1810 c0_i32_1451
  let v1815 : BitVec 1 := Scalar.xori v1813 v1814
  let c0_i32_1449 : BitVec 32 := 0#32
  let v1812 : BitVec 1 := Scalar.cmpi .ne v1811 c0_i32_1449
  let v1816 : BitVec 1 := Scalar.andi v1815 v1812
  let v1817 : BitVec 32 := Scalar.addi v1811 v1810
  let v1818 : BitVec 32 := Scalar.select v1816 v1817 v1811
  let c1024_i32_1453 : BitVec 32 := 1024#32
  let v1820 : BitVec 32 := Scalar.muli v1818 c1024_i32_1453
  let c512_i32_1454 : BitVec 32 := 512#32
  let v1821 : BitVec 32 := Scalar.addi v1820 c512_i32_1454
  ![v25.toNat, v1821.toNat]
def k0_cond9 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v1880 : BitVec 32 := Scalar.extui v27
  let c0_i32_1523 : BitVec 32 := 0#32
  let v1881 : BitVec 1 := Scalar.cmpi .ne v1880 c0_i32_1523
  v1881

def k0_off68 (i : grid0.Coords) : Fin 3 → Nat :=
  let arg0 : BitVec 32 := BitVec.ofNat 32 (i 0).val
  let c1_i32_2005 : BitVec 32 := 1#32
  let v2290 : BitVec 32 := Scalar.addi arg0 c1_i32_2005
  let c2_i32_2006 : BitVec 32 := 2#32
  let c0_i32_2007 : BitVec 32 := 0#32
  let v2291 : BitVec 1 := Scalar.cmpi .eq c2_i32_2006 c0_i32_2007
  let c1_i32_2008 : BitVec 32 := 1#32
  let v2292 : BitVec 32 := Scalar.select v2291 c1_i32_2008 c2_i32_2006
  let v2293 : BitVec 32 := Scalar.remsi v2290 v2292
  let c0_i32_2010 : BitVec 32 := 0#32
  let v2295 : BitVec 1 := Scalar.cmpi .slt v2293 c0_i32_2010
  let c0_i32_2011 : BitVec 32 := 0#32
  let v2296 : BitVec 1 := Scalar.cmpi .slt v2292 c0_i32_2011
  let v2297 : BitVec 1 := Scalar.xori v2295 v2296
  let c0_i32_2009 : BitVec 32 := 0#32
  let v2294 : BitVec 1 := Scalar.cmpi .ne v2293 c0_i32_2009
  let v2298 : BitVec 1 := Scalar.andi v2297 v2294
  let v2299 : BitVec 32 := Scalar.addi v2293 v2292
  let v2300 : BitVec 32 := Scalar.select v2298 v2299 v2293
  let v2301 : Index := Scalar.indexCast v2300
  let c0_2012 : Index := 0#32
  let c0_2013 : Index := 0#32
  ![v2301.toNat, 0, 0]
def k0_off69 (d0 : Dev nD) : Fin 2 → Nat :=
  let c0_2014 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_2003 : BitVec 32 := 1024#32
  let v2288 : BitVec 32 := Scalar.muli v43 c1024_i32_2003
  let c0_i32_2004 : BitVec 32 := 0#32
  let v2289 : BitVec 32 := Scalar.addi v2288 c0_i32_2004
  let v2304 : Index := Scalar.indexCast v2289
  ![0, v2304.toNat]
def k0_off70 (d0 : Dev nD) : Fin 2 → Nat :=
  let c0_2016 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v33 : BitVec 32 := Scalar.addi v2 c1_i32_17
  let c4_i32_18 : BitVec 32 := 4#32
  let c0_i32_19 : BitVec 32 := 0#32
  let v34 : BitVec 1 := Scalar.cmpi .eq c4_i32_18 c0_i32_19
  let c1_i32_20 : BitVec 32 := 1#32
  let v35 : BitVec 32 := Scalar.select v34 c1_i32_20 c4_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1024_i32_2003 : BitVec 32 := 1024#32
  let v2288 : BitVec 32 := Scalar.muli v43 c1024_i32_2003
  let c0_i32_2004 : BitVec 32 := 0#32
  let v2289 : BitVec 32 := Scalar.addi v2288 c0_i32_2004
  let v2307 : Index := Scalar.indexCast v2289
  ![0, v2307.toNat]
def k0_off71 (d0 : Dev nD) : Fin 2 → Nat :=
  let c0_2028 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_2017 : BitVec 32 := 1024#32
  let v2311 : BitVec 32 := Scalar.muli v54 c1024_i32_2017
  let c512_i32_2018 : BitVec 32 := 512#32
  let v2312 : BitVec 32 := Scalar.addi v2311 c512_i32_2018
  let v2327 : Index := Scalar.indexCast v2312
  ![0, v2327.toNat]
def k0_off72 (d0 : Dev nD) : Fin 2 → Nat :=
  let c0_2030 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v44 : BitVec 32 := Scalar.subi v2 c1_i32_24
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1024_i32_2017 : BitVec 32 := 1024#32
  let v2311 : BitVec 32 := Scalar.muli v54 c1024_i32_2017
  let c512_i32_2018 : BitVec 32 := 512#32
  let v2312 : BitVec 32 := Scalar.addi v2311 c512_i32_2018
  let v2330 : Index := Scalar.indexCast v2312
  ![0, v2330.toNat]
def k0_dev43 (d0 : Dev nD) : Nat :=
  let c0_i32_1548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1547 : BitVec 32 := 1#32
  let v1898 : BitVec 32 := Scalar.muli v24 c1_i32_1547
  let v1899 : BitVec 32 := Scalar.addi c0_i32_1548 v1898
  v1899.toNat
def k0_dev44 (d0 : Dev nD) : Nat :=
  let c0_i32_1558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1557 : BitVec 32 := 1#32
  let v1908 : BitVec 32 := Scalar.muli v13 c1_i32_1557
  let v1909 : BitVec 32 := Scalar.addi c0_i32_1558 v1908
  v1909.toNat
def k0_dev45 (d0 : Dev nD) : Nat :=
  let c0_i32_1587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1586 : BitVec 32 := 1#32
  let v1934 : BitVec 32 := Scalar.muli v24 c1_i32_1586
  let v1935 : BitVec 32 := Scalar.addi c0_i32_1587 v1934
  v1935.toNat
def k0_dev46 (d0 : Dev nD) : Nat :=
  let c0_i32_1597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1596 : BitVec 32 := 1#32
  let v1944 : BitVec 32 := Scalar.muli v13 c1_i32_1596
  let v1945 : BitVec 32 := Scalar.addi c0_i32_1597 v1944
  v1945.toNat
def k0_dev47 (d0 : Dev nD) : Nat :=
  let c0_i32_1626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1625 : BitVec 32 := 1#32
  let v1970 : BitVec 32 := Scalar.muli v24 c1_i32_1625
  let v1971 : BitVec 32 := Scalar.addi c0_i32_1626 v1970
  v1971.toNat
def k0_dev48 (d0 : Dev nD) : Nat :=
  let c0_i32_1636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1635 : BitVec 32 := 1#32
  let v1980 : BitVec 32 := Scalar.muli v13 c1_i32_1635
  let v1981 : BitVec 32 := Scalar.addi c0_i32_1636 v1980
  v1981.toNat
def k0_dev49 (d0 : Dev nD) : Nat :=
  let c0_i32_1665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1664 : BitVec 32 := 1#32
  let v2006 : BitVec 32 := Scalar.muli v24 c1_i32_1664
  let v2007 : BitVec 32 := Scalar.addi c0_i32_1665 v2006
  v2007.toNat
def k0_dev50 (d0 : Dev nD) : Nat :=
  let c0_i32_1675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1674 : BitVec 32 := 1#32
  let v2016 : BitVec 32 := Scalar.muli v13 c1_i32_1674
  let v2017 : BitVec 32 := Scalar.addi c0_i32_1675 v2016
  v2017.toNat
def k0_cond10 (i : grid0.Coords) : BitVec 1 :=
  let arg0 : BitVec 32 := BitVec.ofNat 32 (i 0).val
  let c1_i32_13 : BitVec 32 := 1#32
  let v26 : BitVec 32 := Scalar.addi arg0 c1_i32_13
  let c16_i32 : BitVec 32 := 16#32
  let v27 : BitVec 1 := Scalar.cmpi .slt v26 c16_i32
  let v2256 : BitVec 32 := Scalar.extui v27
  let c0_i32_1978 : BitVec 32 := 0#32
  let v2257 : BitVec 1 := Scalar.cmpi .ne v2256 c0_i32_1978
  v2257

def k0_off73 (d0 : Dev nD) : Fin 2 → Nat :=
  let c0_i32_2007 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let v55 : BitVec 32 := Scalar.subi v2 c0_i32_31
  let c4_i32_32 : BitVec 32 := 4#32
  let c0_i32_33 : BitVec 32 := 0#32
  let v56 : BitVec 1 := Scalar.cmpi .eq c4_i32_32 c0_i32_33
  let c1_i32_34 : BitVec 32 := 1#32
  let v57 : BitVec 32 := Scalar.select v56 c1_i32_34 c4_i32_32
  let v58 : BitVec 32 := Scalar.remsi v55 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let c1024_i32 : BitVec 32 := 1024#32
  let v77 : BitVec 32 := Scalar.muli v65 c1024_i32
  ![0, v77.toNat]
def k0_dev51 (d0 : Dev nD) : Nat :=
  let c0_i32_2004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2003 : BitVec 32 := 1#32
  let v2288 : BitVec 32 := Scalar.muli v24 c1_i32_2003
  let v2289 : BitVec 32 := Scalar.addi c0_i32_2004 v2288
  v2289.toNat
def k0_off74 (d0 : Dev nD) : Fin 2 → Nat :=
  let c0_i32_2012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let v66 : BitVec 32 := Scalar.addi v2 c0_i32_38
  let c4_i32_39 : BitVec 32 := 4#32
  let c0_i32_40 : BitVec 32 := 0#32
  let v67 : BitVec 1 := Scalar.cmpi .eq c4_i32_39 c0_i32_40
  let c1_i32_41 : BitVec 32 := 1#32
  let v68 : BitVec 32 := Scalar.select v67 c1_i32_41 c4_i32_39
  let v69 : BitVec 32 := Scalar.remsi v66 v68
  let c0_i32_43 : BitVec 32 := 0#32
  let v71 : BitVec 1 := Scalar.cmpi .slt v69 c0_i32_43
  let c0_i32_44 : BitVec 32 := 0#32
  let v72 : BitVec 1 := Scalar.cmpi .slt v68 c0_i32_44
  let v73 : BitVec 1 := Scalar.xori v71 v72
  let c0_i32_42 : BitVec 32 := 0#32
  let v70 : BitVec 1 := Scalar.cmpi .ne v69 c0_i32_42
  let v74 : BitVec 1 := Scalar.andi v73 v70
  let v75 : BitVec 32 := Scalar.addi v69 v68
  let v76 : BitVec 32 := Scalar.select v74 v75 v69
  let c1024_i32_45 : BitVec 32 := 1024#32
  let v78 : BitVec 32 := Scalar.muli v76 c1024_i32_45
  let c512_i32_46 : BitVec 32 := 512#32
  let v79 : BitVec 32 := Scalar.addi v78 c512_i32_46
  ![0, v79.toNat]
def k0_dev52 (d0 : Dev nD) : Nat :=
  let c0_i32_2009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2008 : BitVec 32 := 1#32
  let v2297 : BitVec 32 := Scalar.muli v13 c1_i32_2008
  let v2298 : BitVec 32 := Scalar.addi c0_i32_2009 v2297
  v2298.toNat
def k0_off75 (d0 : Dev nD) : Fin 2 → Nat :=
  let c128_i32_2017 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_47 : BitVec 32 := 0#32
  let v80 : BitVec 32 := Scalar.subi v2 c0_i32_47
  let c4_i32_48 : BitVec 32 := 4#32
  let c0_i32_49 : BitVec 32 := 0#32
  let v81 : BitVec 1 := Scalar.cmpi .eq c4_i32_48 c0_i32_49
  let c1_i32_50 : BitVec 32 := 1#32
  let v82 : BitVec 32 := Scalar.select v81 c1_i32_50 c4_i32_48
  let v83 : BitVec 32 := Scalar.remsi v80 v82
  let c0_i32_52 : BitVec 32 := 0#32
  let v85 : BitVec 1 := Scalar.cmpi .slt v83 c0_i32_52
  let c0_i32_53 : BitVec 32 := 0#32
  let v86 : BitVec 1 := Scalar.cmpi .slt v82 c0_i32_53
  let v87 : BitVec 1 := Scalar.xori v85 v86
  let c0_i32_51 : BitVec 32 := 0#32
  let v84 : BitVec 1 := Scalar.cmpi .ne v83 c0_i32_51
  let v88 : BitVec 1 := Scalar.andi v87 v84
  let v89 : BitVec 32 := Scalar.addi v83 v82
  let v90 : BitVec 32 := Scalar.select v88 v89 v83
  let c1024_i32_61 : BitVec 32 := 1024#32
  let v102 : BitVec 32 := Scalar.muli v90 c1024_i32_61
  ![128, v102.toNat]
def k0_dev53 (d0 : Dev nD) : Nat :=
  let c0_i32_2014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2013 : BitVec 32 := 1#32
  let v2306 : BitVec 32 := Scalar.muli v24 c1_i32_2013
  let v2307 : BitVec 32 := Scalar.addi c0_i32_2014 v2306
  v2307.toNat
def k0_off76 (d0 : Dev nD) : Fin 2 → Nat :=
  let c128_i32_2022 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let v91 : BitVec 32 := Scalar.addi v2 c0_i32_54
  let c4_i32_55 : BitVec 32 := 4#32
  let c0_i32_56 : BitVec 32 := 0#32
  let v92 : BitVec 1 := Scalar.cmpi .eq c4_i32_55 c0_i32_56
  let c1_i32_57 : BitVec 32 := 1#32
  let v93 : BitVec 32 := Scalar.select v92 c1_i32_57 c4_i32_55
  let v94 : BitVec 32 := Scalar.remsi v91 v93
  let c0_i32_59 : BitVec 32 := 0#32
  let v96 : BitVec 1 := Scalar.cmpi .slt v94 c0_i32_59
  let c0_i32_60 : BitVec 32 := 0#32
  let v97 : BitVec 1 := Scalar.cmpi .slt v93 c0_i32_60
  let v98 : BitVec 1 := Scalar.xori v96 v97
  let c0_i32_58 : BitVec 32 := 0#32
  let v95 : BitVec 1 := Scalar.cmpi .ne v94 c0_i32_58
  let v99 : BitVec 1 := Scalar.andi v98 v95
  let v100 : BitVec 32 := Scalar.addi v94 v93
  let v101 : BitVec 32 := Scalar.select v99 v100 v94
  let c1024_i32_62 : BitVec 32 := 1024#32
  let v103 : BitVec 32 := Scalar.muli v101 c1024_i32_62
  let c512_i32_63 : BitVec 32 := 512#32
  let v104 : BitVec 32 := Scalar.addi v103 c512_i32_63
  ![128, v104.toNat]
def k0_dev54 (d0 : Dev nD) : Nat :=
  let c0_i32_2019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2018 : BitVec 32 := 1#32
  let v2315 : BitVec 32 := Scalar.muli v13 c1_i32_2018
  let v2316 : BitVec 32 := Scalar.addi c0_i32_2019 v2315
  v2316.toNat
def k0_off77 (d0 : Dev nD) : Fin 2 → Nat :=
  let c256_i32_2027 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_64 : BitVec 32 := 0#32
  let v105 : BitVec 32 := Scalar.subi v2 c0_i32_64
  let c4_i32_65 : BitVec 32 := 4#32
  let c0_i32_66 : BitVec 32 := 0#32
  let v106 : BitVec 1 := Scalar.cmpi .eq c4_i32_65 c0_i32_66
  let c1_i32_67 : BitVec 32 := 1#32
  let v107 : BitVec 32 := Scalar.select v106 c1_i32_67 c4_i32_65
  let v108 : BitVec 32 := Scalar.remsi v105 v107
  let c0_i32_69 : BitVec 32 := 0#32
  let v110 : BitVec 1 := Scalar.cmpi .slt v108 c0_i32_69
  let c0_i32_70 : BitVec 32 := 0#32
  let v111 : BitVec 1 := Scalar.cmpi .slt v107 c0_i32_70
  let v112 : BitVec 1 := Scalar.xori v110 v111
  let c0_i32_68 : BitVec 32 := 0#32
  let v109 : BitVec 1 := Scalar.cmpi .ne v108 c0_i32_68
  let v113 : BitVec 1 := Scalar.andi v112 v109
  let v114 : BitVec 32 := Scalar.addi v108 v107
  let v115 : BitVec 32 := Scalar.select v113 v114 v108
  let c1024_i32_78 : BitVec 32 := 1024#32
  let v127 : BitVec 32 := Scalar.muli v115 c1024_i32_78
  ![256, v127.toNat]
def k0_dev55 (d0 : Dev nD) : Nat :=
  let c0_i32_2024 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2023 : BitVec 32 := 1#32
  let v2324 : BitVec 32 := Scalar.muli v24 c1_i32_2023
  let v2325 : BitVec 32 := Scalar.addi c0_i32_2024 v2324
  v2325.toNat
def k0_off78 (d0 : Dev nD) : Fin 2 → Nat :=
  let c256_i32_2032 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_71 : BitVec 32 := 0#32
  let v116 : BitVec 32 := Scalar.addi v2 c0_i32_71
  let c4_i32_72 : BitVec 32 := 4#32
  let c0_i32_73 : BitVec 32 := 0#32
  let v117 : BitVec 1 := Scalar.cmpi .eq c4_i32_72 c0_i32_73
  let c1_i32_74 : BitVec 32 := 1#32
  let v118 : BitVec 32 := Scalar.select v117 c1_i32_74 c4_i32_72
  let v119 : BitVec 32 := Scalar.remsi v116 v118
  let c0_i32_76 : BitVec 32 := 0#32
  let v121 : BitVec 1 := Scalar.cmpi .slt v119 c0_i32_76
  let c0_i32_77 : BitVec 32 := 0#32
  let v122 : BitVec 1 := Scalar.cmpi .slt v118 c0_i32_77
  let v123 : BitVec 1 := Scalar.xori v121 v122
  let c0_i32_75 : BitVec 32 := 0#32
  let v120 : BitVec 1 := Scalar.cmpi .ne v119 c0_i32_75
  let v124 : BitVec 1 := Scalar.andi v123 v120
  let v125 : BitVec 32 := Scalar.addi v119 v118
  let v126 : BitVec 32 := Scalar.select v124 v125 v119
  let c1024_i32_79 : BitVec 32 := 1024#32
  let v128 : BitVec 32 := Scalar.muli v126 c1024_i32_79
  let c512_i32_80 : BitVec 32 := 512#32
  let v129 : BitVec 32 := Scalar.addi v128 c512_i32_80
  ![256, v129.toNat]
def k0_dev56 (d0 : Dev nD) : Nat :=
  let c0_i32_2029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2028 : BitVec 32 := 1#32
  let v2333 : BitVec 32 := Scalar.muli v13 c1_i32_2028
  let v2334 : BitVec 32 := Scalar.addi c0_i32_2029 v2333
  v2334.toNat
def k0_off79 (d0 : Dev nD) : Fin 2 → Nat :=
  let c384_i32_2037 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v130 : BitVec 32 := Scalar.subi v2 c0_i32_81
  let c4_i32_82 : BitVec 32 := 4#32
  let c0_i32_83 : BitVec 32 := 0#32
  let v131 : BitVec 1 := Scalar.cmpi .eq c4_i32_82 c0_i32_83
  let c1_i32_84 : BitVec 32 := 1#32
  let v132 : BitVec 32 := Scalar.select v131 c1_i32_84 c4_i32_82
  let v133 : BitVec 32 := Scalar.remsi v130 v132
  let c0_i32_86 : BitVec 32 := 0#32
  let v135 : BitVec 1 := Scalar.cmpi .slt v133 c0_i32_86
  let c0_i32_87 : BitVec 32 := 0#32
  let v136 : BitVec 1 := Scalar.cmpi .slt v132 c0_i32_87
  let v137 : BitVec 1 := Scalar.xori v135 v136
  let c0_i32_85 : BitVec 32 := 0#32
  let v134 : BitVec 1 := Scalar.cmpi .ne v133 c0_i32_85
  let v138 : BitVec 1 := Scalar.andi v137 v134
  let v139 : BitVec 32 := Scalar.addi v133 v132
  let v140 : BitVec 32 := Scalar.select v138 v139 v133
  let c1024_i32_95 : BitVec 32 := 1024#32
  let v152 : BitVec 32 := Scalar.muli v140 c1024_i32_95
  ![384, v152.toNat]
def k0_dev57 (d0 : Dev nD) : Nat :=
  let c0_i32_2034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2033 : BitVec 32 := 1#32
  let v2342 : BitVec 32 := Scalar.muli v24 c1_i32_2033
  let v2343 : BitVec 32 := Scalar.addi c0_i32_2034 v2342
  v2343.toNat
def k0_off80 (d0 : Dev nD) : Fin 2 → Nat :=
  let c384_i32_2042 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_88 : BitVec 32 := 0#32
  let v141 : BitVec 32 := Scalar.addi v2 c0_i32_88
  let c4_i32_89 : BitVec 32 := 4#32
  let c0_i32_90 : BitVec 32 := 0#32
  let v142 : BitVec 1 := Scalar.cmpi .eq c4_i32_89 c0_i32_90
  let c1_i32_91 : BitVec 32 := 1#32
  let v143 : BitVec 32 := Scalar.select v142 c1_i32_91 c4_i32_89
  let v144 : BitVec 32 := Scalar.remsi v141 v143
  let c0_i32_93 : BitVec 32 := 0#32
  let v146 : BitVec 1 := Scalar.cmpi .slt v144 c0_i32_93
  let c0_i32_94 : BitVec 32 := 0#32
  let v147 : BitVec 1 := Scalar.cmpi .slt v143 c0_i32_94
  let v148 : BitVec 1 := Scalar.xori v146 v147
  let c0_i32_92 : BitVec 32 := 0#32
  let v145 : BitVec 1 := Scalar.cmpi .ne v144 c0_i32_92
  let v149 : BitVec 1 := Scalar.andi v148 v145
  let v150 : BitVec 32 := Scalar.addi v144 v143
  let v151 : BitVec 32 := Scalar.select v149 v150 v144
  let c1024_i32_96 : BitVec 32 := 1024#32
  let v153 : BitVec 32 := Scalar.muli v151 c1024_i32_96
  let c512_i32_97 : BitVec 32 := 512#32
  let v154 : BitVec 32 := Scalar.addi v153 c512_i32_97
  ![384, v154.toNat]
def k0_dev58 (d0 : Dev nD) : Nat :=
  let c0_i32_2039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2038 : BitVec 32 := 1#32
  let v2351 : BitVec 32 := Scalar.muli v13 c1_i32_2038
  let v2352 : BitVec 32 := Scalar.addi c0_i32_2039 v2351
  v2352.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Sched.lean ====
/- The ring protocol of the kernel: the values the messages carry, what each semaphore cell hands over in each
   round (a round is a grid point), the levels, and what a device owes. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

def EP : Emb (UR sig nD τ) (MT nD τ sig ℕ (Elt F) ℕ UU ℕ) := embL
def ER : Emb UB (MT nD τ sig ℕ (Elt F) ℕ UU ℕ) := (Emb.inl : Emb UB (UB × Counters)).trans embR

instance ER_landsIn : (ER (F := F)).LandsIn (upEmb : UEmb _ (MT nD τ sig ℕ (Elt F) ℕ UU ℕ)) := by unfold ER; infer_instance
instance EP_landsIn : (EP (F := F)).LandsIn (upEmb : UEmb _ (MT nD τ sig ℕ (Elt F) ℕ UU ℕ)) := by unfold EP; infer_instance

variable (m : (ℓ : Loc nD τ sig) → Buf (Elt F) ℓ)

/-! ## The two rings: `false` sends to the next device, `true` to the one before -/

set_option backward.proofsInPublic true in
def nb (d : Bool) (c : Dev nD) : Dev nD := ⟨(c.val + (if d then 3 else 1)) % 4, Nat.mod_lt _ (by decide)⟩

theorem nb_not_nb (d : Bool) (c : Dev nD) : nb (!d) (nb d c) = c := by revert c d; decide
theorem nb_nb_not (d : Bool) (c : Dev nD) : nb d (nb (!d) c) = c := by revert c d; decide

/-- The chunk device `c` sends at step `s` of ring `d`. -/
def ch (d : Bool) (c : Dev nD) (s : ℕ) : ℕ := (c.val + (if d then 1 else 3) * s) % 4

/-- The half-column (of 512 columns) ring `d` works on in chunk `k`. -/
def hk (d : Bool) (k : ℕ) : ℕ := 2 * k + (if d then 1 else 0)

/-- The half-column device `c` sends at step `s` of ring `d`. -/
def hc (d : Bool) (c : Dev nD) (s : ℕ) : ℕ := hk d (ch d c s)

theorem hc_lt (d : Bool) (c : Dev nD) (s : ℕ) : hc d c s < 8 := by
  have : ch d c s < 4 := Nat.mod_lt _ (by decide)
  unfold hc hk; cases d <;> simp <;> omega

/-! ## Values -/

def ix (n k : ℕ) (hn : 0 < n) (hk : 0 < k) (r j : ℕ) : (⟨2, ![n, k]⟩ : Shape).Idx
  | ⟨0, _⟩ => ⟨r % n, Nat.mod_lt _ hn⟩
  | ⟨1, _⟩ => ⟨j % k, Nat.mod_lt _ hk⟩

/-- A device's block of `x`, and of `w`. -/
def xm (c : Dev nD) : S8192x2048.Idx → Elt F .f32 := m ((c : Thread nD τ).loc main_arg0)
def wm (c : Dev nD) : S2048x4096.Idx → Elt F .f32 := m ((c : Thread nD τ).loc main_arg1)

/-- Tile `t` of `x` as the matmul reads it. -/
def xV (c : Dev nD) (t : ℕ) : Vec F S1x512x2048 .f32 := fun i => xm m c (ix 8192 2048 (by decide) (by decide) (512 * t + (i 1).val) (i 2).val)
def wC (c : Dev nD) (k : ℕ) : Vec F S2048x1024 .f32 := fun i => wm m c (ix 2048 4096 (by decide) (by decide) (i 0).val (1024 * k + (i 1).val))
def wH (c : Dev nD) (h : ℕ) : Vec F S2048x512 .f32 := fun i => wm m c (ix 2048 4096 (by decide) (by decide) (i 0).val (512 * h + (i 1).val))

/-- The partial product of tile `t` on device `c`, by row in the tile and column. -/
def P (c : Dev nD) (t r j : ℕ) : F .f32 :=
  if t = 0 then k0_pay9 (xV m c 0) (wC m c (j / 1024)) (ix 512 1024 (by decide) (by decide) r j)
  else k0_pay6 (xV m c t) (wH m c (j / 512)) (ix 512 512 (by decide) (by decide) r j)

/-- The running sum at step `s` of ring `d`. -/
def acc (d : Bool) : ℕ → Dev nD → ℕ → ℕ → ℕ → F .f32
  | 0, c, t, r, j => P m c t r j
  | s + 1, c, t, r, j => FloatOps.addf (P m c t r j) (acc d s (nb (!d) c) t r j)

def silu (y : F .f32) : F .f32 :=
  FloatOps.divf y (FloatOps.addf (Scalar.ofBits .f32 0x3F800000#32) (FloatOps.exp (FloatOps.subf (Scalar.ofBits .f32 0x00000000#32) y)))

/-- The device whose running sum of column `j` is complete. -/
def owner (j : ℕ) : Dev nD := nb (decide (j % 1024 < 512)) ⟨j / 1024 % 4, Nat.mod_lt _ (by decide)⟩

/-- The result of tile `t`: on every device the same. -/
def fin (t r j : ℕ) : F .f32 := silu (acc m (decide (¬ j % 1024 < 512)) 3 (owner j) t r j)

/-- What slot `s` of ring `d`'s landing buffer on device `c` holds in tile `t`. -/
def slotV (d : Bool) (c : Dev nD) (s t : ℕ) (r j : ℕ) : F .f32 :=
  if s < 3 then acc m d s (nb (!d) c) t r (512 * hc d c (s + 1) + j) else fin m t r (512 * hc d c (s - 3) + j)

/-! ## Pieces of the buffers -/

/-- Rows `128u ..` of half-column `h` of the work buffer; -/
def wset (u h : ℕ) : Finset S512x4096.Idx := Finset.univ.filter fun i => (i 0).val / 128 = u ∧ (i 1).val / 512 = h
/-- all its rows. -/
def hset (h : ℕ) : Finset S512x4096.Idx := Finset.univ.filter fun i => (i 1).val / 512 = h
/-- Rows `128u ..` of slot `s` of a landing buffer. -/
def cset (s u : ℕ) : Finset S6x512x512.Idx := Finset.univ.filter fun i => (i 0).val = s ∧ (i 1).val / 128 = u

def WB (g : ℕ → ℕ → F .f32) : S512x4096.Idx → Elt F .f32 := fun i => g (i 0).val (i 1).val
def CB (g : ℕ → ℕ → F .f32) : S6x512x512.Idx → Elt F .f32 := fun i => g (i 1).val (i 2).val

def workR (c : Dev nD) (S : Finset S512x4096.Idx) (q : PosShare TreeShare) (f : S512x4096.Idx → Elt F .f32) : sProp 𝕄 :=
  ((c : Thread nD τ).loc cc0_scratch2) ↦[S]{q} f
def commR (d : Bool) (c : Dev nD) (S : Finset S6x512x512.Idx) (q : PosShare TreeShare) (f : S6x512x512.Idx → Elt F .f32) : sProp 𝕄 :=
  match d with
  | false => ((c : Thread nD τ).loc cc0_scratch3) ↦[S]{q} f
  | true => ((c : Thread nD τ).loc cc0_scratch4) ↦[S]{q} f

instance workR_storable (c : Dev nD) (S q) (f : S512x4096.Idx → Elt F .f32) : BI.Storable (upEmb : UEmb _ 𝕄) (workR c S q f) := by unfold workR; infer_instance
instance commR_storable (d : Bool) (c : Dev nD) (S q) (f : S6x512x512.Idx → Elt F .f32) : BI.Storable (upEmb : UEmb _ 𝕄) (commR d c S q f) := by
  cases d <;> (unfold commR; infer_instance)

/-! ## The cells -/

/-- The runtime's barrier semaphore. -/
abbrev barS : Sem sig := (SemArray.scalar (sig.barrier 0 rfl) : Sems sig S_).sem

set_option backward.proofsInPublic true in
/-- The send and receive semaphores, by message position `q` in a tile (`q = 2 (4 s + u) + d`). -/
def sendS (q : ℕ) : DmaSem sig := (⟨(48 * (q % 2) + q / 2 % 24) % 110, Nat.mod_lt _ (by decide)⟩ : Fin 110)
set_option backward.proofsInPublic true in
def recvS (q : ℕ) : DmaSem sig := (⟨(48 * (q % 2) + 24 + q / 2 % 24) % 110, Nat.mod_lt _ (by decide)⟩ : Fin 110)

abbrev barC (c : Dev nD) : GSem nD τ sig := ((c : Thread nD τ), .reg barS)
abbrev sendC (q : ℕ) (c : Dev nD) : GSem nD τ sig := ((c : Thread nD τ), .dma (sendS q))
abbrev recvC (q : ℕ) (c : Dev nD) : GSem nD τ sig := ((c : Thread nD τ), .dma (recvS q))

/-- The ring a message position belongs to, its step and its quarter of the rows. -/
def qd (q : ℕ) : Bool := decide (q % 2 = 1)
def pos (d : Bool) (s u : ℕ) : ℕ := (s * 4 + u) * 2 + (if d then 1 else 0)

theorem pos_lt {d : Bool} {s u : ℕ} (hs : s < 6) (hu : u < 4) : pos d s u < 48 := by unfold pos; cases d <;> simp <;> omega
theorem pos_s {d : Bool} {s u : ℕ} (hu : u < 4) : pos d s u / 8 = s := by unfold pos; cases d <;> simp <;> omega
theorem pos_u {d : Bool} {s u : ℕ} (hu : u < 4) : pos d s u / 2 % 4 = u := by unfold pos; cases d <;> simp <;> omega
theorem pos_d {d : Bool} {s u : ℕ} : qd (pos d s u) = d := by unfold pos qd; cases d <;> simp <;> omega

/-- The words one quarter of a half-column credits. -/
abbrev N : ℕ := (((Memref.whole cc0_scratch3 : Memref sig .tc .vmem S6x512x512 .f32).slice (Rect.unit (s := S6x512x512) ![0, 0, 0] S1x128x512.size inb_S6x512x512_S1x128x512_0_0_0) (fun _ => rfl)).squeeze S128x512 squeezes_S1x128x512_S128x512).view.dmaCredit
theorem N_pos : 0 < N := View.dmaCredit_pos _ (by decide)

/-! ## What the cells hand over -/

/-- What a sender of message `(d, s, u)` of tile `t` needs at the other end. -/
def Perm (d : Bool) (c : Dev nD) (s u t : ℕ) : sProp 𝕄 :=
  iprop((∃ f : S6x512x512.Idx → Elt F .f32, commR d (nb d c) (cset s u) fullShare f) ∗ reached ER (recvC (pos d s u) (nb d c)) t)

/-- What the receiver of message `(d, s, u)` of tile `t` gets besides the data: leave to send in the other ring. -/
def give (d : Bool) (n : Dev nD) (s u t : ℕ) : sProp 𝕄 :=
  if s = 1 then iprop(Perm (F := F) (!d) n 3 u t ∗ Perm (F := F) (!d) n 4 u t ∗ Perm (F := F) (!d) n 5 u t)
  else if s = 3 ∧ t + 1 < 16 then iprop(Perm (F := F) (!d) n 0 u (t + 1) ∗ Perm (F := F) (!d) n 1 u (t + 1) ∗ Perm (F := F) (!d) n 2 u (t + 1))
  else iprop(emp)

def recvPay (d : Bool) (n : Dev nD) (s u t : ℕ) : sProp 𝕄 :=
  iprop(commR d n (cset s u) fullShare (CB (slotV m d n s t)) ∗ give (F := F) d n s u t)

/-- The source of message `(d, s, u)` of tile `t`, back when it has left. -/
def srcPay (d : Bool) (c : Dev nD) (s u t : ℕ) : sProp 𝕄 :=
  if s < 3 then workR c (wset u (hc d c s)) fullShare (WB (acc m d s c t))
  else if s = 3 then workR c (wset u (hc d c 3)) fullShare.left (WB (fin m t))
  else commR d c (cset (s - 1) u) fullShare.left (CB (slotV m d c (s - 1) t))

/-- Leave to send the first three steps of tile 0. -/
def barPay (d : Bool) (c : Dev nD) : sProp 𝕄 :=
  bigSep (Finset.range 4) fun u => iprop(Perm (F := F) d c 0 u 0 ∗ Perm (F := F) d c 1 u 0 ∗ Perm (F := F) d c 2 u 0)

instance perm_storable (d : Bool) (c : Dev nD) (s u t : ℕ) : BI.Storable (upEmb : UEmb _ 𝕄) (Perm (F := F) d c s u t) := by unfold Perm; infer_instance
instance give_storable (d : Bool) (c : Dev nD) (s u t : ℕ) : BI.Storable (upEmb : UEmb _ 𝕄) (give (F := F) d c s u t) := by
  unfold give; (repeat' split) <;> infer_instance
instance recvPay_storable (d : Bool) (c : Dev nD) (s u t : ℕ) : BI.Storable (upEmb : UEmb _ 𝕄) (recvPay m d c s u t) := by unfold recvPay; infer_instance
instance srcPay_storable (d : Bool) (c : Dev nD) (s u t : ℕ) : BI.Storable (upEmb : UEmb _ 𝕄) (srcPay m d c s u t) := by
  unfold srcPay; (repeat' split) <;> infer_instance
instance barPay_storable (d : Bool) (c : Dev nD) : BI.Storable (upEmb : UEmb _ 𝕄) (barPay (F := F) d c) := by unfold barPay; infer_instance

def semPay (c : Dev nD) (x t : ℕ) : sProp 𝕄 :=
  if x < 96 then
    (if x / 24 % 2 = 0 then srcPay m (decide (x / 48 = 1)) c (x % 24 / 4) (x % 4) t else recvPay m (decide (x / 48 = 1)) c (x % 24 / 4) (x % 4) t)
  else iprop(emp)
instance semPay_storable (c : Dev nD) (x t : ℕ) : BI.Storable (upEmb : UEmb _ 𝕄) (semPay m c x t) := by
  unfold semPay; (repeat' split) <;> infer_instance

/-- The schedule: a barrier cell has, in round 0, one duty for each neighbour; a send or receive cell one duty in each
    of the 16 rounds. -/
def Rd : Rounds.Schedule (GSem nD τ sig) Bool 𝕄 where
  duties g t := if g.1.2 = .tc then (match g.2 with
    | .reg _ => if t = 0 then Finset.univ else ∅
    | .dma q => if q.val < 96 ∧ t < 16 then {false} else ∅) else ∅
  unitless _ := False
  amount g _ _ := match g.2 with | .reg _ => 1 | .dma _ => N
  payload g t b := match g.2 with
    | .reg _ => barPay b g.1.1
    | .dma q => semPay m g.1.1 q.val t
  amount_pos g _ _ _ := by rcases g with ⟨_, _ | _⟩ <;> first | exact Nat.one_pos | exact N_pos

instance Rd_payload_storable (g : GSem nD τ sig) (r : ℕ) (d : Bool) : BI.Storable (upEmb : UEmb _ 𝕄) ((Rd (F := F) m).payload g r d) := by
  rcases g with ⟨_, _ | _⟩ <;> (dsimp only [Rd]; infer_instance)

theorem sendS_val {q : ℕ} (h : q < 48) : (sendS q).val = 48 * (q % 2) + q / 2 := by
  revert q; decide
theorem recvS_val {q : ℕ} (h : q < 48) : (recvS q).val = 48 * (q % 2) + 24 + q / 2 := by
  revert q; decide

section Lemmas
variable (c : Dev nD) {q : ℕ} (hq : q < 48)
include hq

theorem duties_send {t : ℕ} (ht : t < 16) : (Rd (F := F) m).duties (sendC q c) t = {false} := by
  dsimp only [Rd]; rw [if_pos rfl, if_pos ⟨by rw [sendS_val hq]; omega, ht⟩]
theorem duties_recv {t : ℕ} (ht : t < 16) : (Rd (F := F) m).duties (recvC q c) t = {false} := by
  dsimp only [Rd]; rw [if_pos rfl, if_pos ⟨by rw [recvS_val hq]; omega, ht⟩]
omit hq in
theorem duties_late (x : DmaSem sig) {t : ℕ} (ht : 16 ≤ t) : (Rd (F := F) m).duties ((c : Thread nD τ), .dma x) t = ∅ := by
  dsimp only [Rd]; rw [if_pos rfl, if_neg fun h => by omega]
theorem expect_send {t : ℕ} (ht : t < 16) : (Rd (F := F) m).expect (sendC q c) t = N := by
  unfold Schedule.expect Schedule.amountOf; rw [duties_send m c hq ht, Finset.sum_singleton]; rfl
theorem expect_recv {t : ℕ} (ht : t < 16) : (Rd (F := F) m).expect (recvC q c) t = N := by
  unfold Schedule.expect Schedule.amountOf; rw [duties_recv m c hq ht, Finset.sum_singleton]; rfl
theorem payload_send (t : ℕ) (b : Bool) : (Rd (F := F) m).payload (sendC q c) t b = srcPay m (qd q) c (q / 8) (q / 2 % 4) t := by
  dsimp only [Rd]; unfold semPay; rw [sendS_val hq, if_pos (by omega)]
  obtain ⟨h1, h2, h3, h4⟩ : (48 * (q % 2) + q / 2) / 24 % 2 = 0 ∧ decide ((48 * (q % 2) + q / 2) / 48 = 1) = qd q
      ∧ (48 * (q % 2) + q / 2) % 24 / 4 = q / 8 ∧ (48 * (q % 2) + q / 2) % 4 = q / 2 % 4 := by unfold qd; revert q; decide
  rw [if_pos h1, h2, h3, h4]
theorem payload_recv (t : ℕ) (b : Bool) : (Rd (F := F) m).payload (recvC q c) t b = recvPay m (qd q) c (q / 8) (q / 2 % 4) t := by
  dsimp only [Rd]; unfold semPay; rw [recvS_val hq, if_pos (by omega)]
  obtain ⟨h1, h2, h3, h4⟩ : ¬ (48 * (q % 2) + 24 + q / 2) / 24 % 2 = 0 ∧ decide ((48 * (q % 2) + 24 + q / 2) / 48 = 1) = qd q
      ∧ (48 * (q % 2) + 24 + q / 2) % 24 / 4 = q / 8 ∧ (48 * (q % 2) + 24 + q / 2) % 4 = q / 2 % 4 := by unfold qd; revert q; decide
  rw [if_neg h1, h2, h3, h4]
theorem rest_send {t : ℕ} (ht : t < 16) : bigSep ((Rd (F := F) m).duties (sendC q c) t \ ∅) (fun b => (Rd (F := F) m).payload (sendC q c) t b)
    = srcPay m (qd q) c (q / 8) (q / 2 % 4) t := by
  rw [Finset.sdiff_empty, duties_send m c hq ht, bigSep_singleton, payload_send m c hq]
theorem rest_recv {t : ℕ} (ht : t < 16) : bigSep ((Rd (F := F) m).duties (recvC q c) t \ ∅) (fun b => (Rd (F := F) m).payload (recvC q c) t b)
    = recvPay m (qd q) c (q / 8) (q / 2 % 4) t := by
  rw [Finset.sdiff_empty, duties_recv m c hq ht, bigSep_singleton, payload_recv m c hq]
end Lemmas

section Bar
variable (c : Dev nD)
theorem duties_bar : (Rd (F := F) m).duties (barC c) 0 = Finset.univ := by dsimp only [Rd]; rw [if_pos rfl, if_pos rfl]
theorem expect_bar : (Rd (F := F) m).expect (barC c) 0 = 2 := by
  unfold Schedule.expect Schedule.amountOf; rw [duties_bar, Fintype.sum_bool]; rfl
theorem rest_bar : bigSep ((Rd (F := F) m).duties (barC c) 0 \ ∅) (fun b => (Rd (F := F) m).payload (barC c) 0 b) = iprop(barPay (F := F) false c ∗ barPay (F := F) true c) := by
  rw [Finset.sdiff_empty, duties_bar, bigSep_univ_eq_bigSepL [false, true] (by decide) (by decide), bigSepL_cons_cons, bigSepL_singleton]; rfl
end Bar

/-! ## The levels, and what a device owes -/

/-- What device `c` still owes when it has sent `k` messages. -/
def O (c : Dev nD) (k : ℕ) : CellTallies nD τ sig ℕ := ∑ j ∈ Finset.Ico k 768, tallyAt (recvC (j % 48) (nb (qd j) c)) (j / 48) N

theorem O_peel (c : Dev nD) {k : ℕ} (h : k < 768) : O c k = O c (k + 1) + tallyAt (recvC (k % 48) (nb (qd k) c)) (k / 48) N := by
  unfold O; rw [Ring.sum_Ico_succ h, add_comm]
theorem O_end (c : Dev nD) : O c 768 = 0 := by unfold O; simp

def L (g : GSem nD τ sig) : Finset ℕ := if g.1.2 = .tc then Finset.range 16 else ∅
def lv (g : GSem nD τ sig) (t : ℕ) : ℕ := match g.2 with
  | .reg _ => 0
  | .dma x => if x.val < 96 ∧ x.val / 24 % 2 = 1 then 48 * t + (x.val % 24) * 2 + x.val / 48 + 1 else 0

theorem lv_recv' (c : Dev nD) (q t : ℕ) (h : q < 48) : lv (recvC q c) t = 48 * t + q + 1 := by
  show (if (recvS q).val < 96 ∧ (recvS q).val / 24 % 2 = 1 then 48 * t + ((recvS q).val % 24) * 2 + (recvS q).val / 48 + 1 else 0) = _
  rw [recvS_val h]
  obtain ⟨h1, h2⟩ : (48 * (q % 2) + 24 + q / 2 < 96 ∧ (48 * (q % 2) + 24 + q / 2) / 24 % 2 = 1)
      ∧ (48 * (q % 2) + 24 + q / 2) % 24 * 2 + (48 * (q % 2) + 24 + q / 2) / 48 = q := by revert q; decide
  rw [if_pos h1]; omega
theorem lv_recv (c : Dev nD) (j : ℕ) : lv (recvC (j % 48) c) (j / 48) = j + 1 := by
  rw [lv_recv' c _ _ (Nat.mod_lt _ (by decide))]; omega
theorem lv_send (c : Dev nD) (q t : ℕ) (h : q < 48) : lv (sendC q c) t = 0 := by
  show (if (sendS q).val < 96 ∧ (sendS q).val / 24 % 2 = 1 then _ else 0) = _
  rw [sendS_val h]
  have h1 : ¬ (48 * (q % 2) + q / 2 < 96 ∧ (48 * (q % 2) + q / 2) / 24 % 2 = 1) := by revert q; decide
  rw [if_neg h1]

theorem O_pos {c : Dev nD} {k : ℕ} {g : GSem nD τ sig} {u : ℕ} (h : 0 < O c k g u) :
    ∃ j, k ≤ j ∧ j < 768 ∧ g = recvC (j % 48) (nb (qd j) c) ∧ u = j / 48 := by
  by_contra hn
  have : O c k g u = 0 := by
    unfold O; rw [Finset.sum_apply, Finsupp.finset_sum_apply]
    refine Finset.sum_eq_zero fun j hj => ?_
    rw [tallyAt_apply]; refine if_neg fun hh => hn ⟨j, (Finset.mem_Ico.mp hj).1, (Finset.mem_Ico.mp hj).2, hh.1, hh.2⟩
  omega

/-- A device that has sent its first `k` messages may wait at any cell of level at most `k`. -/
theorem mayWait (c : Dev nD) (sm : SemLoc sig) (t k : ℕ) (ht : t < 16) (hl : lv ((c : Thread nD τ), sm) t ≤ k) :
    (levAts L lv : sProp 𝕄) ⊢ MayWait (c : Thread nD τ) sm t (O c k) :=
  MayOwe.of_cut (L := L) (lev := lv) k
    (fun p hp => by rw [Finset.mem_singleton.mp hp]; show t ∈ (if _ then _ else _); rw [if_pos rfl]; exact Finset.mem_range.mpr ht)
    (fun g u hg => by
      obtain ⟨j, h1, h2, rfl, rfl⟩ := O_pos hg
      show _ ∈ (if _ then _ else _); rw [if_pos rfl]; exact Finset.mem_range.mpr (by omega))
    (fun p hp => by rw [Finset.mem_singleton.mp hp]; exact hl)
    (fun g u hg => by
      obtain ⟨j, h1, h2, rfl, rfl⟩ := O_pos hg
      rw [lv_recv]; omega)

end Cert.KernelIdeal.Ring
end
-- ==== Proof.Ctl.lean ====
/- What the body carries through the ring protocol: its debts, credits, positions and tokens, and the three steps that
   move them — a send, a wait for an arrival, a wait for a departure. -/
module

public import proofs.«01_k».proof.Proof.Sched
public import Idealize.SL.BI.BigOpNat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The weakest precondition of a program of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem peel {I : Type} [DecidableEq I] {s : Finset I} {i : I} (h : i ∈ s) {Φ : I → sProp 𝕄} : bigSep s Φ = iprop(Φ i ∗ bigSep (s.erase i) Φ) :=
  BI.bigSep_erase h

/-! ## The records every device shares -/

set_option backward.proofsInPublic true in
def csem (i : Fin 97) : SemLoc sig := if h : i.val < 96 then .dma (⟨i.val, by omega⟩ : Fin 110) else .reg barS
def kcell (ck : Dev nD × Fin 97) : GSem nD τ sig := ((ck.1 : Thread nD τ), csem ck.2)

set_option backward.proofsInPublic true in
theorem csem_send {q : ℕ} (h : q < 48) : csem ⟨48 * (q % 2) + q / 2, by omega⟩ = .dma (sendS q) := by
  unfold csem; rw [dif_pos (show 48 * (q % 2) + q / 2 < 96 by omega)]
  exact congrArg SemLoc.dma (Fin.ext (sendS_val h).symm)
set_option backward.proofsInPublic true in
theorem csem_recv {q : ℕ} (h : q < 48) : csem ⟨48 * (q % 2) + 24 + q / 2, by omega⟩ = .dma (recvS q) := by
  unfold csem; rw [dif_pos (show 48 * (q % 2) + 24 + q / 2 < 96 by omega)]
  exact congrArg SemLoc.dma (Fin.ext (recvS_val h).symm)
theorem csem_bar : csem 96 = .reg barS := rfl

def Rec (κ : Dev nD × Fin 97 → ℕ) : sProp 𝕄 :=
  iprop(levAts L lv ∗ bigSep Finset.univ fun ck => cellInv ER (Rd m) (κ ck) (kcell ck))
instance Rec_persistent (κ) : BI.Persistent (Rec (F := F) m κ) := by unfold Rec; infer_instance

theorem rec_elim (κ : Dev nD × Fin 97 → ℕ) (ck : Dev nD × Fin 97) :
    (bigSep Finset.univ fun ck => cellInv ER (Rd (F := F) m) (κ ck) (kcell ck) : sProp 𝕄) ⊢ cellInv ER (Rd m) (κ ck) (kcell ck) := bigSep_elim (Finset.mem_univ ck)
theorem rec_inv (κ) (ck : Dev nD × Fin 97) : Rec (F := F) m κ ⊢ cellInv ER (Rd m) (κ ck) (kcell ck) := by
  unfold Rec; iintro ⟨-, H⟩; iapply (rec_elim m κ ck); iexact H
theorem rec_send (κ) {q : ℕ} (h : q < 48) (c : Dev nD) : Rec (F := F) m κ ⊢ cellInv ER (Rd m) (κ (c, ⟨48 * (q % 2) + q / 2, by omega⟩)) (sendC q c) := by
  have := rec_inv m κ (c, ⟨48 * (q % 2) + q / 2, by omega⟩); unfold kcell at this; rwa [csem_send h] at this
theorem rec_recv (κ) {q : ℕ} (h : q < 48) (c : Dev nD) : Rec (F := F) m κ ⊢ cellInv ER (Rd m) (κ (c, ⟨48 * (q % 2) + 24 + q / 2, by omega⟩)) (recvC q c) := by
  have := rec_inv m κ (c, ⟨48 * (q % 2) + 24 + q / 2, by omega⟩); unfold kcell at this; rwa [csem_recv h] at this
theorem rec_bar (κ) (c : Dev nD) : Rec (F := F) m κ ⊢ cellInv ER (Rd m) (κ (c, 96)) (barC c) := rec_inv m κ (c, 96)
theorem rec_lev (κ) : Rec (F := F) m κ ⊢ levAts L lv := by unfold Rec; iintro ⟨H, -⟩; iexact H

/-! ## What a device carries -/

/-- The tokens of the messages still to be sent; -/
def Tk (c : Dev nD) (k : ℕ) : sProp 𝕄 :=
  bigSep (Finset.Ico k 768) fun j => iprop(dutyTok ER (sendC (j % 48) c) (j / 48) false ∗ dutyTok ER (recvC (j % 48) (nb (qd j) c)) (j / 48) false)
/-- what the arrivals still to be waited for are waited with, and the positions on the receive cells; -/
def Rx (c : Dev nD) (k : ℕ) : sProp 𝕄 :=
  iprop((bigSep (Finset.Ico k 768) fun j => cred (tallyAt (recvC (j % 48) c) (j / 48) N))
    ∗ bigSep (Finset.range 48) fun q => iprop(atPos ER (recvC q c) ((k + 47 - q) / 48) ∅ 0 ∗ reached ER (recvC q c) ((k + 47 - q) / 48)))
/-- what the departures under way are waited with, and the positions on the send cells. -/
def Sx (c : Dev nD) (ks kw : ℕ) : sProp 𝕄 :=
  iprop((bigSep (Finset.Ico kw ks) fun j => cred (tallyAt (sendC (j % 48) c) (j / 48) N))
    ∗ bigSep (Finset.range 48) fun q => iprop(atPos ER (sendC q c) ((kw + 47 - q) / 48) ∅ 0 ∗ reached ER (sendC q c) ((kw + 47 - q) / 48)))

/-- Device `c` having sent `ks` messages, seen `kr` arrive and `kw` leave. -/
def Ctl (c : Dev nD) (ks kr kw : ℕ) : sProp 𝕄 :=
  iprop(∃ κ, Rec m κ ∗ (∃ W, owes (c : Thread nD τ) (O c ks) W) ∗ Tk c ks ∗ Rx c kr ∗ Sx c ks kw)

/-! ## Positions -/

theorem pos_peel (A : ℕ → ℕ → sProp 𝕄) (k : ℕ) : bigSep (Finset.range 48) (fun q => A q ((k + 47 - q) / 48))
    = iprop(A (k % 48) (k / 48) ∗ bigSep ((Finset.range 48).erase (k % 48)) fun q => A q ((k + 47 - q) / 48)) := by
  rw [peel (Finset.mem_range.mpr (Nat.mod_lt k (by decide : 0 < 48))), show (k + 47 - k % 48) / 48 = k / 48 by omega]
theorem pos_peel' (A : ℕ → ℕ → sProp 𝕄) (k : ℕ) : bigSep (Finset.range 48) (fun q => A q ((k + 1 + 47 - q) / 48))
    = iprop(A (k % 48) (k / 48 + 1) ∗ bigSep ((Finset.range 48).erase (k % 48)) fun q => A q ((k + 47 - q) / 48)) := by
  rw [peel (Finset.mem_range.mpr (Nat.mod_lt k (by decide : 0 < 48))), show (k + 1 + 47 - k % 48) / 48 = k / 48 + 1 by omega]
  congr 1
  refine BI.bigSep_congr fun q hq => ?_
  have h1 := Finset.mem_range.mp (Finset.mem_of_mem_erase hq)
  have h2 := Finset.ne_of_mem_erase hq
  rw [show (k + 1 + 47 - q) / 48 = (k + 47 - q) / 48 by omega]

instance pair_dup_persistent (c : Dev nD) (q t : ℕ) : BI.Persistent (reached (ER (F := F)) (recvC q c) t : sProp 𝕄) := inferInstance

/-- A device knows which rounds of its receive cells it has reached; -/
theorem rx_reached (c : Dev nD) (k q : ℕ) (hq : q < 48) :
    Rx (F := F) c k ⊢ iprop(reached ER (recvC q c) ((k + 47 - q) / 48) ∗ Rx c k) := by
  unfold Rx
  rw [peel (Finset.mem_range.mpr hq)]
  iintro ⟨Hc, ⟨Ha, #Hr⟩, Hrest⟩
  isplitr; · iexact Hr
  isplitl [Hc]; · iexact Hc
  isplitr [Hrest]
  · isplitl [Ha]; · iexact Ha
    iexact Hr
  iexact Hrest
/-- and of its send cells. -/
theorem sx_reached (c : Dev nD) (ks k q : ℕ) (hq : q < 48) :
    Sx (F := F) c ks k ⊢ iprop(reached ER (sendC q c) ((k + 47 - q) / 48) ∗ Sx c ks k) := by
  unfold Sx
  rw [peel (Finset.mem_range.mpr hq)]
  iintro ⟨Hc, ⟨Ha, #Hr⟩, Hrest⟩
  isplitr; · iexact Hr
  isplitl [Hc]; · iexact Hc
  isplitr [Hrest]
  · isplitl [Ha]; · iexact Ha
    iexact Hr
  iexact Hrest

theorem ctl_reached (c : Dev nD) (ks kr kw q : ℕ) (hq : q < 48) :
    Ctl m c ks kr kw ⊢ iprop(reached ER (recvC q c) ((kr + 47 - q) / 48) ∗ Ctl m c ks kr kw) := by
  unfold Ctl
  iintro ⟨%κ, HR, Ho, Ht, Hr, Hs⟩
  ihave Hr := (rx_reached c kr q hq) $$ Hr
  icases Hr with ⟨Hq, Hr⟩
  isplitl [Hq]; · iexact Hq
  iexists κ
  isplitl [HR]; · iexact HR
  isplitl [Ho]; · iexact Ho
  isplitl [Ht]; · iexact Ht
  isplitl [Hr]; · iexact Hr
  iexact Hs

/-! ## The three steps -/

section Steps
variable (c : Dev nD)

/-- Wait for arrival `k`. -/
theorem recv_step {α : Type} {Q : α → sProp 𝕄} {w : TpuEff nD τ sig (Elt F) Λ₀ .tc PUnit} {kk : PUnit → Prog (TpuEff nD τ sig (Elt F) Λ₀ .tc) α}
    (k ks kw : ℕ) (hk : k < 768) (hks : k + 1 ≤ ks)
    (hw : ∀ K : PUnit → sProp 𝕄, wpE (defs₀ (F := F)) 𝒱₀ (c : Thread nD τ) none Set.univ w K = waitSpec (c : Thread nD τ) Set.univ (.dma (recvS (k % 48))) N K) :
    Ctl m c ks k kw
      ⊢ iprop(((Ctl m c ks (k + 1) kw ∗ recvPay m (qd (k % 48)) c (k % 48 / 8) (k % 48 / 2 % 4) (k / 48)) -∗ WP c (kk ⟨⟩) Q) -∗ WP c (.op w kk) Q) := by
  have hq : k % 48 < 48 := Nat.mod_lt _ (by decide)
  have ht : k / 48 < 16 := by omega
  unfold Ctl Rx
  rw [pos_peel (fun q t => iprop(atPos ER (recvC q c) t ∅ 0 ∗ reached ER (recvC q c) t)) k,
    pos_peel' (fun q t => iprop(atPos ER (recvC q c) t ∅ 0 ∗ reached ER (recvC q c) t)) k, BI.bigSep_Ico_succ_bot hk]
  iintro ⟨%κ, #HR, ⟨%W, Ho⟩, Ht, ⟨⟨Hc, Hcs⟩, ⟨Ha, -⟩, Has⟩, Hs⟩
  iintro Hk
  iapply (Rounds.wp_wait_rest_token 𝒱₀ ER (Rd m) (c : Thread nD τ) none (κ := κ (c, ⟨48 * (k % 48 % 2) + 24 + k % 48 / 2, by omega⟩))
      hw (Set.mem_univ _) (k / 48) (O := O c ks) (W := W) (R := k / 48) (m := 0) (T := ∅)
      (by rw [Nat.zero_add, expect_recv m c hq ht])) $$ [Ho Hc Ha]
  · isplitr; · iapply (rec_recv m κ hq c); iexact HR
    isplitl [Hc]; · iexact Hc
    isplitl [Ho]; · iexact Ho
    isplitr
    · iapply (mayWait c _ (k / 48) ks ht (by rw [lv_recv]; exact hks)); iapply (rec_lev m κ); iexact HR
    iexact Ha
  iintro ⟨Ho, Ha, Hr, Hpay⟩
  ihave Hpay := (Entails.of_eq (rest_recv m c hq ht)) $$ Hpay
  iapply Hk
  isplitr [Hpay]
  · iexists κ
    isplitr; · iexact HR
    isplitl [Ho]; · iexists _; iexact Ho
    isplitl [Ht]; · iexact Ht
    isplitr [Hs]
    · isplitl [Hcs]; · iexact Hcs
      isplitr [Has]
      · isplitl [Ha] <;> iassumption
      iexact Has
    iexact Hs
  iexact Hpay

/-- Wait for departure `k`. -/
theorem left_step {α : Type} {Q : α → sProp 𝕄} {w : TpuEff nD τ sig (Elt F) Λ₀ .tc PUnit} {kk : PUnit → Prog (TpuEff nD τ sig (Elt F) Λ₀ .tc) α}
    (k ks kr : ℕ) (hks : k < ks) (hk : k < 768)
    (hw : ∀ K : PUnit → sProp 𝕄, wpE (defs₀ (F := F)) 𝒱₀ (c : Thread nD τ) none Set.univ w K = waitSpec (c : Thread nD τ) Set.univ (.dma (sendS (k % 48))) N K) :
    Ctl m c ks kr k
      ⊢ iprop(((Ctl m c ks kr (k + 1) ∗ srcPay m (qd (k % 48)) c (k % 48 / 8) (k % 48 / 2 % 4) (k / 48)) -∗ WP c (kk ⟨⟩) Q) -∗ WP c (.op w kk) Q) := by
  have hq : k % 48 < 48 := Nat.mod_lt _ (by decide)
  have ht : k / 48 < 16 := by omega
  unfold Ctl Sx
  rw [pos_peel (fun q t => iprop(atPos ER (sendC q c) t ∅ 0 ∗ reached ER (sendC q c) t)) k,
    pos_peel' (fun q t => iprop(atPos ER (sendC q c) t ∅ 0 ∗ reached ER (sendC q c) t)) k, BI.bigSep_Ico_succ_bot hks]
  iintro ⟨%κ, #HR, ⟨%W, Ho⟩, Ht, Hx, ⟨Hc, Hcs⟩, ⟨Ha, -⟩, Has⟩
  iintro Hk
  iapply (Rounds.wp_wait_rest_token 𝒱₀ ER (Rd m) (c : Thread nD τ) none (κ := κ (c, ⟨48 * (k % 48 % 2) + k % 48 / 2, by omega⟩))
      hw (Set.mem_univ _) (k / 48) (O := O c ks) (W := W) (R := k / 48) (m := 0) (T := ∅)
      (by rw [Nat.zero_add, expect_send m c hq ht])) $$ [Ho Hc Ha]
  · isplitr; · iapply (rec_send m κ hq c); iexact HR
    isplitl [Hc]; · iexact Hc
    isplitl [Ho]; · iexact Ho
    isplitr
    · iapply (mayWait c _ (k / 48) ks ht (by rw [lv_send c _ _ hq]; exact Nat.zero_le _)); iapply (rec_lev m κ); iexact HR
    iexact Ha
  iintro ⟨Ho, Ha, Hr, Hpay⟩
  ihave Hpay := (Entails.of_eq (rest_send m c hq ht)) $$ Hpay
  iapply Hk
  isplitr [Hpay]
  · iexists κ
    isplitr; · iexact HR
    isplitl [Ho]; · iexists _; iexact Ho
    isplitl [Ht]; · iexact Ht
    isplitl [Hx]; · iexact Hx
    isplitl [Hcs]; · iexact Hcs
    isplitr [Has]
    · isplitl [Ha] <;> iassumption
    iexact Has
  iexact Hpay

/-- Send message `k`. -/
theorem send_step {α : Type} {Q : α → sProp 𝕄} (k kr kw : ℕ) (hk : k < 768) (h1 : kw ≤ k) (h2 : k < kw + 48) (n : Dev nD) (hn : n = nb (qd k) c)
    {sp sp' : Space} {s : Shape} {e : EltTy} {src : Memref sig .tc sp s e} {dst : Memref sig (Dev.tc n : Thread nD τ).2.kind sp' s e}
    {sS sR : SemLoc sig} (hS : sS = .dma (sendS (k % 48))) (hR : sR = .dma (recvS (k % 48)))
    {hsc : dst.view.ref.isScScratch = false} {hsrc : src.view.WordExact} {hdst : dst.view.WordExact}
    {hsem : DmaTarget.Typed sp sR (.remote (Dev.tc n : Thread nD τ) dst sS hsc)}
    {kk : PUnit → Prog (TpuEff nD τ sig (Elt F) Λ₀ .tc) α} {qs : PosShare TreeShare} {fs : Buf (Elt F) (src.view.loc (c : Thread nD τ))}
    {fd : Buf (Elt F) (dst.view.loc (n : Thread nD τ))} {Fr : sProp 𝕄} (hN : dst.view.amount (.dma (recvS (k % 48))) = N)
    (hpay₁ : (src.view.loc (c : Thread nD τ) ↦[src.view.set]{qs} fs) ⊢ srcPay m (qd (k % 48)) c (k % 48 / 8) (k % 48 / 2 % 4) (k / 48))
    (hpay₂ : iprop((dst.view.loc (n : Thread nD τ) ↦[dst.view.set]{fullShare} (dst.view.write (Elt F) fd (src.view.read (Elt F) fs) Finset.univ)) ∗ Fr)
      ⊢ recvPay m (qd (k % 48)) n (k % 48 / 8) (k % 48 / 2 % 4) (k / 48)) :
    iprop(Ctl m c k kr kw ∗ (src.view.loc (c : Thread nD τ) ↦[src.view.set]{qs} fs) ∗ (dst.view.loc (n : Thread nD τ) ↦[dst.view.set]{fullShare} fd) ∗ Fr
        ∗ reached ER (recvC (k % 48) n) (k / 48))
      ⊢ iprop((Ctl m c (k + 1) kr kw -∗ WP c (kk ⟨⟩) Q)
          -∗ WP c (.op (.enqueueDma src (.remote (Dev.tc n : Thread nD τ) dst sS hsc) sR hsrc hdst hsem) kk) Q) := by
  subst hn hS hR
  have hq : k % 48 < 48 := Nat.mod_lt _ (by decide)
  have ht : k / 48 < 16 := by omega
  unfold Ctl Tk
  rw [BI.bigSep_Ico_succ_bot hk]
  iintro ⟨⟨%κ, #HR, ⟨%W, Ho⟩, ⟨⟨Ht1, Ht2⟩, Hts⟩, Hx, Hs⟩, Hsrc, Hdst, HF, Hrn⟩ Hk
  ihave Hs := (sx_reached c k kw (k % 48) hq) $$ Hs
  icases Hs with ⟨Hrs, Hs⟩
  rw [show (kw + 47 - k % 48) / 48 = k / 48 by omega]
  iapply (Rounds.wp_send_pointsTo_with 𝒱₀ ER (Rd m) (c : Thread nD τ) none
      (κ₁ := κ (c, ⟨48 * (k % 48 % 2) + k % 48 / 2, by omega⟩)) (κ₂ := κ (nb (qd k) c, ⟨48 * (k % 48 % 2) + 24 + k % 48 / 2, by omega⟩))
      (r₁ := k / 48) (r₂ := k / 48) (d₁ := false) (d₂ := false) (fd := fd) (F := Fr)
      (by rw [duties_send m c hq ht]; exact Finset.mem_singleton_self _) (by rw [duties_recv m _ hq ht]; exact Finset.mem_singleton_self _)
      (k / 48) (k / 48) N hN rfl rfl (O c (k + 1)) (O_peel c hk) (W := W)
      (by rw [payload_send m c hq]; exact hpay₁) (by rw [payload_recv m _ hq]; exact hpay₂))
    $$ [Hsrc Hdst HF Ho Ht1 Hrs Ht2 Hrn]
  · isplitr; · iapply (rec_send m κ hq c); iexact HR
    isplitr; · iapply (rec_recv m κ hq _); iexact HR
    isplitl [Hsrc]; · iexact Hsrc
    isplitl [Hdst HF]
    · isplitl [Hdst] <;> iassumption
    isplitl [Ho]; · iexact Ho
    isplitl [Ht1]; · iexact Ht1
    isplitl [Hrs]; · iexact Hrs
    isplitl [Ht2]; · iexact Ht2
    iexact Hrn
  iintro ⟨Hc, Ho⟩
  iapply Hk
  iexists κ
  isplitr; · iexact HR
  isplitl [Ho]; · iexists _; iexact Ho
  isplitl [Hts]; · iexact Hts
  isplitl [Hx]; · iexact Hx
  unfold Sx
  rw [BI.bigSep_Ico_succ_top h1]
  icases Hs with ⟨Hs, Hp⟩
  isplitr [Hp]
  · isplitl [Hc]; · iexact Hc
    iexact Hs
  iexact Hp

end Steps

end Cert.KernelIdeal.Ring
end
-- ==== Proof.Mem.lean ====
/- What the body's loads, stores and copies touch: element sets, the vectors read, the contents written. -/
module

public import proofs.«01_k».proof.Proof.Ctl

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## General facts -/

/-- Writing what a view reads of `g` makes the contents `g` under the view. -/
theorem write_eq {sp : Space} {s : Shape} {e : EltTy} (v : View sig .tc sp s e) (f g : v.ty.Contents (Elt F)) (w : s.Idx → Elt F e)
    (hw : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← hw, View.read_apply, cast_cast, cast_eq]

theorem mem2 {a b : ℕ} {off sz : Fin 2 → ℕ} {inb} {i : (⟨2, ![a, b]⟩ : Shape).Idx} : i ∈ (Rect.unit (s := ⟨2, ![a, b]⟩) off sz inb).set
    ↔ (off 0 ≤ (i 0).val ∧ (i 0).val < off 0 + sz 0) ∧ (off 1 ≤ (i 1).val ∧ (i 1).val < off 1 + sz 1) := by
  rw [Rect.mem_set_unit]; exact Fin.forall_fin_two
theorem mem3 {a b c : ℕ} {off sz : Fin 3 → ℕ} {inb} {i : (⟨3, ![a, b, c]⟩ : Shape).Idx} : i ∈ (Rect.unit (s := ⟨3, ![a, b, c]⟩) off sz inb).set
    ↔ (off 0 ≤ (i 0).val ∧ (i 0).val < off 0 + sz 0) ∧ (off 1 ≤ (i 1).val ∧ (i 1).val < off 1 + sz 1) ∧ (off 2 ≤ (i 2).val ∧ (i 2).val < off 2 + sz 2) := by
  rw [Rect.mem_set_unit]
  exact ⟨fun h => ⟨h 0, h 1, h 2⟩, fun h a => by
    match a with
    | ⟨0, _⟩ => exact h.1
    | ⟨1, _⟩ => exact h.2.1
    | ⟨2, _⟩ => exact h.2.2⟩

/-! ## The work buffer -/

abbrev wM : Memref sig .tc .vmem S512x4096 .f32 := Memref.whole cc0_scratch2

/-- The vector of rows `128u ..`, half-column `h`; -/
def wv (g : ℕ → ℕ → F .f32) (u h : ℕ) : Vec F S128x512 .f32 := fun i => g (128 * u + (i 0).val) (512 * h + (i 1).val)
/-- of rows `128u ..` of a landing slot. -/
def cv (g : ℕ → ℕ → F .f32) (u : ℕ) : Vec F S128x512 .f32 := fun i => g (128 * u + (i 0).val) (i 1).val

section Work
variable {off : Fin 2 → ℕ}

theorem w_rset (inb : ∀ a, off a + S128x512.size a ≤ S512x4096.size a) (u h : ℕ) (ho : off = ![128 * u, 512 * h]) :
    (Rect.unit (s := S512x4096) off S128x512.size inb).set = wset u h := by
  subst ho; ext i
  rw [mem2]
  simp only [wset, Finset.mem_filter, Finset.mem_univ, true_and]
  show (128 * u ≤ _ ∧ _ < 128 * u + 128) ∧ (512 * h ≤ _ ∧ _ < 512 * h + 512) ↔ _
  omega
theorem w_set (inb : ∀ a, off a + S128x512.size a ≤ S512x4096.size a) (u h : ℕ) (ho : off = ![128 * u, 512 * h]) :
    (wM.view.slice (Rect.unit (s := S512x4096) off S128x512.size inb)).set = wset u h := by
  rw [View.set_slice_whole]; exact w_rset inb u h ho
theorem w_read (inb : ∀ a, off a + S128x512.size a ≤ S512x4096.size a) (u h : ℕ) (ho : off = ![128 * u, 512 * h]) (g : ℕ → ℕ → F .f32) :
    (wM.view.slice (Rect.unit (s := S512x4096) off S128x512.size inb)).read (Elt F) (WB g) = wv g u h := by
  subst ho
  funext x
  show g (128 * u + 1 * (x 0).val) (512 * h + 1 * (x 1).val) = _
  rw [one_mul, one_mul]; rfl

theorem h_set (inb : ∀ a, off a + S512x512.size a ≤ S512x4096.size a) (h : ℕ) (ho : off = ![0, 512 * h]) :
    (wM.view.slice (Rect.unit (s := S512x4096) off S512x512.size inb)).set = hset h := by
  rw [View.set_slice_whole]
  subst ho; ext i
  have : (i 0).val < 512 := (i 0).isLt
  refine Iff.trans mem2 ?_
  simp only [hset, Finset.mem_filter, Finset.mem_univ, true_and]
  show (0 ≤ _ ∧ _ < 0 + 512) ∧ (512 * h ≤ _ ∧ _ < 512 * h + 512) ↔ _
  omega
theorem h_read (inb : ∀ a, off a + S512x512.size a ≤ S512x4096.size a) (h : ℕ) (ho : off = ![0, 512 * h]) (g : ℕ → ℕ → F .f32) :
    (wM.view.slice (Rect.unit (s := S512x4096) off S512x512.size inb)).read (Elt F) (WB g) = fun i : S512x512.Idx => g (i 0).val (512 * h + (i 1).val) := by
  subst ho
  funext x
  show g (0 + 1 * (x 0).val) (512 * h + 1 * (x 1).val) = _
  rw [one_mul, one_mul, zero_add]

/-- Chunk `k`: 1024 columns of the work buffer. -/
def kset (k : ℕ) : Finset S512x4096.Idx := Finset.univ.filter fun i => (i 1).val / 1024 = k
theorem k_set (inb : ∀ a, off a + S512x1024.size a ≤ S512x4096.size a) (k : ℕ) (ho : off = ![0, 1024 * k]) :
    (wM.view.slice (Rect.unit (s := S512x4096) off S512x1024.size inb)).set = kset k := by
  rw [View.set_slice_whole]
  subst ho; ext i
  have : (i 0).val < 512 := (i 0).isLt
  refine Iff.trans mem2 ?_
  simp only [kset, Finset.mem_filter, Finset.mem_univ, true_and]
  show (0 ≤ _ ∧ _ < 0 + 512) ∧ (1024 * k ≤ _ ∧ _ < 1024 * k + 1024) ↔ _
  omega
theorem k_read (inb : ∀ a, off a + S512x1024.size a ≤ S512x4096.size a) (k : ℕ) (ho : off = ![0, 1024 * k]) (g : ℕ → ℕ → F .f32) :
    (wM.view.slice (Rect.unit (s := S512x4096) off S512x1024.size inb)).read (Elt F) (WB g) = fun i : S512x1024.Idx => g (i 0).val (1024 * k + (i 1).val) := by
  subst ho
  funext x
  show g (0 + 1 * (x 0).val) (1024 * k + 1 * (x 1).val) = _
  rw [one_mul, one_mul, zero_add]
end Work

/-! ## The landing buffers -/

/-- The landing buffer of ring `d`. -/
def cM (d : Bool) : Memref sig .tc .vmem S6x512x512 .f32 := match d with
  | false => Memref.whole cc0_scratch3
  | true => Memref.whole cc0_scratch4

section Comm
variable {off : Fin 3 → ℕ} (d : Bool)

/-- Contents of a landing buffer, as its views see them. -/
def cf (d : Bool) (f : S6x512x512.Idx → Elt F .f32) : (cM d).view.ty.Contents (Elt F) := match d with
  | false => f
  | true => f

theorem c_rset (inb : ∀ a, off a + S1x128x512.size a ≤ S6x512x512.size a) (s u : ℕ) (ho : off = ![s, 128 * u, 0]) :
    (Rect.unit (s := S6x512x512) off S1x128x512.size inb).set = cset s u := by
  subst ho; ext i
  rw [mem3]
  have : (i 2).val < 512 := (i 2).isLt
  simp only [cset, Finset.mem_filter, Finset.mem_univ, true_and]
  show (s ≤ _ ∧ _ < s + 1) ∧ (128 * u ≤ _ ∧ _ < 128 * u + 128) ∧ (0 ≤ _ ∧ _ < 0 + 512) ↔ _
  omega

theorem c_eq (c : Dev nD) (inb : ∀ a, off a + S1x128x512.size a ≤ S6x512x512.size a) (s u : ℕ) (ho : off = ![s, 128 * u, 0])
    (q : PosShare TreeShare) (f : S6x512x512.Idx → Elt F .f32) :
    commR d c (cset s u) q f = (((cM d).view.loc (c : Thread nD τ)) ↦[((cM d).view.slice (Rect.unit (s := S6x512x512) off S1x128x512.size inb)).set]{q} cf d f : sProp 𝕄) := by
  cases d
  · show (((c : Thread nD τ).loc cc0_scratch3) ↦[cset s u]{q} f : sProp 𝕄) = (((c : Thread nD τ).loc cc0_scratch3) ↦[((View.whole cc0_scratch3).slice (Rect.unit (s := S6x512x512) off S1x128x512.size inb)).set]{q} f : sProp 𝕄)
    rw [View.set_slice_whole, c_rset inb s u ho]
  · show (((c : Thread nD τ).loc cc0_scratch4) ↦[cset s u]{q} f : sProp 𝕄) = (((c : Thread nD τ).loc cc0_scratch4) ↦[((View.whole cc0_scratch4).slice (Rect.unit (s := S6x512x512) off S1x128x512.size inb)).set]{q} f : sProp 𝕄)
    rw [View.set_slice_whole, c_rset inb s u ho]

theorem c_read (inb : ∀ a, off a + S1x128x512.size a ≤ S6x512x512.size a) (s u : ℕ) (ho : off = ![s, 128 * u, 0]) (g : ℕ → ℕ → F .f32) :
    ((cM d).view.slice (Rect.unit (s := S6x512x512) off S1x128x512.size inb)).read (Elt F) (cf d (CB g)) = fun i : S1x128x512.Idx => g (128 * u + (i 1).val) (i 2).val := by
  subst ho
  cases d <;> (
    funext x
    show g (128 * u + 1 * (x 1).val) (0 + 1 * (x 2).val) = _
    rw [one_mul, one_mul, zero_add])

theorem cast_cv (u : ℕ) (g : ℕ → ℕ → F .f32) (h : S1x128x512.ShapeCasts S128x512) :
    shapeCast S128x512 (fun i : S1x128x512.Idx => g (128 * u + (i 1).val) (i 2).val) h = cv g u := by
  funext j
  have e : Shape.reshapeEquiv h j = (Fin.cons ⟨0, Nat.one_pos⟩ j : S1x128x512.Idx) := Shape.reshapeEquiv_cons_one h j
  show g (128 * u + ((Shape.reshapeEquiv h j : S1x128x512.Idx) 1).val) ((Shape.reshapeEquiv h j : S1x128x512.Idx) 2).val = _
  rw [e]; rfl

/-- A quarter of a landing slot as a copy's destination or source. -/
abbrev cSl (inb : ∀ a, off a + S1x128x512.size a ≤ S6x512x512.size a) : Memref sig .tc .vmem S128x512 .f32 :=
  ((cM d).slice (Rect.unit (s := S6x512x512) off S1x128x512.size inb) (fun _ => rfl)).squeeze S128x512 squeezes_S1x128x512_S128x512

theorem cs_set (inb : ∀ a, off a + S1x128x512.size a ≤ S6x512x512.size a) :
    (cSl d inb).view.set = ((cM d).view.slice (Rect.unit (s := S6x512x512) off S1x128x512.size inb)).set := View.set_reshape _ _

theorem cs_eq (c : Dev nD) (inb : ∀ a, off a + S1x128x512.size a ≤ S6x512x512.size a) (s u : ℕ) (ho : off = ![s, 128 * u, 0])
    (q : PosShare TreeShare) (f : S6x512x512.Idx → Elt F .f32) :
    commR d c (cset s u) q f = (((cSl d inb).view.loc (c : Thread nD τ)) ↦[(cSl d inb).view.set]{q} cf d f : sProp 𝕄) := by
  rw [cs_set, c_eq d c inb s u ho q f]

theorem cs_read (inb : ∀ a, off a + S1x128x512.size a ≤ S6x512x512.size a) (s u : ℕ) (ho : off = ![s, 128 * u, 0]) (g : ℕ → ℕ → F .f32) :
    (cSl d inb).view.read (Elt F) (cf d (CB g)) = cv g u := by
  rw [← cast_cv u g shapeCasts_S1x128x512_S128x512, ← c_read d inb s u ho g]; rfl

theorem cs_land (c : Dev nD) (inb : ∀ a, off a + S1x128x512.size a ≤ S6x512x512.size a) (s u : ℕ) (ho : off = ![s, 128 * u, 0])
    (f : S6x512x512.Idx → Elt F .f32) (g : ℕ → ℕ → F .f32) (w) (hw : w = cv g u) :
    (((cSl d inb).view.loc (c : Thread nD τ)) ↦[(cSl d inb).view.set]{fullShare} ((cSl d inb).view.write (Elt F) (cf d f) w Finset.univ) : sProp 𝕄)
      = commR d c (cset s u) fullShare (CB g) := by
  rw [cs_eq d c inb s u ho]
  exact pointsTo_congr fun i hi => write_eq (cSl d inb).view (cf d f) (cf d (CB g)) w ((cs_read d inb s u ho g).trans hw.symm) i hi
end Comm

end Cert.KernelIdeal.Ring
end
-- ==== Proof.Steps.lean ====
/- The steps of the body: arrivals, departures, sends, additions, the activation, the products. -/
module

public import proofs.«01_k».proof.Proof.Mem

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Values -/

section Values
variable (d : Bool) (c : Dev nD)

theorem hc_nb (s : ℕ) : hc d (nb d c) (s + 1) = hc d c s := by
  unfold hc ch nb; cases d <;> simp <;> congr 1 <;> omega
theorem hc_wrap : hc d (nb d c) 0 = hc d c 3 := by
  unfold hc ch nb; cases d <;> simp <;> congr 1 <;> omega

theorem slotV_lt {s : ℕ} (hs : s < 3) (t r j : ℕ) : slotV m d (nb d c) s t r j = acc m d s c t r (512 * hc d c s + j) := by
  unfold slotV; rw [if_pos hs, nb_not_nb, hc_nb]
theorem slotV_3 (t r j : ℕ) : slotV m d (nb d c) 3 t r j = fin m t r (512 * hc d c 3 + j) := by
  unfold slotV; rw [if_neg (by decide), hc_wrap]
theorem slotV_ge {s : ℕ} (hs : 4 ≤ s) (t r j : ℕ) : slotV m d (nb d c) s t r j = slotV m d c (s - 1) t r j := by
  unfold slotV
  rw [if_neg (by omega), if_neg (by omega), show s - 3 = (s - 1 - 3) + 1 by omega, hc_nb]

theorem acc_succ (s t r j : ℕ) : acc m d (s + 1) c t r j = FloatOps.addf (P m c t r j) (acc m d s (nb (!d) c) t r j) := rfl
theorem slotV_acc {s : ℕ} (hs : s < 3) (t r j : ℕ) : slotV m d c s t r j = acc m d s (nb (!d) c) t r (512 * hc d c (s + 1) + j) := by
  unfold slotV; rw [if_pos hs]

theorem fin_own (t r : ℕ) {j : ℕ} (hj : j < 512) : fin m t r (512 * hc d c 3 + j) = silu (acc m d 3 c t r (512 * hc d c 3 + j)) := by
  have h1 : owner (512 * hc d c 3 + j) = c := by
    unfold owner nb hc hk ch
    apply Fin.ext
    have : c.val < 4 := c.isLt
    cases d
    · simp; split <;> omega
    · simp; split <;> omega
  have h2 : decide (¬ (512 * hc d c 3 + j) % 1024 < 512) = d := by
    unfold hc hk; cases d <;> simp <;> omega
  unfold fin
  rw [h1, h2]
end Values

/-! ## Pieces -/

/-- A quarter of a landing slot, holding anything. -/
def own (d : Bool) (c : Dev nD) (s u : ℕ) : sProp 𝕄 := iprop(∃ f : S6x512x512.Idx → Elt F .f32, commR d c (cset s u) fullShare f)
/-- A quarter of a half-column of the work buffer, holding `g`. -/
def Wp (d : Bool) (c : Dev nD) (s u : ℕ) (q : PosShare TreeShare) (g : ℕ → ℕ → F .f32) : sProp 𝕄 := workR c (wset u (hc d c s)) q (WB g)
/-- A quarter of a landing slot, holding `g`. -/
def Cp (d : Bool) (c : Dev nD) (s u : ℕ) (q : PosShare TreeShare) (g : ℕ → ℕ → F .f32) : sProp 𝕄 := commR d c (cset s u) q (CB g)

section Give
variable (d : Bool) (c : Dev nD) (u t : ℕ)

theorem pos_le (s : ℕ) : 8 * s + 2 * u ≤ pos d s u ∧ pos d s u ≤ 8 * s + 2 * u + 1 := by unfold pos; cases d <;> simp <;> omega

theorem perm_intro (s ks kr kw t' : ℕ) (hs : s < 6) (hu : u < 4) (ht : (kr + 47 - pos (!d) s u) / 48 = t') :
    iprop(Ctl m c ks kr kw ∗ own (F := F) (!d) c s u) ⊢ iprop(Ctl m c ks kr kw ∗ Perm (F := F) (!d) (nb d c) s u t') := by
  subst ht
  iintro ⟨HC, Ho⟩
  ihave HC := (ctl_reached m c ks kr kw (pos (!d) s u) (pos_lt hs hu)) $$ HC
  icases HC with ⟨Hr, HC⟩
  isplitl [HC]; · iexact HC
  unfold Perm own
  rw [nb_not_nb]
  isplitl [Ho]; · iexact Ho
  iexact Hr

theorem give_one (ks kr kw b : ℕ) (hu : u < 4) (hkr : kr = 48 * t + b) (hb : b ≤ 24) :
    iprop(Ctl m c ks kr kw ∗ own (F := F) (!d) c 3 u ∗ own (F := F) (!d) c 4 u ∗ own (F := F) (!d) c 5 u)
      ⊢ iprop(Ctl m c ks kr kw ∗ give (F := F) d (nb d c) 1 u t) := by
  iintro ⟨HC, H3, H4, H5⟩
  unfold give; rw [if_pos rfl]
  have e3 : (kr + 47 - pos (!d) 3 u) / 48 = t := by have := pos_le (!d) u 3; omega
  have e4 : (kr + 47 - pos (!d) 4 u) / 48 = t := by have := pos_le (!d) u 4; omega
  have e5 : (kr + 47 - pos (!d) 5 u) / 48 = t := by have := pos_le (!d) u 5; omega
  ihave H := (perm_intro m d c u 3 ks kr kw t (by decide) hu e3) $$ [HC H3]
  · isplitl [HC] <;> iassumption
  icases H with ⟨HC, H3⟩
  ihave H := (perm_intro m d c u 4 ks kr kw t (by decide) hu e4) $$ [HC H4]
  · isplitl [HC] <;> iassumption
  icases H with ⟨HC, H4⟩
  ihave H := (perm_intro m d c u 5 ks kr kw t (by decide) hu e5) $$ [HC H5]
  · isplitl [HC] <;> iassumption
  icases H with ⟨HC, H5⟩
  isplitl [HC]; · iexact HC
  isplitl [H3]; · iexact H3
  isplitl [H4] <;> iassumption

/-- The first three slots, when another tile follows: given away, or kept. -/
def keep (d : Bool) (c : Dev nD) (u t : ℕ) : sProp 𝕄 :=
  if t + 1 < 16 then iprop(emp) else iprop(own (F := F) d c 0 u ∗ own (F := F) d c 1 u ∗ own (F := F) d c 2 u)

theorem give_three (ks kr kw b : ℕ) (hu : u < 4) (hkr : kr = 48 * t + b) (hb : 18 + 2 * u ≤ b) (hb' : b ≤ 48) :
    iprop(Ctl m c ks kr kw ∗ own (F := F) (!d) c 0 u ∗ own (F := F) (!d) c 1 u ∗ own (F := F) (!d) c 2 u)
      ⊢ iprop(Ctl m c ks kr kw ∗ give (F := F) d (nb d c) 3 u t ∗ keep (F := F) (!d) c u t) := by
  iintro ⟨HC, H0, H1, H2⟩
  unfold give keep; rw [if_neg (by decide)]
  by_cases h : t + 1 < 16
  · rw [if_pos ⟨rfl, h⟩, if_pos h]
    have e0 : (kr + 47 - pos (!d) 0 u) / 48 = t + 1 := by have := pos_le (!d) u 0; omega
    have e1 : (kr + 47 - pos (!d) 1 u) / 48 = t + 1 := by have := pos_le (!d) u 1; omega
    have e2 : (kr + 47 - pos (!d) 2 u) / 48 = t + 1 := by have := pos_le (!d) u 2; omega
    ihave H := (perm_intro m d c u 0 ks kr kw (t + 1) (by decide) hu e0) $$ [HC H0]
    · isplitl [HC] <;> iassumption
    icases H with ⟨HC, H0⟩
    ihave H := (perm_intro m d c u 1 ks kr kw (t + 1) (by decide) hu e1) $$ [HC H1]
    · isplitl [HC] <;> iassumption
    icases H with ⟨HC, H1⟩
    ihave H := (perm_intro m d c u 2 ks kr kw (t + 1) (by decide) hu e2) $$ [HC H2]
    · isplitl [HC] <;> iassumption
    icases H with ⟨HC, H2⟩
    isplitl [HC]; · iexact HC
    isplitl [H0 H1 H2]
    · isplitl [H0]; · iexact H0
      isplitl [H1] <;> iassumption
    · iempintro
  · rw [if_neg (fun hh => h hh.2), if_neg h]
    isplitl [HC]; · iexact HC
    isplitr; · iempintro
    isplitl [H0]; · iexact H0
    isplitl [H1] <;> iassumption
end Give

/-! ## Single operations -/

section Ops
variable {α : Type} (c : Dev nD) (d : Bool) (s u t : ℕ)

theorem qd_eq {k t p : ℕ} (h : k = 48 * t + p) : qd k = qd p := by unfold qd; congr 1; rw [eq_iff_iff]; omega

theorem recv_op {Q : α → sProp 𝕄} {ks kr kw : ℕ} (ht : t < 16) (hs : s < 6) (hu : u < 4) (hkr : kr = 48 * t + pos d s u) (hks : kr + 1 ≤ ks)
    {sp sp' : Space} {s₁ s₂ : Shape} {e₁ e₂ : EltTy} {sem : DmaSem sig} {src : Memref sig .tc sp' s₁ e₁} {dst : Memref sig .tc sp s₂ e₂}
    {h1 : src.view.WordExact} {h2 : dst.view.WordExact} {kk : PUnit → Prog (TpuEff nD τ sig (Elt F) Λ₀ .tc) α}
    (hsem : sem = recvS (pos d s u)) (hN : dst.view.dmaCredit = N) :
    Ctl m c ks kr kw ⊢ iprop(((Ctl m c ks (kr + 1) kw ∗ recvPay m d c s u t) -∗ WP c (kk ⟨⟩) Q)
      -∗ WP c (.op (.waitDma2 sem src dst h1 h2) kk) Q) := by
  have hp := pos_lt (d := d) hs hu
  have e1 : kr % 48 = pos d s u := by omega
  have e2 : kr / 48 = t := by omega
  have := recv_step m c (w := .waitDma2 sem src dst h1 h2) (kk := kk) (Q := Q) kr ks kw (by omega) hks
    (fun K => by rw [wpE_waitDma2_eq, hN, hsem, e1])
  rwa [e1, e2, pos_d, pos_s hu, pos_u hu] at this

theorem left_op {Q : α → sProp 𝕄} {ks kr kw : ℕ} (ht : t < 16) (hs : s < 6) (hu : u < 4) (hkw : kw = 48 * t + pos d s u) (hks : kw < ks)
    {sp sp' : Space} {s₁ s₂ : Shape} {e₁ e₂ : EltTy} {sem : DmaSem sig} {src : Memref sig .tc sp' s₁ e₁} {dst : Memref sig .tc sp s₂ e₂}
    {h1 : src.view.WordExact} {h2 : dst.view.WordExact} {kk : PUnit → Prog (TpuEff nD τ sig (Elt F) Λ₀ .tc) α}
    (hsem : sem = sendS (pos d s u)) (hN : dst.view.dmaCredit = N) :
    Ctl m c ks kr kw ⊢ iprop(((Ctl m c ks kr (kw + 1) ∗ srcPay m d c s u t) -∗ WP c (kk ⟨⟩) Q)
      -∗ WP c (.op (.waitDma2 sem src dst h1 h2) kk) Q) := by
  have hp := pos_lt (d := d) hs hu
  have e1 : kw % 48 = pos d s u := by omega
  have e2 : kw / 48 = t := by omega
  have := left_step m c (w := .waitDma2 sem src dst h1 h2) (kk := kk) (Q := Q) kw ks kr hks (by omega)
    (fun K => by rw [wpE_waitDma2_eq, hN, hsem, e1])
  rwa [e1, e2, pos_d, pos_s hu, pos_u hu] at this

/-- A send from the work buffer. -/
theorem send_w {Q : α → sProp 𝕄} {ks kr kw : ℕ} (ht : t < 16) (hs : s < 4) (hu : u < 4) (hks : ks = 48 * t + pos d s u) (h1 : kw ≤ ks) (h2 : ks < kw + 48)
    {off : Fin 2 → ℕ} {inb : ∀ a, off a + S128x512.size a ≤ S512x4096.size a} (ho : off = ![128 * u, 512 * hc d c s])
    {offc : Fin 3 → ℕ} {inbc : ∀ a, offc a + S1x128x512.size a ≤ S6x512x512.size a} (hoc : offc = ![s, 128 * u, 0])
    {M : Memref sig .tc .vmem S6x512x512 .f32} (hM : M = cM d) {n : Dev nD} (hn : n = nb d c) {sS sR : DmaSem sig} (hS : sS = sendS (pos d s u)) (hR : sR = recvS (pos d s u))
    {hsc} {hsrc} {hdst} {hsem} {kk : PUnit → Prog (TpuEff nD τ sig (Elt F) Λ₀ .tc) α} :
    iprop(Ctl m c ks kr kw ∗ srcPay m d c s u t ∗ Perm (F := F) d c s u t ∗ give (F := F) d (nb d c) s u t)
      ⊢ iprop((Ctl m c (ks + 1) kr kw -∗ WP c (kk ⟨⟩) Q)
        -∗ WP c (.op (.enqueueDma (wM.slice (Rect.unit (s := S512x4096) off S128x512.size inb) (fun _ => rfl))
          (.remote (Dev.tc n : Thread nD τ) ((M.slice (Rect.unit (s := S6x512x512) offc S1x128x512.size inbc) (fun _ => rfl)).squeeze S128x512 squeezes_S1x128x512_S128x512) (.dma sS) hsc)
          (.dma sR) hsrc hdst hsem) kk) Q) := by
  subst hM hn
  have hp := pos_lt (d := d) (u := u) (show s < 6 by omega) hu
  have e1 : ks % 48 = pos d s u := by omega
  have e2 : ks / 48 = t := by omega
  obtain ⟨qs, g, hg⟩ : ∃ qs g, srcPay m d c s u t = workR c (wset u (hc d c s)) qs (WB g) ∧ cv (slotV m d (nb d c) s t) u = wv g u (hc d c s) := by
    unfold srcPay
    by_cases h3 : s < 3
    · rw [if_pos h3]
      refine ⟨_, _, rfl, ?_⟩
      funext i; exact slotV_lt m d c h3 _ _ _
    · obtain rfl : s = 3 := by omega
      rw [if_neg h3, if_pos rfl]
      refine ⟨_, _, rfl, ?_⟩
      funext i; exact slotV_3 m d c _ _ _
  unfold Perm
  iintro ⟨HC, Hs, ⟨⟨%f, Hd⟩, Hre⟩, HF⟩
  ihave Hs := (Entails.of_eq hg.1) $$ Hs
  ihave Hd := (Entails.of_eq (cs_eq d (nb d c) inbc s u hoc fullShare f)) $$ Hd
  have hw := w_set inb u (hc d c s) ho
  have hsrc' : workR c (wset u (hc d c s)) qs (WB g) = (((c : Thread nD τ).loc cc0_scratch2) ↦[(wM.view.slice (Rect.unit (s := S512x4096) off S128x512.size inb)).set]{qs} WB g : sProp 𝕄) := by
    rw [hw]; rfl
  ihave Hs := (Entails.of_eq hsrc') $$ Hs
  have key := send_step m c (Q := Q) ks kr kw (by omega) h1 h2 (nb d c) (by rw [qd_eq hks, pos_d]) (src := wM.slice (Rect.unit (s := S512x4096) off S128x512.size inb) (fun _ => rfl))
    (dst := (((cM d).slice (Rect.unit (s := S6x512x512) offc S1x128x512.size inbc) (fun _ => rfl)).squeeze S128x512 squeezes_S1x128x512_S128x512))
    (sS := .dma sS) (sR := .dma sR) (by rw [hS, e1]) (by rw [hR, e1]) (hsc := hsc) (hsrc := hsrc) (hdst := hdst) (hsem := hsem) (kk := kk) (qs := qs) (fs := WB g) (fd := cf d f)
    (Fr := give (F := F) d (nb d c) s u t) (by cases d <;> rfl)
    (by
      rw [e1, e2, pos_d, pos_s hu, pos_u hu, hg.1]
      exact Entails.of_eq hsrc'.symm)
    (by
      rw [e1, e2, pos_d, pos_s hu, pos_u hu]
      unfold recvPay
      refine sep_mono_left (Entails.of_eq ?_)
      exact cs_land d (nb d c) inbc s u hoc f _ _ ((w_read inb u (hc d c s) ho g).trans hg.2.symm))
  rw [e1, e2] at key
  iapply key $$ [HC Hs Hd HF Hre]
  isplitl [HC]; · iexact HC
  isplitl [Hs]; · iexact Hs
  isplitl [Hd]; · iexact Hd
  isplitl [HF] <;> iassumption

/-- A send from a landing slot. -/
theorem send_c {Q : α → sProp 𝕄} {ks kr kw : ℕ} (ht : t < 16) (hs : 4 ≤ s) (hs' : s < 6) (hu : u < 4) (hks : ks = 48 * t + pos d s u) (h1 : kw ≤ ks) (h2 : ks < kw + 48)
    {off : Fin 3 → ℕ} {inb : ∀ a, off a + S1x128x512.size a ≤ S6x512x512.size a} (ho : off = ![s - 1, 128 * u, 0])
    {offc : Fin 3 → ℕ} {inbc : ∀ a, offc a + S1x128x512.size a ≤ S6x512x512.size a} (hoc : offc = ![s, 128 * u, 0])
    {M : Memref sig .tc .vmem S6x512x512 .f32} (hM : M = cM d) {n : Dev nD} (hn : n = nb d c) {sS sR : DmaSem sig} (hS : sS = sendS (pos d s u)) (hR : sR = recvS (pos d s u))
    {hsc} {hsrc} {hdst} {hsem} {kk : PUnit → Prog (TpuEff nD τ sig (Elt F) Λ₀ .tc) α} :
    iprop(Ctl m c ks kr kw ∗ srcPay m d c s u t ∗ Perm (F := F) d c s u t)
      ⊢ iprop((Ctl m c (ks + 1) kr kw -∗ WP c (kk ⟨⟩) Q)
        -∗ WP c (.op (.enqueueDma ((M.slice (Rect.unit (s := S6x512x512) off S1x128x512.size inb) (fun _ => rfl)).squeeze S128x512 squeezes_S1x128x512_S128x512)
          (.remote (Dev.tc n : Thread nD τ) ((M.slice (Rect.unit (s := S6x512x512) offc S1x128x512.size inbc) (fun _ => rfl)).squeeze S128x512 squeezes_S1x128x512_S128x512) (.dma sS) hsc)
          (.dma sR) hsrc hdst hsem) kk) Q) := by
  subst hM hn
  have hp := pos_lt (d := d) (u := u) hs' hu
  have e1 : ks % 48 = pos d s u := by omega
  have e2 : ks / 48 = t := by omega
  have hg : srcPay m d c s u t = commR d c (cset (s - 1) u) fullShare.left (CB (slotV m d c (s - 1) t)) := by
    unfold srcPay; rw [if_neg (by omega), if_neg (by omega)]
  have hv : cv (slotV m d (nb d c) s t) u = cv (slotV m d c (s - 1) t) u := by funext i; exact slotV_ge m d c hs _ _ _
  unfold Perm
  iintro ⟨HC, Hs, ⟨⟨%f, Hd⟩, Hre⟩⟩
  have hsrc' := hg.trans (cs_eq d c inb (s - 1) u ho fullShare.left (CB (slotV m d c (s - 1) t)))
  ihave Hs := (Entails.of_eq hsrc') $$ Hs
  ihave Hd := (Entails.of_eq (cs_eq d (nb d c) inbc s u hoc fullShare f)) $$ Hd
  have key := send_step m c (Q := Q) ks kr kw (by omega) h1 h2 (nb d c) (by rw [qd_eq hks, pos_d]) (src := cSl d inb)
    (dst := cSl d inbc)
    (sS := .dma sS) (sR := .dma sR) (by rw [hS, e1]) (by rw [hR, e1]) (hsc := hsc) (hsrc := hsrc) (hdst := hdst) (hsem := hsem) (kk := kk) (qs := fullShare.left) (fs := cf d (CB (slotV m d c (s - 1) t))) (fd := cf d f)
    (Fr := iprop(emp)) (by cases d <;> rfl)
    (by
      rw [e1, e2, pos_d, pos_s hu, pos_u hu, hsrc'])
    (by
      rw [e1, e2, pos_d, pos_s hu, pos_u hu]
      unfold recvPay give
      rw [if_neg (by omega), if_neg (by omega)]
      refine sep_mono_left (Entails.of_eq ?_)
      exact cs_land d (nb d c) inbc s u hoc f _ _ ((cs_read d inb (s - 1) u ho _).trans hv.symm))
  rw [e1, e2] at key
  iapply key $$ [HC Hs Hd Hre]
  isplitl [HC]; · iexact HC
  isplitl [Hs]; · iexact Hs
  isplitl [Hd]; · iexact Hd
  isplitr; · iempintro
  iexact Hre

theorem cast_self {s₁ : Shape} {β : Type} (v : s₁.Idx → β) (h : s₁.ShapeCasts s₁) : shapeCast s₁ v h = v :=
  funext fun i => congrArg v (Shape.reshapeEquiv_self _ i)

theorem add_val {s : ℕ} (hs : s < 3) : k0_pay11 (F := F) (wv (P m c t) u (hc d c (s + 1))) (fun i : S1x128x512.Idx => slotV m d c s t (128 * u + (i 1).val) (i 2).val)
    = wv (acc m d (s + 1) c t) u (hc d c (s + 1)) := by
  unfold k0_pay11
  dsimp only
  rw [cast_self, cast_cv]
  funext i
  show FloatOps.addf _ _ = _
  unfold wv cv
  rw [acc_succ, slotV_acc m d c hs]

/-- A load of exactly the elements held; -/
theorem load_all {Q : α → sProp 𝕄} {cs : CoreSpace} {s₁ : Shape} {e : EltTy} (M : Memref sig .tc cs s₁ e) (r : Rect s₁) {hl} {kk : (r.shape.Idx → Elt F e) → Prog (TpuEff nD τ sig (Elt F) Λ₀ .tc) α}
    {q : PosShare TreeShare} {f : (M.access r).ty.Contents (Elt F)} :
    (((M.access r).loc (c : Thread nD τ)) ↦[(M.access r).set]{q} f)
      ⊢ iprop(((((M.access r).loc (c : Thread nD τ)) ↦[(M.access r).set]{q} f) -∗ WP c (kk ((M.access r).read (Elt F) f)) Q) -∗ WP c (.op (.load M r.toLoadRect hl) kk) Q) :=
  wp_load_rect 𝒱₀ (c : Thread nD τ) none Set.univ (m := M) (r := r) (hS := Finset.Subset.refl _)
/-- a store over them, making them `g`. -/
theorem store_all {Q : α → sProp 𝕄} {cs : CoreSpace} {s₁ : Shape} {e : EltTy} (M : Memref sig .tc cs s₁ e) (r : Rect s₁) {w hx hmk} {kk : PUnit → Prog (TpuEff nD τ sig (Elt F) Λ₀ .tc) α}
    {f : (M.access r).ty.Contents (Elt F)} (g : (M.access r).ty.Contents (Elt F)) (hw : (M.access r).read (Elt F) g = w) :
    (((M.access r).loc (c : Thread nD τ)) ↦[(M.access r).set]{fullShare} f)
      ⊢ iprop(((((M.access r).loc (c : Thread nD τ)) ↦[(M.access r).set]{fullShare} g) -∗ WP c (kk ⟨⟩) Q) -∗ WP c (.op (.store M r w Finset.univ hx hmk) kk) Q) := by
  have h : ((((M.access r).loc (c : Thread nD τ)) ↦[(M.access r).set]{fullShare} ((M.access r).write (Elt F) f w Finset.univ)) : sProp 𝕄)
      = (((M.access r).loc (c : Thread nD τ)) ↦[(M.access r).set]{fullShare} g) := pointsTo_congr (write_eq (M.access r) f g w hw)
  have h2 : (M.access r).setOn (Finset.univ : Finset r.shape.Idx) ⊆ (M.access r).set := Finset.Subset.refl _
  have h3 := wp_store (defs := defs₀) (Γ := .empty) (Q := Q) 𝒱₀ (c : Thread nD τ) none Set.univ (m := M) (r := r) (w := w) (hx := hx) (hm := hmk) (k := kk) (f := f) h2
  exact h3.trans (wand_mono_left (wand_mono_left (Entails.of_eq h)))

/-- One addition: a landing slot added into the work buffer. -/
theorem add_op {Q : α → sProp 𝕄} (hs : s < 3)
    {off : Fin 2 → ℕ} {inb : ∀ a, off a + S128x512.size a ≤ S512x4096.size a} (ho : off = ![128 * u, 512 * hc d c (s + 1)])
    {offc : Fin 3 → ℕ} {inbc : ∀ a, offc a + S1x128x512.size a ≤ S6x512x512.size a} (hoc : offc = ![s, 128 * u, 0])
    {M : Memref sig .tc .vmem S6x512x512 .f32} (hM : M = cM d) {hl1 hl2 hl3 hx hmk}
    {kk : PUnit → Prog (TpuEff nD τ sig (Elt F) Λ₀ .tc) α} :
    iprop(Wp d c (s + 1) u fullShare (P m c t) ∗ Cp d c s u fullShare (slotV m d c s t))
      ⊢ iprop(((Wp d c (s + 1) u fullShare (acc m d (s + 1) c t) ∗ Cp d c s u fullShare (slotV m d c s t)) -∗ WP c (kk ⟨⟩) Q)
        -∗ WP c (.op (.load wM (Rect.unit (s := S512x4096) off S128x512.size inb).toLoadRect hl1) fun v1 =>
          .op (.load M (Rect.unit (s := S6x512x512) offc S1x128x512.size inbc).toLoadRect hl2) fun v2 =>
          .op (.load wM (Rect.unit (s := S512x4096) off S128x512.size inb).toLoadRect hl3) fun _ =>
          .op (.store wM (Rect.unit (s := S512x4096) off S128x512.size inb) (k0_pay11 v1 v2) Finset.univ hx hmk) kk) Q) := by
  subst hM
  unfold Wp Cp
  rw [c_eq d c inbc s u hoc]
  have hw := w_set inb u (hc d c (s + 1)) ho
  have hW : ∀ g : ℕ → ℕ → F .f32, workR c (wset u (hc d c (s + 1))) fullShare (WB g)
      = (((c : Thread nD τ).loc cc0_scratch2) ↦[(wM.view.slice (Rect.unit (s := S512x4096) off S128x512.size inb)).set]{fullShare} WB g : sProp 𝕄) := by
    intro g; rw [hw]; rfl
  rw [hW, hW]
  iintro ⟨Hw, Hc⟩ Hk
  iapply (load_all c wM (Rect.unit (s := S512x4096) off S128x512.size inb)) $$ Hw
  iintro Hw
  iapply (load_all c (cM d) (Rect.unit (s := S6x512x512) offc S1x128x512.size inbc)) $$ Hc
  iintro Hc
  iapply (load_all c wM (Rect.unit (s := S512x4096) off S128x512.size inb)) $$ Hw
  iintro Hw
  iapply (store_all c wM (Rect.unit (s := S512x4096) off S128x512.size inb) (WB (acc m d (s + 1) c t))
    ((w_read inb u _ ho _).trans ((add_val m c d u t hs).symm.trans (congrArg₂ _ (w_read inb u _ ho _).symm (c_read d inbc s u hoc _).symm)))) $$ Hw
  iintro Hw
  iapply Hk
  isplitl [Hw] <;> iassumption

theorem silu_val : k0_pay33 (F := F) (wv (acc m d 3 c t) u (hc d c 3)) = wv (fin m t) u (hc d c 3) := by
  unfold k0_pay33
  dsimp only
  rw [cast_self]
  funext i
  show _ = fin m t _ _
  rw [fin_own m d c _ _ (show (i 1).val < 512 from (i 1).isLt)]
  rfl

/-- The activation of a finished piece. -/
theorem silu_op {Q : α → sProp 𝕄}
    {off : Fin 2 → ℕ} {inb : ∀ a, off a + S128x512.size a ≤ S512x4096.size a} (ho : off = ![128 * u, 512 * hc d c 3])
    {hl1 hl3 hx hmk} {kk : PUnit → Prog (TpuEff nD τ sig (Elt F) Λ₀ .tc) α} :
    Wp d c 3 u fullShare (acc m d 3 c t)
      ⊢ iprop((Wp d c 3 u fullShare (fin m t) -∗ WP c (kk ⟨⟩) Q)
        -∗ WP c (.op (.load wM (Rect.unit (s := S512x4096) off S128x512.size inb).toLoadRect hl1) fun v1 =>
          .op (.load wM (Rect.unit (s := S512x4096) off S128x512.size inb).toLoadRect hl3) fun _ =>
          .op (.store wM (Rect.unit (s := S512x4096) off S128x512.size inb) (k0_pay33 v1) Finset.univ hx hmk) kk) Q) := by
  unfold Wp
  have hw := w_set inb u (hc d c 3) ho
  have hW : ∀ g : ℕ → ℕ → F .f32, workR c (wset u (hc d c 3)) fullShare (WB g)
      = (((c : Thread nD τ).loc cc0_scratch2) ↦[(wM.view.slice (Rect.unit (s := S512x4096) off S128x512.size inb)).set]{fullShare} WB g : sProp 𝕄) := by
    intro g; rw [hw]; rfl
  rw [hW, hW]
  iintro Hw Hk
  iapply (load_all c wM (Rect.unit (s := S512x4096) off S128x512.size inb)) $$ Hw
  iintro Hw
  iapply (load_all c wM (Rect.unit (s := S512x4096) off S128x512.size inb)) $$ Hw
  iintro Hw
  iapply (store_all c wM (Rect.unit (s := S512x4096) off S128x512.size inb) (WB (fin m t))
    ((w_read inb u _ ho _).trans ((silu_val m c d u t).symm.trans (congrArg _ (w_read inb u _ ho _).symm)))) $$ Hw
  iintro Hw
  iapply Hk
  iexact Hw

end Ops

end Cert.KernelIdeal.Ring
end
-- ==== Proof.Units.lean ====
/- Groups of steps: a quarter's arrivals, additions and sends in both rings. -/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- In both rings; -/
abbrev D2 (f : Bool → sProp 𝕄) : sProp 𝕄 := iprop(f false ∗ f true)
/-- in all four quarters of the rows. -/
abbrev U4 (f : ℕ → sProp 𝕄) : sProp 𝕄 := iprop(f 0 ∗ f 1 ∗ f 2 ∗ f 3)

/-! ## The semaphores by number -/

theorem sSR0 : ((cc0_scratch5.slice (Rect.unit (s := S24) ![0] S1.size inb_S24_S1_0)).squeeze S_ squeezes_S1_S_).sem = sendS (pos false 0 0) := rfl
theorem sSR1 : ((cc0_scratch5.slice (Rect.unit (s := S24) ![1] S1.size inb_S24_S1_1)).squeeze S_ squeezes_S1_S_).sem = sendS (pos false 0 1) := rfl
theorem sSR2 : ((cc0_scratch5.slice (Rect.unit (s := S24) ![2] S1.size inb_S24_S1_2)).squeeze S_ squeezes_S1_S_).sem = sendS (pos false 0 2) := rfl
theorem sSR3 : ((cc0_scratch5.slice (Rect.unit (s := S24) ![3] S1.size inb_S24_S1_3)).squeeze S_ squeezes_S1_S_).sem = sendS (pos false 0 3) := rfl
theorem sSR4 : ((cc0_scratch5.slice (Rect.unit (s := S24) ![4] S1.size inb_S24_S1_4)).squeeze S_ squeezes_S1_S_).sem = sendS (pos false 1 0) := rfl
theorem sSR5 : ((cc0_scratch5.slice (Rect.unit (s := S24) ![5] S1.size inb_S24_S1_5)).squeeze S_ squeezes_S1_S_).sem = sendS (pos false 1 1) := rfl
theorem sSR6 : ((cc0_scratch5.slice (Rect.unit (s := S24) ![6] S1.size inb_S24_S1_6)).squeeze S_ squeezes_S1_S_).sem = sendS (pos false 1 2) := rfl
theorem sSR7 : ((cc0_scratch5.slice (Rect.unit (s := S24) ![7] S1.size inb_S24_S1_7)).squeeze S_ squeezes_S1_S_).sem = sendS (pos false 1 3) := rfl
theorem sSR8 : ((cc0_scratch5.slice (Rect.unit (s := S24) ![8] S1.size inb_S24_S1_8)).squeeze S_ squeezes_S1_S_).sem = sendS (pos false 2 0) := rfl
theorem sSR9 : ((cc0_scratch5.slice (Rect.unit (s := S24) ![9] S1.size inb_S24_S1_9)).squeeze S_ squeezes_S1_S_).sem = sendS (pos false 2 1) := rfl
theorem sSR10 : ((cc0_scratch5.slice (Rect.unit (s := S24) ![10] S1.size inb_S24_S1_10)).squeeze S_ squeezes_S1_S_).sem = sendS (pos false 2 2) := rfl
theorem sSR11 : ((cc0_scratch5.slice (Rect.unit (s := S24) ![11] S1.size inb_S24_S1_11)).squeeze S_ squeezes_S1_S_).sem = sendS (pos false 2 3) := rfl
theorem sSR12 : ((cc0_scratch5.slice (Rect.unit (s := S24) ![12] S1.size inb_S24_S1_12)).squeeze S_ squeezes_S1_S_).sem = sendS (pos false 3 0) := rfl
theorem sSR13 : ((cc0_scratch5.slice (Rect.unit (s := S24) ![13] S1.size inb_S24_S1_13)).squeeze S_ squeezes_S1_S_).sem = sendS (pos false 3 1) := rfl
theorem sSR14 : ((cc0_scratch5.slice (Rect.unit (s := S24) ![14] S1.size inb_S24_S1_14)).squeeze S_ squeezes_S1_S_).sem = sendS (pos false 3 2) := rfl
theorem sSR15 : ((cc0_scratch5.slice (Rect.unit (s := S24) ![15] S1.size inb_S24_S1_15)).squeeze S_ squeezes_S1_S_).sem = sendS (pos false 3 3) := rfl
theorem sSR16 : ((cc0_scratch5.slice (Rect.unit (s := S24) ![16] S1.size inb_S24_S1_16)).squeeze S_ squeezes_S1_S_).sem = sendS (pos false 4 0) := rfl
theorem sSR17 : ((cc0_scratch5.slice (Rect.unit (s := S24) ![17] S1.size inb_S24_S1_17)).squeeze S_ squeezes_S1_S_).sem = sendS (pos false 4 1) := rfl
theorem sSR18 : ((cc0_scratch5.slice (Rect.unit (s := S24) ![18] S1.size inb_S24_S1_18)).squeeze S_ squeezes_S1_S_).sem = sendS (pos false 4 2) := rfl
theorem sSR19 : ((cc0_scratch5.slice (Rect.unit (s := S24) ![19] S1.size inb_S24_S1_19)).squeeze S_ squeezes_S1_S_).sem = sendS (pos false 4 3) := rfl
theorem sSR20 : ((cc0_scratch5.slice (Rect.unit (s := S24) ![20] S1.size inb_S24_S1_20)).squeeze S_ squeezes_S1_S_).sem = sendS (pos false 5 0) := rfl
theorem sSR21 : ((cc0_scratch5.slice (Rect.unit (s := S24) ![21] S1.size inb_S24_S1_21)).squeeze S_ squeezes_S1_S_).sem = sendS (pos false 5 1) := rfl
theorem sSR22 : ((cc0_scratch5.slice (Rect.unit (s := S24) ![22] S1.size inb_S24_S1_22)).squeeze S_ squeezes_S1_S_).sem = sendS (pos false 5 2) := rfl
theorem sSR23 : ((cc0_scratch5.slice (Rect.unit (s := S24) ![23] S1.size inb_S24_S1_23)).squeeze S_ squeezes_S1_S_).sem = sendS (pos false 5 3) := rfl
theorem sRR0 : ((cc0_scratch6.slice (Rect.unit (s := S24) ![0] S1.size inb_S24_S1_0)).squeeze S_ squeezes_S1_S_).sem = recvS (pos false 0 0) := rfl
theorem sRR1 : ((cc0_scratch6.slice (Rect.unit (s := S24) ![1] S1.size inb_S24_S1_1)).squeeze S_ squeezes_S1_S_).sem = recvS (pos false 0 1) := rfl
theorem sRR2 : ((cc0_scratch6.slice (Rect.unit (s := S24) ![2] S1.size inb_S24_S1_2)).squeeze S_ squeezes_S1_S_).sem = recvS (pos false 0 2) := rfl
theorem sRR3 : ((cc0_scratch6.slice (Rect.unit (s := S24) ![3] S1.size inb_S24_S1_3)).squeeze S_ squeezes_S1_S_).sem = recvS (pos false 0 3) := rfl
theorem sRR4 : ((cc0_scratch6.slice (Rect.unit (s := S24) ![4] S1.size inb_S24_S1_4)).squeeze S_ squeezes_S1_S_).sem = recvS (pos false 1 0) := rfl
theorem sRR5 : ((cc0_scratch6.slice (Rect.unit (s := S24) ![5] S1.size inb_S24_S1_5)).squeeze S_ squeezes_S1_S_).sem = recvS (pos false 1 1) := rfl
theorem sRR6 : ((cc0_scratch6.slice (Rect.unit (s := S24) ![6] S1.size inb_S24_S1_6)).squeeze S_ squeezes_S1_S_).sem = recvS (pos false 1 2) := rfl
theorem sRR7 : ((cc0_scratch6.slice (Rect.unit (s := S24) ![7] S1.size inb_S24_S1_7)).squeeze S_ squeezes_S1_S_).sem = recvS (pos false 1 3) := rfl
theorem sRR8 : ((cc0_scratch6.slice (Rect.unit (s := S24) ![8] S1.size inb_S24_S1_8)).squeeze S_ squeezes_S1_S_).sem = recvS (pos false 2 0) := rfl
theorem sRR9 : ((cc0_scratch6.slice (Rect.unit (s := S24) ![9] S1.size inb_S24_S1_9)).squeeze S_ squeezes_S1_S_).sem = recvS (pos false 2 1) := rfl
theorem sRR10 : ((cc0_scratch6.slice (Rect.unit (s := S24) ![10] S1.size inb_S24_S1_10)).squeeze S_ squeezes_S1_S_).sem = recvS (pos false 2 2) := rfl
theorem sRR11 : ((cc0_scratch6.slice (Rect.unit (s := S24) ![11] S1.size inb_S24_S1_11)).squeeze S_ squeezes_S1_S_).sem = recvS (pos false 2 3) := rfl
theorem sRR12 : ((cc0_scratch6.slice (Rect.unit (s := S24) ![12] S1.size inb_S24_S1_12)).squeeze S_ squeezes_S1_S_).sem = recvS (pos false 3 0) := rfl
theorem sRR13 : ((cc0_scratch6.slice (Rect.unit (s := S24) ![13] S1.size inb_S24_S1_13)).squeeze S_ squeezes_S1_S_).sem = recvS (pos false 3 1) := rfl
theorem sRR14 : ((cc0_scratch6.slice (Rect.unit (s := S24) ![14] S1.size inb_S24_S1_14)).squeeze S_ squeezes_S1_S_).sem = recvS (pos false 3 2) := rfl
theorem sRR15 : ((cc0_scratch6.slice (Rect.unit (s := S24) ![15] S1.size inb_S24_S1_15)).squeeze S_ squeezes_S1_S_).sem = recvS (pos false 3 3) := rfl
theorem sRR16 : ((cc0_scratch6.slice (Rect.unit (s := S24) ![16] S1.size inb_S24_S1_16)).squeeze S_ squeezes_S1_S_).sem = recvS (pos false 4 0) := rfl
theorem sRR17 : ((cc0_scratch6.slice (Rect.unit (s := S24) ![17] S1.size inb_S24_S1_17)).squeeze S_ squeezes_S1_S_).sem = recvS (pos false 4 1) := rfl
theorem sRR18 : ((cc0_scratch6.slice (Rect.unit (s := S24) ![18] S1.size inb_S24_S1_18)).squeeze S_ squeezes_S1_S_).sem = recvS (pos false 4 2) := rfl
theorem sRR19 : ((cc0_scratch6.slice (Rect.unit (s := S24) ![19] S1.size inb_S24_S1_19)).squeeze S_ squeezes_S1_S_).sem = recvS (pos false 4 3) := rfl
theorem sRR20 : ((cc0_scratch6.slice (Rect.unit (s := S24) ![20] S1.size inb_S24_S1_20)).squeeze S_ squeezes_S1_S_).sem = recvS (pos false 5 0) := rfl
theorem sRR21 : ((cc0_scratch6.slice (Rect.unit (s := S24) ![21] S1.size inb_S24_S1_21)).squeeze S_ squeezes_S1_S_).sem = recvS (pos false 5 1) := rfl
theorem sRR22 : ((cc0_scratch6.slice (Rect.unit (s := S24) ![22] S1.size inb_S24_S1_22)).squeeze S_ squeezes_S1_S_).sem = recvS (pos false 5 2) := rfl
theorem sRR23 : ((cc0_scratch6.slice (Rect.unit (s := S24) ![23] S1.size inb_S24_S1_23)).squeeze S_ squeezes_S1_S_).sem = recvS (pos false 5 3) := rfl
theorem sSL0 : ((cc0_scratch7.slice (Rect.unit (s := S24) ![0] S1.size inb_S24_S1_0)).squeeze S_ squeezes_S1_S_).sem = sendS (pos true 0 0) := rfl
theorem sSL1 : ((cc0_scratch7.slice (Rect.unit (s := S24) ![1] S1.size inb_S24_S1_1)).squeeze S_ squeezes_S1_S_).sem = sendS (pos true 0 1) := rfl
theorem sSL2 : ((cc0_scratch7.slice (Rect.unit (s := S24) ![2] S1.size inb_S24_S1_2)).squeeze S_ squeezes_S1_S_).sem = sendS (pos true 0 2) := rfl
theorem sSL3 : ((cc0_scratch7.slice (Rect.unit (s := S24) ![3] S1.size inb_S24_S1_3)).squeeze S_ squeezes_S1_S_).sem = sendS (pos true 0 3) := rfl
theorem sSL4 : ((cc0_scratch7.slice (Rect.unit (s := S24) ![4] S1.size inb_S24_S1_4)).squeeze S_ squeezes_S1_S_).sem = sendS (pos true 1 0) := rfl
theorem sSL5 : ((cc0_scratch7.slice (Rect.unit (s := S24) ![5] S1.size inb_S24_S1_5)).squeeze S_ squeezes_S1_S_).sem = sendS (pos true 1 1) := rfl
theorem sSL6 : ((cc0_scratch7.slice (Rect.unit (s := S24) ![6] S1.size inb_S24_S1_6)).squeeze S_ squeezes_S1_S_).sem = sendS (pos true 1 2) := rfl
theorem sSL7 : ((cc0_scratch7.slice (Rect.unit (s := S24) ![7] S1.size inb_S24_S1_7)).squeeze S_ squeezes_S1_S_).sem = sendS (pos true 1 3) := rfl
theorem sSL8 : ((cc0_scratch7.slice (Rect.unit (s := S24) ![8] S1.size inb_S24_S1_8)).squeeze S_ squeezes_S1_S_).sem = sendS (pos true 2 0) := rfl
theorem sSL9 : ((cc0_scratch7.slice (Rect.unit (s := S24) ![9] S1.size inb_S24_S1_9)).squeeze S_ squeezes_S1_S_).sem = sendS (pos true 2 1) := rfl
theorem sSL10 : ((cc0_scratch7.slice (Rect.unit (s := S24) ![10] S1.size inb_S24_S1_10)).squeeze S_ squeezes_S1_S_).sem = sendS (pos true 2 2) := rfl
theorem sSL11 : ((cc0_scratch7.slice (Rect.unit (s := S24) ![11] S1.size inb_S24_S1_11)).squeeze S_ squeezes_S1_S_).sem = sendS (pos true 2 3) := rfl
theorem sSL12 : ((cc0_scratch7.slice (Rect.unit (s := S24) ![12] S1.size inb_S24_S1_12)).squeeze S_ squeezes_S1_S_).sem = sendS (pos true 3 0) := rfl
theorem sSL13 : ((cc0_scratch7.slice (Rect.unit (s := S24) ![13] S1.size inb_S24_S1_13)).squeeze S_ squeezes_S1_S_).sem = sendS (pos true 3 1) := rfl
theorem sSL14 : ((cc0_scratch7.slice (Rect.unit (s := S24) ![14] S1.size inb_S24_S1_14)).squeeze S_ squeezes_S1_S_).sem = sendS (pos true 3 2) := rfl
theorem sSL15 : ((cc0_scratch7.slice (Rect.unit (s := S24) ![15] S1.size inb_S24_S1_15)).squeeze S_ squeezes_S1_S_).sem = sendS (pos true 3 3) := rfl
theorem sSL16 : ((cc0_scratch7.slice (Rect.unit (s := S24) ![16] S1.size inb_S24_S1_16)).squeeze S_ squeezes_S1_S_).sem = sendS (pos true 4 0) := rfl
theorem sSL17 : ((cc0_scratch7.slice (Rect.unit (s := S24) ![17] S1.size inb_S24_S1_17)).squeeze S_ squeezes_S1_S_).sem = sendS (pos true 4 1) := rfl
theorem sSL18 : ((cc0_scratch7.slice (Rect.unit (s := S24) ![18] S1.size inb_S24_S1_18)).squeeze S_ squeezes_S1_S_).sem = sendS (pos true 4 2) := rfl
theorem sSL19 : ((cc0_scratch7.slice (Rect.unit (s := S24) ![19] S1.size inb_S24_S1_19)).squeeze S_ squeezes_S1_S_).sem = sendS (pos true 4 3) := rfl
theorem sSL20 : ((cc0_scratch7.slice (Rect.unit (s := S24) ![20] S1.size inb_S24_S1_20)).squeeze S_ squeezes_S1_S_).sem = sendS (pos true 5 0) := rfl
theorem sSL21 : ((cc0_scratch7.slice (Rect.unit (s := S24) ![21] S1.size inb_S24_S1_21)).squeeze S_ squeezes_S1_S_).sem = sendS (pos true 5 1) := rfl
theorem sSL22 : ((cc0_scratch7.slice (Rect.unit (s := S24) ![22] S1.size inb_S24_S1_22)).squeeze S_ squeezes_S1_S_).sem = sendS (pos true 5 2) := rfl
theorem sSL23 : ((cc0_scratch7.slice (Rect.unit (s := S24) ![23] S1.size inb_S24_S1_23)).squeeze S_ squeezes_S1_S_).sem = sendS (pos true 5 3) := rfl
theorem sRL0 : ((cc0_scratch8.slice (Rect.unit (s := S24) ![0] S1.size inb_S24_S1_0)).squeeze S_ squeezes_S1_S_).sem = recvS (pos true 0 0) := rfl
theorem sRL1 : ((cc0_scratch8.slice (Rect.unit (s := S24) ![1] S1.size inb_S24_S1_1)).squeeze S_ squeezes_S1_S_).sem = recvS (pos true 0 1) := rfl
theorem sRL2 : ((cc0_scratch8.slice (Rect.unit (s := S24) ![2] S1.size inb_S24_S1_2)).squeeze S_ squeezes_S1_S_).sem = recvS (pos true 0 2) := rfl
theorem sRL3 : ((cc0_scratch8.slice (Rect.unit (s := S24) ![3] S1.size inb_S24_S1_3)).squeeze S_ squeezes_S1_S_).sem = recvS (pos true 0 3) := rfl
theorem sRL4 : ((cc0_scratch8.slice (Rect.unit (s := S24) ![4] S1.size inb_S24_S1_4)).squeeze S_ squeezes_S1_S_).sem = recvS (pos true 1 0) := rfl
theorem sRL5 : ((cc0_scratch8.slice (Rect.unit (s := S24) ![5] S1.size inb_S24_S1_5)).squeeze S_ squeezes_S1_S_).sem = recvS (pos true 1 1) := rfl
theorem sRL6 : ((cc0_scratch8.slice (Rect.unit (s := S24) ![6] S1.size inb_S24_S1_6)).squeeze S_ squeezes_S1_S_).sem = recvS (pos true 1 2) := rfl
theorem sRL7 : ((cc0_scratch8.slice (Rect.unit (s := S24) ![7] S1.size inb_S24_S1_7)).squeeze S_ squeezes_S1_S_).sem = recvS (pos true 1 3) := rfl
theorem sRL8 : ((cc0_scratch8.slice (Rect.unit (s := S24) ![8] S1.size inb_S24_S1_8)).squeeze S_ squeezes_S1_S_).sem = recvS (pos true 2 0) := rfl
theorem sRL9 : ((cc0_scratch8.slice (Rect.unit (s := S24) ![9] S1.size inb_S24_S1_9)).squeeze S_ squeezes_S1_S_).sem = recvS (pos true 2 1) := rfl
theorem sRL10 : ((cc0_scratch8.slice (Rect.unit (s := S24) ![10] S1.size inb_S24_S1_10)).squeeze S_ squeezes_S1_S_).sem = recvS (pos true 2 2) := rfl
theorem sRL11 : ((cc0_scratch8.slice (Rect.unit (s := S24) ![11] S1.size inb_S24_S1_11)).squeeze S_ squeezes_S1_S_).sem = recvS (pos true 2 3) := rfl
theorem sRL12 : ((cc0_scratch8.slice (Rect.unit (s := S24) ![12] S1.size inb_S24_S1_12)).squeeze S_ squeezes_S1_S_).sem = recvS (pos true 3 0) := rfl
theorem sRL13 : ((cc0_scratch8.slice (Rect.unit (s := S24) ![13] S1.size inb_S24_S1_13)).squeeze S_ squeezes_S1_S_).sem = recvS (pos true 3 1) := rfl
theorem sRL14 : ((cc0_scratch8.slice (Rect.unit (s := S24) ![14] S1.size inb_S24_S1_14)).squeeze S_ squeezes_S1_S_).sem = recvS (pos true 3 2) := rfl
theorem sRL15 : ((cc0_scratch8.slice (Rect.unit (s := S24) ![15] S1.size inb_S24_S1_15)).squeeze S_ squeezes_S1_S_).sem = recvS (pos true 3 3) := rfl
theorem sRL16 : ((cc0_scratch8.slice (Rect.unit (s := S24) ![16] S1.size inb_S24_S1_16)).squeeze S_ squeezes_S1_S_).sem = recvS (pos true 4 0) := rfl
theorem sRL17 : ((cc0_scratch8.slice (Rect.unit (s := S24) ![17] S1.size inb_S24_S1_17)).squeeze S_ squeezes_S1_S_).sem = recvS (pos true 4 1) := rfl
theorem sRL18 : ((cc0_scratch8.slice (Rect.unit (s := S24) ![18] S1.size inb_S24_S1_18)).squeeze S_ squeezes_S1_S_).sem = recvS (pos true 4 2) := rfl
theorem sRL19 : ((cc0_scratch8.slice (Rect.unit (s := S24) ![19] S1.size inb_S24_S1_19)).squeeze S_ squeezes_S1_S_).sem = recvS (pos true 4 3) := rfl
theorem sRL20 : ((cc0_scratch8.slice (Rect.unit (s := S24) ![20] S1.size inb_S24_S1_20)).squeeze S_ squeezes_S1_S_).sem = recvS (pos true 5 0) := rfl
theorem sRL21 : ((cc0_scratch8.slice (Rect.unit (s := S24) ![21] S1.size inb_S24_S1_21)).squeeze S_ squeezes_S1_S_).sem = recvS (pos true 5 1) := rfl
theorem sRL22 : ((cc0_scratch8.slice (Rect.unit (s := S24) ![22] S1.size inb_S24_S1_22)).squeeze S_ squeezes_S1_S_).sem = recvS (pos true 5 2) := rfl
theorem sRL23 : ((cc0_scratch8.slice (Rect.unit (s := S24) ![23] S1.size inb_S24_S1_23)).squeeze S_ squeezes_S1_S_).sem = recvS (pos true 5 3) := rfl

theorem creditC (d : Bool) (off : Fin 3 → ℕ) (inb : ∀ a, off a + S1x128x512.size a ≤ S6x512x512.size a) :
    (((cM d).slice (Rect.unit (s := S6x512x512) off S1x128x512.size inb) (fun _ => rfl)).squeeze S128x512 squeezes_S1x128x512_S128x512).view.dmaCredit = N := by
  cases d <;> rfl
theorem creditW (off : Fin 2 → ℕ) (inb : ∀ a, off a + S128x512.size a ≤ S512x4096.size a) :
    (wM.slice (Rect.unit (s := S512x4096) off S128x512.size inb) (fun _ => rfl)).view.dmaCredit = N := by
  rfl

section Units
variable {α : Type} (c : Dev nD) (s u t : ℕ)

theorem own_intro (d : Bool) (g : ℕ → ℕ → F .f32) : Cp d c s u fullShare g ⊢ own (F := F) d c s u := by
  unfold Cp own; iintro H; iexists _; iexact H

abbrev Rcv {sp sp' : Space} {s₁ s₂ : Shape} {e₁ e₂ : EltTy} (sem : DmaSem sig) (src : Memref sig .tc sp' s₁ e₁) (dst : Memref sig .tc sp s₂ e₂)
    (h1 : src.view.WordExact) (h2 : dst.view.WordExact) (kk : Prog (TpuEff nD τ sig (Elt F) Λ₀ .tc) α) : Prog (TpuEff nD τ sig (Elt F) Λ₀ .tc) α :=
  .op (.waitDma2 sem src dst h1 h2) fun _ => kk

/-- The two arrivals of a quarter. -/
theorem recv2 {Q : α → sProp 𝕄} {a b e : ℕ} (ht : t < 16) (hs : s < 6) (hu : u < 4) (hb : pos false s u = b) (hab : b + 2 ≤ a)
    {sp xsp : Space} {s₁ xs₁ : Shape} {e₁ xe₁ : EltTy} {sem xsem : DmaSem sig} {src : Memref sig .tc sp s₁ e₁} {xsrc : Memref sig .tc xsp xs₁ xe₁}
    {off xoff : Fin 3 → ℕ} {inb : ∀ a, off a + S1x128x512.size a ≤ S6x512x512.size a} {xinb : ∀ a, xoff a + S1x128x512.size a ≤ S6x512x512.size a}
    {h1 : src.view.WordExact} {h2 : ((((Memref.whole cc0_scratch3).slice (Rect.unit (s := S6x512x512) off S1x128x512.size inb) (fun _ => rfl)).squeeze S128x512 squeezes_S1x128x512_S128x512)).view.WordExact} {xh1 : xsrc.view.WordExact} {xh2 : ((((Memref.whole cc0_scratch4).slice (Rect.unit (s := S6x512x512) xoff S1x128x512.size xinb) (fun _ => rfl)).squeeze S128x512 squeezes_S1x128x512_S128x512)).view.WordExact} {kk : PUnit → PUnit → Prog (TpuEff nD τ sig (Elt F) Λ₀ .tc) α}
    (hsem : sem = recvS (pos false s u)) (xhsem : xsem = recvS (pos true s u)) :
    Ctl m c (48 * t + a) (48 * t + b) (48 * t + e) ⊢ iprop(((Ctl m c (48 * t + a) (48 * t + (b + 2)) (48 * t + e) ∗ recvPay m false c s u t ∗ recvPay m true c s u t) -∗ WP c (kk ⟨⟩ ⟨⟩) Q)
      -∗ WP c (.op (.waitDma2 sem src (((Memref.whole cc0_scratch3).slice (Rect.unit (s := S6x512x512) off S1x128x512.size inb) (fun _ => rfl)).squeeze S128x512 squeezes_S1x128x512_S128x512) h1 h2) fun x => .op (.waitDma2 xsem xsrc (((Memref.whole cc0_scratch4).slice (Rect.unit (s := S6x512x512) xoff S1x128x512.size xinb) (fun _ => rfl)).squeeze S128x512 squeezes_S1x128x512_S128x512) xh1 xh2) (kk x)) Q) := by
  have hb' : pos true s u = b + 1 := by rw [← hb]; rfl
  iintro HC Hk
  iapply (recv_op m c false s u t (ks := 48 * t + a) (kr := 48 * t + b) (kw := 48 * t + e) ht hs hu (by rw [hb]) (by omega) hsem (creditC false off inb)) $$ HC
  iintro ⟨HC, H1⟩
  iapply (recv_op m c true s u t (ks := 48 * t + a) (kr := 48 * t + b + 1) (kw := 48 * t + e) ht hs hu (by rw [hb', Nat.add_assoc]) (by omega) xhsem (creditC true xoff xinb)) $$ HC
  iintro ⟨HC, H2⟩
  iapply Hk
  isplitl [HC]; · iexact HC
  isplitl [H1] <;> iassumption

/-- The two departures of a quarter, from the work buffer; -/
theorem left2w {Q : α → sProp 𝕄} {a b e : ℕ} (ht : t < 16) (hs : s < 6) (hu : u < 4) (he : pos false s u = e) (hae : e + 2 ≤ a)
    {sp xsp : Space} {s₁ xs₁ : Shape} {e₁ xe₁ : EltTy} {sem xsem : DmaSem sig} {src : Memref sig .tc sp s₁ e₁} {xsrc : Memref sig .tc xsp xs₁ xe₁}
    {off xoff : Fin 2 → ℕ} {inb : ∀ a, off a + S128x512.size a ≤ S512x4096.size a} {xinb : ∀ a, xoff a + S128x512.size a ≤ S512x4096.size a}
    {h1 : src.view.WordExact} {h2 : ((wM.slice (Rect.unit (s := S512x4096) off S128x512.size inb) (fun _ => rfl))).view.WordExact} {xh1 : xsrc.view.WordExact} {xh2 : ((wM.slice (Rect.unit (s := S512x4096) xoff S128x512.size xinb) (fun _ => rfl))).view.WordExact} {kk : PUnit → PUnit → Prog (TpuEff nD τ sig (Elt F) Λ₀ .tc) α}
    (hsem : sem = sendS (pos false s u)) (xhsem : xsem = sendS (pos true s u)) :
    Ctl m c (48 * t + a) (48 * t + b) (48 * t + e) ⊢ iprop(((Ctl m c (48 * t + a) (48 * t + b) (48 * t + (e + 2)) ∗ D2 fun d => srcPay m d c s u t) -∗ WP c (kk ⟨⟩ ⟨⟩) Q)
      -∗ WP c (.op (.waitDma2 sem src (wM.slice (Rect.unit (s := S512x4096) off S128x512.size inb) (fun _ => rfl)) h1 h2) fun x => .op (.waitDma2 xsem xsrc (wM.slice (Rect.unit (s := S512x4096) xoff S128x512.size xinb) (fun _ => rfl)) xh1 xh2) (kk x)) Q) := by
  have hb' : pos true s u = e + 1 := by rw [← he]; rfl
  iintro HC Hk
  iapply (left_op m c false s u t (ks := 48 * t + a) (kr := 48 * t + b) (kw := 48 * t + e) ht hs hu (by rw [he]) (by omega) hsem (creditW off inb)) $$ HC
  iintro ⟨HC, H1⟩
  iapply (left_op m c true s u t (ks := 48 * t + a) (kr := 48 * t + b) (kw := 48 * t + e + 1) ht hs hu (by rw [hb', Nat.add_assoc]) (by omega) xhsem (creditW xoff xinb)) $$ HC
  iintro ⟨HC, H2⟩
  iapply Hk
  isplitl [HC]; · iexact HC
  isplitl [H1] <;> iassumption

/-- from a landing slot. -/
theorem left2c {Q : α → sProp 𝕄} {a b e : ℕ} (ht : t < 16) (hs : s < 6) (hu : u < 4) (he : pos false s u = e) (hae : e + 2 ≤ a)
    {sp xsp : Space} {s₁ xs₁ : Shape} {e₁ xe₁ : EltTy} {sem xsem : DmaSem sig} {src : Memref sig .tc sp s₁ e₁} {xsrc : Memref sig .tc xsp xs₁ xe₁}
    {off xoff : Fin 3 → ℕ} {inb : ∀ a, off a + S1x128x512.size a ≤ S6x512x512.size a} {xinb : ∀ a, xoff a + S1x128x512.size a ≤ S6x512x512.size a}
    {h1 : src.view.WordExact} {h2 : ((((Memref.whole cc0_scratch3).slice (Rect.unit (s := S6x512x512) off S1x128x512.size inb) (fun _ => rfl)).squeeze S128x512 squeezes_S1x128x512_S128x512)).view.WordExact} {xh1 : xsrc.view.WordExact} {xh2 : ((((Memref.whole cc0_scratch4).slice (Rect.unit (s := S6x512x512) xoff S1x128x512.size xinb) (fun _ => rfl)).squeeze S128x512 squeezes_S1x128x512_S128x512)).view.WordExact} {kk : PUnit → PUnit → Prog (TpuEff nD τ sig (Elt F) Λ₀ .tc) α}
    (hsem : sem = sendS (pos false s u)) (xhsem : xsem = sendS (pos true s u)) :
    Ctl m c (48 * t + a) (48 * t + b) (48 * t + e) ⊢ iprop(((Ctl m c (48 * t + a) (48 * t + b) (48 * t + (e + 2)) ∗ D2 fun d => srcPay m d c s u t) -∗ WP c (kk ⟨⟩ ⟨⟩) Q)
      -∗ WP c (.op (.waitDma2 sem src (((Memref.whole cc0_scratch3).slice (Rect.unit (s := S6x512x512) off S1x128x512.size inb) (fun _ => rfl)).squeeze S128x512 squeezes_S1x128x512_S128x512) h1 h2) fun x => .op (.waitDma2 xsem xsrc (((Memref.whole cc0_scratch4).slice (Rect.unit (s := S6x512x512) xoff S1x128x512.size xinb) (fun _ => rfl)).squeeze S128x512 squeezes_S1x128x512_S128x512) xh1 xh2) (kk x)) Q) := by
  have hb' : pos true s u = e + 1 := by rw [← he]; rfl
  iintro HC Hk
  iapply (left_op m c false s u t (ks := 48 * t + a) (kr := 48 * t + b) (kw := 48 * t + e) ht hs hu (by rw [he]) (by omega) hsem (creditC false off inb)) $$ HC
  iintro ⟨HC, H1⟩
  iapply (left_op m c true s u t (ks := 48 * t + a) (kr := 48 * t + b) (kw := 48 * t + e + 1) ht hs hu (by rw [hb', Nat.add_assoc]) (by omega) xhsem (creditC true xoff xinb)) $$ HC
  iintro ⟨HC, H2⟩
  iapply Hk
  isplitl [HC]; · iexact HC
  isplitl [H1] <;> iassumption

/-- The two sends of a quarter from the work buffer. -/
theorem send2w {Q : α → sProp 𝕄} {a b e : ℕ} (ht : t < 16) (hs : s < 4) (hu : u < 4) (ha : pos false s u = a) (hea : e ≤ a) (hae : a + 1 < e + 48)
    {off xoff : Fin 2 → ℕ} {inb : ∀ a, off a + S128x512.size a ≤ S512x4096.size a} {xinb : ∀ a, xoff a + S128x512.size a ≤ S512x4096.size a}
    (ho : off = ![128 * u, 512 * hc false c s]) (xho : xoff = ![128 * u, 512 * hc true c s])
    {offc xoffc : Fin 3 → ℕ} {inbc : ∀ a, offc a + S1x128x512.size a ≤ S6x512x512.size a} {xinbc : ∀ a, xoffc a + S1x128x512.size a ≤ S6x512x512.size a}
    (hoc : offc = ![s, 128 * u, 0]) (xhoc : xoffc = ![s, 128 * u, 0])
    {n xn : Dev nD} (hn : n = nb false c) (xhn : xn = nb true c) {sS sR xsS xsR : DmaSem sig}
    (hS : sS = sendS (pos false s u)) (hR : sR = recvS (pos false s u)) (xhS : xsS = sendS (pos true s u)) (xhR : xsR = recvS (pos true s u))
    {hsc} {hsrc} {hdst} {hsem} {xhsc} {xhsrc} {xhdst} {xhsem} {kk : PUnit → PUnit → Prog (TpuEff nD τ sig (Elt F) Λ₀ .tc) α} :
    iprop(Ctl m c (48 * t + a) (48 * t + b) (48 * t + e) ∗ (D2 fun d => srcPay m d c s u t) ∗ (D2 fun d => Perm (F := F) d c s u t) ∗ (D2 fun d => give (F := F) d (nb d c) s u t))
      ⊢ iprop((Ctl m c (48 * t + (a + 2)) (48 * t + b) (48 * t + e) -∗ WP c (kk ⟨⟩ ⟨⟩) Q)
        -∗ WP c (.op (.enqueueDma (wM.slice (Rect.unit (s := S512x4096) off S128x512.size inb) (fun _ => rfl))
          (.remote (Dev.tc n : Thread nD τ) (((Memref.whole cc0_scratch3).slice (Rect.unit (s := S6x512x512) offc S1x128x512.size inbc) (fun _ => rfl)).squeeze S128x512 squeezes_S1x128x512_S128x512) (.dma sS) hsc)
          (.dma sR) hsrc hdst hsem) fun x => .op (.enqueueDma (wM.slice (Rect.unit (s := S512x4096) xoff S128x512.size xinb) (fun _ => rfl))
          (.remote (Dev.tc xn : Thread nD τ) (((Memref.whole cc0_scratch4).slice (Rect.unit (s := S6x512x512) xoffc S1x128x512.size xinbc) (fun _ => rfl)).squeeze S128x512 squeezes_S1x128x512_S128x512) (.dma xsS) xhsc)
          (.dma xsR) xhsrc xhdst xhsem) (kk x)) Q) := by
  have ha' : pos true s u = a + 1 := by rw [← ha]; rfl
  iintro ⟨HC, ⟨Hs, Hs'⟩, ⟨Hp, Hp'⟩, ⟨Hg, Hg'⟩⟩ Hk
  iapply (send_w m c false s u t (ks := 48 * t + a) (kr := 48 * t + b) (kw := 48 * t + e) ht hs hu (by rw [ha]) (by omega) (by omega) ho hoc (show _ = cM false from rfl) hn hS hR) $$ [HC Hs Hp Hg]
  · isplitl [HC]; · iexact HC
    isplitl [Hs]; · iexact Hs
    isplitl [Hp] <;> iassumption
  iintro HC
  iapply (send_w m c true s u t (ks := 48 * t + a + 1) (kr := 48 * t + b) (kw := 48 * t + e) ht hs hu (by rw [ha', Nat.add_assoc]) (by omega) (by omega) xho xhoc (show _ = cM true from rfl) xhn xhS xhR) $$ [HC Hs' Hp' Hg']
  · isplitl [HC]; · iexact HC
    isplitl [Hs']; · iexact Hs'
    isplitl [Hp'] <;> iassumption
  iintro HC
  iapply Hk
  iexact HC

/-- The two sends of a quarter from a landing slot. -/
theorem send2c {Q : α → sProp 𝕄} {a b e : ℕ} (ht : t < 16) (hs : 4 ≤ s) (hs' : s < 6) (hu : u < 4) (ha : pos false s u = a) (hea : e ≤ a) (hae : a + 1 < e + 48)
    {off xoff : Fin 3 → ℕ} {inb : ∀ a, off a + S1x128x512.size a ≤ S6x512x512.size a} {xinb : ∀ a, xoff a + S1x128x512.size a ≤ S6x512x512.size a}
    (ho : off = ![s - 1, 128 * u, 0]) (xho : xoff = ![s - 1, 128 * u, 0])
    {offc xoffc : Fin 3 → ℕ} {inbc : ∀ a, offc a + S1x128x512.size a ≤ S6x512x512.size a} {xinbc : ∀ a, xoffc a + S1x128x512.size a ≤ S6x512x512.size a}
    (hoc : offc = ![s, 128 * u, 0]) (xhoc : xoffc = ![s, 128 * u, 0])
    {n xn : Dev nD} (hn : n = nb false c) (xhn : xn = nb true c) {sS sR xsS xsR : DmaSem sig}
    (hS : sS = sendS (pos false s u)) (hR : sR = recvS (pos false s u)) (xhS : xsS = sendS (pos true s u)) (xhR : xsR = recvS (pos true s u))
    {hsc} {hsrc} {hdst} {hsem} {xhsc} {xhsrc} {xhdst} {xhsem} {kk : PUnit → PUnit → Prog (TpuEff nD τ sig (Elt F) Λ₀ .tc) α} :
    iprop(Ctl m c (48 * t + a) (48 * t + b) (48 * t + e) ∗ (D2 fun d => srcPay m d c s u t) ∗ (D2 fun d => Perm (F := F) d c s u t))
      ⊢ iprop((Ctl m c (48 * t + (a + 2)) (48 * t + b) (48 * t + e) -∗ WP c (kk ⟨⟩ ⟨⟩) Q)
        -∗ WP c (.op (.enqueueDma (((Memref.whole cc0_scratch3).slice (Rect.unit (s := S6x512x512) off S1x128x512.size inb) (fun _ => rfl)).squeeze S128x512 squeezes_S1x128x512_S128x512)
          (.remote (Dev.tc n : Thread nD τ) (((Memref.whole cc0_scratch3).slice (Rect.unit (s := S6x512x512) offc S1x128x512.size inbc) (fun _ => rfl)).squeeze S128x512 squeezes_S1x128x512_S128x512) (.dma sS) hsc)
          (.dma sR) hsrc hdst hsem) fun x => .op (.enqueueDma (((Memref.whole cc0_scratch4).slice (Rect.unit (s := S6x512x512) xoff S1x128x512.size xinb) (fun _ => rfl)).squeeze S128x512 squeezes_S1x128x512_S128x512)
          (.remote (Dev.tc xn : Thread nD τ) (((Memref.whole cc0_scratch4).slice (Rect.unit (s := S6x512x512) xoffc S1x128x512.size xinbc) (fun _ => rfl)).squeeze S128x512 squeezes_S1x128x512_S128x512) (.dma xsS) xhsc)
          (.dma xsR) xhsrc xhdst xhsem) (kk x)) Q) := by
  have ha' : pos true s u = a + 1 := by rw [← ha]; rfl
  iintro ⟨HC, ⟨Hs, Hs'⟩, ⟨Hp, Hp'⟩⟩ Hk
  iapply (send_c m c false s u t (ks := 48 * t + a) (kr := 48 * t + b) (kw := 48 * t + e) ht hs hs' hu (by rw [ha]) (by omega) (by omega) ho hoc (show _ = cM false from rfl) hn hS hR) $$ [HC Hs Hp]
  · isplitl [HC]; · iexact HC
    isplitl [Hs] <;> iassumption
  iintro HC
  iapply (send_c m c true s u t (ks := 48 * t + a + 1) (kr := 48 * t + b) (kw := 48 * t + e) ht hs hs' hu (by rw [ha', Nat.add_assoc]) (by omega) (by omega) xho xhoc (show _ = cM true from rfl) xhn xhS xhR) $$ [HC Hs' Hp']
  · isplitl [HC]; · iexact HC
    isplitl [Hs'] <;> iassumption
  iintro HC
  iapply Hk
  iexact HC

/-- The two additions of a quarter. -/
theorem add2 {Q : α → sProp 𝕄} (hs : s < 3)
    {off xoff : Fin 2 → ℕ} {inb : ∀ a, off a + S128x512.size a ≤ S512x4096.size a} {xinb : ∀ a, xoff a + S128x512.size a ≤ S512x4096.size a}
    (ho : off = ![128 * u, 512 * hc false c (s + 1)]) (xho : xoff = ![128 * u, 512 * hc true c (s + 1)])
    {offc xoffc : Fin 3 → ℕ} {inbc : ∀ a, offc a + S1x128x512.size a ≤ S6x512x512.size a} {xinbc : ∀ a, xoffc a + S1x128x512.size a ≤ S6x512x512.size a}
    (hoc : offc = ![s, 128 * u, 0]) (xhoc : xoffc = ![s, 128 * u, 0])
    {hl1 hl2 hl3 hx hmk xhl1 xhl2 xhl3 xhx xhmk}
    {kk : PUnit → PUnit → Prog (TpuEff nD τ sig (Elt F) Λ₀ .tc) α} :
    iprop((D2 fun d => Wp d c (s + 1) u fullShare (P m c t)) ∗ recvPay m false c s u t ∗ recvPay m true c s u t)
      ⊢ iprop((((D2 fun d => Wp d c (s + 1) u fullShare (acc m d (s + 1) c t)) ∗ (D2 fun d => own (F := F) d c s u) ∗ (D2 fun d => give (F := F) d c s u t)) -∗ WP c (kk ⟨⟩ ⟨⟩) Q)
        -∗ WP c (.op (.load wM (Rect.unit (s := S512x4096) off S128x512.size inb).toLoadRect hl1) fun v1 =>
          .op (.load (Memref.whole cc0_scratch3) (Rect.unit (s := S6x512x512) offc S1x128x512.size inbc).toLoadRect hl2) fun v2 =>
          .op (.load wM (Rect.unit (s := S512x4096) off S128x512.size inb).toLoadRect hl3) fun _ =>
          .op (.store wM (Rect.unit (s := S512x4096) off S128x512.size inb) (k0_pay11 v1 v2) Finset.univ hx hmk) fun x =>
          .op (.load wM (Rect.unit (s := S512x4096) xoff S128x512.size xinb).toLoadRect xhl1) fun v1 =>
          .op (.load (Memref.whole cc0_scratch4) (Rect.unit (s := S6x512x512) xoffc S1x128x512.size xinbc).toLoadRect xhl2) fun v2 =>
          .op (.load wM (Rect.unit (s := S512x4096) xoff S128x512.size xinb).toLoadRect xhl3) fun _ =>
          .op (.store wM (Rect.unit (s := S512x4096) xoff S128x512.size xinb) (k0_pay11 v1 v2) Finset.univ xhx xhmk) (kk x)) Q) := by
  unfold recvPay
  iintro ⟨⟨Hw, Hw'⟩, ⟨Hc, Hg⟩, ⟨Hc', Hg'⟩⟩ Hk
  iapply (add_op m c false s u t hs ho hoc (show _ = cM false from rfl)) $$ [Hw Hc]
  · isplitl [Hw]; · iexact Hw
    unfold Cp; iexact Hc
  iintro ⟨Hw, Hc⟩
  iapply (add_op m c true s u t hs xho xhoc (show _ = cM true from rfl)) $$ [Hw' Hc']
  · isplitl [Hw']; · iexact Hw'
    unfold Cp; iexact Hc'
  iintro ⟨Hw', Hc'⟩
  ihave Hc := (own_intro c s u false _) $$ Hc
  ihave Hc' := (own_intro c s u true _) $$ Hc'
  iapply Hk
  isplitl [Hw Hw']
  · isplitl [Hw] <;> iassumption
  isplitl [Hc Hc']
  · isplitl [Hc] <;> iassumption
  isplitl [Hg] <;> iassumption

/-- The two activations of a quarter. -/
theorem silu2 {Q : α → sProp 𝕄}
    {off xoff : Fin 2 → ℕ} {inb : ∀ a, off a + S128x512.size a ≤ S512x4096.size a} {xinb : ∀ a, xoff a + S128x512.size a ≤ S512x4096.size a}
    (ho : off = ![128 * u, 512 * hc false c 3]) (xho : xoff = ![128 * u, 512 * hc true c 3])
    {hl1 hl3 hx hmk xhl1 xhl3 xhx xhmk}
    {kk : PUnit → PUnit → Prog (TpuEff nD τ sig (Elt F) Λ₀ .tc) α} :
    iprop(D2 fun d => Wp d c 3 u fullShare (acc m d 3 c t))
      ⊢ iprop(((D2 fun d => Wp d c 3 u fullShare (fin m t)) -∗ WP c (kk ⟨⟩ ⟨⟩) Q)
        -∗ WP c (.op (.load wM (Rect.unit (s := S512x4096) off S128x512.size inb).toLoadRect hl1) fun v1 =>
          .op (.load wM (Rect.unit (s := S512x4096) off S128x512.size inb).toLoadRect hl3) fun _ =>
          .op (.store wM (Rect.unit (s := S512x4096) off S128x512.size inb) (k0_pay33 v1) Finset.univ hx hmk) fun x =>
          .op (.load wM (Rect.unit (s := S512x4096) xoff S128x512.size xinb).toLoadRect xhl1) fun v1 =>
          .op (.load wM (Rect.unit (s := S512x4096) xoff S128x512.size xinb).toLoadRect xhl3) fun _ =>
          .op (.store wM (Rect.unit (s := S512x4096) xoff S128x512.size xinb) (k0_pay33 v1) Finset.univ xhx xhmk) (kk x)) Q) := by
  iintro ⟨Hw, Hw'⟩ Hk
  iapply (silu_op m c false u t ho) $$ Hw
  iintro Hw
  iapply (silu_op m c true u t xho) $$ Hw'
  iintro Hw'
  iapply Hk
  isplitl [Hw] <;> iassumption

end Units

end Cert.KernelIdeal.Ring
end
-- ==== Proof.Local.lean ====
/- Bundles of pieces, the products, and the copies a device makes on its own. -/
module

public import proofs.«01_k».proof.Proof.Units
public import Idealize.ShloMosaic.Lib.Transfers

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Copies on one device -/

section Gen
variable {α : Type} (c : Dev nD)

/-- A copy starts: both ends are in flight; -/
theorem dma_go {Q : α → sProp 𝕄} {sp sp' : Space} {s : Shape} {e : EltTy} {src : Memref sig .tc sp s e} {dst : Memref sig .tc sp' s e} {sm : DmaSem sig}
    {hsrc : src.view.WordExact} {hdst : dst.view.WordExact} {hsem} {kk : PUnit → Prog (TpuEff nD τ sig (Elt F) Λ₀ .tc) α} {q : PosShare TreeShare}
    {fs : src.view.ty.Contents (Elt F)} {fd g : dst.view.ty.Contents (Elt F)} {n : ℕ}
    (hn : dst.view.dmaCredit = n) (hn0 : 0 < n) (hg : dst.view.read (Elt F) g = src.view.read (Elt F) fs) :
    iprop((src.view.loc (c : Thread nD τ) ↦[src.view.set]{q} fs) ∗ (dst.view.loc (c : Thread nD τ) ↦[dst.view.set]{fullShare} fd) ∗ semVal ((c : Thread nD τ), .dma sm) 0)
      ⊢ iprop((Flight countersEmb (c : Thread nD τ) (.dma sm) (0 : ℕ) n iprop((dst.view.loc (c : Thread nD τ) ↦[dst.view.set]{fullShare} g) ∗ (src.view.loc (c : Thread nD τ) ↦[src.view.set]{q} fs))
          -∗ WP c (kk ⟨⟩) Q)
        -∗ WP c (.op (.enqueueDma src (.here dst) (.dma sm) hsrc hdst hsem) kk) Q) := by
  have h : ((dst.view.loc (c : Thread nD τ) ↦[dst.view.set]{fullShare} (dst.view.write (Elt F) fd (src.view.read (Elt F) fs) Finset.univ)) : sProp 𝕄)
      = (dst.view.loc (c : Thread nD τ) ↦[dst.view.set]{fullShare} g) := pointsTo_congr (write_eq dst.view fd g _ hg)
  have h3 := wp_dmaLocal (defs := defs₀) (EC := countersEmb) (c := (c : Thread nD τ)) (𝒱 := 𝒱₀) (bd := none) (Q := Q) (src := src) (dst := dst) (sm := .dma sm) (hsrc := hsrc) (hdst := hdst) (hsem := hsem) (k := kk) (q := q)
    (fs := fs) (fd := fd) (via := .same) (0 : ℕ) n (show dst.view.amount (.dma sm) = n from hn) hn0 (Finset.Subset.refl _)
  refine h3.trans (wand_mono_left (wand_mono_left ?_))
  exact Entails.of_eq (congrArg (fun X => Flight countersEmb (c : Thread nD τ) (.dma sm) (0 : ℕ) n iprop(X ∗ (src.view.loc (c : Thread nD τ) ↦[src.view.set]{q} fs))) h)

theorem lv_low (sm : DmaSem sig) (h : 96 ≤ sm.val) : lv ((c : Thread nD τ), .dma sm) 0 = 0 := by
  show (if sm.val < 96 ∧ sm.val / 24 % 2 = 1 then _ else 0) = _
  rw [if_neg (by omega)]

/-- the wait for it gives them back. -/
theorem dma_end {Q : α → sProp 𝕄} {ks kr kw : ℕ} {sp sp' : Space} {s₁ s₂ : Shape} {e₁ e₂ : EltTy} {sem : DmaSem sig} {src : Memref sig .tc sp' s₁ e₁} {dst : Memref sig .tc sp s₂ e₂}
    {h1 : src.view.WordExact} {h2 : dst.view.WordExact} {kk : PUnit → Prog (TpuEff nD τ sig (Elt F) Λ₀ .tc) α} {n : ℕ} {D : sProp 𝕄}
    (hl : 96 ≤ sem.val) (hn : dst.view.dmaCredit = n) :
    iprop(Ctl m c ks kr kw ∗ Flight countersEmb (c : Thread nD τ) (.dma sem) (0 : ℕ) n D)
      ⊢ iprop(((Ctl m c ks kr kw ∗ D ∗ semVal ((c : Thread nD τ), .dma sem) 0) -∗ WP c (kk ⟨⟩) Q) -∗ WP c (.op (.waitDma2 sem src dst h1 h2) kk) Q) := by
  unfold Ctl
  iintro ⟨⟨%κ, #HR, ⟨%W, Ho⟩, Ht, Hr, Hs⟩, HF⟩ Hk
  iapply (wp_waitLocalO (defs := defs₀) (EC := countersEmb) (c := (c : Thread nD τ)) (𝒱 := 𝒱₀) (bd := none) (0 : ℕ) hn (O := O c ks) (W := W)) $$ [HF Ho]
  · isplitl [HF]; · iexact HF
    isplitl [Ho]; · iexact Ho
    iapply (mayWait c (.dma sem) 0 ks (by decide) (by rw [lv_low c sem hl]; exact Nat.zero_le _)); iapply (rec_lev m κ); iexact HR
  iintro ⟨HD, Hv, Ho⟩
  iapply Hk
  isplitr [HD Hv]
  · iexists κ
    isplitr; · iexact HR
    isplitl [Ho]; · iexists _; iexact Ho
    isplitl [Ht]; · iexact Ht
    isplitl [Hr] <;> iassumption
  isplitl [HD] <;> iassumption
end Gen

/-! ## Pieces of the other buffers -/

/-- Rows `512t ..` of `x`; slot `b` of the buffer of its tiles; columns `1024k ..` of `w`; the piece of the result tile `t`
    writes in half-column `h`; slot `s` of a landing buffer. -/
def xset (t : ℕ) : Finset S8192x2048.Idx := Finset.univ.filter fun i => (i 0).val / 512 = t
def bset (b : ℕ) : Finset S2x512x2048.Idx := Finset.univ.filter fun i => (i 0).val = b
def wk (k : ℕ) : Finset S2048x4096.Idx := Finset.univ.filter fun i => (i 1).val / 1024 = k
def oset (t h : ℕ) : Finset S8192x4096.Idx := Finset.univ.filter fun i => (i 0).val / 512 = t ∧ (i 1).val / 512 = h
def sset (s : ℕ) : Finset S6x512x512.Idx := Finset.univ.filter fun i => (i 0).val = s

/-- Tile `t` of `x` in a slot; the finished result. -/
def XB (c : Dev nD) (t : ℕ) : S2x512x2048.Idx → Elt F .f32 := fun i => xm m c (ix 8192 2048 (by decide) (by decide) (512 * t + (i 1).val) (i 2).val)
def YB : S8192x4096.Idx → Elt F .f32 := fun i => fin m ((i 0).val / 512) ((i 0).val % 512) (i 1).val

section Sets
theorem x_set {off : Fin 2 → ℕ} (inb : ∀ a, off a + S512x2048.size a ≤ S8192x2048.size a) (t : ℕ) (ho : off = ![512 * t, 0]) :
    ((View.whole main_arg0).slice (Rect.unit (s := S8192x2048) off S512x2048.size inb)).set = xset t := by
  rw [View.set_slice_whole]
  subst ho; ext i
  have : (i 1).val < 2048 := (i 1).isLt
  refine Iff.trans mem2 ?_
  simp only [xset, Finset.mem_filter, Finset.mem_univ, true_and]
  show (512 * t ≤ _ ∧ _ < 512 * t + 512) ∧ (0 ≤ _ ∧ _ < 0 + 2048) ↔ _
  omega
theorem b_set {off : Fin 3 → ℕ} (inb : ∀ a, off a + S1x512x2048.size a ≤ S2x512x2048.size a) (b : ℕ) (ho : off = ![b, 0, 0]) :
    ((View.whole cc0_scratch1).slice (Rect.unit (s := S2x512x2048) off S1x512x2048.size inb)).set = bset b := by
  rw [View.set_slice_whole]
  subst ho; ext i
  have : (i 1).val < 512 := (i 1).isLt
  have : (i 2).val < 2048 := (i 2).isLt
  refine Iff.trans mem3 ?_
  simp only [bset, Finset.mem_filter, Finset.mem_univ, true_and]
  show (b ≤ _ ∧ _ < b + 1) ∧ (0 ≤ _ ∧ _ < 0 + 512) ∧ (0 ≤ _ ∧ _ < 0 + 2048) ↔ _
  omega
theorem wk_rset {off : Fin 2 → ℕ} (inb : ∀ a, off a + S2048x1024.size a ≤ S2048x4096.size a) (k : ℕ) (ho : off = ![0, 1024 * k]) :
    (Rect.unit (s := S2048x4096) off S2048x1024.size inb).set = wk k := by
  subst ho; ext i
  have : (i 0).val < 2048 := (i 0).isLt
  refine Iff.trans mem2 ?_
  simp only [wk, Finset.mem_filter, Finset.mem_univ, true_and]
  show (0 ≤ _ ∧ _ < 0 + 2048) ∧ (1024 * k ≤ _ ∧ _ < 1024 * k + 1024) ↔ _
  omega
theorem o_set {off : Fin 2 → ℕ} (inb : ∀ a, off a + S512x512.size a ≤ S8192x4096.size a) (t h : ℕ) (ho : off = ![512 * t, 512 * h]) :
    ((View.whole main_v1).slice (Rect.unit (s := S8192x4096) off S512x512.size inb)).set = oset t h := by
  rw [View.set_slice_whole]
  subst ho; ext i
  refine Iff.trans mem2 ?_
  simp only [oset, Finset.mem_filter, Finset.mem_univ, true_and]
  show (512 * t ≤ _ ∧ _ < 512 * t + 512) ∧ (512 * h ≤ _ ∧ _ < 512 * h + 512) ↔ _
  omega
theorem s_rset {off : Fin 3 → ℕ} (inb : ∀ a, off a + S1x512x512.size a ≤ S6x512x512.size a) (s : ℕ) (ho : off = ![s, 0, 0]) :
    (Rect.unit (s := S6x512x512) off S1x512x512.size inb).set = sset s := by
  subst ho; ext i
  have : (i 1).val < 512 := (i 1).isLt
  have : (i 2).val < 512 := (i 2).isLt
  refine Iff.trans mem3 ?_
  simp only [sset, Finset.mem_filter, Finset.mem_univ, true_and]
  show (s ≤ _ ∧ _ < s + 1) ∧ (0 ≤ _ ∧ _ < 0 + 512) ∧ (0 ≤ _ ∧ _ < 0 + 512) ↔ _
  omega
end Sets

/-! ## The local semaphores -/

set_option backward.proofsInPublic true in
def wS (j : ℕ) : DmaSem sig := (⟨(96 + j) % 110, Nat.mod_lt _ (by decide)⟩ : Fin 110)
set_option backward.proofsInPublic true in
def xS (b : ℕ) : DmaSem sig := (⟨(100 + b) % 110, Nat.mod_lt _ (by decide)⟩ : Fin 110)
set_option backward.proofsInPublic true in
def oS (j : ℕ) : DmaSem sig := (⟨(102 + j) % 110, Nat.mod_lt _ (by decide)⟩ : Fin 110)

theorem wS_low {j : ℕ} (h : j < 4) : 96 ≤ (wS j).val := by revert j; decide
theorem xS_low {j : ℕ} (h : j < 2) : 96 ≤ (xS j).val := by revert j; decide
theorem oS_low {j : ℕ} (h : j < 8) : 96 ≤ (oS j).val := by revert j; decide

theorem x_sem {off : Fin 1 → ℕ} {inb : ∀ a, off a + S1.size a ≤ S2.size a} {b : ℕ} (hb : b < 2) (ho : off = ![b]) :
    ((cc0_scratch10.slice (Rect.unit (s := S2) off S1.size inb)).squeeze S_ squeezes_S1_S_).sem = xS b := by
  subst ho
  rcases (by omega : b = 0 ∨ b = 1) with rfl | rfl
  · exact (rfl : ((cc0_scratch10.slice (Rect.unit (s := S2) ![0] S1.size inb_S2_S1_0)).squeeze S_ squeezes_S1_S_).sem = xS 0)
  · exact (show ((cc0_scratch10.slice (Rect.unit (s := S2) ![1] S1.size (by decide))).squeeze S_ squeezes_S1_S_).sem = xS 1 from rfl)
theorem w_sem0 : ((cc0_scratch9.slice (Rect.unit (s := S4) ![0] S1.size inb_S4_S1_0)).squeeze S_ squeezes_S1_S_).sem = wS 0 := rfl
theorem w_sem1 : ((cc0_scratch9.slice (Rect.unit (s := S4) ![1] S1.size inb_S4_S1_1)).squeeze S_ squeezes_S1_S_).sem = wS 1 := rfl
theorem w_sem2 : ((cc0_scratch9.slice (Rect.unit (s := S4) ![2] S1.size inb_S4_S1_2)).squeeze S_ squeezes_S1_S_).sem = wS 2 := rfl
theorem w_sem3 : ((cc0_scratch9.slice (Rect.unit (s := S4) ![3] S1.size inb_S4_S1_3)).squeeze S_ squeezes_S1_S_).sem = wS 3 := rfl
theorem o_sem0 : ((cc0_scratch11.slice (Rect.unit (s := S8) ![0] S1.size inb_S8_S1_0)).squeeze S_ squeezes_S1_S_).sem = oS 0 := rfl
theorem o_sem1 : ((cc0_scratch11.slice (Rect.unit (s := S8) ![1] S1.size inb_S8_S1_1)).squeeze S_ squeezes_S1_S_).sem = oS 1 := rfl
theorem o_sem2 : ((cc0_scratch11.slice (Rect.unit (s := S8) ![2] S1.size inb_S8_S1_2)).squeeze S_ squeezes_S1_S_).sem = oS 2 := rfl
theorem o_sem3 : ((cc0_scratch11.slice (Rect.unit (s := S8) ![3] S1.size inb_S8_S1_3)).squeeze S_ squeezes_S1_S_).sem = oS 3 := rfl
theorem o_sem4 : ((cc0_scratch11.slice (Rect.unit (s := S8) ![4] S1.size inb_S8_S1_4)).squeeze S_ squeezes_S1_S_).sem = oS 4 := rfl
theorem o_sem5 : ((cc0_scratch11.slice (Rect.unit (s := S8) ![5] S1.size inb_S8_S1_5)).squeeze S_ squeezes_S1_S_).sem = oS 5 := rfl
theorem o_sem6 : ((cc0_scratch11.slice (Rect.unit (s := S8) ![6] S1.size inb_S8_S1_6)).squeeze S_ squeezes_S1_S_).sem = oS 6 := rfl
theorem o_sem7 : ((cc0_scratch11.slice (Rect.unit (s := S8) ![7] S1.size inb_S8_S1_7)).squeeze S_ squeezes_S1_S_).sem = oS 7 := rfl

/-! ## The copies of the body -/

/-- Device `c`'s copy of a slot of `x`, of `w`'s columns, of the result's pieces. -/
def xhR (c : Dev nD) (S : Finset S8192x2048.Idx) : sProp 𝕄 := ((c : Thread nD τ).loc main_arg0) ↦[S]{fullShare} xm m c
def whR (c : Dev nD) (S : Finset S2048x4096.Idx) : sProp 𝕄 := ((c : Thread nD τ).loc main_arg1) ↦[S]{fullShare} wm m c
def xbR (c : Dev nD) (b : ℕ) (f : S2x512x2048.Idx → Elt F .f32) : sProp 𝕄 := ((c : Thread nD τ).loc cc0_scratch1) ↦[bset b]{fullShare} f
def wvR (c : Dev nD) (S : Finset S2048x4096.Idx) (f : S2048x4096.Idx → Elt F .f32) : sProp 𝕄 := ((c : Thread nD τ).loc cc0_scratch0) ↦[S]{fullShare} f
def ohR (c : Dev nD) (t h : ℕ) (f : S8192x4096.Idx → Elt F .f32) : sProp 𝕄 := ((c : Thread nD τ).loc main_v1) ↦[oset t h]{fullShare} f
def sv (c : Dev nD) (x : DmaSem sig) : sProp 𝕄 := semVal ((c : Thread nD τ), .dma x) 0
abbrev Fl (c : Dev nD) (x : DmaSem sig) (n : ℕ) (D : sProp 𝕄) : sProp 𝕄 := Flight countersEmb (c : Thread nD τ) (.dma x) (0 : ℕ) n D

abbrev xSl (off : Fin 3 → ℕ) (inb : ∀ a, off a + S1x512x2048.size a ≤ S2x512x2048.size a) : Memref sig .tc .vmem S512x2048 .f32 :=
  ((Memref.whole cc0_scratch1).slice (Rect.unit (s := S2x512x2048) off S1x512x2048.size inb) (fun _ => rfl)).squeeze S512x2048 squeezes_S1x512x2048_S512x2048
abbrev oSl (off : Fin 2 → ℕ) (inb : ∀ a, off a + S512x512.size a ≤ S8192x4096.size a) : Memref sig .tc .hbm S512x512 .f32 :=
  (Memref.whole main_v1).slice (Rect.unit (s := S8192x4096) off S512x512.size inb) (fun _ => rfl)
abbrev wSl (off : Fin 2 → ℕ) (inb : ∀ a, off a + S2048x1024.size a ≤ S2048x4096.size a) : Memref sig .tc .vmem S2048x1024 .f32 :=
  (Memref.whole cc0_scratch0).slice (Rect.unit (s := S2048x4096) off S2048x1024.size inb) (fun _ => rfl)

theorem in2 {a b : ℕ} {sz : Fin 2 → ℕ} (h0 : sz 0 ≤ a) (h1 : sz 1 ≤ b) (k : Fin 2) : (![0, 0] : Fin 2 → ℕ) k + sz k ≤ (⟨2, ![a, b]⟩ : Shape).size k := by
  match k with
  | ⟨0, _⟩ => show 0 + sz 0 ≤ a; omega
  | ⟨1, _⟩ => show 0 + sz 1 ≤ b; omega
abbrev NX : ℕ := (xSl ![0, 0, 0] inb_S2x512x2048_S1x512x2048_0_0_0).view.dmaCredit
abbrev NO : ℕ := (oSl ![0, 0] (in2 (by decide) (by decide))).view.dmaCredit
abbrev NW : ℕ := (wSl ![0, 0] (in2 (by decide) (by decide))).view.dmaCredit
theorem creditX (off inb) : (xSl off inb).view.dmaCredit = NX := rfl
theorem creditO (off inb) : (oSl off inb).view.dmaCredit = NO := rfl
theorem creditV (off inb) : (wSl off inb).view.dmaCredit = NW := rfl
theorem NX_pos : 0 < NX := View.dmaCredit_pos _ (by decide)
theorem NO_pos : 0 < NO := View.dmaCredit_pos _ (by decide)
theorem NW_pos : 0 < NW := View.dmaCredit_pos _ (by decide)

section Xcopy
variable {α : Type} (c : Dev nD)

/-- A tile of `x` under way to a slot. -/
def XFl (t b : ℕ) : sProp 𝕄 := iprop(Fl c (xS b) NX iprop(xbR c b (XB m c t) ∗ xhR m c (xset t)) ∗ xhR m c (Finset.univ \ xset t))

theorem xb_eq {off : Fin 3 → ℕ} (inb : ∀ a, off a + S1x512x2048.size a ≤ S2x512x2048.size a) (b : ℕ) (ho : off = ![b, 0, 0]) (f : S2x512x2048.Idx → Elt F .f32) :
    xbR c b f = (((xSl off inb).view.loc (c : Thread nD τ)) ↦[(xSl off inb).view.set]{fullShare} f : sProp 𝕄) := by
  have h : (xSl off inb).view.set = bset b := (View.set_reshape _ _).trans (b_set inb b ho)
  rw [h]; rfl
theorem xh_eq {off : Fin 2 → ℕ} (inb : ∀ a, off a + S512x2048.size a ≤ S8192x2048.size a) (t : ℕ) (ho : off = ![512 * t, 0]) :
    xhR m c (xset t) = ((((Memref.whole main_arg0).slice (Rect.unit (s := S8192x2048) off S512x2048.size inb) (fun _ => rfl)).view.loc (c : Thread nD τ))
      ↦[((Memref.whole main_arg0).slice (Rect.unit (s := S8192x2048) off S512x2048.size inb) (fun _ => rfl)).view.set]{fullShare} xm m c : sProp 𝕄) := by
  have h := x_set inb t ho
  show ((c : Thread nD τ).loc main_arg0 ↦[xset t]{fullShare} xm m c : sProp 𝕄)
    = ((c : Thread nD τ).loc main_arg0 ↦[((View.whole main_arg0).slice (Rect.unit (s := S8192x2048) off S512x2048.size inb)).set]{fullShare} xm m c : sProp 𝕄)
  rw [h]

theorem xh_split (t : ℕ) : xhR m c Finset.univ ⊣⊢ iprop(xhR m c (xset t) ∗ xhR m c (Finset.univ \ xset t)) := by
  unfold xhR; exact pointsTo_split_subset (Finset.subset_univ _)

theorem xsq (t : ℕ) (h : S1x512x2048.ShapeCasts S512x2048) :
    shapeCast S512x2048 (xV m c t) h = fun i : S512x2048.Idx => xm m c (ix 8192 2048 (by decide) (by decide) (512 * t + (i 0).val) (i 1).val) := by
  funext j
  have e : Shape.reshapeEquiv h j = (Fin.cons ⟨0, Nat.one_pos⟩ j : S1x512x2048.Idx) := Shape.reshapeEquiv_cons_one h j
  show xm m c (ix 8192 2048 _ _ (512 * t + ((Shape.reshapeEquiv h j : S1x512x2048.Idx) 1).val) ((Shape.reshapeEquiv h j : S1x512x2048.Idx) 2).val) = _
  rw [e]; rfl
theorem x_load {off : Fin 3 → ℕ} (inb : ∀ a, off a + S1x512x2048.size a ≤ S2x512x2048.size a) (b t : ℕ) (ho : off = ![b, 0, 0]) :
    ((View.whole cc0_scratch1).slice (Rect.unit (s := S2x512x2048) off S1x512x2048.size inb)).read (Elt F) (XB m c t) = xV m c t := by
  subst ho
  funext x
  show xm m c (ix 8192 2048 _ _ (512 * t + (0 + 1 * (x 1).val)) (0 + 1 * (x 2).val)) = _
  rw [one_mul, one_mul, zero_add, zero_add]; rfl
theorem x_same {off : Fin 2 → ℕ} (inb : ∀ a, off a + S512x2048.size a ≤ S8192x2048.size a) (t : ℕ) (ht : t < 16) (ho : off = ![512 * t, 0])
    {offd : Fin 3 → ℕ} (inbd : ∀ a, offd a + S1x512x2048.size a ≤ S2x512x2048.size a) (b : ℕ) (hod : offd = ![b, 0, 0]) :
    (xSl offd inbd).view.read (Elt F) (XB m c t)
      = ((Memref.whole main_arg0).slice (Rect.unit (s := S8192x2048) off S512x2048.size inb) (fun _ => rfl)).view.read (Elt F) (xm m c) := by
  have h1 : (xSl offd inbd).view.read (Elt F) (XB m c t) = shapeCast S512x2048 (xV m c t) squeezes_S1x512x2048_S512x2048.numel_eq := by
    rw [← x_load m c inbd b t hod]; rfl
  rw [h1, xsq]
  subst ho
  funext i
  have h0 : (i 0).val < 512 := (i 0).isLt
  have h2 : (i 1).val < 2048 := (i 1).isLt
  show xm m c _ = xm m c _
  congr 1
  funext a
  match a with
  | ⟨0, _⟩ => exact Fin.ext (show (512 * t + (i 0).val) % 8192 = 512 * t + 1 * (i 0).val by omega)
  | ⟨1, _⟩ => exact Fin.ext (show (i 1).val % 2048 = 0 + 1 * (i 1).val by omega)

theorem x_go {Q : α → sProp 𝕄} {off : Fin 2 → ℕ} {inb : ∀ a, off a + S512x2048.size a ≤ S8192x2048.size a} (t b : ℕ) (ht : t < 16) (hb : b < 2) (ho : off = ![512 * t, 0])
    {offd : Fin 3 → ℕ} {inbd : ∀ a, offd a + S1x512x2048.size a ≤ S2x512x2048.size a} (hod : offd = ![b, 0, 0]) {sm : DmaSem sig} (hsm : sm = xS b)
    {hsrc hdst hsem} {kk : PUnit → Prog (TpuEff nD τ sig (Elt F) Λ₀ .tc) α} (f : S2x512x2048.Idx → Elt F .f32) :
    iprop(xhR m c Finset.univ ∗ xbR c b f ∗ sv (F := F) c (xS b))
      ⊢ iprop((XFl m c t b -∗ WP c (kk ⟨⟩) Q)
        -∗ WP c (.op (.enqueueDma ((Memref.whole main_arg0).slice (Rect.unit (s := S8192x2048) off S512x2048.size inb) (fun _ => rfl)) (.here (xSl offd inbd)) (.dma sm) hsrc hdst hsem) kk) Q) := by
  subst hsm
  have hsp := (xh_split m c t).1
  iintro ⟨Hx, Hb, Hs⟩ Hk
  ihave Hx := hsp $$ Hx
  icases Hx with ⟨Hx, Hrest⟩
  ihave Hx := (Entails.of_eq (xh_eq m c inb t ho)) $$ Hx
  ihave Hb := (Entails.of_eq (xb_eq c inbd b hod f)) $$ Hb
  iapply (dma_go c (src := (Memref.whole main_arg0).slice (Rect.unit (s := S8192x2048) off S512x2048.size inb) (fun _ => rfl)) (dst := xSl offd inbd) (creditX offd inbd) NX_pos (x_same m c inb t ht ho inbd b hod)) $$ [Hx Hb Hs]
  · isplitl [Hx]; · iexact Hx
    isplitl [Hb]; · iexact Hb
    unfold sv; iexact Hs
  iintro HF
  iapply Hk
  unfold XFl
  isplitl [HF]
  · rw [xh_eq m c inb t ho, xb_eq c inbd b hod]; iexact HF
  iexact Hrest

theorem x_end {Q : α → sProp 𝕄} {ks kr kw : ℕ} (t b : ℕ) (hb : b < 2) {offd : Fin 3 → ℕ} {inbd : ∀ a, offd a + S1x512x2048.size a ≤ S2x512x2048.size a} {sm : DmaSem sig} (hsm : sm = xS b)
    {sp : Space} {s₁ : Shape} {e₁ : EltTy} {src : Memref sig .tc sp s₁ e₁} {h1 h2} {kk : PUnit → Prog (TpuEff nD τ sig (Elt F) Λ₀ .tc) α} :
    iprop(Ctl m c ks kr kw ∗ XFl m c t b)
      ⊢ iprop(((Ctl m c ks kr kw ∗ xhR m c Finset.univ ∗ xbR c b (XB m c t) ∗ sv (F := F) c (xS b)) -∗ WP c (kk ⟨⟩) Q)
        -∗ WP c (.op (.waitDma2 sm src (xSl offd inbd) h1 h2) kk) Q) := by
  subst hsm
  have hj := (xh_split m c t).2
  unfold XFl
  iintro ⟨HC, HF, Hrest⟩ Hk
  iapply (dma_end m c (xS_low hb) (creditX offd inbd)) $$ [HC HF]
  · isplitl [HC] <;> iassumption
  iintro ⟨HC, ⟨Hb, Hx⟩, Hs⟩
  iapply Hk
  isplitl [HC]; · iexact HC
  isplitl [Hx Hrest]
  · iapply hj; isplitl [Hx] <;> iassumption
  isplitl [Hb]; · iexact Hb
  unfold sv; iexact Hs
end Xcopy

section Wcopy
variable {α : Type} (c : Dev nD)

/-- A chunk of `w` under way. -/
def WFl (k j : ℕ) : sProp 𝕄 := Fl c (wS j) NW iprop(wvR c (wk k) (wm m c) ∗ whR m c (wk k))

theorem wv_eq {off : Fin 2 → ℕ} (inb : ∀ a, off a + S2048x1024.size a ≤ S2048x4096.size a) (k : ℕ) (ho : off = ![0, 1024 * k]) (f : S2048x4096.Idx → Elt F .f32) :
    wvR c (wk k) f = (((wSl off inb).view.loc (c : Thread nD τ)) ↦[(wSl off inb).view.set]{fullShare} f : sProp 𝕄) := by
  have h : (wSl off inb).view.set = wk k := (View.set_slice_whole _ _).trans (wk_rset inb k ho)
  rw [h]; rfl
theorem wh_eq {off : Fin 2 → ℕ} (inb : ∀ a, off a + S2048x1024.size a ≤ S2048x4096.size a) (k : ℕ) (ho : off = ![0, 1024 * k]) :
    whR m c (wk k) = ((((Memref.whole main_arg1).slice (Rect.unit (s := S2048x4096) off S2048x1024.size inb) (fun _ => rfl)).view.loc (c : Thread nD τ))
      ↦[((Memref.whole main_arg1).slice (Rect.unit (s := S2048x4096) off S2048x1024.size inb) (fun _ => rfl)).view.set]{fullShare} wm m c : sProp 𝕄) := by
  have h : ((Memref.whole main_arg1).slice (Rect.unit (s := S2048x4096) off S2048x1024.size inb) (fun _ => rfl)).view.set = wk k :=
    (View.set_slice_whole _ _).trans (wk_rset inb k ho)
  rw [h]; rfl

theorem w_go {Q : α → sProp 𝕄} {off : Fin 2 → ℕ} {inb inbd : ∀ a, off a + S2048x1024.size a ≤ S2048x4096.size a} (k j : ℕ) (ho : off = ![0, 1024 * k])
    {sm : DmaSem sig} (hsm : sm = wS j) {hsrc hdst hsem} {kk : PUnit → Prog (TpuEff nD τ sig (Elt F) Λ₀ .tc) α} (f : S2048x4096.Idx → Elt F .f32) :
    iprop(whR m c (wk k) ∗ wvR c (wk k) f ∗ sv (F := F) c (wS j))
      ⊢ iprop((WFl m c k j -∗ WP c (kk ⟨⟩) Q)
        -∗ WP c (.op (.enqueueDma ((Memref.whole main_arg1).slice (Rect.unit (s := S2048x4096) off S2048x1024.size inb) (fun _ => rfl)) (.here (wSl off inbd)) (.dma sm) hsrc hdst hsem) kk) Q) := by
  subst hsm
  iintro ⟨Hx, Hb, Hs⟩ Hk
  ihave Hx := (Entails.of_eq (wh_eq m c inb k ho)) $$ Hx
  ihave Hb := (Entails.of_eq (wv_eq c inbd k ho f)) $$ Hb
  iapply (dma_go c (src := (Memref.whole main_arg1).slice (Rect.unit (s := S2048x4096) off S2048x1024.size inb) (fun _ => rfl)) (dst := wSl off inbd) (g := wm m c) (creditV off inbd) NW_pos rfl) $$ [Hx Hb Hs]
  · isplitl [Hx]; · iexact Hx
    isplitl [Hb]; · iexact Hb
    unfold sv; iexact Hs
  iintro HF
  iapply Hk
  unfold WFl
  rw [wh_eq m c inb k ho, wv_eq c inbd k ho]; iexact HF

theorem w_end {Q : α → sProp 𝕄} {ks kr kw : ℕ} (k j : ℕ) (hj : j < 4) {off : Fin 2 → ℕ} {inb : ∀ a, off a + S2048x1024.size a ≤ S2048x4096.size a} {sm : DmaSem sig} (hsm : sm = wS j)
    {sp : Space} {s₁ : Shape} {e₁ : EltTy} {src : Memref sig .tc sp s₁ e₁} {h1 h2} {kk : PUnit → Prog (TpuEff nD τ sig (Elt F) Λ₀ .tc) α} :
    iprop(Ctl m c ks kr kw ∗ WFl m c k j)
      ⊢ iprop(((Ctl m c ks kr kw ∗ whR m c (wk k) ∗ wvR c (wk k) (wm m c) ∗ sv (F := F) c (wS j)) -∗ WP c (kk ⟨⟩) Q)
        -∗ WP c (.op (.waitDma2 sm src (wSl off inb) h1 h2) kk) Q) := by
  subst hsm
  unfold WFl
  iintro ⟨HC, HF⟩ Hk
  iapply (dma_end m c (wS_low hj) (creditV off inb)) $$ [HC HF]
  · isplitl [HC] <;> iassumption
  iintro ⟨HC, ⟨Hb, Hx⟩, Hs⟩
  iapply Hk
  isplitl [HC]; · iexact HC
  isplitl [Hx]; · iexact Hx
  isplitl [Hb]; · iexact Hb
  unfold sv; iexact Hs
end Wcopy

section Ocopy
variable {α : Type} (c : Dev nD)

/-- A finished half-column under way to the result, from the work buffer or a landing slot. -/
def OWFl (d : Bool) (t j : ℕ) : sProp 𝕄 := Fl c (oS j) NO iprop(ohR c t (hc d c 3) (YB m) ∗ workR c (hset (hc d c 3)) fullShare.right (WB (fin m t)))
def OCFl (d : Bool) (s t j : ℕ) (q : PosShare TreeShare) : sProp 𝕄 := Fl c (oS j) NO iprop(ohR c t (hc d c (s - 3)) (YB m) ∗ commR d c (sset s) q (CB (slotV m d c s t)))

theorem oh_eq {off : Fin 2 → ℕ} (inb : ∀ a, off a + S512x512.size a ≤ S8192x4096.size a) (t h : ℕ) (ho : off = ![512 * t, 512 * h]) (f : S8192x4096.Idx → Elt F .f32) :
    ohR c t h f = (((oSl off inb).view.loc (c : Thread nD τ)) ↦[(oSl off inb).view.set]{fullShare} f : sProp 𝕄) := by
  have h : (oSl off inb).view.set = oset t h := o_set inb t h ho
  rw [h]; rfl
theorem hw_eq {off : Fin 2 → ℕ} (inb : ∀ a, off a + S512x512.size a ≤ S512x4096.size a) (h : ℕ) (ho : off = ![0, 512 * h]) (q : PosShare TreeShare) (f : S512x4096.Idx → Elt F .f32) :
    workR c (hset h) q f = (((wM.slice (Rect.unit (s := S512x4096) off S512x512.size inb) (fun _ => rfl)).view.loc (c : Thread nD τ))
      ↦[(wM.slice (Rect.unit (s := S512x4096) off S512x512.size inb) (fun _ => rfl)).view.set]{q} f : sProp 𝕄) := by
  have h : (wM.slice (Rect.unit (s := S512x4096) off S512x512.size inb) (fun _ => rfl)).view.set = hset h := h_set inb h ho
  rw [h]; rfl
theorem o_read {off : Fin 2 → ℕ} (inb : ∀ a, off a + S512x512.size a ≤ S8192x4096.size a) (t h : ℕ) (ho : off = ![512 * t, 512 * h]) :
    (oSl off inb).view.read (Elt F) (YB m) = fun i : S512x512.Idx => fin m t (i 0).val (512 * h + (i 1).val) := by
  subst ho
  funext i
  have h0 : (i 0).val < 512 := (i 0).isLt
  show fin m ((512 * t + 1 * (i 0).val) / 512) ((512 * t + 1 * (i 0).val) % 512) (512 * h + 1 * (i 1).val) = _
  rw [show (512 * t + 1 * (i 0).val) / 512 = t by omega, show (512 * t + 1 * (i 0).val) % 512 = (i 0).val by omega, one_mul]

theorem ow_go {Q : α → sProp 𝕄} (d : Bool) (t j : ℕ) {off : Fin 2 → ℕ} {inb : ∀ a, off a + S512x512.size a ≤ S512x4096.size a} (ho : off = ![0, 512 * hc d c 3])
    {offd : Fin 2 → ℕ} {inbd : ∀ a, offd a + S512x512.size a ≤ S8192x4096.size a} (hod : offd = ![512 * t, 512 * hc d c 3])
    {sm : DmaSem sig} (hsm : sm = oS j) {hsrc hdst hsem} {kk : PUnit → Prog (TpuEff nD τ sig (Elt F) Λ₀ .tc) α} (f : S8192x4096.Idx → Elt F .f32) :
    iprop(workR c (hset (hc d c 3)) fullShare.right (WB (fin m t)) ∗ ohR c t (hc d c 3) f ∗ sv (F := F) c (oS j))
      ⊢ iprop((OWFl m c d t j -∗ WP c (kk ⟨⟩) Q)
        -∗ WP c (.op (.enqueueDma (wM.slice (Rect.unit (s := S512x4096) off S512x512.size inb) (fun _ => rfl)) (.here (oSl offd inbd)) (.dma sm) hsrc hdst hsem) kk) Q) := by
  subst hsm
  iintro ⟨Hx, Hb, Hs⟩ Hk
  ihave Hx := (Entails.of_eq (hw_eq c inb _ ho fullShare.right (WB (fin m t)))) $$ Hx
  ihave Hb := (Entails.of_eq (oh_eq c inbd t _ hod f)) $$ Hb
  iapply (dma_go c (src := wM.slice (Rect.unit (s := S512x4096) off S512x512.size inb) (fun _ => rfl)) (dst := oSl offd inbd) (g := YB m) (creditO offd inbd) NO_pos
    ((o_read m inbd t _ hod).trans (h_read inb _ ho (fin m t)).symm)) $$ [Hx Hb Hs]
  · isplitl [Hx]; · iexact Hx
    isplitl [Hb]; · iexact Hb
    unfold sv; iexact Hs
  iintro HF
  iapply Hk
  unfold OWFl
  rw [hw_eq c inb _ ho, oh_eq c inbd t _ hod]; iexact HF

theorem ow_end {Q : α → sProp 𝕄} {ks kr kw : ℕ} (d : Bool) (t j : ℕ) (hj : j < 8) {off : Fin 2 → ℕ} {inb : ∀ a, off a + S512x512.size a ≤ S8192x4096.size a} {sm : DmaSem sig} (hsm : sm = oS j)
    {sp : Space} {s₁ : Shape} {e₁ : EltTy} {src : Memref sig .tc sp s₁ e₁} {h1 h2} {kk : PUnit → Prog (TpuEff nD τ sig (Elt F) Λ₀ .tc) α} :
    iprop(Ctl m c ks kr kw ∗ OWFl m c d t j)
      ⊢ iprop(((Ctl m c ks kr kw ∗ workR c (hset (hc d c 3)) fullShare.right (WB (fin m t)) ∗ ohR c t (hc d c 3) (YB m) ∗ sv (F := F) c (oS j)) -∗ WP c (kk ⟨⟩) Q)
        -∗ WP c (.op (.waitDma2 sm src (oSl off inb) h1 h2) kk) Q) := by
  subst hsm
  unfold OWFl
  iintro ⟨HC, HF⟩ Hk
  iapply (dma_end m c (oS_low hj) (creditO off inb)) $$ [HC HF]
  · isplitl [HC] <;> iassumption
  iintro ⟨HC, ⟨Hb, Hx⟩, Hs⟩
  iapply Hk
  isplitl [HC]; · iexact HC
  isplitl [Hx]; · iexact Hx
  isplitl [Hb]; · iexact Hb
  unfold sv; iexact Hs

abbrev sSl (d : Bool) (off : Fin 3 → ℕ) (inb : ∀ a, off a + S1x512x512.size a ≤ S6x512x512.size a) : Memref sig .tc .vmem S512x512 .f32 :=
  ((cM d).slice (Rect.unit (s := S6x512x512) off S1x512x512.size inb) (fun _ => rfl)).squeeze S512x512 squeezes_S1x512x512_S512x512

theorem sc_eq (d : Bool) {off : Fin 3 → ℕ} (inb : ∀ a, off a + S1x512x512.size a ≤ S6x512x512.size a) (s : ℕ) (ho : off = ![s, 0, 0])
    (q : PosShare TreeShare) (f : S6x512x512.Idx → Elt F .f32) :
    commR d c (sset s) q f = (((sSl d off inb).view.loc (c : Thread nD τ)) ↦[(sSl d off inb).view.set]{q} cf d f : sProp 𝕄) := by
  have h : (sSl d off inb).view.set = ((cM d).view.slice (Rect.unit (s := S6x512x512) off S1x512x512.size inb)).set := View.set_reshape _ _
  rw [h]
  cases d
  · show (((c : Thread nD τ).loc cc0_scratch3) ↦[sset s]{q} f : sProp 𝕄) = (((c : Thread nD τ).loc cc0_scratch3) ↦[((View.whole cc0_scratch3).slice (Rect.unit (s := S6x512x512) off S1x512x512.size inb)).set]{q} f : sProp 𝕄)
    rw [View.set_slice_whole, s_rset inb s ho]
  · show (((c : Thread nD τ).loc cc0_scratch4) ↦[sset s]{q} f : sProp 𝕄) = (((c : Thread nD τ).loc cc0_scratch4) ↦[((View.whole cc0_scratch4).slice (Rect.unit (s := S6x512x512) off S1x512x512.size inb)).set]{q} f : sProp 𝕄)
    rw [View.set_slice_whole, s_rset inb s ho]

theorem cast_sq (g : ℕ → ℕ → F .f32) (h : S1x512x512.ShapeCasts S512x512) :
    shapeCast S512x512 (fun i : S1x512x512.Idx => g (i 1).val (i 2).val) h = fun i : S512x512.Idx => g (i 0).val (i 1).val := by
  funext j
  have e : Shape.reshapeEquiv h j = (Fin.cons ⟨0, Nat.one_pos⟩ j : S1x512x512.Idx) := Shape.reshapeEquiv_cons_one h j
  show g ((Shape.reshapeEquiv h j : S1x512x512.Idx) 1).val ((Shape.reshapeEquiv h j : S1x512x512.Idx) 2).val = _
  rw [e]; rfl
theorem sc_read (d : Bool) {off : Fin 3 → ℕ} (inb : ∀ a, off a + S1x512x512.size a ≤ S6x512x512.size a) (s : ℕ) (ho : off = ![s, 0, 0]) (g : ℕ → ℕ → F .f32) :
    (sSl d off inb).view.read (Elt F) (cf d (CB g)) = fun i : S512x512.Idx => g (i 0).val (i 1).val := by
  have h : ((cM d).view.slice (Rect.unit (s := S6x512x512) off S1x512x512.size inb)).read (Elt F) (cf d (CB g)) = fun i : S1x512x512.Idx => g (i 1).val (i 2).val := by
    subst ho
    cases d <;> (
      funext x
      show g (0 + 1 * (x 1).val) (0 + 1 * (x 2).val) = _
      rw [one_mul, one_mul, zero_add, zero_add])
  rw [← cast_sq g (Shape.Squeezes.numel_eq squeezes_S1x512x512_S512x512), ← h]; rfl

theorem oc_go {Q : α → sProp 𝕄} (d : Bool) (s t j : ℕ) (hs : 3 ≤ s) (q : PosShare TreeShare) {off : Fin 3 → ℕ} {inb : ∀ a, off a + S1x512x512.size a ≤ S6x512x512.size a} (ho : off = ![s, 0, 0])
    {M : Memref sig .tc .vmem S6x512x512 .f32} (hM : M = cM d)
    {offd : Fin 2 → ℕ} {inbd : ∀ a, offd a + S512x512.size a ≤ S8192x4096.size a} (hod : offd = ![512 * t, 512 * hc d c (s - 3)])
    {sm : DmaSem sig} (hsm : sm = oS j) {hsrc hdst hsem} {kk : PUnit → Prog (TpuEff nD τ sig (Elt F) Λ₀ .tc) α} (f : S8192x4096.Idx → Elt F .f32) :
    iprop(commR d c (sset s) q (CB (slotV m d c s t)) ∗ ohR c t (hc d c (s - 3)) f ∗ sv (F := F) c (oS j))
      ⊢ iprop((OCFl m c d s t j q -∗ WP c (kk ⟨⟩) Q)
        -∗ WP c (.op (.enqueueDma ((M.slice (Rect.unit (s := S6x512x512) off S1x512x512.size inb) (fun _ => rfl)).squeeze S512x512 squeezes_S1x512x512_S512x512)
          (.here (oSl offd inbd)) (.dma sm) hsrc hdst hsem) kk) Q) := by
  subst hsm hM
  have hv : (oSl offd inbd).view.read (Elt F) (YB m) = (sSl d off inb).view.read (Elt F) (cf d (CB (slotV m d c s t))) := by
    rw [o_read m inbd t _ hod, sc_read d inb s ho]
    funext i
    unfold slotV; rw [if_neg (by omega)]
  iintro ⟨Hx, Hb, Hs⟩ Hk
  ihave Hx := (Entails.of_eq (sc_eq c d inb s ho q (CB (slotV m d c s t)))) $$ Hx
  ihave Hb := (Entails.of_eq (oh_eq c inbd t _ hod f)) $$ Hb
  iapply (dma_go c (src := sSl d off inb) (dst := oSl offd inbd) (g := YB m) (creditO offd inbd) NO_pos hv) $$ [Hx Hb Hs]
  · isplitl [Hx]; · iexact Hx
    isplitl [Hb]; · iexact Hb
    unfold sv; iexact Hs
  iintro HF
  iapply Hk
  unfold OCFl
  rw [sc_eq c d inb s ho, oh_eq c inbd t _ hod]; iexact HF

theorem oc_end {Q : α → sProp 𝕄} {ks kr kw : ℕ} (d : Bool) (s t j : ℕ) (q : PosShare TreeShare) (hj : j < 8) {off : Fin 2 → ℕ} {inb : ∀ a, off a + S512x512.size a ≤ S8192x4096.size a} {sm : DmaSem sig} (hsm : sm = oS j)
    {sp : Space} {s₁ : Shape} {e₁ : EltTy} {src : Memref sig .tc sp s₁ e₁} {h1 h2} {kk : PUnit → Prog (TpuEff nD τ sig (Elt F) Λ₀ .tc) α} :
    iprop(Ctl m c ks kr kw ∗ OCFl m c d s t j q)
      ⊢ iprop(((Ctl m c ks kr kw ∗ commR d c (sset s) q (CB (slotV m d c s t)) ∗ ohR c t (hc d c (s - 3)) (YB m) ∗ sv (F := F) c (oS j)) -∗ WP c (kk ⟨⟩) Q)
        -∗ WP c (.op (.waitDma2 sm src (oSl off inb) h1 h2) kk) Q) := by
  subst hsm
  unfold OCFl
  iintro ⟨HC, HF⟩ Hk
  iapply (dma_end m c (oS_low hj) (creditO off inb)) $$ [HC HF]
  · isplitl [HC] <;> iassumption
  iintro ⟨HC, ⟨Hb, Hx⟩, Hs⟩
  iapply Hk
  isplitl [HC]; · iexact HC
  isplitl [Hx]; · iexact Hx
  isplitl [Hb]; · iexact Hb
  unfold sv; iexact Hs
end Ocopy

/-! ## The products -/

section Gemm
variable {α : Type} (c : Dev nD)

/-- A load of some of the elements held. -/
theorem load_sub {Q : α → sProp 𝕄} {cs : CoreSpace} {s₁ : Shape} {e : EltTy} (M : Memref sig .tc cs s₁ e) (r : Rect s₁) {hl} {kk : (r.shape.Idx → Elt F e) → Prog (TpuEff nD τ sig (Elt F) Λ₀ .tc) α}
    {q : PosShare TreeShare} {S : Finset (Idx ((M.access r).loc (c : Thread nD τ)))} {f : (M.access r).ty.Contents (Elt F)} (hS : (M.access r).set ⊆ S) :
    (((M.access r).loc (c : Thread nD τ)) ↦[S]{q} f)
      ⊢ iprop(((((M.access r).loc (c : Thread nD τ)) ↦[S]{q} f) -∗ WP c (kk ((M.access r).read (Elt F) f)) Q) -∗ WP c (.op (.load M r.toLoadRect hl) kk) Q) :=
  wp_load_rect 𝒱₀ (c : Thread nD τ) none Set.univ (m := M) (r := r) (hS := hS)

theorem wH_read {off : Fin 2 → ℕ} (inb : ∀ a, off a + S2048x512.size a ≤ S2048x4096.size a) (h : ℕ) (hh : h < 8) (ho : off = ![0, 512 * h]) :
    ((View.whole cc0_scratch0).slice (Rect.unit (s := S2048x4096) off S2048x512.size inb)).read (Elt F) (wm m c) = wH m c h := by
  subst ho
  funext i
  have h0 : (i 0).val < 2048 := (i 0).isLt
  have h1 : (i 1).val < 512 := (i 1).isLt
  show wm m c _ = wm m c _
  congr 1
  funext a
  match a with
  | ⟨0, _⟩ => exact Fin.ext (show 0 + 1 * (i 0).val = (i 0).val % 2048 by omega)
  | ⟨1, _⟩ => exact Fin.ext (show 512 * h + 1 * (i 1).val = (512 * h + (i 1).val) % 4096 by omega)
theorem wC_read {off : Fin 2 → ℕ} (inb : ∀ a, off a + S2048x1024.size a ≤ S2048x4096.size a) (k : ℕ) (hk : k < 4) (ho : off = ![0, 1024 * k]) :
    ((View.whole cc0_scratch0).slice (Rect.unit (s := S2048x4096) off S2048x1024.size inb)).read (Elt F) (wm m c) = wC m c k := by
  subst ho
  funext i
  have h0 : (i 0).val < 2048 := (i 0).isLt
  have h1 : (i 1).val < 1024 := (i 1).isLt
  show wm m c _ = wm m c _
  congr 1
  funext a
  match a with
  | ⟨0, _⟩ => exact Fin.ext (show 0 + 1 * (i 0).val = (i 0).val % 2048 by omega)
  | ⟨1, _⟩ => exact Fin.ext (show 1024 * k + 1 * (i 1).val = (1024 * k + (i 1).val) % 4096 by omega)

theorem ix_self {a b r j : ℕ} (ha : 0 < a) (hb : 0 < b) (i : (⟨2, ![a, b]⟩ : Shape).Idx) (h0 : r % a = (i 0).val) (h1 : j % b = (i 1).val) : ix a b ha hb r j = i := by
  funext k
  match k with
  | ⟨0, _⟩ => exact Fin.ext h0
  | ⟨1, _⟩ => exact Fin.ext h1

theorem P_half (t h : ℕ) (ht : t ≠ 0) : (fun i : S512x512.Idx => P m c t (i 0).val (512 * h + (i 1).val)) = k0_pay6 (xV m c t) (wH m c h) := by
  funext i
  have h0 : (i 0).val < 512 := (i 0).isLt
  have h1 : (i 1).val < 512 := (i 1).isLt
  unfold P
  rw [if_neg ht, show (512 * h + (i 1).val) / 512 = h by omega, ix_self (by decide) (by decide) i (by omega) (by omega)]
theorem P_chunk (k : ℕ) : (fun i : S512x1024.Idx => P m c 0 (i 0).val (1024 * k + (i 1).val)) = k0_pay9 (xV m c 0) (wC m c k) := by
  funext i
  have h0 : (i 0).val < 512 := (i 0).isLt
  have h1 : (i 1).val < 1024 := (i 1).isLt
  unfold P
  rw [if_pos rfl, show (1024 * k + (i 1).val) / 1024 = k by omega, ix_self (by decide) (by decide) i (by omega) (by omega)]

/-- The partial product of one half-column; -/
theorem gemm_op {Q : α → sProp 𝕄} (t b h : ℕ) (ht : t ≠ 0) (hh : h < 8)
    {offx : Fin 3 → ℕ} {inbx : ∀ a, offx a + S1x512x2048.size a ≤ S2x512x2048.size a} (hox : offx = ![b, 0, 0])
    {offw : Fin 2 → ℕ} {inbw : ∀ a, offw a + S2048x512.size a ≤ S2048x4096.size a} (how : offw = ![0, 512 * h])
    {off : Fin 2 → ℕ} {inb : ∀ a, off a + S512x512.size a ≤ S512x4096.size a} (ho : off = ![0, 512 * h])
    {hl1 hl2 hl3 hx hmk} {kk : PUnit → Prog (TpuEff nD τ sig (Elt F) Λ₀ .tc) α} (f : S512x4096.Idx → Elt F .f32) :
    iprop(xbR c b (XB m c t) ∗ wvR c Finset.univ (wm m c) ∗ workR c (hset h) fullShare f)
      ⊢ iprop(((xbR c b (XB m c t) ∗ wvR c Finset.univ (wm m c) ∗ workR c (hset h) fullShare (WB (P m c t))) -∗ WP c (kk ⟨⟩) Q)
        -∗ WP c (.op (.load (Memref.whole cc0_scratch1) (Rect.unit (s := S2x512x2048) offx S1x512x2048.size inbx).toLoadRect hl1) fun v1 =>
          .op (.load (Memref.whole cc0_scratch0) (Rect.unit (s := S2048x4096) offw S2048x512.size inbw).toLoadRect hl2) fun v2 =>
          .op (.load wM (Rect.unit (s := S512x4096) off S512x512.size inb).toLoadRect hl3) fun _ =>
          .op (.store wM (Rect.unit (s := S512x4096) off S512x512.size inb) (k0_pay6 v1 v2) Finset.univ hx hmk) kk) Q) := by
  have hxs : xbR c b (XB m c t) = (((((Memref.whole cc0_scratch1).access (Rect.unit (s := S2x512x2048) offx S1x512x2048.size inbx)).loc (c : Thread nD τ)))
      ↦[((Memref.whole cc0_scratch1).access (Rect.unit (s := S2x512x2048) offx S1x512x2048.size inbx)).set]{fullShare} XB m c t : sProp 𝕄) := by
    have := b_set inbx b hox
    show ((c : Thread nD τ).loc cc0_scratch1 ↦[bset b]{fullShare} XB m c t : sProp 𝕄)
      = ((c : Thread nD τ).loc cc0_scratch1 ↦[((View.whole cc0_scratch1).slice (Rect.unit (s := S2x512x2048) offx S1x512x2048.size inbx)).set]{fullShare} XB m c t : sProp 𝕄)
    rw [this]
  have hws : ∀ f : S512x4096.Idx → Elt F .f32, workR c (hset h) fullShare f = ((((c : Thread nD τ).loc cc0_scratch2))
      ↦[(wM.access (Rect.unit (s := S512x4096) off S512x512.size inb)).set]{fullShare} f : sProp 𝕄) := by
    intro f
    have : (wM.access (Rect.unit (s := S512x4096) off S512x512.size inb)).set = hset h := h_set inb h ho
    rw [this]; rfl
  iintro ⟨Hx, Hw, Hp⟩ Hk
  ihave Hx := (Entails.of_eq hxs) $$ Hx
  ihave Hp := (Entails.of_eq (hws f)) $$ Hp
  iapply (load_all c (Memref.whole cc0_scratch1) (Rect.unit (s := S2x512x2048) offx S1x512x2048.size inbx)) $$ Hx
  iintro Hx
  unfold wvR
  iapply (load_sub c (Memref.whole cc0_scratch0) (Rect.unit (s := S2048x4096) offw S2048x512.size inbw) (S := Finset.univ) (f := wm m c) (Finset.subset_univ _)) $$ Hw
  iintro Hw
  iapply (load_all c wM (Rect.unit (s := S512x4096) off S512x512.size inb)) $$ Hp
  iintro Hp
  iapply (store_all c wM (Rect.unit (s := S512x4096) off S512x512.size inb) (WB (P m c t))
    ((h_read inb h ho _).trans ((P_half m c t h ht).trans (congrArg₂ k0_pay6 (x_load m c inbx b t hox).symm (wH_read m c inbw h hh how).symm)))) $$ Hp
  iintro Hp
  iapply Hk
  isplitl [Hx]; · rw [hxs]; iexact Hx
  isplitl [Hw]; · iexact Hw
  rw [hws]; iexact Hp

/-- of one chunk, in the first tile. -/
theorem gemm0_op {Q : α → sProp 𝕄} (k : ℕ) (hk : k < 4)
    {offx : Fin 3 → ℕ} {inbx : ∀ a, offx a + S1x512x2048.size a ≤ S2x512x2048.size a} (hox : offx = ![0, 0, 0])
    {offw : Fin 2 → ℕ} {inbw : ∀ a, offw a + S2048x1024.size a ≤ S2048x4096.size a} (how : offw = ![0, 1024 * k])
    {off : Fin 2 → ℕ} {inb : ∀ a, off a + S512x1024.size a ≤ S512x4096.size a} (ho : off = ![0, 1024 * k])
    {hl1 hl2 hl3 hx hmk} {kk : PUnit → Prog (TpuEff nD τ sig (Elt F) Λ₀ .tc) α} (f : S512x4096.Idx → Elt F .f32) :
    iprop(xbR c 0 (XB m c 0) ∗ wvR c (wk k) (wm m c) ∗ workR c (kset k) fullShare f)
      ⊢ iprop(((xbR c 0 (XB m c 0) ∗ wvR c (wk k) (wm m c) ∗ workR c (kset k) fullShare (WB (P m c 0))) -∗ WP c (kk ⟨⟩) Q)
        -∗ WP c (.op (.load (Memref.whole cc0_scratch1) (Rect.unit (s := S2x512x2048) offx S1x512x2048.size inbx).toLoadRect hl1) fun v1 =>
          .op (.load (Memref.whole cc0_scratch0) (Rect.unit (s := S2048x4096) offw S2048x1024.size inbw).toLoadRect hl2) fun v2 =>
          .op (.load wM (Rect.unit (s := S512x4096) off S512x1024.size inb).toLoadRect hl3) fun _ =>
          .op (.store wM (Rect.unit (s := S512x4096) off S512x1024.size inb) (k0_pay9 v1 v2) Finset.univ hx hmk) kk) Q) := by
  have hxs : xbR c 0 (XB m c 0) = (((((Memref.whole cc0_scratch1).access (Rect.unit (s := S2x512x2048) offx S1x512x2048.size inbx)).loc (c : Thread nD τ)))
      ↦[((Memref.whole cc0_scratch1).access (Rect.unit (s := S2x512x2048) offx S1x512x2048.size inbx)).set]{fullShare} XB m c 0 : sProp 𝕄) := by
    have := b_set inbx 0 hox
    show ((c : Thread nD τ).loc cc0_scratch1 ↦[bset 0]{fullShare} XB m c 0 : sProp 𝕄)
      = ((c : Thread nD τ).loc cc0_scratch1 ↦[((View.whole cc0_scratch1).slice (Rect.unit (s := S2x512x2048) offx S1x512x2048.size inbx)).set]{fullShare} XB m c 0 : sProp 𝕄)
    rw [this]
  have hvs : (((Memref.whole cc0_scratch0 : Memref sig .tc .vmem S2048x4096 .f32).access (Rect.unit (s := S2048x4096) offw S2048x1024.size inbw))).set = wk k :=
    (View.set_slice_whole _ _).trans (wk_rset inbw k how)
  have hws : ∀ f : S512x4096.Idx → Elt F .f32, workR c (kset k) fullShare f = ((((c : Thread nD τ).loc cc0_scratch2))
      ↦[(wM.access (Rect.unit (s := S512x4096) off S512x1024.size inb)).set]{fullShare} f : sProp 𝕄) := by
    intro f
    have : (wM.access (Rect.unit (s := S512x4096) off S512x1024.size inb)).set = kset k := k_set inb k ho
    rw [this]; rfl
  iintro ⟨Hx, Hw, Hp⟩ Hk
  ihave Hx := (Entails.of_eq hxs) $$ Hx
  ihave Hp := (Entails.of_eq (hws f)) $$ Hp
  iapply (load_all c (Memref.whole cc0_scratch1) (Rect.unit (s := S2x512x2048) offx S1x512x2048.size inbx)) $$ Hx
  iintro Hx
  unfold wvR
  iapply (load_sub c (Memref.whole cc0_scratch0) (Rect.unit (s := S2048x4096) offw S2048x1024.size inbw) (S := wk k) (f := wm m c) (le_of_eq hvs)) $$ Hw
  iintro Hw
  iapply (load_all c wM (Rect.unit (s := S512x4096) off S512x1024.size inb)) $$ Hp
  iintro Hp
  iapply (store_all c wM (Rect.unit (s := S512x4096) off S512x1024.size inb) (WB (P m c 0))
    ((k_read inb k ho _).trans ((P_chunk m c k).trans (congrArg₂ k0_pay9 (x_load m c inbx 0 0 hox).symm (wC_read m c inbw k hk how).symm)))) $$ Hp
  iintro Hp
  iapply Hk
  isplitl [Hx]; · rw [hxs]; iexact Hx
  isplitl [Hw]; · iexact Hw
  rw [hws]; iexact Hp
end Gemm

end Cert.KernelIdeal.Ring
end
-- ==== Proof.Glue.lean ====
/- How the pieces held between the stages of a tile come apart and together. -/
module

public import proofs.«01_k».proof.Proof.Local

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- A quarter of each kind in both rings. -/
abbrev UD (f : Bool → ℕ → sProp 𝕄) : sProp 𝕄 := U4 fun u => D2 fun d => f d u

/-- A program in two pieces. -/
theorem wp_cut {α β : Type} {Q : α → sProp 𝕄} (c : Dev nD) (post : sProp 𝕄) {p : Prog (TpuEff nD τ sig (Elt F) Λ₀ .tc) β} {k : β → Prog (TpuEff nD τ sig (Elt F) Λ₀ .tc) α} :
    iprop(WP c p (fun _ => post) ∗ ∀ a, post -∗ WP c (k a) Q) ⊢ WP c (p.bind k) Q := by
  show _ ⊢ WP c (p >>= k) Q
  unfold WP
  rw [wp_bind]
  exact wp_wand_r _ _ _

theorem wp_done {α : Type} {Q : α → sProp 𝕄} (c : Dev nD) (a : α) : Q a ⊢ WP c (.ret a) Q := by
  unfold WP
  rw [wp_ret]
  exact Idealize.SL.BI.fupd_intro

section Glue
variable (c : Dev nD) (u t : ℕ)

theorem ofe {A B : sProp 𝕄} (h : A = B) : A ⊣⊢ B := ⟨Entails.of_eq h, Entails.of_eq h.symm⟩
theorem d2_mono {A B : Bool → sProp 𝕄} (h : ∀ d, A d ⊢ B d) : D2 A ⊢ D2 B := BIClass.sep_mono (h false) (h true)
theorem u4_mono {A B : ℕ → sProp 𝕄} (h : ∀ u, u < 4 → A u ⊢ B u) : U4 A ⊢ U4 B :=
  BIClass.sep_mono (h 0 (by decide)) (BIClass.sep_mono (h 1 (by decide)) (BIClass.sep_mono (h 2 (by decide)) (h 3 (by decide))))
theorem ud_mono {A B : Bool → ℕ → sProp 𝕄} (h : ∀ d u, u < 4 → A d u ⊢ B d u) : UD A ⊢ UD B := u4_mono fun u hu => d2_mono fun d => h d u hu
theorem d2_sep {A B : Bool → sProp 𝕄} : iprop(D2 A ∗ D2 B) ⊢ D2 fun d => iprop(A d ∗ B d) := by
  iintro ⟨⟨H1, H2⟩, H3, H4⟩
  isplitl [H1 H3]
  · isplitl [H1] <;> iassumption
  · isplitl [H2] <;> iassumption
theorem d2_unsep {A B : Bool → sProp 𝕄} : (D2 fun d => iprop(A d ∗ B d)) ⊢ iprop(D2 A ∗ D2 B) := by
  iintro ⟨⟨H1, H2⟩, H3, H4⟩
  isplitl [H1 H3]
  · isplitl [H1] <;> iassumption
  · isplitl [H2] <;> iassumption
theorem u4_sep {A B : ℕ → sProp 𝕄} : iprop(U4 A ∗ U4 B) ⊢ U4 fun u => iprop(A u ∗ B u) := by
  iintro ⟨⟨H1, H2, H3, H4⟩, H5, H6, H7, H8⟩
  isplitl [H1 H5]
  · isplitl [H1] <;> iassumption
  isplitl [H2 H6]
  · isplitl [H2] <;> iassumption
  isplitl [H3 H7]
  · isplitl [H3] <;> iassumption
  · isplitl [H4] <;> iassumption
theorem u4_unsep {A B : ℕ → sProp 𝕄} : (U4 fun u => iprop(A u ∗ B u)) ⊢ iprop(U4 A ∗ U4 B) := by
  iintro ⟨⟨H1, H2⟩, ⟨H3, H4⟩, ⟨H5, H6⟩, H7, H8⟩
  isplitl [H1 H3 H5 H7]
  · isplitl [H1]; · iexact H1
    isplitl [H3]; · iexact H3
    isplitl [H5] <;> iassumption
  · isplitl [H2]; · iexact H2
    isplitl [H4]; · iexact H4
    isplitl [H6] <;> iassumption
theorem ud_sep {A B : Bool → ℕ → sProp 𝕄} : iprop(UD A ∗ UD B) ⊢ UD fun d u => iprop(A d u ∗ B d u) := u4_sep.trans (u4_mono fun _ _ => d2_sep)
theorem ud_unsep {A B : Bool → ℕ → sProp 𝕄} : (UD fun d u => iprop(A d u ∗ B d u)) ⊢ iprop(UD A ∗ UD B) := (u4_mono fun _ _ => d2_unsep).trans u4_unsep
/-- The two groupings of the eight quarters. -/
theorem ud_swap (A : Bool → ℕ → sProp 𝕄) : UD A ⊢ D2 fun d => U4 (A d) := by
  iintro ⟨⟨H1, H2⟩, ⟨H3, H4⟩, ⟨H5, H6⟩, H7, H8⟩
  isplitl [H1 H3 H5 H7]
  · isplitl [H1]; · iexact H1
    isplitl [H3]; · iexact H3
    isplitl [H5] <;> iassumption
  · isplitl [H2]; · iexact H2
    isplitl [H4]; · iexact H4
    isplitl [H6] <;> iassumption
theorem ud_unswap (A : Bool → ℕ → sProp 𝕄) : (D2 fun d => U4 (A d)) ⊢ UD A := by
  iintro ⟨⟨H1, H3, H5, H7⟩, H2, H4, H6, H8⟩
  isplitl [H1 H2]
  · isplitl [H1] <;> iassumption
  isplitl [H3 H4]
  · isplitl [H3] <;> iassumption
  isplitl [H5 H6]
  · isplitl [H5] <;> iassumption
  · isplitl [H7] <;> iassumption

/-! ## Sources -/

theorem src_lt (d : Bool) {s : ℕ} (hs : s < 3) : Wp d c s u fullShare (acc m d s c t) = srcPay m d c s u t := by
  unfold srcPay; rw [if_pos hs]; rfl
theorem src2 {s : ℕ} (hs : s < 3) : (D2 fun d => Wp d c s u fullShare (acc m d s c t)) ⊢ D2 fun d => srcPay m d c s u t :=
  d2_mono fun d => Entails.of_eq (src_lt m c u t d hs)
theorem unsrc2 {s : ℕ} (hs : s < 3) : (D2 fun d => srcPay m d c s u t) ⊢ D2 fun d => Wp d c s u fullShare (acc m d s c t) :=
  d2_mono fun d => Entails.of_eq (src_lt m c u t d hs).symm

theorem w_share (S : Finset S512x4096.Idx) (f : S512x4096.Idx → Elt F .f32) : workR c S fullShare f ⊣⊢ iprop(workR c S fullShare.left f ∗ workR c S fullShare.right f) := by
  unfold workR; exact pointsTo_share (PosShare.mem_left_op_right fullShare)
theorem c_share (d : Bool) (S : Finset S6x512x512.Idx) (f : S6x512x512.Idx → Elt F .f32) : commR d c S fullShare f ⊣⊢ iprop(commR d c S fullShare.left f ∗ commR d c S fullShare.right f) := by
  unfold commR; cases d <;> exact pointsTo_share (PosShare.mem_left_op_right fullShare)

theorem src_3 (d : Bool) : Wp d c 3 u fullShare.left (fin m t) = srcPay m d c 3 u t := by
  unfold srcPay; rw [if_neg (by decide), if_pos rfl]; rfl
theorem src_ge (d : Bool) {s : ℕ} (hs : 3 ≤ s) : Cp d c s u fullShare.left (slotV m d c s t) = srcPay m d c (s + 1) u t := by
  unfold srcPay; rw [if_neg (by omega), if_neg (by omega)]; rfl

/-- A finished quarter: one half of it is sent on, the other kept for the copy out. -/
theorem fin2 : (D2 fun d => Wp d c 3 u fullShare (fin m t)) ⊢ iprop((D2 fun d => srcPay m d c 3 u t) ∗ D2 fun d => Wp d c 3 u fullShare.right (fin m t)) :=
  (d2_mono fun d => ((w_share c _ _).1.trans (BIClass.sep_mono (Entails.of_eq (src_3 m c u t d)) .rfl))).trans d2_unsep
theorem unfin2 : iprop((D2 fun d => srcPay m d c 3 u t) ∗ D2 fun d => Wp d c 3 u fullShare.right (fin m t)) ⊢ D2 fun d => Wp d c 3 u fullShare (fin m t) :=
  d2_sep.trans (d2_mono fun d => (BIClass.sep_mono (Entails.of_eq (src_3 m c u t d).symm) .rfl).trans (w_share c _ _).2)
/-- An arrived quarter of a finished half-column, likewise. -/
theorem arr2 {s : ℕ} (hs : 3 ≤ s) : iprop(recvPay m false c s u t ∗ recvPay m true c s u t)
    ⊢ iprop((D2 fun d => srcPay m d c (s + 1) u t) ∗ (D2 fun d => Cp d c s u fullShare.right (slotV m d c s t)) ∗ D2 fun d => give (F := F) d c s u t) := by
  have h : ∀ d, recvPay m d c s u t ⊢ iprop(srcPay m d c (s + 1) u t ∗ Cp d c s u fullShare.right (slotV m d c s t) ∗ give (F := F) d c s u t) := fun d => by
    unfold recvPay
    rw [← src_ge m c u t d hs]
    iintro ⟨H, Hg⟩
    ihave H := (c_share c d _ _).1 $$ H
    icases H with ⟨H1, H2⟩
    unfold Cp
    isplitl [H1]; · iexact H1
    isplitl [H2]; · iexact H2
    iexact Hg
  refine (BIClass.sep_mono (h false) (h true)).trans ?_
  exact (d2_unsep (A := fun d => srcPay m d c (s + 1) u t) (B := fun d => iprop(Cp d c s u fullShare.right (slotV m d c s t) ∗ give (F := F) d c s u t))).trans
    (BIClass.sep_mono .rfl d2_unsep)
theorem unarr {s : ℕ} (hs : 3 ≤ s) (d : Bool) : iprop(srcPay m d c (s + 1) u t ∗ Cp d c s u fullShare.right (slotV m d c s t)) ⊢ own (F := F) d c s u := by
  rw [← src_ge m c u t d hs]
  exact (show _ ⊢ Cp d c s u fullShare (slotV m d c s t) from (c_share c d _ _).2).trans (own_intro c s u d _)
theorem give_emp (d : Bool) (n : Dev nD) {s : ℕ} (h1 : s ≠ 1) (h3 : s ≠ 3) : give (F := F) d n s u t = iprop(emp) := by
  unfold give; rw [if_neg h1, if_neg fun h => h3 h.1]
/-- The last arrival. -/
theorem arr5 : iprop(recvPay m false c 5 u t ∗ recvPay m true c 5 u t) ⊢ D2 fun d => Cp d c 5 u fullShare (slotV m d c 5 t) := by
  have h : ∀ d, recvPay m d c 5 u t ⊢ Cp d c 5 u fullShare (slotV m d c 5 t) := fun d => by
    unfold recvPay Cp
    rw [give_emp u t d c (by decide) (by decide)]
    iintro ⟨H, -⟩; iexact H
  exact BIClass.sep_mono (h false) (h true)

/-! ## Leave to send -/

theorem give2_emp {s : ℕ} (h1 : s ≠ 1) (h3 : s ≠ 3) : (emp : sProp 𝕄) ⊢ D2 fun d => give (F := F) d (nb d c) s u t := by
  show _ ⊢ iprop(give (F := F) false (nb false c) s u t ∗ give (F := F) true (nb true c) s u t)
  rw [give_emp u t _ _ h1 h3, give_emp u t _ _ h1 h3]
  iintro H
  isplitl [H]; · iexact H
  iempintro
theorem give2_one {ks kr kw : ℕ} (b : ℕ) (hu : u < 4) (hkr : kr = 48 * t + b) (hb : b ≤ 24) :
    iprop(Ctl m c ks kr kw ∗ (D2 fun d => own (F := F) d c 3 u) ∗ (D2 fun d => own (F := F) d c 4 u) ∗ (D2 fun d => own (F := F) d c 5 u))
      ⊢ iprop(Ctl m c ks kr kw ∗ D2 fun d => give (F := F) d (nb d c) 1 u t) := by
  iintro ⟨HC, ⟨H3, H3'⟩, ⟨H4, H4'⟩, H5, H5'⟩
  ihave H := (give_one m false c u t ks kr kw b hu hkr hb) $$ [HC H3' H4' H5']
  · isplitl [HC]; · iexact HC
    isplitl [H3']; · iexact H3'
    isplitl [H4']; · iexact H4'
    iexact H5'
  icases H with ⟨HC, Hg⟩
  ihave H := (give_one m true c u t ks kr kw b hu hkr hb) $$ [HC H3 H4 H5]
  · isplitl [HC]; · iexact HC
    isplitl [H3]; · iexact H3
    isplitl [H4]; · iexact H4
    iexact H5
  icases H with ⟨HC, Hg'⟩
  isplitl [HC]; · iexact HC
  isplitl [Hg]; · iexact Hg
  iexact Hg'
theorem give2_three {ks kr kw : ℕ} (b : ℕ) (hu : u < 4) (hkr : kr = 48 * t + b) (hb : 18 + 2 * u ≤ b) (hb' : b ≤ 48) :
    iprop(Ctl m c ks kr kw ∗ (D2 fun d => own (F := F) d c 0 u) ∗ (D2 fun d => own (F := F) d c 1 u) ∗ (D2 fun d => own (F := F) d c 2 u))
      ⊢ iprop(Ctl m c ks kr kw ∗ (D2 fun d => give (F := F) d (nb d c) 3 u t) ∗ D2 fun d => keep (F := F) d c u t) := by
  iintro ⟨HC, ⟨H3, H3'⟩, ⟨H4, H4'⟩, H5, H5'⟩
  ihave H := (give_three m false c u t ks kr kw b hu hkr hb hb') $$ [HC H3' H4' H5']
  · isplitl [HC]; · iexact HC
    isplitl [H3']; · iexact H3'
    isplitl [H4']; · iexact H4'
    iexact H5'
  icases H with ⟨HC, Hg, Hk⟩
  ihave H := (give_three m true c u t ks kr kw b hu hkr hb hb') $$ [HC H3 H4 H5]
  · isplitl [HC]; · iexact HC
    isplitl [H3]; · iexact H3
    isplitl [H4]; · iexact H4
    iexact H5
  icases H with ⟨HC, Hg', Hk'⟩
  isplitl [HC]; · iexact HC
  isplitl [Hg Hg']
  · isplitl [Hg]; · iexact Hg
    iexact Hg'
  isplitl [Hk']; · iexact Hk'
  iexact Hk
theorem perm345 : (D2 fun d => give (F := F) d c 1 u t)
    ⊢ iprop((D2 fun d => Perm (F := F) d c 3 u t) ∗ (D2 fun d => Perm (F := F) d c 4 u t) ∗ D2 fun d => Perm (F := F) d c 5 u t) := by
  show iprop(give (F := F) false c 1 u t ∗ give (F := F) true c 1 u t) ⊢ _
  unfold give; rw [if_pos rfl, if_pos rfl]
  iintro ⟨⟨H3, H4, H5⟩, H3', H4', H5'⟩
  isplitl [H3 H3']
  · isplitl [H3']; · iexact H3'
    iexact H3
  isplitl [H4 H4']
  · isplitl [H4']; · iexact H4'
    iexact H4
  · isplitl [H5']; · iexact H5'
    iexact H5
theorem perm012 (ht : t + 1 < 16) : (D2 fun d => give (F := F) d c 3 u t)
    ⊢ iprop((D2 fun d => Perm (F := F) d c 0 u (t + 1)) ∗ (D2 fun d => Perm (F := F) d c 1 u (t + 1)) ∗ D2 fun d => Perm (F := F) d c 2 u (t + 1)) := by
  show iprop(give (F := F) false c 3 u t ∗ give (F := F) true c 3 u t) ⊢ _
  unfold give
  rw [if_neg (by decide), if_pos ⟨rfl, ht⟩, if_neg (by decide), if_pos ⟨rfl, ht⟩]
  iintro ⟨⟨H3, H4, H5⟩, H3', H4', H5'⟩
  isplitl [H3 H3']
  · isplitl [H3']; · iexact H3'
    iexact H3
  isplitl [H4 H4']
  · isplitl [H4']; · iexact H4'
    iexact H4
  · isplitl [H5']; · iexact H5'
    iexact H5

/-! ## Half-columns and slots from their quarters -/

theorem disj_w {u v h : ℕ} (h1 : u ≠ v) : Disjoint (wset u h) (wset v h) := by
  refine Finset.disjoint_left.mpr fun i hi hj => h1 ?_
  unfold wset at hi hj
  rw [Finset.mem_filter] at hi hj
  exact hi.2.1.symm.trans hj.2.1
theorem disj_c {s u v : ℕ} (h1 : u ≠ v) : Disjoint (cset s u) (cset s v) := by
  refine Finset.disjoint_left.mpr fun i hi hj => h1 ?_
  unfold cset at hi hj
  rw [Finset.mem_filter] at hi hj
  exact hi.2.2.symm.trans hj.2.2
theorem range4 (A : ℕ → sProp 𝕄) : bigSep (Finset.range 4) A = U4 A := by
  rw [show Finset.range 4 = {0, 1, 2, 3} from rfl]
  rw [peel (i := 0) (by decide), peel (i := 1) (by decide), peel (i := 2) (by decide), show ((({0, 1, 2, 3} : Finset ℕ).erase 0).erase 1).erase 2 = {3} from by decide, BI.bigSep_singleton]
theorem half_iff (q : PosShare TreeShare) (h : ℕ) (f : S512x4096.Idx → Elt F .f32) : workR c (hset h) q f ⊣⊢ U4 fun u => workR c (wset u h) q f := by
  rw [← range4]
  unfold workR
  refine ofe ((congrArg (fun S => ((c : Thread nD τ).loc cc0_scratch2 ↦[S]{q} f : sProp 𝕄)) ?_).trans
    (pointsTo_biUnion (ℓ := (c : Thread nD τ).loc cc0_scratch2) (Finset.range 4) (fun u => wset u h) fun u _ v _ huv => disj_w huv))
  ext i
  have h0 : ((i : S512x4096.Idx) 0).val < 512 := ((i : S512x4096.Idx) 0).isLt
  unfold hset wset
  simp only [Finset.mem_biUnion, Finset.mem_filter, Finset.mem_univ, true_and, Finset.mem_range]
  exact ⟨fun hh => ⟨((i : S512x4096.Idx) 0).val / 128, by omega, rfl, hh⟩, fun ⟨_, _, _, hh⟩ => hh⟩
theorem slot_iff (d : Bool) (q : PosShare TreeShare) (s : ℕ) (f : S6x512x512.Idx → Elt F .f32) : commR d c (sset s) q f ⊣⊢ U4 fun u => commR d c (cset s u) q f := by
  rw [← range4]
  unfold commR
  cases d
  · refine ofe ((congrArg (fun S => ((c : Thread nD τ).loc cc0_scratch3 ↦[S]{q} f : sProp 𝕄)) ?_).trans
      (pointsTo_biUnion (ℓ := (c : Thread nD τ).loc cc0_scratch3) (Finset.range 4) (fun u => cset s u) fun u _ v _ huv => disj_c huv))
    ext i
    have h0 : ((i : S6x512x512.Idx) 1).val < 512 := ((i : S6x512x512.Idx) 1).isLt
    unfold sset cset
    simp only [Finset.mem_biUnion, Finset.mem_filter, Finset.mem_univ, true_and, Finset.mem_range]
    exact ⟨fun hh => ⟨((i : S6x512x512.Idx) 1).val / 128, by omega, hh, rfl⟩, fun ⟨_, _, hh, _⟩ => hh⟩
  · refine ofe ((congrArg (fun S => ((c : Thread nD τ).loc cc0_scratch4 ↦[S]{q} f : sProp 𝕄)) ?_).trans
      (pointsTo_biUnion (ℓ := (c : Thread nD τ).loc cc0_scratch4) (Finset.range 4) (fun u => cset s u) fun u _ v _ huv => disj_c huv))
    ext i
    have h0 : ((i : S6x512x512.Idx) 1).val < 512 := ((i : S6x512x512.Idx) 1).isLt
    unfold sset cset
    simp only [Finset.mem_biUnion, Finset.mem_filter, Finset.mem_univ, true_and, Finset.mem_range]
    exact ⟨fun hh => ⟨((i : S6x512x512.Idx) 1).val / 128, by omega, hh, rfl⟩, fun ⟨_, _, hh, _⟩ => hh⟩
theorem halves {q : PosShare TreeShare} {s : ℕ} (g : Bool → ℕ → ℕ → F .f32) : (UD fun d u => Wp d c s u q (g d)) ⊢ D2 fun d => workR c (hset (hc d c s)) q (WB (g d)) :=
  (ud_swap _).trans (d2_mono fun d => (half_iff c q _ _).2)
theorem unhalves {q : PosShare TreeShare} {s : ℕ} (g : Bool → ℕ → ℕ → F .f32) : (D2 fun d => workR c (hset (hc d c s)) q (WB (g d))) ⊢ UD fun d u => Wp d c s u q (g d) :=
  (d2_mono fun d => (half_iff c q _ _).1).trans (ud_unswap fun d u => Wp d c s u q (g d))
theorem slots {q : PosShare TreeShare} {s : ℕ} (g : Bool → ℕ → ℕ → F .f32) : (UD fun d u => Cp d c s u q (g d)) ⊢ D2 fun d => commR d c (sset s) q (CB (g d)) :=
  (ud_swap _).trans (d2_mono fun d => (slot_iff c d q _ _).2)
theorem unslots {q : PosShare TreeShare} {s : ℕ} (g : Bool → ℕ → ℕ → F .f32) : (D2 fun d => commR d c (sset s) q (CB (g d))) ⊢ UD fun d u => Cp d c s u q (g d) :=
  (d2_mono fun d => (slot_iff c d q _ _).1).trans (ud_unswap fun d u => Cp d c s u q (g d))

/-- The work buffer's half-columns that step `s` uses: the next tile's product, when there is a next tile. -/
def WN (s : ℕ) : sProp 𝕄 := iprop(∃ g : Bool → ℕ → ℕ → F .f32, ⌜t + 1 < 16 → ∀ d, g d = P m c (t + 1)⌝ ∗ UD fun d u => Wp d c s u fullShare (g d))
theorem wn_last (s : ℕ) (ht : ¬ t + 1 < 16) (g : Bool → ℕ → ℕ → F .f32) : (UD fun d u => Wp d c s u fullShare (g d)) ⊢ WN m c t s := by
  iintro H
  unfold WN
  iexists g
  isplitr; · ipureintro; exact fun h => absurd h ht
  iexact H
theorem wn_next (s : ℕ) : (D2 fun d => workR c (hset (hc d c s)) fullShare (WB (P m c (t + 1)))) ⊢ WN m c t s := by
  iintro H
  ihave H := (unhalves c fun _ => P m c (t + 1)) $$ H
  unfold WN
  iexists fun _ => P m c (t + 1)
  isplitr; · ipureintro; exact fun _ _ => rfl
  iexact H
theorem wn_elim (s : ℕ) (ht : t + 1 < 16) : WN m c t s ⊢ UD fun d u => Wp d c s u fullShare (P m c (t + 1)) := by
  unfold WN
  iintro ⟨%g, %hg, H⟩
  have : g = fun _ => P m c (t + 1) := funext fun d => hg ht d
  subst this
  iexact H
end Glue

/-! ## The inputs, the result -/

section Res
variable (c : Dev nD) (t : ℕ)

/-- A slot of the tile buffer, holding anything. -/
def xany (b : ℕ) : sProp 𝕄 := iprop(∃ f : S2x512x2048.Idx → Elt F .f32, xbR c b f)
/-- The tile buffer with no tile under way; -/
def Xs : sProp 𝕄 := iprop(xhR m c Finset.univ ∗ xany (F := F) c (t % 2) ∗ xany (F := F) c ((t + 1) % 2) ∗ sv (F := F) c (xS (t % 2)) ∗ sv (F := F) c (xS ((t + 1) % 2)))
/-- with the next tile under way, if there is one; -/
def XF : sProp 𝕄 := if t + 1 < 16 then iprop(xany (F := F) c (t % 2) ∗ sv (F := F) c (xS (t % 2)) ∗ XFl m c (t + 1) ((t + 1) % 2)) else Xs m c t
/-- with the next tile arrived, if there is one. -/
def XD : sProp 𝕄 := iprop(xhR m c Finset.univ ∗ xany (F := F) c (t % 2) ∗ sv (F := F) c (xS (t % 2)) ∗ sv (F := F) c (xS ((t + 1) % 2))
  ∗ if t + 1 < 16 then xbR c ((t + 1) % 2) (XB m c (t + 1)) else xany (F := F) c ((t + 1) % 2))
/-- The buffer of `w`, filled. -/
def WM : sProp 𝕄 := iprop(whR m c Finset.univ ∗ wvR c Finset.univ (wm m c) ∗ U4 fun j => sv (F := F) c (wS j))

/-- The tile buffer between tiles. -/
theorem xd_next' : XD m c t ⊢ Xs m c (t + 1) := by
  unfold XD Xs
  have h5 : (if t + 1 < 16 then xbR c ((t + 1) % 2) (XB m c (t + 1)) else xany (F := F) c ((t + 1) % 2)) ⊢ xany (F := F) c ((t + 1) % 2) := by
    split
    · unfold xany; iintro H; iexists _; iexact H
    · exact .rfl
  rw [show (t + 1 + 1) % 2 = t % 2 by omega]
  iintro ⟨H1, H2, H3, H4, H5⟩
  isplitl [H1]; · iexact H1
  isplitl [H5]
  · iapply h5; iexact H5
  isplitl [H2]; · iexact H2
  isplitl [H4] <;> iassumption

/-- The original contents of the result. -/
def ym : S8192x4096.Idx → Elt F .f32 := m ((c : Thread nD τ).loc main_v1)
/-- A piece of the result, finished or not. -/
def oP (b : Bool) (t' h : ℕ) : sProp 𝕄 := ohR c t' h (if b then YB m else ym m c)
/-- One tile's pieces. -/
def oT (b : Bool) (t' : ℕ) : sProp 𝕄 := U4 fun s => D2 fun d => oP m c b t' (hc d c s)
/-- The result with the first `t` tiles finished. -/
def OUT : sProp 𝕄 := bigSep (Finset.range 16) fun t' => oT m c (decide (t' < t)) t'
theorem out_step (ht : t < 16) : OUT m c t ⊢ iprop(oT m c false t ∗ (oT m c true t -∗ OUT m c (t + 1))) := by
  unfold OUT
  rw [peel (Finset.mem_range.mpr ht), peel (Finset.mem_range.mpr ht)]
  rw [show decide (t < t) = false by simp, show decide (t < t + 1) = true by simp]
  have h : bigSep ((Finset.range 16).erase t) (fun t' => oT m c (decide (t' < t + 1)) t') = bigSep ((Finset.range 16).erase t) fun t' => oT m c (decide (t' < t)) t' :=
    BI.bigSep_congr fun t' h' => by
      have := Finset.ne_of_mem_erase h'
      rw [show decide (t' < t + 1) = decide (t' < t) from decide_eq_decide.mpr (by omega)]
  rw [h]
  iintro ⟨H1, H2⟩
  isplitl [H1]; · iexact H1
  iintro H
  isplitl [H] <;> iassumption
end Res

/-! ## Where a grid point is -/

/-- `i` is the `t`-th grid point. -/
def At (i : grid0.Coords) (t : ℕ) : Prop := ∃ tt : Fin grid0.N, grid0.coords tt = i ∧ tt.val = t
theorem At.lt {i : grid0.Coords} {t : ℕ} (h : At i t) : t < 16 := by obtain ⟨tt, -, rfl⟩ := h; exact Nat.lt_of_lt_of_eq tt.isLt N_0

theorem cd1 {i : grid0.Coords} {t : ℕ} (h : At i t) : k0_cond1 i = 1#1 ↔ t = 0 := by obtain ⟨tt, rfl, rfl⟩ := h; revert tt; decide
theorem cd2 {i : grid0.Coords} {t : ℕ} (h : At i t) : k0_cond2 i = 1#1 ↔ t + 1 < 16 := by obtain ⟨tt, rfl, rfl⟩ := h; revert tt; decide
theorem cd3 {i : grid0.Coords} {t : ℕ} (h : At i t) : k0_cond3 i = 1#1 ↔ t = 0 := by obtain ⟨tt, rfl, rfl⟩ := h; revert tt; decide
theorem cd4 {i : grid0.Coords} {t : ℕ} (h : At i t) : k0_cond4 i = 1#1 ↔ t = 0 := by obtain ⟨tt, rfl, rfl⟩ := h; revert tt; decide
theorem cd5 {i : grid0.Coords} {t : ℕ} (h : At i t) : k0_cond5 i = 1#1 ↔ t + 1 < 16 := by obtain ⟨tt, rfl, rfl⟩ := h; revert tt; decide
theorem cd6 {i : grid0.Coords} {t : ℕ} (h : At i t) : k0_cond6 i = 1#1 ↔ t + 1 < 16 := by obtain ⟨tt, rfl, rfl⟩ := h; revert tt; decide
theorem cd7 {i : grid0.Coords} {t : ℕ} (h : At i t) : k0_cond7 i = 1#1 ↔ t + 1 < 16 := by obtain ⟨tt, rfl, rfl⟩ := h; revert tt; decide
theorem cd8 {i : grid0.Coords} {t : ℕ} (h : At i t) : k0_cond8 i = 1#1 ↔ t + 1 < 16 := by obtain ⟨tt, rfl, rfl⟩ := h; revert tt; decide
theorem cd9 {i : grid0.Coords} {t : ℕ} (h : At i t) : k0_cond9 i = 1#1 ↔ t + 1 < 16 := by obtain ⟨tt, rfl, rfl⟩ := h; revert tt; decide
theorem cd10 {i : grid0.Coords} {t : ℕ} (h : At i t) : k0_cond10 i = 1#1 ↔ t + 1 < 16 := by obtain ⟨tt, rfl, rfl⟩ := h; revert tt; decide
theorem gx5 {i : grid0.Coords} {t : ℕ} (h : At i t) (h1 : t + 1 < 16) : k0_off5 i = ![(t + 1) % 2, 0, 0] := by obtain ⟨tt, rfl, rfl⟩ := h; revert tt; decide
theorem gx6 {i : grid0.Coords} {t : ℕ} (h : At i t) (h1 : t + 1 < 16) : k0_off6 i = ![512 * (t + 1), 0] := by obtain ⟨tt, rfl, rfl⟩ := h; revert tt; decide
theorem gx35 {i : grid0.Coords} {t : ℕ} (h : At i t) (h1 : t + 1 < 16) : k0_off35 i = ![(t + 1) % 2, 0, 0] := by obtain ⟨tt, rfl, rfl⟩ := h; revert tt; decide
theorem gx36 {i : grid0.Coords} {t : ℕ} (h : At i t) (h1 : t + 1 < 16) : k0_off36 i = ![512 * (t + 1), 0] := by obtain ⟨tt, rfl, rfl⟩ := h; revert tt; decide
theorem gx37 {i : grid0.Coords} {t : ℕ} (h : At i t) (h1 : t + 1 < 16) : k0_off37 i = ![(t + 1) % 2, 0, 0] := by obtain ⟨tt, rfl, rfl⟩ := h; revert tt; decide
theorem gx40 {i : grid0.Coords} {t : ℕ} (h : At i t) (h1 : t + 1 < 16) : k0_off40 i = ![(t + 1) % 2, 0, 0] := by obtain ⟨tt, rfl, rfl⟩ := h; revert tt; decide
theorem gx59 {i : grid0.Coords} {t : ℕ} (h : At i t) (h1 : t + 1 < 16) : k0_off59 i = ![(t + 1) % 2, 0, 0] := by obtain ⟨tt, rfl, rfl⟩ := h; revert tt; decide
theorem gx68 {i : grid0.Coords} {t : ℕ} (h : At i t) (h1 : t + 1 < 16) : k0_off68 i = ![(t + 1) % 2, 0, 0] := by obtain ⟨tt, rfl, rfl⟩ := h; revert tt; decide
theorem gx4 {i : grid0.Coords} {t : ℕ} (h : At i t) (h1 : t + 1 < 16) : k0_off4 i = ![(t + 1) % 2] := by obtain ⟨tt, rfl, rfl⟩ := h; revert tt; decide
theorem gx34 {i : grid0.Coords} {t : ℕ} (h : At i t) (h1 : t + 1 < 16) : k0_off34 i = ![(t + 1) % 2] := by obtain ⟨tt, rfl, rfl⟩ := h; revert tt; decide
theorem gy62 {i : grid0.Coords} {t : ℕ} (h : At i t) (c : Dev nD) : k0_off62 i c = ![512 * t, 512 * hc false c 3] := by obtain ⟨tt, rfl, rfl⟩ := h; revert tt c; decide
theorem gy64 {i : grid0.Coords} {t : ℕ} (h : At i t) (c : Dev nD) : k0_off64 i c = ![512 * t, 512 * hc true c 3] := by obtain ⟨tt, rfl, rfl⟩ := h; revert tt c; decide
theorem gy66_0 {i : grid0.Coords} {t : ℕ} (h : At i t) (c : Dev nD) : k0_off66 i c 0#32 = ![512 * t, 512 * hc false c (0 + 3 - 3)] := by obtain ⟨tt, rfl, rfl⟩ := h; revert tt c; decide
theorem gy67_0 {i : grid0.Coords} {t : ℕ} (h : At i t) (c : Dev nD) : k0_off67 i c 0#32 = ![512 * t, 512 * hc true c (0 + 3 - 3)] := by obtain ⟨tt, rfl, rfl⟩ := h; revert tt c; decide
theorem gy66_1 {i : grid0.Coords} {t : ℕ} (h : At i t) (c : Dev nD) : k0_off66 i c 1#32 = ![512 * t, 512 * hc false c (1 + 3 - 3)] := by obtain ⟨tt, rfl, rfl⟩ := h; revert tt c; decide
theorem gy67_1 {i : grid0.Coords} {t : ℕ} (h : At i t) (c : Dev nD) : k0_off67 i c 1#32 = ![512 * t, 512 * hc true c (1 + 3 - 3)] := by obtain ⟨tt, rfl, rfl⟩ := h; revert tt c; decide
theorem gy66_2 {i : grid0.Coords} {t : ℕ} (h : At i t) (c : Dev nD) : k0_off66 i c 2#32 = ![512 * t, 512 * hc false c (2 + 3 - 3)] := by obtain ⟨tt, rfl, rfl⟩ := h; revert tt c; decide
theorem gy67_2 {i : grid0.Coords} {t : ℕ} (h : At i t) (c : Dev nD) : k0_off67 i c 2#32 = ![512 * t, 512 * hc true c (2 + 3 - 3)] := by obtain ⟨tt, rfl, rfl⟩ := h; revert tt c; decide
theorem o18_0 (c : Dev nD) : k0_off18 c 0#32 = ![128 * 0, 512 * hc false c 0] := by revert c; decide
theorem o19_0 (c : Dev nD) : k0_off19 c 0#32 = ![128 * 0, 512 * hc true c 0] := by revert c; decide
theorem o20_0 (c : Dev nD) : k0_off20 c 0#32 = ![128 * 0, 512 * hc false c (0 + 1)] := by revert c; decide
theorem o21_0 (c : Dev nD) : k0_off21 c 0#32 = ![128 * 0, 512 * hc true c (0 + 1)] := by revert c; decide
theorem o18_1 (c : Dev nD) : k0_off18 c 1#32 = ![128 * 0, 512 * hc false c 1] := by revert c; decide
theorem o19_1 (c : Dev nD) : k0_off19 c 1#32 = ![128 * 0, 512 * hc true c 1] := by revert c; decide
theorem o20_1 (c : Dev nD) : k0_off20 c 1#32 = ![128 * 0, 512 * hc false c (1 + 1)] := by revert c; decide
theorem o21_1 (c : Dev nD) : k0_off21 c 1#32 = ![128 * 0, 512 * hc true c (1 + 1)] := by revert c; decide
theorem o18_2 (c : Dev nD) : k0_off18 c 2#32 = ![128 * 0, 512 * hc false c 2] := by revert c; decide
theorem o19_2 (c : Dev nD) : k0_off19 c 2#32 = ![128 * 0, 512 * hc true c 2] := by revert c; decide
theorem o20_2 (c : Dev nD) : k0_off20 c 2#32 = ![128 * 0, 512 * hc false c (2 + 1)] := by revert c; decide
theorem o21_2 (c : Dev nD) : k0_off21 c 2#32 = ![128 * 0, 512 * hc true c (2 + 1)] := by revert c; decide
theorem o43 (c : Dev nD) : k0_off43 c = ![128 * 0, 512 * hc false c 3] := by revert c; decide
theorem o44 (c : Dev nD) : k0_off44 c = ![128 * 0, 512 * hc true c 3] := by revert c; decide
theorem o45 (c : Dev nD) : k0_off45 c = ![128 * 0, 512 * hc false c 3] := by revert c; decide
theorem o46 (c : Dev nD) : k0_off46 c = ![128 * 0, 512 * hc true c 3] := by revert c; decide
theorem o7 (c : Dev nD) : k0_off7 c = ![128 * 0, 512 * hc false c 0] := by revert c; decide
theorem o8 (c : Dev nD) : k0_off8 c = ![128 * 0, 512 * hc true c 0] := by revert c; decide
theorem o73 (c : Dev nD) : k0_off73 c = ![128 * 0, 512 * hc false c 0] := by revert c; decide
theorem o74 (c : Dev nD) : k0_off74 c = ![128 * 0, 512 * hc true c 0] := by revert c; decide
theorem o22_0 (c : Dev nD) : k0_off22 c 0#32 = ![128 * 1, 512 * hc false c 0] := by revert c; decide
theorem o23_0 (c : Dev nD) : k0_off23 c 0#32 = ![128 * 1, 512 * hc true c 0] := by revert c; decide
theorem o24_0 (c : Dev nD) : k0_off24 c 0#32 = ![128 * 1, 512 * hc false c (0 + 1)] := by revert c; decide
theorem o25_0 (c : Dev nD) : k0_off25 c 0#32 = ![128 * 1, 512 * hc true c (0 + 1)] := by revert c; decide
theorem o22_1 (c : Dev nD) : k0_off22 c 1#32 = ![128 * 1, 512 * hc false c 1] := by revert c; decide
theorem o23_1 (c : Dev nD) : k0_off23 c 1#32 = ![128 * 1, 512 * hc true c 1] := by revert c; decide
theorem o24_1 (c : Dev nD) : k0_off24 c 1#32 = ![128 * 1, 512 * hc false c (1 + 1)] := by revert c; decide
theorem o25_1 (c : Dev nD) : k0_off25 c 1#32 = ![128 * 1, 512 * hc true c (1 + 1)] := by revert c; decide
theorem o22_2 (c : Dev nD) : k0_off22 c 2#32 = ![128 * 1, 512 * hc false c 2] := by revert c; decide
theorem o23_2 (c : Dev nD) : k0_off23 c 2#32 = ![128 * 1, 512 * hc true c 2] := by revert c; decide
theorem o24_2 (c : Dev nD) : k0_off24 c 2#32 = ![128 * 1, 512 * hc false c (2 + 1)] := by revert c; decide
theorem o25_2 (c : Dev nD) : k0_off25 c 2#32 = ![128 * 1, 512 * hc true c (2 + 1)] := by revert c; decide
theorem o47 (c : Dev nD) : k0_off47 c = ![128 * 1, 512 * hc false c 3] := by revert c; decide
theorem o48 (c : Dev nD) : k0_off48 c = ![128 * 1, 512 * hc true c 3] := by revert c; decide
theorem o49 (c : Dev nD) : k0_off49 c = ![128 * 1, 512 * hc false c 3] := by revert c; decide
theorem o50 (c : Dev nD) : k0_off50 c = ![128 * 1, 512 * hc true c 3] := by revert c; decide
theorem o9 (c : Dev nD) : k0_off9 c = ![128 * 1, 512 * hc false c 0] := by revert c; decide
theorem o10 (c : Dev nD) : k0_off10 c = ![128 * 1, 512 * hc true c 0] := by revert c; decide
theorem o75 (c : Dev nD) : k0_off75 c = ![128 * 1, 512 * hc false c 0] := by revert c; decide
theorem o76 (c : Dev nD) : k0_off76 c = ![128 * 1, 512 * hc true c 0] := by revert c; decide
theorem o26_0 (c : Dev nD) : k0_off26 c 0#32 = ![128 * 2, 512 * hc false c 0] := by revert c; decide
theorem o27_0 (c : Dev nD) : k0_off27 c 0#32 = ![128 * 2, 512 * hc true c 0] := by revert c; decide
theorem o28_0 (c : Dev nD) : k0_off28 c 0#32 = ![128 * 2, 512 * hc false c (0 + 1)] := by revert c; decide
theorem o29_0 (c : Dev nD) : k0_off29 c 0#32 = ![128 * 2, 512 * hc true c (0 + 1)] := by revert c; decide
theorem o26_1 (c : Dev nD) : k0_off26 c 1#32 = ![128 * 2, 512 * hc false c 1] := by revert c; decide
theorem o27_1 (c : Dev nD) : k0_off27 c 1#32 = ![128 * 2, 512 * hc true c 1] := by revert c; decide
theorem o28_1 (c : Dev nD) : k0_off28 c 1#32 = ![128 * 2, 512 * hc false c (1 + 1)] := by revert c; decide
theorem o29_1 (c : Dev nD) : k0_off29 c 1#32 = ![128 * 2, 512 * hc true c (1 + 1)] := by revert c; decide
theorem o26_2 (c : Dev nD) : k0_off26 c 2#32 = ![128 * 2, 512 * hc false c 2] := by revert c; decide
theorem o27_2 (c : Dev nD) : k0_off27 c 2#32 = ![128 * 2, 512 * hc true c 2] := by revert c; decide
theorem o28_2 (c : Dev nD) : k0_off28 c 2#32 = ![128 * 2, 512 * hc false c (2 + 1)] := by revert c; decide
theorem o29_2 (c : Dev nD) : k0_off29 c 2#32 = ![128 * 2, 512 * hc true c (2 + 1)] := by revert c; decide
theorem o51 (c : Dev nD) : k0_off51 c = ![128 * 2, 512 * hc false c 3] := by revert c; decide
theorem o52 (c : Dev nD) : k0_off52 c = ![128 * 2, 512 * hc true c 3] := by revert c; decide
theorem o53 (c : Dev nD) : k0_off53 c = ![128 * 2, 512 * hc false c 3] := by revert c; decide
theorem o54 (c : Dev nD) : k0_off54 c = ![128 * 2, 512 * hc true c 3] := by revert c; decide
theorem o11 (c : Dev nD) : k0_off11 c = ![128 * 2, 512 * hc false c 0] := by revert c; decide
theorem o12 (c : Dev nD) : k0_off12 c = ![128 * 2, 512 * hc true c 0] := by revert c; decide
theorem o77 (c : Dev nD) : k0_off77 c = ![128 * 2, 512 * hc false c 0] := by revert c; decide
theorem o78 (c : Dev nD) : k0_off78 c = ![128 * 2, 512 * hc true c 0] := by revert c; decide
theorem o30_0 (c : Dev nD) : k0_off30 c 0#32 = ![128 * 3, 512 * hc false c 0] := by revert c; decide
theorem o31_0 (c : Dev nD) : k0_off31 c 0#32 = ![128 * 3, 512 * hc true c 0] := by revert c; decide
theorem o32_0 (c : Dev nD) : k0_off32 c 0#32 = ![128 * 3, 512 * hc false c (0 + 1)] := by revert c; decide
theorem o33_0 (c : Dev nD) : k0_off33 c 0#32 = ![128 * 3, 512 * hc true c (0 + 1)] := by revert c; decide
theorem o30_1 (c : Dev nD) : k0_off30 c 1#32 = ![128 * 3, 512 * hc false c 1] := by revert c; decide
theorem o31_1 (c : Dev nD) : k0_off31 c 1#32 = ![128 * 3, 512 * hc true c 1] := by revert c; decide
theorem o32_1 (c : Dev nD) : k0_off32 c 1#32 = ![128 * 3, 512 * hc false c (1 + 1)] := by revert c; decide
theorem o33_1 (c : Dev nD) : k0_off33 c 1#32 = ![128 * 3, 512 * hc true c (1 + 1)] := by revert c; decide
theorem o30_2 (c : Dev nD) : k0_off30 c 2#32 = ![128 * 3, 512 * hc false c 2] := by revert c; decide
theorem o31_2 (c : Dev nD) : k0_off31 c 2#32 = ![128 * 3, 512 * hc true c 2] := by revert c; decide
theorem o32_2 (c : Dev nD) : k0_off32 c 2#32 = ![128 * 3, 512 * hc false c (2 + 1)] := by revert c; decide
theorem o33_2 (c : Dev nD) : k0_off33 c 2#32 = ![128 * 3, 512 * hc true c (2 + 1)] := by revert c; decide
theorem o55 (c : Dev nD) : k0_off55 c = ![128 * 3, 512 * hc false c 3] := by revert c; decide
theorem o56 (c : Dev nD) : k0_off56 c = ![128 * 3, 512 * hc true c 3] := by revert c; decide
theorem o57 (c : Dev nD) : k0_off57 c = ![128 * 3, 512 * hc false c 3] := by revert c; decide
theorem o58 (c : Dev nD) : k0_off58 c = ![128 * 3, 512 * hc true c 3] := by revert c; decide
theorem o13 (c : Dev nD) : k0_off13 c = ![128 * 3, 512 * hc false c 0] := by revert c; decide
theorem o14 (c : Dev nD) : k0_off14 c = ![128 * 3, 512 * hc true c 0] := by revert c; decide
theorem o79 (c : Dev nD) : k0_off79 c = ![128 * 3, 512 * hc false c 0] := by revert c; decide
theorem o80 (c : Dev nD) : k0_off80 c = ![128 * 3, 512 * hc true c 0] := by revert c; decide
theorem oh38f (c : Dev nD) : k0_off38 c 0#32 = ![0, 512 * hc false c 0] := by revert c; decide
theorem oh38t (c : Dev nD) : k0_off38 c 512#32 = ![0, 512 * hc true c 0] := by revert c; decide
theorem oh39f (c : Dev nD) : k0_off39 c 0#32 = ![0, 512 * hc false c 0] := by revert c; decide
theorem oh39t (c : Dev nD) : k0_off39 c 512#32 = ![0, 512 * hc true c 0] := by revert c; decide
theorem oh41f (c : Dev nD) : k0_off41 c 4294967295#32 0#32 = ![0, 512 * hc false c 1] := by revert c; decide
theorem oh41t (c : Dev nD) : k0_off41 c 1#32 512#32 = ![0, 512 * hc true c 1] := by revert c; decide
theorem oh42f (c : Dev nD) : k0_off42 c 4294967295#32 0#32 = ![0, 512 * hc false c 1] := by revert c; decide
theorem oh42t (c : Dev nD) : k0_off42 c 1#32 512#32 = ![0, 512 * hc true c 1] := by revert c; decide
theorem oh60f (c : Dev nD) : k0_off60 c 4294967294#32 0#32 = ![0, 512 * hc false c 2] := by revert c; decide
theorem oh60t (c : Dev nD) : k0_off60 c 2#32 512#32 = ![0, 512 * hc true c 2] := by revert c; decide
theorem oh61f (c : Dev nD) : k0_off61 c 4294967294#32 0#32 = ![0, 512 * hc false c 2] := by revert c; decide
theorem oh61t (c : Dev nD) : k0_off61 c 2#32 512#32 = ![0, 512 * hc true c 2] := by revert c; decide
theorem oh69f (c : Dev nD) : k0_off69 c = ![0, 512 * hc false c 3] := by revert c; decide
theorem oh70f (c : Dev nD) : k0_off70 c = ![0, 512 * hc false c 3] := by revert c; decide
theorem oh71t (c : Dev nD) : k0_off71 c = ![0, 512 * hc true c 3] := by revert c; decide
theorem oh72t (c : Dev nD) : k0_off72 c = ![0, 512 * hc true c 3] := by revert c; decide
theorem oh63f (c : Dev nD) : k0_off63 c = ![0, 512 * hc false c 3] := by revert c; decide
theorem oh65t (c : Dev nD) : k0_off65 c = ![0, 512 * hc true c 3] := by revert c; decide

end Cert.KernelIdeal.Ring
end
-- ==== Proof.Bar.lean ====
/- The handshake with the neighbours before the first tile. -/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The handshake before the first tile -/

theorem dv1 (c : Dev nD) (h) : (⟨k0_dev1 c, h⟩ : Dev nD) = nb true c := by revert c; decide
theorem dv2 (c : Dev nD) (h) : (⟨k0_dev2 c, h⟩ : Dev nD) = nb false c := by revert c; decide

/-- What a device owes before it has greeted its neighbours. -/
def O00 (c : Dev nD) : CellTallies nD τ sig ℕ := O c 0 + tallyAt (barC (nb false c)) 0 1 + tallyAt (barC (nb true c)) 0 1
/-- What it greets its neighbours and waits for their greetings with. -/
def Hi (c : Dev nD) : sProp 𝕄 :=
  iprop(atPos ER (barC c) 0 ∅ 0 ∗ (reached ER (barC (nb true c)) 0 ∗ dutyTok ER (barC (nb true c)) 0 false)
    ∗ (reached ER (barC (nb false c)) 0 ∗ dutyTok ER (barC (nb false c)) 0 true) ∗ cred (tallyAt (barC c) 0 2))
def Ctl0 (c : Dev nD) : sProp 𝕄 := iprop(∃ κ, Rec m κ ∗ (∃ W, owes (c : Thread nD τ) (O00 c) W) ∗ Tk c 0 ∗ Rx c 0 ∗ Sx c 0 0)

theorem rx_perm (d : Bool) (c : Dev nD) (s u : ℕ) (hs : s < 3) (hu : u < 4) :
    iprop(Rx (F := F) c 0 ∗ own (F := F) (!d) c s u) ⊢ iprop(Rx (F := F) c 0 ∗ Perm (F := F) (!d) (nb d c) s u 0) := by
  have ht : (0 + 47 - pos (!d) s u) / 48 = 0 := by omega
  iintro ⟨HC, Ho⟩
  ihave HC := (rx_reached c 0 (pos (!d) s u) (pos_lt (by omega) hu)) $$ HC
  icases HC with ⟨Hr, HC⟩
  isplitl [HC]; · iexact HC
  unfold Perm own
  rw [nb_not_nb, ht]
  isplitl [Ho]; · iexact Ho
  iexact Hr
theorem rx_perm3 (d : Bool) (c : Dev nD) (u : ℕ) (hu : u < 4) :
    iprop(Rx (F := F) c 0 ∗ own (F := F) (!d) c 0 u ∗ own (F := F) (!d) c 1 u ∗ own (F := F) (!d) c 2 u)
      ⊢ iprop(Rx (F := F) c 0 ∗ Perm (F := F) (!d) (nb d c) 0 u 0 ∗ Perm (F := F) (!d) (nb d c) 1 u 0 ∗ Perm (F := F) (!d) (nb d c) 2 u 0) := by
  iintro ⟨HC, H0, H1, H2⟩
  ihave H := (rx_perm d c 0 u (by decide) hu) $$ [HC H0]
  · isplitl [HC] <;> iassumption
  icases H with ⟨HC, H0⟩
  ihave H := (rx_perm d c 1 u (by decide) hu) $$ [HC H1]
  · isplitl [HC] <;> iassumption
  icases H with ⟨HC, H1⟩
  ihave H := (rx_perm d c 2 u (by decide) hu) $$ [HC H2]
  · isplitl [HC] <;> iassumption
  icases H with ⟨HC, H2⟩
  isplitl [HC]; · iexact HC
  isplitl [H0]; · iexact H0
  isplitl [H1] <;> iassumption
theorem rx_bar (d : Bool) (c : Dev nD) :
    iprop(Rx (F := F) c 0 ∗ (U4 fun u => own (F := F) (!d) c 0 u) ∗ (U4 fun u => own (F := F) (!d) c 1 u) ∗ U4 fun u => own (F := F) (!d) c 2 u)
      ⊢ iprop(Rx (F := F) c 0 ∗ barPay (F := F) (!d) (nb d c)) := by
  unfold barPay
  rw [range4]
  iintro ⟨HC, ⟨A0, A1, A2, A3⟩, ⟨B0, B1, B2, B3⟩, D0, D1, D2, D3⟩
  ihave H := (rx_perm3 d c 0 (by decide)) $$ [HC A0 B0 D0]
  · isplitl [HC]; · iexact HC
    isplitl [A0]; · iexact A0
    isplitl [B0] <;> iassumption
  icases H with ⟨HC, H0⟩
  ihave H := (rx_perm3 d c 1 (by decide)) $$ [HC A1 B1 D1]
  · isplitl [HC]; · iexact HC
    isplitl [A1]; · iexact A1
    isplitl [B1] <;> iassumption
  icases H with ⟨HC, H1⟩
  ihave H := (rx_perm3 d c 2 (by decide)) $$ [HC A2 B2 D2]
  · isplitl [HC]; · iexact HC
    isplitl [A2]; · iexact A2
    isplitl [B2] <;> iassumption
  icases H with ⟨HC, H2⟩
  ihave H := (rx_perm3 d c 3 (by decide)) $$ [HC A3 B3 D3]
  · isplitl [HC]; · iexact HC
    isplitl [A3]; · iexact A3
    isplitl [B3] <;> iassumption
  icases H with ⟨HC, H3⟩
  isplitl [HC]; · iexact HC
  isplitl [H0]; · iexact H0
  isplitl [H1]; · iexact H1
  isplitl [H2] <;> iassumption
theorem bar_perm (d : Bool) (c : Dev nD) : barPay (F := F) d c
    ⊢ iprop((U4 fun u => Perm (F := F) d c 0 u 0) ∗ (U4 fun u => Perm (F := F) d c 1 u 0) ∗ U4 fun u => Perm (F := F) d c 2 u 0) := by
  unfold barPay
  rw [range4]
  exact u4_unsep.trans (BIClass.sep_mono .rfl u4_unsep)

theorem duties_greet (c : Dev nD) : ∀ r, 0 + 1 ≤ r → (Rd (F := F) m).duties (barC c) r = ∅ := fun r hr => by
  dsimp only [Rd]; rw [if_pos rfl, if_neg fun h => by omega]
/-- Greet both neighbours, giving them leave to send, and wait for theirs. -/
theorem bar_step {α : Type} {Q : α → sProp 𝕄} (c : Dev nD) {n1 n2 : Dev nD} (h1 : n1 = nb true c) (h2 : n2 = nb false c) {kk : PUnit → Prog (TpuEff nD τ sig (Elt F) Λ₀ .tc) α}
    {k1 k2 k3 : ℕ} (e1 : k1 = 1) (e2 : k2 = 1) (e3 : k3 = 2) :
    iprop(Ctl0 m c ∗ Hi (F := F) c ∗ (UD fun d u => own (F := F) d c 0 u) ∗ (UD fun d u => own (F := F) d c 1 u) ∗ UD fun d u => own (F := F) d c 2 u)
      ⊢ iprop(((Ctl m c (48 * 0 + 0) (48 * 0 + 0) (48 * 0 + 0) ∗ ((UD fun d u => Perm (F := F) d c 0 u 0) ∗ (UD fun d u => Perm (F := F) d c 1 u 0) ∗ UD fun d u => Perm (F := F) d c 2 u 0) ∗ semVal (barC c) 0) -∗ WP c (kk ⟨⟩) Q)
        -∗ WP c (.op (.semSignal (n1 : Thread nD τ) barS k1) fun _ => .op (.semSignal (n2 : Thread nD τ) barS k2) fun _ => .op (.semWait barS k3) kk) Q) := by
  subst h1 h2 e1 e2 e3
  have s0 := ud_swap (fun d u => own (F := F) d c 0 u)
  have s1 := ud_swap (fun d u => own (F := F) d c 1 u)
  have s2 := ud_swap (fun d u => own (F := F) d c 2 u)
  have p0 := ud_unswap (fun d u => Perm (F := F) d c 0 u 0)
  have p1 := ud_unswap (fun d u => Perm (F := F) d c 1 u 0)
  have p2 := ud_unswap (fun d u => Perm (F := F) d c 2 u 0)
  have eT : (Rd (F := F) m).payload (barC (nb true c)) 0 false = barPay (F := F) false (nb true c) := rfl
  have eF : (Rd (F := F) m).payload (barC (nb false c)) 0 true = barPay (F := F) true (nb false c) := rfl
  unfold Ctl0 Hi
  iintro ⟨⟨%κ, #HR, ⟨%W, Ho⟩, Ht, Hr, Hs⟩, ⟨Ha, ⟨#R1, T1⟩, ⟨#R2, T2⟩, Hc⟩, A, B, D⟩ Hk
  ihave A := s0 $$ A
  ihave B := s1 $$ B
  ihave D := s2 $$ D
  icases A with ⟨Af, At⟩
  icases B with ⟨Bf, Bt⟩
  icases D with ⟨Df, Dt⟩
  ihave H := (rx_bar true c) $$ [Hr Af Bf Df]
  · isplitl [Hr]; · iexact Hr
    isplitl [Af]; · iexact Af
    isplitl [Bf]; · iexact Bf
    iexact Df
  icases H with ⟨Hr, Pf⟩
  ihave H := (rx_bar false c) $$ [Hr At Bt Dt]
  · isplitl [Hr]; · iexact Hr
    isplitl [At]; · iexact At
    isplitl [Bt]; · iexact Bt
    iexact Dt
  icases H with ⟨Hr, Pt⟩
  iapply (Rounds.wp_signal 𝒱₀ ER (Rd m) (c : Thread nD τ) none (dst := (nb true c : Thread nD τ)) (κ := κ (nb true c, 96))
      (d := false) (by rw [duties_bar]; exact Finset.mem_univ _) rfl 0 (O c 0 + tallyAt (barC (nb false c)) 0 1) rfl) $$ [Ho T1 Pf]
  · isplitr; · iapply (rec_bar m κ (nb true c)); iexact HR
    isplitl [Ho]; · iexact Ho
    isplitl [T1]; · iexact T1
    isplitl [Pf]; · rw [eT]; iexact Pf
    iexact R1
  iintro Ho
  iapply (Rounds.wp_signal 𝒱₀ ER (Rd m) (c : Thread nD τ) none (dst := (nb false c : Thread nD τ)) (κ := κ (nb false c, 96))
      (d := true) (by rw [duties_bar]; exact Finset.mem_univ _) rfl 0 (O c 0) rfl) $$ [Ho T2 Pt]
  · isplitr; · iapply (rec_bar m κ (nb false c)); iexact HR
    isplitl [Ho]; · iexact Ho
    isplitl [T2]; · iexact T2
    isplitl [Pt]; · rw [eF]; iexact Pt
    iexact R2
  iintro Ho
  iapply (Rounds.wp_wait_rest_token 𝒱₀ ER (Rd m) (c : Thread nD τ) none (κ := κ (c, 96))
      (wpE_semWait_eq 𝒱₀ (c : Thread nD τ) none Set.univ) (Set.mem_univ _) 0 (O := O c 0) (W := W) (R := 0) (m := 0) (T := ∅)
      (by rw [expect_bar])) $$ [Hc Ho Ha]
  · isplitr; · iapply (rec_bar m κ c); iexact HR
    isplitl [Hc]; · iexact Hc
    isplitl [Ho]; · iexact Ho
    isplitr
    · iapply (mayWait c _ 0 0 (by decide) (le_of_eq rfl)); iapply (rec_lev m κ); iexact HR
    iexact Ha
  iintro ⟨Ho, Ha, -, Hp⟩
  imod (Rounds.cell_close ER (Rd m) (Set.mem_univ (κ (c, 96))) (fun h => h) (R := 0 + 1) (duties_greet m c)) $$ [Ha] with Hz
  · isplitr; · iapply (rec_bar m κ c); iexact HR
    iexact Ha
  ihave Hp := (Entails.of_eq (rest_bar m c)) $$ Hp
  icases Hp with ⟨Pf, Pt⟩
  ihave Pf := (bar_perm false c) $$ Pf
  icases Pf with ⟨A, B, D⟩
  ihave Pt := (bar_perm true c) $$ Pt
  icases Pt with ⟨A', B', D'⟩
  iapply Hk
  isplitl [Ho Ht Hr Hs]
  · unfold Ctl
    iexists κ
    isplitr; · iexact HR
    isplitl [Ho]; · iexists _; iexact Ho
    isplitl [Ht]; · iexact Ht
    isplitl [Hr] <;> iassumption
  isplitl [A A' B B' D D']
  rotate_left
  · iexact Hz
  isplitl [A A']
  · iapply p0
    isplitl [A]; · iexact A
    iexact A'
  isplitl [B B']
  · iapply p1
    isplitl [B]; · iexact B
    iexact B'
  iapply p2
  isplitl [D]; · iexact D
  iexact D'

end Cert.KernelIdeal.Ring
end
-- ==== Proof.StageC.lean ====
/- The first reduction step of a tile. -/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem dv3 (c : Dev nD) (h) : (⟨k0_dev3 c, h⟩ : Dev nD) = nb false c := by revert c; decide
theorem dv4 (c : Dev nD) (h) : (⟨k0_dev4 c, h⟩ : Dev nD) = nb true c := by revert c; decide
theorem dv5 (c : Dev nD) (h) : (⟨k0_dev5 c, h⟩ : Dev nD) = nb false c := by revert c; decide
theorem dv6 (c : Dev nD) (h) : (⟨k0_dev6 c, h⟩ : Dev nD) = nb true c := by revert c; decide
theorem dv7 (c : Dev nD) (h) : (⟨k0_dev7 c, h⟩ : Dev nD) = nb false c := by revert c; decide
theorem dv8 (c : Dev nD) (h) : (⟨k0_dev8 c, h⟩ : Dev nD) = nb true c := by revert c; decide
theorem dv9 (c : Dev nD) (h) : (⟨k0_dev9 c, h⟩ : Dev nD) = nb false c := by revert c; decide
theorem dv10 (c : Dev nD) (h) : (⟨k0_dev10 c, h⟩ : Dev nD) = nb true c := by revert c; decide
theorem dv11 (c : Dev nD) (h) : (⟨k0_dev11 c, h⟩ : Dev nD) = nb false c := by revert c; decide
theorem dv12 (c : Dev nD) (h) : (⟨k0_dev12 c, h⟩ : Dev nD) = nb true c := by revert c; decide
theorem dv13 (c : Dev nD) (h) : (⟨k0_dev13 c, h⟩ : Dev nD) = nb false c := by revert c; decide
theorem dv14 (c : Dev nD) (h) : (⟨k0_dev14 c, h⟩ : Dev nD) = nb true c := by revert c; decide
theorem dv15 (c : Dev nD) (h) : (⟨k0_dev15 c, h⟩ : Dev nD) = nb false c := by revert c; decide
theorem dv16 (c : Dev nD) (h) : (⟨k0_dev16 c, h⟩ : Dev nD) = nb true c := by revert c; decide
theorem dv17 (c : Dev nD) (h) : (⟨k0_dev17 c, h⟩ : Dev nD) = nb false c := by revert c; decide
theorem dv18 (c : Dev nD) (h) : (⟨k0_dev18 c, h⟩ : Dev nD) = nb true c := by revert c; decide
theorem dv19 (c : Dev nD) (h) : (⟨k0_dev19 c, h⟩ : Dev nD) = nb false c := by revert c; decide
theorem dv20 (c : Dev nD) (h) : (⟨k0_dev20 c, h⟩ : Dev nD) = nb true c := by revert c; decide
theorem dv21 (c : Dev nD) (h) : (⟨k0_dev21 c, h⟩ : Dev nD) = nb false c := by revert c; decide
theorem dv22 (c : Dev nD) (h) : (⟨k0_dev22 c, h⟩ : Dev nD) = nb true c := by revert c; decide
theorem dv23 (c : Dev nD) (h) : (⟨k0_dev23 c, h⟩ : Dev nD) = nb false c := by revert c; decide
theorem dv24 (c : Dev nD) (h) : (⟨k0_dev24 c, h⟩ : Dev nD) = nb true c := by revert c; decide
theorem dv25 (c : Dev nD) (h) : (⟨k0_dev25 c, h⟩ : Dev nD) = nb false c := by revert c; decide
theorem dv26 (c : Dev nD) (h) : (⟨k0_dev26 c, h⟩ : Dev nD) = nb true c := by revert c; decide
theorem dv27 (c : Dev nD) (h) : (⟨k0_dev27 c, h⟩ : Dev nD) = nb false c := by revert c; decide
theorem dv28 (c : Dev nD) (h) : (⟨k0_dev28 c, h⟩ : Dev nD) = nb true c := by revert c; decide
theorem dv29 (c : Dev nD) (h) : (⟨k0_dev29 c, h⟩ : Dev nD) = nb false c := by revert c; decide
theorem dv30 (c : Dev nD) (h) : (⟨k0_dev30 c, h⟩ : Dev nD) = nb true c := by revert c; decide
theorem dv31 (c : Dev nD) (h) : (⟨k0_dev31 c, h⟩ : Dev nD) = nb false c := by revert c; decide
theorem dv32 (c : Dev nD) (h) : (⟨k0_dev32 c, h⟩ : Dev nD) = nb true c := by revert c; decide
theorem dv33 (c : Dev nD) (h) : (⟨k0_dev33 c, h⟩ : Dev nD) = nb false c := by revert c; decide
theorem dv34 (c : Dev nD) (h) : (⟨k0_dev34 c, h⟩ : Dev nD) = nb true c := by revert c; decide
theorem dv35 (c : Dev nD) (h) : (⟨k0_dev35 c, h⟩ : Dev nD) = nb false c := by revert c; decide
theorem dv36 (c : Dev nD) (h) : (⟨k0_dev36 c, h⟩ : Dev nD) = nb true c := by revert c; decide
theorem dv37 (c : Dev nD) (h) : (⟨k0_dev37 c, h⟩ : Dev nD) = nb false c := by revert c; decide
theorem dv38 (c : Dev nD) (h) : (⟨k0_dev38 c, h⟩ : Dev nD) = nb true c := by revert c; decide
theorem dv39 (c : Dev nD) (h) : (⟨k0_dev39 c, h⟩ : Dev nD) = nb false c := by revert c; decide
theorem dv40 (c : Dev nD) (h) : (⟨k0_dev40 c, h⟩ : Dev nD) = nb true c := by revert c; decide
theorem dv41 (c : Dev nD) (h) : (⟨k0_dev41 c, h⟩ : Dev nD) = nb false c := by revert c; decide
theorem dv42 (c : Dev nD) (h) : (⟨k0_dev42 c, h⟩ : Dev nD) = nb true c := by revert c; decide
theorem dv43 (c : Dev nD) (h) : (⟨k0_dev43 c, h⟩ : Dev nD) = nb false c := by revert c; decide
theorem dv44 (c : Dev nD) (h) : (⟨k0_dev44 c, h⟩ : Dev nD) = nb true c := by revert c; decide
theorem dv45 (c : Dev nD) (h) : (⟨k0_dev45 c, h⟩ : Dev nD) = nb false c := by revert c; decide
theorem dv46 (c : Dev nD) (h) : (⟨k0_dev46 c, h⟩ : Dev nD) = nb true c := by revert c; decide
theorem dv47 (c : Dev nD) (h) : (⟨k0_dev47 c, h⟩ : Dev nD) = nb false c := by revert c; decide
theorem dv48 (c : Dev nD) (h) : (⟨k0_dev48 c, h⟩ : Dev nD) = nb true c := by revert c; decide
theorem dv49 (c : Dev nD) (h) : (⟨k0_dev49 c, h⟩ : Dev nD) = nb false c := by revert c; decide
theorem dv50 (c : Dev nD) (h) : (⟨k0_dev50 c, h⟩ : Dev nD) = nb true c := by revert c; decide
theorem dv51 (c : Dev nD) (h) : (⟨k0_dev51 c, h⟩ : Dev nD) = nb false c := by revert c; decide
theorem dv52 (c : Dev nD) (h) : (⟨k0_dev52 c, h⟩ : Dev nD) = nb true c := by revert c; decide
theorem dv53 (c : Dev nD) (h) : (⟨k0_dev53 c, h⟩ : Dev nD) = nb false c := by revert c; decide
theorem dv54 (c : Dev nD) (h) : (⟨k0_dev54 c, h⟩ : Dev nD) = nb true c := by revert c; decide
theorem dv55 (c : Dev nD) (h) : (⟨k0_dev55 c, h⟩ : Dev nD) = nb false c := by revert c; decide
theorem dv56 (c : Dev nD) (h) : (⟨k0_dev56 c, h⟩ : Dev nD) = nb true c := by revert c; decide
theorem dv57 (c : Dev nD) (h) : (⟨k0_dev57 c, h⟩ : Dev nD) = nb false c := by revert c; decide
theorem dv58 (c : Dev nD) (h) : (⟨k0_dev58 c, h⟩ : Dev nD) = nb true c := by revert c; decide

/-- The first reduction step. -/
theorem stC {α : Type} {Q : α → sProp 𝕄} (c : Dev nD) {i : grid0.Coords} {t : ℕ} (hi : At i t) (v2 : BitVec 32) (v13 : BitVec 32) (v24 : BitVec 32) (kk : Prog (TpuEff nD τ sig (Elt F) Λ₀ .tc) α) :
    iprop(Ctl m c (48 * t + 8) (48 * t + 0) (48 * t + 0) ∗ (UD fun d u => Wp d c 1 u fullShare (P m c t)) ∗ (UD fun d u => Perm (F := F) d c 1 u t) ∗ (UD fun d u => own (F := F) d c 3 u) ∗ (UD fun d u => own (F := F) d c 4 u) ∗ UD fun d u => own (F := F) d c 5 u)
      ⊢ iprop(((Ctl m c (48 * t + 16) (48 * t + 8) (48 * t + 0) ∗ UD fun d u => own (F := F) d c 0 u) -∗ WP c (kk) Q)
        -∗ WP c (do
          let ⟨v398, v400, v402⟩ : Σ' (v398 : BitVec 32) (v400 : BitVec 32), BitVec 32 ← k0_part26 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part27 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v398 v400 v402
          k0_part28 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let v490 : BitVec 32 ← k0_part29 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part30 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v490
          let ⟨v558, v560, v562⟩ : Σ' (v558 : BitVec 32) (v560 : BitVec 32), BitVec 32 ← k0_part31 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part32 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v558 v560 v562
          k0_part33 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let v650 : BitVec 32 ← k0_part34 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part35 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v650
          kk) Q) := by
  have ht := hi.lt
  iintro ⟨HC, ⟨W0, W1, W2, W3⟩, ⟨P0, P1, P2, P3⟩, ⟨A0, A1, A2, A3⟩, ⟨B0, B1, B2, B3⟩, ⟨D0, D1, D2, D3⟩⟩ Hk
  rw [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold k0_part26_skel k0_part27_skel k0_part28_skel k0_part29_skel k0_part30_skel k0_part31_skel k0_part32_skel k0_part33_skel k0_part34_skel k0_part35_skel
  simp only [Prog.lift, Prog.bind_op, Prog.bind_ret, Prog.pure_eq_ret, Prog.bind_assoc]
  ihave H := (give2_one m c 0 t (ks := 48 * t + 8) (kr := 48 * t + 0) (kw := 48 * t + 0) 0 (by decide) rfl (by decide)) $$ [HC A0 B0 D0]
  · isplitl [HC]
    · iexact HC
    isplitl [A0]
    · iexact A0
    isplitl [B0]
    · iexact B0
    iexact D0
  icases H with ⟨HC, G0⟩
  ihave H := (give2_one m c 1 t (ks := 48 * t + 8) (kr := 48 * t + 0) (kw := 48 * t + 0) 0 (by decide) rfl (by decide)) $$ [HC A1 B1 D1]
  · isplitl [HC]
    · iexact HC
    isplitl [A1]
    · iexact A1
    isplitl [B1]
    · iexact B1
    iexact D1
  icases H with ⟨HC, G1⟩
  ihave H := (give2_one m c 2 t (ks := 48 * t + 8) (kr := 48 * t + 0) (kw := 48 * t + 0) 0 (by decide) rfl (by decide)) $$ [HC A2 B2 D2]
  · isplitl [HC]
    · iexact HC
    isplitl [A2]
    · iexact A2
    isplitl [B2]
    · iexact B2
    iexact D2
  icases H with ⟨HC, G2⟩
  ihave H := (give2_one m c 3 t (ks := 48 * t + 8) (kr := 48 * t + 0) (kw := 48 * t + 0) 0 (by decide) rfl (by decide)) $$ [HC A3 B3 D3]
  · isplitl [HC]
    · iexact HC
    isplitl [A3]
    · iexact A3
    isplitl [B3]
    · iexact B3
    iexact D3
  icases H with ⟨HC, G3⟩
  iapply (recv2 m c 0 0 t (a := 8) (b := 0) (e := 0) ht (by decide) (by decide) rfl (by decide) sRR0 sRL0) $$ HC
  iintro ⟨HC, HR, HS⟩
  iapply (add2 m c 0 0 t (by decide) (o20_0 c) (o21_0 c) rfl rfl) $$ [W0 HR HS]
  · isplitl [W0]
    · iexact W0
    isplitl [HR]
    · iexact HR
    iexact HS
  iintro ⟨HW, O0, -⟩
  ihave HW := (src2 m c 0 t (s := 1) (by decide)) $$ HW
  iapply (send2w m c 1 0 t (a := 8) (b := 2) (e := 0) ht (by decide) (by decide) rfl (by decide) (by decide) (o18_1 c) (o19_1 c) rfl rfl (dv11 c _) (dv12 c _) sSR4 sRR4 sSL4 sRL4) $$ [HC HW P0 G0]
  · isplitl [HC]
    · iexact HC
    isplitl [HW]
    · iexact HW
    isplitl [P0]
    · iexact P0
    iexact G0
  iintro HC
  iapply (recv2 m c 0 1 t (a := 10) (b := 2) (e := 0) ht (by decide) (by decide) rfl (by decide) sRR1 sRL1) $$ HC
  iintro ⟨HC, HR, HS⟩
  iapply (add2 m c 0 1 t (by decide) (o24_0 c) (o25_0 c) rfl rfl) $$ [W1 HR HS]
  · isplitl [W1]
    · iexact W1
    isplitl [HR]
    · iexact HR
    iexact HS
  iintro ⟨HW, O1, -⟩
  ihave HW := (src2 m c 1 t (s := 1) (by decide)) $$ HW
  iapply (send2w m c 1 1 t (a := 10) (b := 4) (e := 0) ht (by decide) (by decide) rfl (by decide) (by decide) (o22_1 c) (o23_1 c) rfl rfl (dv13 c _) (dv14 c _) sSR5 sRR5 sSL5 sRL5) $$ [HC HW P1 G1]
  · isplitl [HC]
    · iexact HC
    isplitl [HW]
    · iexact HW
    isplitl [P1]
    · iexact P1
    iexact G1
  iintro HC
  iapply (recv2 m c 0 2 t (a := 12) (b := 4) (e := 0) ht (by decide) (by decide) rfl (by decide) sRR2 sRL2) $$ HC
  iintro ⟨HC, HR, HS⟩
  iapply (add2 m c 0 2 t (by decide) (o28_0 c) (o29_0 c) rfl rfl) $$ [W2 HR HS]
  · isplitl [W2]
    · iexact W2
    isplitl [HR]
    · iexact HR
    iexact HS
  iintro ⟨HW, O2, -⟩
  ihave HW := (src2 m c 2 t (s := 1) (by decide)) $$ HW
  iapply (send2w m c 1 2 t (a := 12) (b := 6) (e := 0) ht (by decide) (by decide) rfl (by decide) (by decide) (o26_1 c) (o27_1 c) rfl rfl (dv15 c _) (dv16 c _) sSR6 sRR6 sSL6 sRL6) $$ [HC HW P2 G2]
  · isplitl [HC]
    · iexact HC
    isplitl [HW]
    · iexact HW
    isplitl [P2]
    · iexact P2
    iexact G2
  iintro HC
  iapply (recv2 m c 0 3 t (a := 14) (b := 6) (e := 0) ht (by decide) (by decide) rfl (by decide) sRR3 sRL3) $$ HC
  iintro ⟨HC, HR, HS⟩
  iapply (add2 m c 0 3 t (by decide) (o32_0 c) (o33_0 c) rfl rfl) $$ [W3 HR HS]
  · isplitl [W3]
    · iexact W3
    isplitl [HR]
    · iexact HR
    iexact HS
  iintro ⟨HW, O3, -⟩
  ihave HW := (src2 m c 3 t (s := 1) (by decide)) $$ HW
  iapply (send2w m c 1 3 t (a := 14) (b := 8) (e := 0) ht (by decide) (by decide) rfl (by decide) (by decide) (o30_1 c) (o31_1 c) rfl rfl (dv17 c _) (dv18 c _) sSR7 sRR7 sSL7 sRL7) $$ [HC HW P3 G3]
  · isplitl [HC]
    · iexact HC
    isplitl [HW]
    · iexact HW
    isplitl [P3]
    · iexact P3
    iexact G3
  iintro HC
  iapply Hk
  isplitl [HC]
  · iexact HC
  isplitl [O0]
  · iexact O0
  isplitl [O1]
  · iexact O1
  isplitl [O2]
  · iexact O2
  iexact O3

end Cert.KernelIdeal.Ring
end
-- ==== Proof.Gemm2.lean ====
/- The next tile: one chunk of its product. -/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- One chunk of the next tile's product: both half-columns of a step. -/
theorem gemm2 {α : Type} {Q : α → sProp 𝕄} (c : Dev nD) (t s : ℕ) (h1 : t + 1 < 16)
    {x1 x2 : Fin 3 → ℕ} {ix1 : ∀ a, x1 a + S1x512x2048.size a ≤ S2x512x2048.size a} {ix2 : ∀ a, x2 a + S1x512x2048.size a ≤ S2x512x2048.size a}
    (hx1 : x1 = ![(t + 1) % 2, 0, 0]) (hx2 : x2 = ![(t + 1) % 2, 0, 0])
    {w1 w2 : Fin 2 → ℕ} {iw1 : ∀ a, w1 a + S2048x512.size a ≤ S2048x4096.size a} {iw2 : ∀ a, w2 a + S2048x512.size a ≤ S2048x4096.size a}
    (hw1 : w1 = ![0, 512 * hc false c s]) (hw2 : w2 = ![0, 512 * hc true c s])
    {o1 o2 : Fin 2 → ℕ} {io1 : ∀ a, o1 a + S512x512.size a ≤ S512x4096.size a} {io2 : ∀ a, o2 a + S512x512.size a ≤ S512x4096.size a}
    (ho1 : o1 = ![0, 512 * hc false c s]) (ho2 : o2 = ![0, 512 * hc true c s])
    {l1 l2 l3 l4 l5 l6 e1 e2 e3 e4} {kk : PUnit → Prog (TpuEff nD τ sig (Elt F) Λ₀ .tc) α} (g : Bool → ℕ → ℕ → F .f32) :
    iprop(XD m c t ∗ WM m c ∗ UD fun d u => Wp d c s u fullShare (g d))
      ⊢ iprop(((XD m c t ∗ WM m c ∗ WN m c t s) -∗ WP c (kk ⟨⟩) Q)
        -∗ WP c (.op (.load (Memref.whole cc0_scratch1) (Rect.unit (s := S2x512x2048) x1 S1x512x2048.size ix1).toLoadRect l1) fun v1 =>
          .op (.load (Memref.whole cc0_scratch0) (Rect.unit (s := S2048x4096) w1 S2048x512.size iw1).toLoadRect l2) fun v2 =>
          .op (.load wM (Rect.unit (s := S512x4096) o1 S512x512.size io1).toLoadRect l3) fun _ =>
          .op (.store wM (Rect.unit (s := S512x4096) o1 S512x512.size io1) (k0_pay6 v1 v2) Finset.univ e1 e2) fun _ =>
          .op (.load (Memref.whole cc0_scratch1) (Rect.unit (s := S2x512x2048) x2 S1x512x2048.size ix2).toLoadRect l4) fun v3 =>
          .op (.load (Memref.whole cc0_scratch0) (Rect.unit (s := S2048x4096) w2 S2048x512.size iw2).toLoadRect l5) fun v4 =>
          .op (.load wM (Rect.unit (s := S512x4096) o2 S512x512.size io2).toLoadRect l6) fun _ =>
          .op (.store wM (Rect.unit (s := S512x4096) o2 S512x512.size io2) (k0_pay6 v3 v4) Finset.univ e3 e4) kk) Q) := by
  unfold XD WM
  rw [if_pos h1]
  iintro ⟨⟨Hx, Ha, Hs1, Hs2, Hb⟩, ⟨Hh, Hw, Hs⟩, HW⟩ Hk
  ihave HW := (halves c g) $$ HW
  icases HW with ⟨HWf, HWt⟩
  iapply (gemm_op m c (t + 1) ((t + 1) % 2) (hc false c s) (Nat.succ_ne_zero _) (hc_lt _ _ _) hx1 hw1 ho1 (WB (g false))) $$ [Hb Hw HWf]
  · isplitl [Hb]; · iexact Hb
    isplitl [Hw]; · iexact Hw
    iexact HWf
  iintro ⟨Hb, Hw, HWf⟩
  iapply (gemm_op m c (t + 1) ((t + 1) % 2) (hc true c s) (Nat.succ_ne_zero _) (hc_lt _ _ _) hx2 hw2 ho2 (WB (g true))) $$ [Hb Hw HWt]
  · isplitl [Hb]; · iexact Hb
    isplitl [Hw]; · iexact Hw
    iexact HWt
  iintro ⟨Hb, Hw, HWt⟩
  iapply Hk
  isplitl [Hx Ha Hs1 Hs2 Hb]
  · isplitl [Hx]; · iexact Hx
    isplitl [Ha]; · iexact Ha
    isplitl [Hs1]; · iexact Hs1
    isplitl [Hs2]; · iexact Hs2
    iexact Hb
  isplitl [Hh Hw Hs]
  · isplitl [Hh]; · iexact Hh
    isplitl [Hw]; · iexact Hw
    iexact Hs
  iapply (wn_next m c t s)
  isplitl [HWf]; · iexact HWf
  iexact HWt

theorem give2_nil (c : Dev nD) (u t : ℕ) {s : ℕ} (h1 : s ≠ 1) (h3 : s ≠ 3) : ⊢ (D2 fun d => give (F := F) d (nb d c) s u t : sProp 𝕄) := give2_emp c u t h1 h3

/-- A conditional whose two branches go on alike: the branch taken turns `R` into `post`, which is what the common rest starts from. -/
theorem wp_if {α β : Type} {Q : α → sProp 𝕄} (c : Dev nD) (R post : sProp 𝕄) {cnd : Prop} [Decidable cnd]
    {a : cnd → Prog (TpuEff nD τ sig (Elt F) Λ₀ .tc) β} {T : Prog (TpuEff nD τ sig (Elt F) Λ₀ .tc) β} {kk : β → Prog (TpuEff nD τ sig (Elt F) Λ₀ .tc) α} :
    iprop((∀ h : cnd, R -∗ (post -∗ WP c (T >>= kk) Q) -∗ WP c (a h >>= kk) Q) ∗ (∀ _h : ¬ cnd, R -∗ post) ∗ R ∗ (post -∗ WP c (T >>= kk) Q))
      ⊢ WP c (dite cnd a (fun _ => T) >>= kk) Q := by
  iintro ⟨H1, H2, HR, HK⟩
  by_cases h : cnd
  · rw [dif_pos h]
    iapply H1 $$ %h HR HK
  · rw [dif_neg h]
    iapply HK
    iapply H2 $$ %h HR

theorem xf_pos (c : Dev nD) (t : ℕ) (h1 : t + 1 < 16) : XF m c t ⊢ iprop(xany (F := F) c (t % 2) ∗ sv (F := F) c (xS (t % 2)) ∗ XFl m c (t + 1) ((t + 1) % 2)) := by
  unfold XF; rw [if_pos h1]
theorem xd_pos (c : Dev nD) (t : ℕ) (h1 : t + 1 < 16) : iprop(xhR m c Finset.univ ∗ xany (F := F) c (t % 2) ∗ sv (F := F) c (xS (t % 2)) ∗ sv (F := F) c (xS ((t + 1) % 2)) ∗ xbR c ((t + 1) % 2) (XB m c (t + 1))) ⊢ XD m c t := by
  unfold XD; rw [if_pos h1]
theorem xf_neg (c : Dev nD) (t : ℕ) (h1 : ¬ t + 1 < 16) : XF m c t ⊢ XD m c t := by
  unfold XF XD Xs; rw [if_neg h1, if_neg h1]
  iintro ⟨Hh, Ha, Hb, Hs, Hs2⟩
  isplitl [Hh]; · iexact Hh
  isplitl [Ha]; · iexact Ha
  isplitl [Hs]; · iexact Hs
  isplitl [Hs2]; · iexact Hs2
  iexact Hb

end Cert.KernelIdeal.Ring
end
-- ==== Proof.Inv.lean ====
/- What a device holds between tiles. -/
module

public import proofs.«01_k».proof.Proof.Glue

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem src0 (c : Dev nD) (u t : ℕ) : (D2 fun d => Wp d c 0 u fullShare (P m c t)) ⊢ D2 fun d => srcPay m d c 0 u t := by
  have h : ∀ d, acc m d 0 c t = P m c t := fun d => by funext r j; simp only [acc]
  have := src2 m c u t (s := 0) (by decide)
  simp only [h] at this
  exact this

/-- How many messages are sent when tile `t` begins. -/
def ksT (t : ℕ) : ℕ := min (48 * t + 8) 768
/-- The work buffer and the arrival slots when tile `t` begins, with the first eight messages of the tile sent. -/
def NWk (c : Dev nD) (t : ℕ) : sProp 𝕄 :=
  if t < 16 then iprop((UD fun d u => Wp d c 1 u fullShare (P m c t)) ∗ (UD fun d u => Wp d c 2 u fullShare (P m c t)) ∗ (UD fun d u => Wp d c 3 u fullShare (P m c t))
    ∗ (UD fun d u => Perm (F := F) d c 1 u t) ∗ UD fun d u => Perm (F := F) d c 2 u t)
  else iprop(WN m c (t - 1) 0 ∗ WN m c (t - 1) 1 ∗ WN m c (t - 1) 2 ∗ WN m c (t - 1) 3 ∗ (UD fun d u => own (F := F) d c 0 u) ∗ (UD fun d u => own (F := F) d c 1 u) ∗ UD fun d u => own (F := F) d c 2 u)
/-- The semaphores of the copies of the result, at rest. -/
def SVO (c : Dev nD) : sProp 𝕄 := iprop(sv (F := F) c (oS 0) ∗ sv (F := F) c (oS 1) ∗ sv (F := F) c (oS 2) ∗ sv (F := F) c (oS 3) ∗ sv (F := F) c (oS 4) ∗ sv (F := F) c (oS 5) ∗ sv (F := F) c (oS 6) ∗ sv (F := F) c (oS 7))
/-- The slots of the last three arrivals. -/
def OW3 (c : Dev nD) : sProp 𝕄 := iprop((UD fun d u => own (F := F) d c 3 u) ∗ (UD fun d u => own (F := F) d c 4 u) ∗ UD fun d u => own (F := F) d c 5 u)
/-- What a device holds between tiles. -/
def Inv (c : Dev nD) (t : ℕ) : sProp 𝕄 := iprop(Ctl m c (ksT t) (48 * t) (48 * t) ∗ NWk m c t ∗ OW3 (F := F) c ∗ Xs m c t ∗ WM m c ∗ OUT m c t ∗ SVO (F := F) c ∗ semVal (barC c) 0)

theorem ctl_next (c : Dev nD) (t : ℕ) (h1 : t + 1 < 16) : Ctl m c (48 * (t + 1) + 8) (48 * (t + 1) + 0) (48 * (t + 1) + 0) = Ctl m c (ksT (t + 1)) (48 * (t + 1)) (48 * (t + 1)) := by
  rw [show ksT (t + 1) = 48 * (t + 1) + 8 by unfold ksT; omega]; rfl
theorem ctl_last (c : Dev nD) (t : ℕ) (ht : t < 16) (h1 : ¬ t + 1 < 16) : Ctl m c (48 * t + 48) (48 * t + 48) (48 * t + 48) = Ctl m c (ksT (t + 1)) (48 * (t + 1)) (48 * (t + 1)) := by
  rw [show ksT (t + 1) = 48 * t + 48 by unfold ksT; omega, show 48 * (t + 1) = 48 * t + 48 by omega]
theorem ctl_turn (c : Dev nD) (t : ℕ) : Ctl m c (48 * t + 48) (48 * t + 48) (48 * t + 48) = Ctl m c (48 * (t + 1) + 0) (48 * (t + 1) + 0) (48 * (t + 1) + 0) := by
  rw [show 48 * (t + 1) + 0 = 48 * t + 48 by omega]
theorem keep_last (c : Dev nD) (t : ℕ) (h1 : ¬ t + 1 < 16) : (UD fun d u => keep (F := F) d c u t)
    ⊢ iprop((UD fun d u => own (F := F) d c 0 u) ∗ (UD fun d u => own (F := F) d c 1 u) ∗ UD fun d u => own (F := F) d c 2 u) :=
  (ud_mono fun d u _ => by unfold keep; rw [if_neg h1]).trans (ud_unsep.trans (BIClass.sep_mono .rfl ud_unsep))
theorem nw_next (c : Dev nD) (t : ℕ) (h1 : t + 1 < 16) : iprop((WN m c t 1 ∗ WN m c t 2 ∗ WN m c t 3) ∗ (UD fun d u => Perm (F := F) d c 1 u (t + 1)) ∗ UD fun d u => Perm (F := F) d c 2 u (t + 1)) ⊢ NWk m c (t + 1) := by
  unfold NWk; rw [if_pos h1]
  have e1 := wn_elim m c t 1 h1
  have e2 := wn_elim m c t 2 h1
  have e3 := wn_elim m c t 3 h1
  iintro ⟨⟨H1, H2, H3⟩, H4, H5⟩
  isplitl [H1]; · iapply e1 $$ H1
  isplitl [H2]; · iapply e2 $$ H2
  isplitl [H3]; · iapply e3 $$ H3
  isplitl [H4] <;> iassumption
theorem nw_last (c : Dev nD) (t : ℕ) (h1 : ¬ t + 1 < 16) : iprop((WN m c t 0 ∗ WN m c t 1 ∗ WN m c t 2 ∗ WN m c t 3) ∗ UD fun d u => keep (F := F) d c u t) ⊢ NWk m c (t + 1) := by
  unfold NWk; rw [if_neg h1]
  have e := keep_last (F := F) c t h1
  iintro ⟨⟨H0, H1, H2, H3⟩, HK⟩
  ihave HK := e $$ HK
  icases HK with ⟨K0, K1, K2⟩
  isplitl [H0]; · iexact H0
  isplitl [H1]; · iexact H1
  isplitl [H2]; · iexact H2
  isplitl [H3]; · iexact H3
  isplitl [K0]; · iexact K0
  isplitl [K1] <;> iassumption

end Cert.KernelIdeal.Ring
end
-- ==== Proof.StageA0.lean ====
/- The buffers before the first tile. -/
module

public import proofs.«01_k».proof.Proof.Bar
public import proofs.«01_k».proof.Proof.StageC
public import proofs.«01_k».proof.Proof.Gemm2
public import proofs.«01_k».proof.Proof.Inv

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The chunk of columns the first tile's product takes up at its `j`th turn. -/
def ck (c : Dev nD) (j : ℕ) : ℕ := (c.val + j) % 4
theorem ck_lt (c : Dev nD) (j : ℕ) : ck c j < 4 := Nat.mod_lt _ (by decide)
theorem ck_inj (c : Dev nD) : ∀ i, i < 4 → ∀ j, j < 4 → i ≠ j → ck c i ≠ ck c j := by
  intro i hi j hj h; unfold ck; omega
theorem ck_all (c : Dev nD) (k : ℕ) (hk : k < 4) : ∃ j < 4, ck c j = k := by
  have : c.val < 4 := c.isLt
  exact ⟨(k + 4 - c.val) % 4, Nat.mod_lt _ (by decide), by unfold ck; omega⟩
theorem q1_0 (c : Dev nD) : k0_off1 c 0#32 = ![0, 1024 * ck c 0] := by revert c; decide
theorem q1_1 (c : Dev nD) : k0_off1 c 1#32 = ![0, 1024 * ck c 1] := by revert c; decide
theorem q1_2 (c : Dev nD) : k0_off1 c 2#32 = ![0, 1024 * ck c 2] := by revert c; decide
theorem q1_3 (c : Dev nD) : k0_off1 c 3#32 = ![0, 1024 * ck c 3] := by revert c; decide
theorem q15_1 (c : Dev nD) : k0_off15 c 1#32 = ![0, 1024 * ck c 1] := by revert c; decide
theorem q16_1 (c : Dev nD) : k0_off16 c 1#32 = ![0, 1024 * ck c 1] := by revert c; decide
theorem q17_1 (c : Dev nD) : k0_off17 c 1#32 = ![0, 1024 * ck c 1] := by revert c; decide
theorem q15_2 (c : Dev nD) : k0_off15 c 2#32 = ![0, 1024 * ck c 2] := by revert c; decide
theorem q16_2 (c : Dev nD) : k0_off16 c 2#32 = ![0, 1024 * ck c 2] := by revert c; decide
theorem q17_2 (c : Dev nD) : k0_off17 c 2#32 = ![0, 1024 * ck c 2] := by revert c; decide
theorem q15_3 (c : Dev nD) : k0_off15 c 3#32 = ![0, 1024 * ck c 3] := by revert c; decide
theorem q16_3 (c : Dev nD) : k0_off16 c 3#32 = ![0, 1024 * ck c 3] := by revert c; decide
theorem q17_3 (c : Dev nD) : k0_off17 c 3#32 = ![0, 1024 * ck c 3] := by revert c; decide
theorem q2 (c : Dev nD) : k0_off2 c = ![0, 1024 * ck c 0] := by revert c; decide
theorem q3 (c : Dev nD) : k0_off3 c = ![0, 1024 * ck c 0] := by revert c; decide

theorem disj_k {a b : ℕ} (h : a ≠ b) : Disjoint (kset a) (kset b) := by
  refine Finset.disjoint_left.mpr fun i hi hj => h ?_
  unfold kset at hi hj
  rw [Finset.mem_filter] at hi hj
  exact hi.2.symm.trans hj.2
theorem disj_wk {a b : ℕ} (h : a ≠ b) : Disjoint (wk a) (wk b) := by
  refine Finset.disjoint_left.mpr fun i hi hj => h ?_
  unfold wk at hi hj
  rw [Finset.mem_filter] at hi hj
  exact hi.2.symm.trans hj.2
theorem k_all (c : Dev nD) : (Finset.univ : Finset S512x4096.Idx) = (Finset.range 4).biUnion fun j => kset (ck c j) := by
  ext i
  have h0 : ((i : S512x4096.Idx) 1).val < 4096 := ((i : S512x4096.Idx) 1).isLt
  obtain ⟨j, h1, h2⟩ := ck_all c (((i : S512x4096.Idx) 1).val / 1024) (by omega)
  unfold kset
  simp only [Finset.mem_biUnion, Finset.mem_filter, Finset.mem_univ, true_and, Finset.mem_range, true_iff]
  exact ⟨j, h1, h2.symm⟩
theorem wk_all (c : Dev nD) : (Finset.univ : Finset S2048x4096.Idx) = (Finset.range 4).biUnion fun j => wk (ck c j) := by
  ext i
  have h0 : ((i : S2048x4096.Idx) 1).val < 4096 := ((i : S2048x4096.Idx) 1).isLt
  obtain ⟨j, h1, h2⟩ := ck_all c (((i : S2048x4096.Idx) 1).val / 1024) (by omega)
  unfold wk
  simp only [Finset.mem_biUnion, Finset.mem_filter, Finset.mem_univ, true_and, Finset.mem_range, true_iff]
  exact ⟨j, h1, h2.symm⟩
theorem work4 (c : Dev nD) (f : S512x4096.Idx → Elt F .f32) : workR c Finset.univ fullShare f ⊣⊢ U4 fun j => workR c (kset (ck c j)) fullShare f := by
  rw [← range4, k_all c]
  unfold workR
  exact ofe (pointsTo_biUnion (ℓ := (c : Thread nD τ).loc cc0_scratch2) (Finset.range 4) (fun j => kset (ck c j))
    fun u hu v hv huv => disj_k (ck_inj c u (Finset.mem_range.mp hu) v (Finset.mem_range.mp hv) huv))
theorem wv4 (c : Dev nD) (f : S2048x4096.Idx → Elt F .f32) : wvR c Finset.univ f ⊣⊢ U4 fun j => wvR c (wk (ck c j)) f := by
  rw [← range4, wk_all c]
  unfold wvR
  exact ofe (pointsTo_biUnion (ℓ := (c : Thread nD τ).loc cc0_scratch0) (Finset.range 4) (fun j => wk (ck c j))
    fun u hu v hv huv => disj_wk (ck_inj c u (Finset.mem_range.mp hu) v (Finset.mem_range.mp hv) huv))
theorem wh4 (c : Dev nD) : whR m c Finset.univ ⊣⊢ U4 fun j => whR m c (wk (ck c j)) := by
  rw [← range4, wk_all c]
  unfold whR
  exact ofe (pointsTo_biUnion (ℓ := (c : Thread nD τ).loc main_arg1) (Finset.range 4) (fun j => wk (ck c j))
    fun u hu v hv huv => disj_wk (ck_inj c u (Finset.mem_range.mp hu) v (Finset.mem_range.mp hv) huv))

/-- A chunk is a half-column of each ring. -/
theorem k_half (c : Dev nD) (j s1 s2 : ℕ) (e1 : hc false c s1 = 2 * ck c j) (e2 : hc true c s2 = 2 * ck c j + 1) (f : S512x4096.Idx → Elt F .f32) :
    workR c (kset (ck c j)) fullShare f ⊢ iprop(workR c (hset (hc false c s1)) fullShare f ∗ workR c (hset (hc true c s2)) fullShare f) := by
  have h : kset (ck c j) = hset (hc false c s1) ∪ hset (hc true c s2) := by
    ext i
    have h0 : ((i : S512x4096.Idx) 1).val < 4096 := ((i : S512x4096.Idx) 1).isLt
    unfold kset hset
    simp only [Finset.mem_union, Finset.mem_filter, Finset.mem_univ, true_and, e1, e2]
    omega
  have hd : Disjoint (hset (hc false c s1)) (hset (hc true c s2)) := by
    refine Finset.disjoint_left.mpr fun i hi hj => ?_
    unfold hset at hi hj
    rw [Finset.mem_filter] at hi hj
    have := hi.2.symm.trans hj.2
    omega
  rw [h]
  unfold workR
  exact (pointsTo_union hd).1
theorem ch_0 (c : Dev nD) : hc false c 0 = 2 * ck c 0 ∧ hc true c 0 = 2 * ck c 0 + 1 := by revert c; decide
theorem ch_1 (c : Dev nD) : hc false c 3 = 2 * ck c 1 ∧ hc true c 1 = 2 * ck c 1 + 1 := by revert c; decide
theorem ch_2 (c : Dev nD) : hc false c 2 = 2 * ck c 2 ∧ hc true c 2 = 2 * ck c 2 + 1 := by revert c; decide
theorem ch_3 (c : Dev nD) : hc false c 1 = 2 * ck c 3 ∧ hc true c 3 = 2 * ck c 3 + 1 := by revert c; decide
theorem first_0 (c : Dev nD) : workR c (kset (ck c 0)) fullShare (WB (P m c 0)) ⊢ UD fun d u => Wp d c 0 u fullShare (P m c 0) :=
  (k_half c 0 0 0 (ch_0 c).1 (ch_0 c).2 _).trans (unhalves c (s := 0) fun _ => P m c 0)
theorem rest_123 (c : Dev nD) : iprop(workR c (kset (ck c 1)) fullShare (WB (P m c 0)) ∗ workR c (kset (ck c 2)) fullShare (WB (P m c 0)) ∗ workR c (kset (ck c 3)) fullShare (WB (P m c 0)))
    ⊢ iprop((UD fun d u => Wp d c 1 u fullShare (P m c 0)) ∗ (UD fun d u => Wp d c 2 u fullShare (P m c 0)) ∗ UD fun d u => Wp d c 3 u fullShare (P m c 0)) := by
  have u1 := unhalves (F := F) c (q := fullShare) (s := 1) fun _ => P m c 0
  have u2 := unhalves (F := F) c (q := fullShare) (s := 2) fun _ => P m c 0
  have u3 := unhalves (F := F) c (q := fullShare) (s := 3) fun _ => P m c 0
  iintro ⟨H1, H2, H3⟩
  ihave H1 := (k_half c 1 3 1 (ch_1 c).1 (ch_1 c).2 _) $$ H1
  ihave H2 := (k_half c 2 2 2 (ch_2 c).1 (ch_2 c).2 _) $$ H2
  ihave H3 := (k_half c 3 1 3 (ch_3 c).1 (ch_3 c).2 _) $$ H3
  icases H1 with ⟨A3, B1⟩
  icases H2 with ⟨A2, B2⟩
  icases H3 with ⟨A1, B3⟩
  isplitl [A1 B1]
  · iapply u1; isplitl [A1]; · iexact A1
    iexact B1
  isplitl [A2 B2]
  · iapply u2; isplitl [A2]; · iexact A2
    iexact B2
  iapply u3; isplitl [A3]; · iexact A3
  iexact B3

/-- The buffer of `w` and the work buffer before anything is in them. -/
def WI (c : Dev nD) : sProp 𝕄 :=
  iprop(whR m c Finset.univ ∗ (∃ f, wvR c Finset.univ f) ∗ (∃ f, workR c Finset.univ fullShare f) ∗ U4 fun j => sv (F := F) c (wS j))
/-- What a device holds before the first tile. -/
def Init (c : Dev nD) : sProp 𝕄 :=
  iprop((Ctl0 m c ∗ Hi (F := F) c ∗ (UD fun d u => own (F := F) d c 0 u) ∗ (UD fun d u => own (F := F) d c 1 u) ∗ UD fun d u => own (F := F) d c 2 u)
    ∗ OW3 (F := F) c ∗ Xs m c 0 ∗ WI m c ∗ OUT m c 0 ∗ SVO (F := F) c)
def Pre (c : Dev nD) (t : ℕ) : sProp 𝕄 := if t = 0 then Init m c else Inv m c t
/-- Half way through the preparation of the first tile. -/
def Mid0 (c : Dev nD) : sProp 𝕄 :=
  iprop((Ctl m c (48 * 0 + 0) (48 * 0 + 0) (48 * 0 + 0) ∗ (UD fun d u => Perm (F := F) d c 0 u 0) ∗ (UD fun d u => Perm (F := F) d c 1 u 0) ∗ UD fun d u => Perm (F := F) d c 2 u 0)
    ∗ (workR c (kset (ck c 0)) fullShare (WB (P m c 0)) ∗ ∃ f, workR c (kset (ck c 1)) fullShare f ∗ workR c (kset (ck c 2)) fullShare f ∗ workR c (kset (ck c 3)) fullShare f)
    ∗ (xbR c 0 (XB m c 0) ∗ sv (F := F) c (xS 0) ∗ XFl m c 1 1)
    ∗ ((whR m c (wk (ck c 0)) ∗ wvR c (wk (ck c 0)) (wm m c) ∗ sv (F := F) c (wS 0)) ∗ WFl m c (ck c 1) 1 ∗ WFl m c (ck c 2) 2 ∗ WFl m c (ck c 3) 3))
/-- When the first eight messages of a tile are sent. -/
def Sent (c : Dev nD) (t : ℕ) : sProp 𝕄 :=
  iprop(Ctl m c (48 * t + 8) (48 * t + 0) (48 * t + 0) ∗ ((UD fun d u => Wp d c 1 u fullShare (P m c t)) ∗ (UD fun d u => Wp d c 2 u fullShare (P m c t)) ∗ (UD fun d u => Wp d c 3 u fullShare (P m c t))
    ∗ (UD fun d u => Perm (F := F) d c 1 u t) ∗ UD fun d u => Perm (F := F) d c 2 u t) ∗ XF m c t ∗ WM m c)
def Mid (c : Dev nD) (t : ℕ) : sProp 𝕄 := if t = 0 then Mid0 m c else Sent m c t
def Rst (c : Dev nD) (t : ℕ) : sProp 𝕄 := iprop(OW3 (F := F) c ∗ OUT m c t ∗ SVO (F := F) c ∗ semVal (barC c) 0)

theorem xf_go (c : Dev nD) (t : ℕ) (h1 : t + 1 < 16) : iprop(xany (F := F) c (t % 2) ∗ sv (F := F) c (xS (t % 2)) ∗ XFl m c (t + 1) ((t + 1) % 2)) ⊢ XF m c t := by
  unfold XF; rw [if_pos h1]
theorem xf_no (c : Dev nD) (t : ℕ) (h1 : ¬ t + 1 < 16) : Xs m c t ⊢ XF m c t := by
  unfold XF; rw [if_neg h1]
theorem inv_open (c : Dev nD) (t : ℕ) (ht : t < 16) : Inv m c t ⊢ iprop((Ctl m c (48 * t + 8) (48 * t + 0) (48 * t + 0) ∗ ((UD fun d u => Wp d c 1 u fullShare (P m c t)) ∗ (UD fun d u => Wp d c 2 u fullShare (P m c t)) ∗ (UD fun d u => Wp d c 3 u fullShare (P m c t))
    ∗ (UD fun d u => Perm (F := F) d c 1 u t) ∗ UD fun d u => Perm (F := F) d c 2 u t) ∗ Xs m c t ∗ WM m c) ∗ Rst m c t) := by
  unfold Inv NWk Rst
  rw [if_pos ht, show ksT t = 48 * t + 8 by unfold ksT; omega]
  iintro ⟨H1, H2, H3, H4, H5, H6, H7⟩
  isplitl [H1 H2 H4 H5]
  · isplitl [H1]; · iexact H1
    isplitl [H2]; · iexact H2
    isplitl [H4] <;> iassumption
  isplitl [H3]; · iexact H3
  isplitl [H6] <;> iassumption

theorem xs_open (c : Dev nD) (t : ℕ) : Xs m c t ⊢ iprop(xhR m c Finset.univ ∗ xany (F := F) c (t % 2) ∗ (∃ f, xbR c ((t + 1) % 2) f) ∗ sv (F := F) c (xS (t % 2)) ∗ sv (F := F) c (xS ((t + 1) % 2))) := .rfl
theorem xs_open0 (c : Dev nD) : Xs m c 0 ⊢ iprop(xhR m c Finset.univ ∗ (∃ f, xbR c 0 f) ∗ (∃ f, xbR c 1 f) ∗ sv (F := F) c (xS 0) ∗ sv (F := F) c (xS 1)) := .rfl
theorem wi_open (c : Dev nD) : WI m c ⊢ iprop((U4 fun j => whR m c (wk (ck c j))) ∗ (∃ f, U4 fun j => wvR c (wk (ck c j)) f) ∗ (∃ f, U4 fun j => workR c (kset (ck c j)) fullShare f) ∗ U4 fun j => sv (F := F) c (wS j)) := by
  have h1 := (wh4 m c).1
  have h2 := fun f => (wv4 (F := F) c f).1
  have h3 := fun f => (work4 (F := F) c f).1
  unfold WI
  iintro ⟨H1, ⟨%f, H2⟩, ⟨%g, H3⟩, H4⟩
  isplitl [H1]; · iapply h1 $$ H1
  isplitl [H2]; · iexists f; iapply h2 f $$ H2
  isplitl [H3]; · iexists g; iapply h3 g $$ H3
  iexact H4

theorem xany_intro (c : Dev nD) (b : ℕ) (f : S2x512x2048.Idx → Elt F .f32) : xbR c b f ⊢ xany (F := F) c b := by
  unfold xany; iintro H; iexists f; iexact H
theorem wm_all (c : Dev nD) : iprop((U4 fun j => whR m c (wk (ck c j))) ∗ (U4 fun j => wvR c (wk (ck c j)) (wm m c)) ∗ U4 fun j => sv (F := F) c (wS j)) ⊢ WM m c := by
  unfold WM
  exact BIClass.sep_mono (wh4 m c).2 (BIClass.sep_mono (wv4 c _).2 .rfl)

end Cert.KernelIdeal.Ring
end
-- ==== Proof.StageA.lean ====
/- The preparation of a tile. -/
module

public import proofs.«01_k».proof.Proof.StageA0

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The start of a tile after the first: the copy of the tile after it starts. -/
theorem st15s {α : Type} {Q : α → sProp 𝕄} (c : Dev nD) {i : grid0.Coords} {t : ℕ} (hi : At i t) (h0 : t ≠ 0)
    (kk : (Σ' (arg0 : BitVec 32) (d0 : Dev nD) (v2 : BitVec 32) (v13 : BitVec 32) (v24 : BitVec 32) (v27 : BitVec 1), BitVec 32) → Prog (TpuEff nD τ sig (Elt F) Λ₀ .tc) α) :
    iprop(Inv m c t)
      ⊢ iprop((∀ (a v2 v13 v24 : BitVec 32) (v27 : BitVec 1) (x : BitVec 32), (Sent m c t ∗ Rst m c t) -∗ WP c (kk ⟨a, c, v2, v13, v24, v27, x⟩) Q)
        -∗ WP c (k0_part15 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 >>= kk) Q) := by
  have ht := hi.lt
  have hn : ¬ k0_cond1 i = 1#1 := fun h => h0 ((cd1 hi).mp h)
  unfold Sent
  iintro HI Hk
  ihave HI := (inv_open m c t ht) $$ HI
  icases HI with ⟨⟨HC, HW, HX, HM⟩, HR⟩
  rw [k0_part15_eq_skeleton]
  unfold k0_part15_skel
  simp only [dif_neg hn]
  by_cases h1 : t + 1 < 16
  · simp only [dif_pos ((cd2 hi).mpr h1)]
    simp only [Prog.lift, Prog.bind_op, Prog.bind_ret, Prog.pure_eq_ret, Prog.bind_assoc, wp_deviceId, semSignalWord, semWaitWord]
    ihave HX := (xs_open m c t) $$ HX
    icases HX with ⟨Hh, Ha, ⟨%f, Hb⟩, Hs, Hs2⟩
    iapply (x_go m c (t + 1) ((t + 1) % 2) h1 (Nat.mod_lt _ (by decide)) (gx6 hi h1) (gx5 hi h1) (x_sem (Nat.mod_lt _ (by decide)) (gx4 hi h1)) f) $$ [Hh Hb Hs2]
    · isplitl [Hh]
      · iexact Hh
      isplitl [Hb]
      · iexact Hb
      iexact Hs2
    iintro HF
    ihave HX := (xf_go m c t h1) $$ [Ha Hs HF]
    · isplitl [Ha]; · iexact Ha
      isplitl [Hs] <;> iassumption
    iapply Hk
    isplitl [HC HW HX HM]
    · isplitl [HC]
      · iexact HC
      isplitl [HW]
      · iexact HW
      isplitl [HX]
      · iexact HX
      iexact HM
    iexact HR
  · have h2 : ¬ k0_cond2 i = 1#1 := fun h => h1 ((cd2 hi).mp h)
    simp only [dif_neg h2]
    simp only [Prog.lift, Prog.bind_op, Prog.bind_ret, Prog.pure_eq_ret, Prog.bind_assoc, wp_deviceId, semSignalWord, semWaitWord]
    ihave HX := (xf_no m c t h1) $$ HX
    iapply Hk
    isplitl [HC HW HX HM]
    · isplitl [HC]
      · iexact HC
      isplitl [HW]
      · iexact HW
      isplitl [HX]
      · iexact HX
      iexact HM
    iexact HR

/-- The start of the first tile: the handshake, the copies of the inputs, and the first chunk of the product. -/
theorem st150 {α : Type} {Q : α → sProp 𝕄} (c : Dev nD) {i : grid0.Coords} {t : ℕ} (hi : At i t) (h0 : t = 0)
    (kk : (Σ' (arg0 : BitVec 32) (d0 : Dev nD) (v2 : BitVec 32) (v13 : BitVec 32) (v24 : BitVec 32) (v27 : BitVec 1), BitVec 32) → Prog (TpuEff nD τ sig (Elt F) Λ₀ .tc) α) :
    iprop(Init m c)
      ⊢ iprop((∀ (a v2 v13 v24 : BitVec 32) (v27 : BitVec 1) (x : BitVec 32), (Mid0 m c ∗ Rst m c 0) -∗ WP c (kk ⟨a, c, v2, v13, v24, v27, x⟩) Q)
        -∗ WP c (k0_part15 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 >>= kk) Q) := by
  subst h0
  have hn := (cd1 hi).mpr rfl
  have h1 : 0 + 1 < 16 := by decide
  unfold Init Mid0 Rst
  iintro ⟨HH, H3, HX, HWI, HO, HS⟩ Hk
  ihave HX := (xs_open0 m c) $$ HX
  icases HX with ⟨Hh, ⟨%f0, Hb0⟩, ⟨%f1, Hb1⟩, Hs0, Hs1⟩
  ihave HWI := (wi_open m c) $$ HWI
  icases HWI with ⟨⟨A0, A1, A2, A3⟩, ⟨%g, B0, B1, B2, B3⟩, ⟨%k, K0, K1, K2, K3⟩, V0, V1, V2, V3⟩
  rw [k0_part15_eq_skeleton]
  unfold k0_part15_skel
  simp only [dif_pos hn, dif_pos ((cd2 hi).mpr h1), k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc, wp_deviceId, semSignalWord, semWaitWord]
  iapply (bar_step m c (dv1 c _) (dv2 c _) rfl rfl rfl) $$ HH
  iintro ⟨HC, HP, HZ⟩
  iapply (x_go m c 0 0 (by decide) (by decide) rfl rfl (x_sem (by decide) rfl) f0) $$ [Hh Hb0 Hs0]
  · isplitl [Hh]
    · iexact Hh
    isplitl [Hb0]
    · iexact Hb0
    iexact Hs0
  iintro HF
  iapply (w_go m c (ck c 0) 0 (q1_0 c) w_sem0 g) $$ [A0 B0 V0]
  · isplitl [A0]
    · iexact A0
    isplitl [B0]
    · iexact B0
    iexact V0
  iintro W0
  iapply (w_go m c (ck c 1) 1 (q1_1 c) w_sem1 g) $$ [A1 B1 V1]
  · isplitl [A1]
    · iexact A1
    isplitl [B1]
    · iexact B1
    iexact V1
  iintro W1
  iapply (w_go m c (ck c 2) 2 (q1_2 c) w_sem2 g) $$ [A2 B2 V2]
  · isplitl [A2]
    · iexact A2
    isplitl [B2]
    · iexact B2
    iexact V2
  iintro W2
  iapply (w_go m c (ck c 3) 3 (q1_3 c) w_sem3 g) $$ [A3 B3 V3]
  · isplitl [A3]
    · iexact A3
    isplitl [B3]
    · iexact B3
    iexact V3
  iintro W3
  iapply (x_end m c 0 0 (by decide) (x_sem (by decide) rfl)) $$ [HC HF]
  · isplitl [HC]
    · iexact HC
    iexact HF
  iintro ⟨HC, Hh, Hb0, Hs0⟩
  iapply (w_end m c (ck c 0) 0 (by decide) w_sem0) $$ [HC W0]
  · isplitl [HC]
    · iexact HC
    iexact W0
  iintro ⟨HC, A0, B0, V0⟩
  iapply (gemm0_op m c (ck c 0) (ck_lt c 0) rfl (q2 c) (q3 c) k) $$ [Hb0 B0 K0]
  · isplitl [Hb0]
    · iexact Hb0
    isplitl [B0]
    · iexact B0
    iexact K0
  iintro ⟨Hb0, B0, K0⟩
  iapply (x_go m c 1 1 (by decide) (by decide) (gx6 hi h1) (gx5 hi h1) (x_sem (by decide) (gx4 hi h1)) f1) $$ [Hh Hb1 Hs1]
  · isplitl [Hh]
    · iexact Hh
    isplitl [Hb1]
    · iexact Hb1
    iexact Hs1
  iintro HF
  iapply Hk
  isplitr [H3 HO HS HZ]
  · isplitl [HC HP]
    · isplitl [HC]; · iexact HC
      iexact HP
    isplitl [K0 K1 K2 K3]
    · isplitl [K0]; · iexact K0
      iexists k
      isplitl [K1]; · iexact K1
      isplitl [K2] <;> iassumption
    isplitl [Hb0 Hs0 HF]
    · isplitl [Hb0]; · iexact Hb0
      isplitl [Hs0] <;> iassumption
    isplitl [A0 B0 V0]
    · isplitl [A0]; · iexact A0
      isplitl [B0] <;> iassumption
    isplitl [W1]; · iexact W1
    isplitl [W2] <;> iassumption
  isplitl [H3]
  · iexact H3
  isplitl [HO]
  · iexact HO
  isplitl [HS]
  · iexact HS
  iexact HZ

/-- After the first tile nothing is left to prepare. -/
theorem st25s {α : Type} {Q : α → sProp 𝕄} (c : Dev nD) {i : grid0.Coords} {t : ℕ} (hi : At i t) (h0 : t ≠ 0) (arg0 : BitVec 32) (v2 : BitVec 32) (v13 : BitVec 32) (v24 : BitVec 32) (v43 : BitVec 32) (v54 : BitVec 32) (c1024_i32_233 : BitVec 32) (kk : PUnit → Prog (TpuEff nD τ sig (Elt F) Λ₀ .tc) α) :
    iprop(Sent m c t)
      ⊢ iprop(((Sent m c t) -∗ WP c (kk ⟨⟩) Q)
        -∗ WP c (k0_part25 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v13 v24 v43 v54 c1024_i32_233 >>= kk) Q) := by
  have hn3 : ¬ k0_cond3 i = 1#1 := fun h => h0 ((cd3 hi).mp h)
  have hn4 : ¬ k0_cond4 i = 1#1 := fun h => h0 ((cd4 hi).mp h)
  iintro H Hk
  rw [k0_part25_eq_skeleton]
  unfold k0_part25_skel
  simp only [dif_neg hn3, dif_neg hn4]
  simp only [Prog.lift, Prog.bind_op, Prog.bind_ret, Prog.pure_eq_ret, Prog.bind_assoc, wp_deviceId, semSignalWord, semWaitWord]
  iapply Hk $$ H

/-- The rest of the preparation of the first tile: its first eight messages, and the other chunks of the product. -/
theorem st250 {α : Type} {Q : α → sProp 𝕄} (c : Dev nD) {i : grid0.Coords} {t : ℕ} (hi : At i t) (h0 : t = 0) (arg0 : BitVec 32) (v2 : BitVec 32) (v13 : BitVec 32) (v24 : BitVec 32) (v43 : BitVec 32) (v54 : BitVec 32) (c1024_i32_233 : BitVec 32) (kk : PUnit → Prog (TpuEff nD τ sig (Elt F) Λ₀ .tc) α) :
    iprop(Mid0 m c)
      ⊢ iprop(((Sent m c 0) -∗ WP c (kk ⟨⟩) Q)
        -∗ WP c (k0_part25 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v13 v24 v43 v54 c1024_i32_233 >>= kk) Q) := by
  subst h0
  have h1 : 0 + 1 < 16 := by decide
  unfold Mid0 Sent
  iintro ⟨⟨HC, ⟨P0, P1, P2, P3⟩, HP1, HP2⟩, ⟨K0, ⟨%k, K1, K2, K3⟩⟩, ⟨Hb0, Hs0, HF⟩, ⟨A0, B0, V0⟩, W1, W2, W3⟩ Hk
  rw [k0_part25_eq_skeleton]
  unfold k0_part25_skel
  simp only [dif_pos ((cd3 hi).mpr rfl), dif_pos ((cd4 hi).mpr rfl), k0_part4_eq_skeleton, k0_part5_eq_skeleton, k0_part6_eq_skeleton, k0_part7_eq_skeleton, k0_part8_eq_skeleton]
  unfold k0_part4_skel k0_part5_skel k0_part6_skel k0_part7_skel k0_part8_skel
  simp only [Prog.lift, Prog.bind_op, Prog.bind_ret, Prog.pure_eq_ret, Prog.bind_assoc, wp_deviceId, semSignalWord, semWaitWord]
  ihave K0 := (first_0 m c) $$ K0
  icases K0 with ⟨X0, X1, X2, X3⟩
  ihave X0 := (src0 m c 0 0) $$ X0
  ihave HG := (give2_nil (F := F) c 0 0 (s := 0) (by decide) (by decide))
  iapply (send2w m c 0 0 0 (a := 0) (b := 0) (e := 0) (by decide) (by decide) (by decide) rfl (by decide) (by decide) (o7 c) (o8 c) rfl rfl (dv3 c _) (dv4 c _) sSR0 sRR0 sSL0 sRL0) $$ [HC X0 P0 HG]
  · isplitl [HC]
    · iexact HC
    isplitl [X0]
    · iexact X0
    isplitl [P0]
    · iexact P0
    iexact HG
  iintro HC
  ihave X1 := (src0 m c 1 0) $$ X1
  ihave HG := (give2_nil (F := F) c 1 0 (s := 0) (by decide) (by decide))
  iapply (send2w m c 0 1 0 (a := 2) (b := 0) (e := 0) (by decide) (by decide) (by decide) rfl (by decide) (by decide) (o9 c) (o10 c) rfl rfl (dv5 c _) (dv6 c _) sSR1 sRR1 sSL1 sRL1) $$ [HC X1 P1 HG]
  · isplitl [HC]
    · iexact HC
    isplitl [X1]
    · iexact X1
    isplitl [P1]
    · iexact P1
    iexact HG
  iintro HC
  ihave X2 := (src0 m c 2 0) $$ X2
  ihave HG := (give2_nil (F := F) c 2 0 (s := 0) (by decide) (by decide))
  iapply (send2w m c 0 2 0 (a := 4) (b := 0) (e := 0) (by decide) (by decide) (by decide) rfl (by decide) (by decide) (o11 c) (o12 c) rfl rfl (dv7 c _) (dv8 c _) sSR2 sRR2 sSL2 sRL2) $$ [HC X2 P2 HG]
  · isplitl [HC]
    · iexact HC
    isplitl [X2]
    · iexact X2
    isplitl [P2]
    · iexact P2
    iexact HG
  iintro HC
  ihave X3 := (src0 m c 3 0) $$ X3
  ihave HG := (give2_nil (F := F) c 3 0 (s := 0) (by decide) (by decide))
  iapply (send2w m c 0 3 0 (a := 6) (b := 0) (e := 0) (by decide) (by decide) (by decide) rfl (by decide) (by decide) (o13 c) (o14 c) rfl rfl (dv9 c _) (dv10 c _) sSR3 sRR3 sSL3 sRL3) $$ [HC X3 P3 HG]
  · isplitl [HC]
    · iexact HC
    isplitl [X3]
    · iexact X3
    isplitl [P3]
    · iexact P3
    iexact HG
  iintro HC
  iapply (w_end m c (ck c 1) 1 (by decide) w_sem1) $$ [HC W1]
  · isplitl [HC]
    · iexact HC
    iexact W1
  iintro ⟨HC, A1, B1, V1⟩
  iapply (gemm0_op m c (ck c 1) (ck_lt c 1) rfl (q16_1 c) (q17_1 c) k) $$ [Hb0 B1 K1]
  · isplitl [Hb0]
    · iexact Hb0
    isplitl [B1]
    · iexact B1
    iexact K1
  iintro ⟨Hb0, B1, K1⟩
  iapply (w_end m c (ck c 2) 2 (by decide) w_sem2) $$ [HC W2]
  · isplitl [HC]
    · iexact HC
    iexact W2
  iintro ⟨HC, A2, B2, V2⟩
  iapply (gemm0_op m c (ck c 2) (ck_lt c 2) rfl (q16_2 c) (q17_2 c) k) $$ [Hb0 B2 K2]
  · isplitl [Hb0]
    · iexact Hb0
    isplitl [B2]
    · iexact B2
    iexact K2
  iintro ⟨Hb0, B2, K2⟩
  iapply (w_end m c (ck c 3) 3 (by decide) w_sem3) $$ [HC W3]
  · isplitl [HC]
    · iexact HC
    iexact W3
  iintro ⟨HC, A3, B3, V3⟩
  iapply (gemm0_op m c (ck c 3) (ck_lt c 3) rfl (q16_3 c) (q17_3 c) k) $$ [Hb0 B3 K3]
  · isplitl [Hb0]
    · iexact Hb0
    isplitl [B3]
    · iexact B3
    iexact K3
  iintro ⟨Hb0, B3, K3⟩
  iapply Hk
  isplitl [HC]; · iexact HC
  isplitl [K1 K2 K3 HP1 HP2]
  · ihave K := (rest_123 m c) $$ [K1 K2 K3]
    · isplitl [K1]; · iexact K1
      isplitl [K2] <;> iassumption
    icases K with ⟨K1, K2, K3⟩
    isplitl [K1]; · iexact K1
    isplitl [K2]; · iexact K2
    isplitl [K3]; · iexact K3
    isplitl [HP1]; · iexact HP1
    iexact HP2
  isplitl [Hb0 Hs0 HF]
  · iapply (xf_go m c 0 h1)
    isplitl [Hb0]
    · iapply (xany_intro (F := F) c 0 (XB m c 0)) $$ Hb0
    isplitl [Hs0]; · iexact Hs0
    iexact HF
  iapply (wm_all m c)
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [V0]
  · iexact V0
  isplitl [V1]
  · iexact V1
  isplitl [V2]
  · iexact V2
  iexact V3

end Cert.KernelIdeal.Ring
end
-- ==== Proof.StageE.lean ====
/- The second reduction step of a tile. -/
module

public import proofs.«01_k».proof.Proof.StageC
public import proofs.«01_k».proof.Proof.Gemm2

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The second reduction step, and the first half of the next tile's product. -/
theorem stE {α : Type} {Q : α → sProp 𝕄} (c : Dev nD) {i : grid0.Coords} {t : ℕ} (hi : At i t) (arg0 : BitVec 32) (v2 : BitVec 32) (v27 : BitVec 1) (v13 : BitVec 32) (v24 : BitVec 32) (kk : Prog (TpuEff nD τ sig (Elt F) Λ₀ .tc) α) :
    iprop(Ctl m c (48 * t + 16) (48 * t + 8) (48 * t + 0) ∗ XF m c t ∗ WM m c ∗ (UD fun d u => Wp d c 2 u fullShare (P m c t)) ∗ UD fun d u => Perm (F := F) d c 2 u t)
      ⊢ iprop(((Ctl m c (48 * t + 24) (48 * t + 16) (48 * t + 16) ∗ XD m c t ∗ WM m c ∗ WN m c t 0 ∗ WN m c t 1 ∗ (UD fun d u => own (F := F) d c 1 u) ∗ (UD fun d u => Perm (F := F) d c 3 u t) ∗ (UD fun d u => Perm (F := F) d c 4 u t) ∗ UD fun d u => Perm (F := F) d c 5 u t) -∗ WP c (kk) Q)
        -∗ WP c (do
          k0_part36 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          let ⟨v737, v738, v739, v740, c0_i32_581⟩ : Σ' (v737 : BitVec 32) (v738 : BitVec 32) (v739 : BitVec 1) (v740 : BitVec 1), BitVec 32 ← k0_part37 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v27
          let c1_i32_606 : BitVec 32 ← k0_part38 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v13 v24 v27 v737 v738 v739 v740 c0_i32_581
          let ⟨v796, v808⟩ : Σ' (v796 : BitVec 32), BitVec 32 ← k0_part39 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c1_i32_606
          k0_part40 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v796 v808
          let ⟨v864, v868, v869, c0_i32_681⟩ : Σ' (v864 : BitVec 32) (v868 : BitVec 32) (v869 : BitVec 32), BitVec 32 ← k0_part41 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part42 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v864 v868 v869 c0_i32_681
          let c1_i32_731 : BitVec 32 ← k0_part43 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let ⟨v956, v968⟩ : Σ' (v956 : BitVec 32), BitVec 32 ← k0_part44 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c1_i32_731
          k0_part45 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v956 v968
          let ⟨v1024, v1028, v1029, c0_i32_807⟩ : Σ' (v1024 : BitVec 32) (v1028 : BitVec 32) (v1029 : BitVec 32), BitVec 32 ← k0_part46 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part47 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v1024 v1028 v1029 c0_i32_807
          k0_part48 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13
          k0_part49 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          k0_part50 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v24 v27
          kk) Q) := by
  have ht := hi.lt
  iintro ⟨HC, HX, HWM, ⟨W0, W1, W2, W3⟩, ⟨P0, P1, P2, P3⟩⟩ Hk
  rw [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [Prog.lift, Prog.bind_op, Prog.bind_ret, Prog.pure_eq_ret, Prog.bind_assoc]
  iapply (left2w m c 0 0 t (a := 16) (b := 8) (e := 0) ht (by decide) (by decide) rfl (by decide) sSR0 sSL0) $$ HC
  iintro ⟨HC, S0⟩
  iapply (left2w m c 0 1 t (a := 16) (b := 8) (e := 2) ht (by decide) (by decide) rfl (by decide) sSR1 sSL1) $$ HC
  iintro ⟨HC, S1⟩
  iapply (left2w m c 0 2 t (a := 16) (b := 8) (e := 4) ht (by decide) (by decide) rfl (by decide) sSR2 sSL2) $$ HC
  iintro ⟨HC, S2⟩
  iapply (left2w m c 0 3 t (a := 16) (b := 8) (e := 6) ht (by decide) (by decide) rfl (by decide) sSR3 sSL3) $$ HC
  iintro ⟨HC, S3⟩
  ihave S0 := (unsrc2 m c 0 t (s := 0) (by decide)) $$ S0
  ihave S1 := (unsrc2 m c 1 t (s := 0) (by decide)) $$ S1
  ihave S2 := (unsrc2 m c 2 t (s := 0) (by decide)) $$ S2
  ihave S3 := (unsrc2 m c 3 t (s := 0) (by decide)) $$ S3
  iapply (wp_if c iprop(Ctl m c (48 * t + 16) (48 * t + 8) (48 * t + 8) ∗ XF m c t) iprop(Ctl m c (48 * t + 16) (48 * t + 8) (48 * t + 8) ∗ XD m c t))
  isplitr
  · iintro %h ⟨HC, HX⟩ HK
    have h1 := (cd5 hi).mp h
    simp only [Prog.lift, Prog.bind_op, Prog.bind_ret, Prog.pure_eq_ret, Prog.bind_assoc]
    ihave HX := (xf_pos m c t h1) $$ HX
    icases HX with ⟨Ha, Hs, HF⟩
    iapply (x_end m c (t + 1) ((t + 1) % 2) (Nat.mod_lt _ (by decide)) (x_sem (Nat.mod_lt _ (by decide)) (gx34 hi h1))) $$ [HC HF]
    · isplitl [HC]
      · iexact HC
      iexact HF
    iintro ⟨HC, Hh, Hb, Hs2⟩
    iapply HK
    isplitl [HC]; · iexact HC
    iapply (xd_pos m c t h1)
    isplitl [Hh]
    · iexact Hh
    isplitl [Ha]
    · iexact Ha
    isplitl [Hs]
    · iexact Hs
    isplitl [Hs2]
    · iexact Hs2
    iexact Hb
  isplitr
  · iintro %h ⟨HC, HX⟩
    have h1 := fun h1 => h ((cd5 hi).mpr h1)
    isplitl [HC]; · iexact HC
    iapply (xf_neg m c t h1) $$ HX
  isplitl [HC HX]
  · isplitl [HC]
    · iexact HC
    iexact HX
  iintro ⟨HC, HX⟩
  simp only [Prog.lift, Prog.bind_op, Prog.bind_ret, Prog.pure_eq_ret, Prog.bind_assoc]
  iapply (wp_if c iprop(XD m c t ∗ WM m c ∗ UD fun d u => Wp d c 0 u fullShare ((fun d => acc m d 0 c t) d)) iprop(XD m c t ∗ WM m c ∗ WN m c t 0))
  isplitr
  · iintro %h ⟨HX, HWM, HW⟩ HK
    have h1 := (cd6 hi).mp h
    rw [k0_part9_eq_skeleton]
    unfold k0_part9_skel
    simp only [Prog.lift, Prog.bind_op, Prog.bind_ret, Prog.pure_eq_ret, Prog.bind_assoc]
    iapply (gemm2 m c t 0 h1 (gx37 hi h1) (gx37 hi h1) (oh38f c) (oh38t c) (oh39f c) (oh39t c) (fun d => acc m d 0 c t)) $$ [HX HWM HW]
    · isplitl [HX]
      · iexact HX
      isplitl [HWM]
      · iexact HWM
      iexact HW
    iintro HX
    iapply HK $$ HX
  isplitr
  · iintro %h ⟨HX, HWM, HW⟩
    have h1 := fun h1 => h ((cd6 hi).mpr h1)
    isplitl [HX]; · iexact HX
    isplitl [HWM]; · iexact HWM
    iapply (wn_last m c t 0 h1 (fun d => acc m d 0 c t)) $$ HW
  isplitl [HX HWM S0 S1 S2 S3]
  · isplitl [HX]
    · iexact HX
    isplitl [HWM]
    · iexact HWM
    isplitl [S0]
    · iexact S0
    isplitl [S1]
    · iexact S1
    isplitl [S2]
    · iexact S2
    iexact S3
  iintro ⟨HX, HWM, HN0⟩
  simp only [Prog.lift, Prog.bind_op, Prog.bind_ret, Prog.pure_eq_ret, Prog.bind_assoc]
  iapply (recv2 m c 1 0 t (a := 16) (b := 8) (e := 8) ht (by decide) (by decide) rfl (by decide) sRR4 sRL4) $$ HC
  iintro ⟨HC, HR, HS⟩
  iapply (add2 m c 1 0 t (by decide) (o20_1 c) (o21_1 c) rfl rfl) $$ [W0 HR HS]
  · isplitl [W0]
    · iexact W0
    isplitl [HR]
    · iexact HR
    iexact HS
  iintro ⟨HW, O0, HG⟩
  ihave H := (perm345 (F := F) c 0 t) $$ HG
  icases H with ⟨A0, B0, D0⟩
  ihave HW := (src2 m c 0 t (s := 2) (by decide)) $$ HW
  ihave HG := (give2_nil (F := F) c 0 t (s := 2) (by decide) (by decide))
  iapply (send2w m c 2 0 t (a := 16) (b := 10) (e := 8) ht (by decide) (by decide) rfl (by decide) (by decide) (o18_2 c) (o19_2 c) rfl rfl (dv19 c _) (dv20 c _) sSR8 sRR8 sSL8 sRL8) $$ [HC HW P0 HG]
  · isplitl [HC]
    · iexact HC
    isplitl [HW]
    · iexact HW
    isplitl [P0]
    · iexact P0
    iexact HG
  iintro HC
  iapply (recv2 m c 1 1 t (a := 18) (b := 10) (e := 8) ht (by decide) (by decide) rfl (by decide) sRR5 sRL5) $$ HC
  iintro ⟨HC, HR, HS⟩
  iapply (add2 m c 1 1 t (by decide) (o24_1 c) (o25_1 c) rfl rfl) $$ [W1 HR HS]
  · isplitl [W1]
    · iexact W1
    isplitl [HR]
    · iexact HR
    iexact HS
  iintro ⟨HW, O1, HG⟩
  ihave H := (perm345 (F := F) c 1 t) $$ HG
  icases H with ⟨A1, B1, D1⟩
  ihave HW := (src2 m c 1 t (s := 2) (by decide)) $$ HW
  ihave HG := (give2_nil (F := F) c 1 t (s := 2) (by decide) (by decide))
  iapply (send2w m c 2 1 t (a := 18) (b := 12) (e := 8) ht (by decide) (by decide) rfl (by decide) (by decide) (o22_2 c) (o23_2 c) rfl rfl (dv21 c _) (dv22 c _) sSR9 sRR9 sSL9 sRL9) $$ [HC HW P1 HG]
  · isplitl [HC]
    · iexact HC
    isplitl [HW]
    · iexact HW
    isplitl [P1]
    · iexact P1
    iexact HG
  iintro HC
  iapply (recv2 m c 1 2 t (a := 20) (b := 12) (e := 8) ht (by decide) (by decide) rfl (by decide) sRR6 sRL6) $$ HC
  iintro ⟨HC, HR, HS⟩
  iapply (add2 m c 1 2 t (by decide) (o28_1 c) (o29_1 c) rfl rfl) $$ [W2 HR HS]
  · isplitl [W2]
    · iexact W2
    isplitl [HR]
    · iexact HR
    iexact HS
  iintro ⟨HW, O2, HG⟩
  ihave H := (perm345 (F := F) c 2 t) $$ HG
  icases H with ⟨A2, B2, D2⟩
  ihave HW := (src2 m c 2 t (s := 2) (by decide)) $$ HW
  ihave HG := (give2_nil (F := F) c 2 t (s := 2) (by decide) (by decide))
  iapply (send2w m c 2 2 t (a := 20) (b := 14) (e := 8) ht (by decide) (by decide) rfl (by decide) (by decide) (o26_2 c) (o27_2 c) rfl rfl (dv23 c _) (dv24 c _) sSR10 sRR10 sSL10 sRL10) $$ [HC HW P2 HG]
  · isplitl [HC]
    · iexact HC
    isplitl [HW]
    · iexact HW
    isplitl [P2]
    · iexact P2
    iexact HG
  iintro HC
  iapply (recv2 m c 1 3 t (a := 22) (b := 14) (e := 8) ht (by decide) (by decide) rfl (by decide) sRR7 sRL7) $$ HC
  iintro ⟨HC, HR, HS⟩
  iapply (add2 m c 1 3 t (by decide) (o32_1 c) (o33_1 c) rfl rfl) $$ [W3 HR HS]
  · isplitl [W3]
    · iexact W3
    isplitl [HR]
    · iexact HR
    iexact HS
  iintro ⟨HW, O3, HG⟩
  ihave H := (perm345 (F := F) c 3 t) $$ HG
  icases H with ⟨A3, B3, D3⟩
  ihave HW := (src2 m c 3 t (s := 2) (by decide)) $$ HW
  ihave HG := (give2_nil (F := F) c 3 t (s := 2) (by decide) (by decide))
  iapply (send2w m c 2 3 t (a := 22) (b := 16) (e := 8) ht (by decide) (by decide) rfl (by decide) (by decide) (o30_2 c) (o31_2 c) rfl rfl (dv25 c _) (dv26 c _) sSR11 sRR11 sSL11 sRL11) $$ [HC HW P3 HG]
  · isplitl [HC]
    · iexact HC
    isplitl [HW]
    · iexact HW
    isplitl [P3]
    · iexact P3
    iexact HG
  iintro HC
  iapply (left2w m c 1 0 t (a := 24) (b := 16) (e := 8) ht (by decide) (by decide) rfl (by decide) sSR4 sSL4) $$ HC
  iintro ⟨HC, S0⟩
  iapply (left2w m c 1 1 t (a := 24) (b := 16) (e := 10) ht (by decide) (by decide) rfl (by decide) sSR5 sSL5) $$ HC
  iintro ⟨HC, S1⟩
  iapply (left2w m c 1 2 t (a := 24) (b := 16) (e := 12) ht (by decide) (by decide) rfl (by decide) sSR6 sSL6) $$ HC
  iintro ⟨HC, S2⟩
  iapply (left2w m c 1 3 t (a := 24) (b := 16) (e := 14) ht (by decide) (by decide) rfl (by decide) sSR7 sSL7) $$ HC
  iintro ⟨HC, S3⟩
  ihave S0 := (unsrc2 m c 0 t (s := 1) (by decide)) $$ S0
  ihave S1 := (unsrc2 m c 1 t (s := 1) (by decide)) $$ S1
  ihave S2 := (unsrc2 m c 2 t (s := 1) (by decide)) $$ S2
  ihave S3 := (unsrc2 m c 3 t (s := 1) (by decide)) $$ S3
  iapply (wp_if c iprop(XD m c t ∗ WM m c ∗ UD fun d u => Wp d c 1 u fullShare ((fun d => acc m d 1 c t) d)) iprop(XD m c t ∗ WM m c ∗ WN m c t 1))
  isplitr
  · iintro %h ⟨HX, HWM, HW⟩ HK
    have h1 := (cd7 hi).mp h
    rw [k0_part10_eq_skeleton]
    unfold k0_part10_skel
    simp only [Prog.lift, Prog.bind_op, Prog.bind_ret, Prog.pure_eq_ret, Prog.bind_assoc]
    iapply (gemm2 m c t 1 h1 (gx40 hi h1) (gx40 hi h1) (oh41f c) (oh41t c) (oh42f c) (oh42t c) (fun d => acc m d 1 c t)) $$ [HX HWM HW]
    · isplitl [HX]
      · iexact HX
      isplitl [HWM]
      · iexact HWM
      iexact HW
    iintro HX
    iapply HK $$ HX
  isplitr
  · iintro %h ⟨HX, HWM, HW⟩
    have h1 := fun h1 => h ((cd7 hi).mpr h1)
    isplitl [HX]; · iexact HX
    isplitl [HWM]; · iexact HWM
    iapply (wn_last m c t 1 h1 (fun d => acc m d 1 c t)) $$ HW
  isplitl [HX HWM S0 S1 S2 S3]
  · isplitl [HX]
    · iexact HX
    isplitl [HWM]
    · iexact HWM
    isplitl [S0]
    · iexact S0
    isplitl [S1]
    · iexact S1
    isplitl [S2]
    · iexact S2
    iexact S3
  iintro ⟨HX, HWM, HN1⟩
  simp only [Prog.lift, Prog.bind_op, Prog.bind_ret, Prog.pure_eq_ret, Prog.bind_assoc]
  iapply Hk
  isplitl [HC]
  · iexact HC
  isplitl [HX]
  · iexact HX
  isplitl [HWM]
  · iexact HWM
  isplitl [HN0]
  · iexact HN0
  isplitl [HN1]
  · iexact HN1
  isplitl [O0 O1 O2 O3]
  · isplitl [O0]
    · iexact O0
    isplitl [O1]
    · iexact O1
    isplitl [O2]
    · iexact O2
    iexact O3
  isplitl [A0 A1 A2 A3]
  · isplitl [A0]
    · iexact A0
    isplitl [A1]
    · iexact A1
    isplitl [A2]
    · iexact A2
    iexact A3
  isplitl [B0 B1 B2 B3]
  · isplitl [B0]
    · iexact B0
    isplitl [B1]
    · iexact B1
    isplitl [B2]
    · iexact B2
    iexact B3
  isplitl [D0]
  · iexact D0
  isplitl [D1]
  · iexact D1
  isplitl [D2]
  · iexact D2
  iexact D3

end Cert.KernelIdeal.Ring
end
-- ==== Proof.StageF.lean ====
/- The third reduction step of a tile. -/
module

public import proofs.«01_k».proof.Proof.StageC

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The third reduction step, finishing a half-column. -/
theorem stF {α : Type} {Q : α → sProp 𝕄} (c : Dev nD) {i : grid0.Coords} {t : ℕ} (hi : At i t) (v2 : BitVec 32) (v13 : BitVec 32) (v43 : BitVec 32) (v24 : BitVec 32) (v54 : BitVec 32) (kk : Prog (TpuEff nD τ sig (Elt F) Λ₀ .tc) α) :
    iprop(Ctl m c (48 * t + 24) (48 * t + 16) (48 * t + 16) ∗ (UD fun d u => Wp d c 3 u fullShare (P m c t)) ∗ (UD fun d u => Perm (F := F) d c 3 u t) ∗ (UD fun d u => own (F := F) d c 0 u) ∗ UD fun d u => own (F := F) d c 1 u)
      ⊢ iprop(((Ctl m c (48 * t + 32) (48 * t + 24) (48 * t + 16) ∗ (UD fun d u => Wp d c 3 u fullShare.right (fin m t)) ∗ UD fun d u => keep (F := F) d c u t) -∗ WP c (kk) Q)
        -∗ WP c (do
          let ⟨v1168, v1172, v1173, v1174, v1177⟩ : Σ' (v1168 : BitVec 32) (v1172 : BitVec 32) (v1173 : BitVec 32) (v1174 : BitVec 1), BitVec 1 ← k0_part51 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13
          let ⟨v1213, v1214⟩ : Σ' (v1213 : FVec F S128x512 .f32), BitVec 32 ← k0_part52 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v1168 v1172 v1173 v1174 v1177
          k0_part53 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v54 v1213 v1214
          let ⟨v1278, c2_i32_1010⟩ : Σ' (v1278 : BitVec 32), BitVec 32 ← k0_part54 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          let v1314 : FVec F S128x512 .f32 ← k0_part55 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1278 c2_i32_1010
          k0_part56 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v43 v54 v1314
          let ⟨v1378, c4_i32_1081⟩ : Σ' (v1378 : BitVec 32), BitVec 32 ← k0_part57 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          let v1400 : BitVec 32 ← k0_part58 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1378 c4_i32_1081
          let ⟨v1448, v1452⟩ : Σ' (v1448 : FVec F S128x512 .f32), Vec F S128x512 .f32 ← k0_part59 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v54 v1400
          let v1480 : BitVec 32 ← k0_part60 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v1448 v1452
          let ⟨v1498, v1510, v1513, v1514⟩ : Σ' (v1498 : BitVec 32) (v1510 : BitVec 32) (v1513 : Vec F S128x512 .f32), Vec F S1x128x512 .f32 ← k0_part61 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1480
          k0_part62 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v54 v1498 v1510 v1513 v1514
          k0_part63 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v54
          kk) Q) := by
  have ht := hi.lt
  iintro ⟨HC, ⟨W0, W1, W2, W3⟩, ⟨P0, P1, P2, P3⟩, ⟨A0, A1, A2, A3⟩, ⟨B0, B1, B2, B3⟩⟩ Hk
  rw [k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
  unfold k0_part51_skel k0_part52_skel k0_part53_skel k0_part54_skel k0_part55_skel k0_part56_skel k0_part57_skel k0_part58_skel k0_part59_skel k0_part60_skel k0_part61_skel k0_part62_skel k0_part63_skel
  simp only [Prog.lift, Prog.bind_op, Prog.bind_ret, Prog.pure_eq_ret, Prog.bind_assoc]
  iapply (recv2 m c 2 0 t (a := 24) (b := 16) (e := 16) ht (by decide) (by decide) rfl (by decide) sRR8 sRL8) $$ HC
  iintro ⟨HC, HR, HS⟩
  iapply (add2 m c 2 0 t (by decide) (o20_2 c) (o21_2 c) rfl rfl) $$ [W0 HR HS]
  · isplitl [W0]
    · iexact W0
    isplitl [HR]
    · iexact HR
    iexact HS
  iintro ⟨HW, HO, -⟩
  iapply (silu2 m c 0 t (o43 c) (o44 c)) $$ HW
  iintro HW
  ihave HW := (fin2 m c 0 t) $$ HW
  icases HW with ⟨HW, R0⟩
  ihave H := (give2_three m c 0 t (ks := 48 * t + 24) (kr := 48 * t + 18) (kw := 48 * t + 16) 18 (by decide) rfl (by decide) (by decide)) $$ [HC A0 B0 HO]
  · isplitl [HC]
    · iexact HC
    isplitl [A0]
    · iexact A0
    isplitl [B0]
    · iexact B0
    iexact HO
  icases H with ⟨HC, HG, K0⟩
  iapply (send2w m c 3 0 t (a := 24) (b := 18) (e := 16) ht (by decide) (by decide) rfl (by decide) (by decide) (o45 c) (o46 c) rfl rfl (dv27 c _) (dv28 c _) sSR12 sRR12 sSL12 sRL12) $$ [HC HW P0 HG]
  · isplitl [HC]
    · iexact HC
    isplitl [HW]
    · iexact HW
    isplitl [P0]
    · iexact P0
    iexact HG
  iintro HC
  iapply (recv2 m c 2 1 t (a := 26) (b := 18) (e := 16) ht (by decide) (by decide) rfl (by decide) sRR9 sRL9) $$ HC
  iintro ⟨HC, HR, HS⟩
  iapply (add2 m c 2 1 t (by decide) (o24_2 c) (o25_2 c) rfl rfl) $$ [W1 HR HS]
  · isplitl [W1]
    · iexact W1
    isplitl [HR]
    · iexact HR
    iexact HS
  iintro ⟨HW, HO, -⟩
  iapply (silu2 m c 1 t (o47 c) (o48 c)) $$ HW
  iintro HW
  ihave HW := (fin2 m c 1 t) $$ HW
  icases HW with ⟨HW, R1⟩
  ihave H := (give2_three m c 1 t (ks := 48 * t + 26) (kr := 48 * t + 20) (kw := 48 * t + 16) 20 (by decide) rfl (by decide) (by decide)) $$ [HC A1 B1 HO]
  · isplitl [HC]
    · iexact HC
    isplitl [A1]
    · iexact A1
    isplitl [B1]
    · iexact B1
    iexact HO
  icases H with ⟨HC, HG, K1⟩
  iapply (send2w m c 3 1 t (a := 26) (b := 20) (e := 16) ht (by decide) (by decide) rfl (by decide) (by decide) (o49 c) (o50 c) rfl rfl (dv29 c _) (dv30 c _) sSR13 sRR13 sSL13 sRL13) $$ [HC HW P1 HG]
  · isplitl [HC]
    · iexact HC
    isplitl [HW]
    · iexact HW
    isplitl [P1]
    · iexact P1
    iexact HG
  iintro HC
  iapply (recv2 m c 2 2 t (a := 28) (b := 20) (e := 16) ht (by decide) (by decide) rfl (by decide) sRR10 sRL10) $$ HC
  iintro ⟨HC, HR, HS⟩
  iapply (add2 m c 2 2 t (by decide) (o28_2 c) (o29_2 c) rfl rfl) $$ [W2 HR HS]
  · isplitl [W2]
    · iexact W2
    isplitl [HR]
    · iexact HR
    iexact HS
  iintro ⟨HW, HO, -⟩
  iapply (silu2 m c 2 t (o51 c) (o52 c)) $$ HW
  iintro HW
  ihave HW := (fin2 m c 2 t) $$ HW
  icases HW with ⟨HW, R2⟩
  ihave H := (give2_three m c 2 t (ks := 48 * t + 28) (kr := 48 * t + 22) (kw := 48 * t + 16) 22 (by decide) rfl (by decide) (by decide)) $$ [HC A2 B2 HO]
  · isplitl [HC]
    · iexact HC
    isplitl [A2]
    · iexact A2
    isplitl [B2]
    · iexact B2
    iexact HO
  icases H with ⟨HC, HG, K2⟩
  iapply (send2w m c 3 2 t (a := 28) (b := 22) (e := 16) ht (by decide) (by decide) rfl (by decide) (by decide) (o53 c) (o54 c) rfl rfl (dv31 c _) (dv32 c _) sSR14 sRR14 sSL14 sRL14) $$ [HC HW P2 HG]
  · isplitl [HC]
    · iexact HC
    isplitl [HW]
    · iexact HW
    isplitl [P2]
    · iexact P2
    iexact HG
  iintro HC
  iapply (recv2 m c 2 3 t (a := 30) (b := 22) (e := 16) ht (by decide) (by decide) rfl (by decide) sRR11 sRL11) $$ HC
  iintro ⟨HC, HR, HS⟩
  iapply (add2 m c 2 3 t (by decide) (o32_2 c) (o33_2 c) rfl rfl) $$ [W3 HR HS]
  · isplitl [W3]
    · iexact W3
    isplitl [HR]
    · iexact HR
    iexact HS
  iintro ⟨HW, HO, -⟩
  iapply (silu2 m c 3 t (o55 c) (o56 c)) $$ HW
  iintro HW
  ihave HW := (fin2 m c 3 t) $$ HW
  icases HW with ⟨HW, R3⟩
  ihave H := (give2_three m c 3 t (ks := 48 * t + 30) (kr := 48 * t + 24) (kw := 48 * t + 16) 24 (by decide) rfl (by decide) (by decide)) $$ [HC A3 B3 HO]
  · isplitl [HC]
    · iexact HC
    isplitl [A3]
    · iexact A3
    isplitl [B3]
    · iexact B3
    iexact HO
  icases H with ⟨HC, HG, K3⟩
  iapply (send2w m c 3 3 t (a := 30) (b := 24) (e := 16) ht (by decide) (by decide) rfl (by decide) (by decide) (o57 c) (o58 c) rfl rfl (dv33 c _) (dv34 c _) sSR15 sRR15 sSL15 sRL15) $$ [HC HW P3 HG]
  · isplitl [HC]
    · iexact HC
    isplitl [HW]
    · iexact HW
    isplitl [P3]
    · iexact P3
    iexact HG
  iintro HC
  iapply Hk
  isplitl [HC]
  · iexact HC
  isplitl [R0 R1 R2 R3]
  · isplitl [R0]
    · iexact R0
    isplitl [R1]
    · iexact R1
    isplitl [R2]
    · iexact R2
    iexact R3
  isplitl [K0]
  · iexact K0
  isplitl [K1]
  · iexact K1
  isplitl [K2]
  · iexact K2
  iexact K3

end Cert.KernelIdeal.Ring
end
-- ==== Proof.StageG.lean ====
/- The first copies of the result. -/
module

public import proofs.«01_k».proof.Proof.StageC
public import proofs.«01_k».proof.Proof.Gemm2

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The copies out of the finished half-columns. -/
theorem stG {α : Type} {Q : α → sProp 𝕄} (c : Dev nD) {i : grid0.Coords} {t : ℕ} (hi : At i t) (v2 : BitVec 32) (arg0 : BitVec 32) (v24 : BitVec 32) (v27 : BitVec 1) (v43 : BitVec 32) (v54 : BitVec 32) (kk : Prog (TpuEff nD τ sig (Elt F) Λ₀ .tc) α) :
    iprop(Ctl m c (48 * t + 32) (48 * t + 24) (48 * t + 16) ∗ XD m c t ∗ WM m c ∗ (UD fun d u => Wp d c 3 u fullShare.right (fin m t)) ∗ (D2 fun d => ohR c t (hc d c 3) (ym m c)) ∗ sv (F := F) c (oS 6) ∗ sv (F := F) c (oS 7))
      ⊢ iprop(((Ctl m c (48 * t + 32) (48 * t + 24) (48 * t + 24) ∗ XD m c t ∗ WM m c ∗ WN m c t 2 ∗ OWFl m c false t 6 ∗ OWFl m c true t 7) -∗ WP c (kk) Q)
        -∗ WP c (do
          k0_part64 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          let ⟨v1633, v1634, c4_i32_1280⟩ : Σ' (v1633 : BitVec 32) (v1634 : BitVec 32), BitVec 32 ← k0_part65 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part66 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v24 v27 v43 v54 v1633 v1634 c4_i32_1280
          kk) Q) := by
  have ht := hi.lt
  iintro ⟨HC, HX, HWM, HR, ⟨HO, HO'⟩, V6, V7⟩ Hk
  rw [k0_part64_eq_skeleton, k0_part65_eq_skeleton, k0_part66_eq_skeleton]
  unfold k0_part64_skel k0_part65_skel k0_part66_skel
  simp only [Prog.lift, Prog.bind_op, Prog.bind_ret, Prog.pure_eq_ret, Prog.bind_assoc]
  iapply (left2w m c 2 0 t (a := 32) (b := 24) (e := 16) ht (by decide) (by decide) rfl (by decide) sSR8 sSL8) $$ HC
  iintro ⟨HC, S0⟩
  iapply (left2w m c 2 1 t (a := 32) (b := 24) (e := 18) ht (by decide) (by decide) rfl (by decide) sSR9 sSL9) $$ HC
  iintro ⟨HC, S1⟩
  iapply (left2w m c 2 2 t (a := 32) (b := 24) (e := 20) ht (by decide) (by decide) rfl (by decide) sSR10 sSL10) $$ HC
  iintro ⟨HC, S2⟩
  iapply (left2w m c 2 3 t (a := 32) (b := 24) (e := 22) ht (by decide) (by decide) rfl (by decide) sSR11 sSL11) $$ HC
  iintro ⟨HC, S3⟩
  ihave S0 := (unsrc2 m c 0 t (s := 2) (by decide)) $$ S0
  ihave S1 := (unsrc2 m c 1 t (s := 2) (by decide)) $$ S1
  ihave S2 := (unsrc2 m c 2 t (s := 2) (by decide)) $$ S2
  ihave S3 := (unsrc2 m c 3 t (s := 2) (by decide)) $$ S3
  iapply (wp_if c iprop(XD m c t ∗ WM m c ∗ UD fun d u => Wp d c 2 u fullShare ((fun d => acc m d 2 c t) d)) iprop(XD m c t ∗ WM m c ∗ WN m c t 2))
  isplitr
  · iintro %h ⟨HX, HWM, HW⟩ HK
    have h1 := (cd8 hi).mp h
    rw [k0_part11_eq_skeleton]
    unfold k0_part11_skel
    simp only [Prog.lift, Prog.bind_op, Prog.bind_ret, Prog.pure_eq_ret, Prog.bind_assoc]
    iapply (gemm2 m c t 2 h1 (gx59 hi h1) (gx59 hi h1) (oh60f c) (oh60t c) (oh61f c) (oh61t c) (fun d => acc m d 2 c t)) $$ [HX HWM HW]
    · isplitl [HX]
      · iexact HX
      isplitl [HWM]
      · iexact HWM
      iexact HW
    iintro HX
    iapply HK $$ HX
  isplitr
  · iintro %h ⟨HX, HWM, HW⟩
    have h1 := fun h1 => h ((cd8 hi).mpr h1)
    isplitl [HX]; · iexact HX
    isplitl [HWM]; · iexact HWM
    iapply (wn_last m c t 2 h1 (fun d => acc m d 2 c t)) $$ HW
  isplitl [HX HWM S0 S1 S2 S3]
  · isplitl [HX]
    · iexact HX
    isplitl [HWM]
    · iexact HWM
    isplitl [S0]
    · iexact S0
    isplitl [S1]
    · iexact S1
    isplitl [S2]
    · iexact S2
    iexact S3
  iintro ⟨HX, HWM, HN⟩
  simp only [Prog.lift, Prog.bind_op, Prog.bind_ret, Prog.pure_eq_ret, Prog.bind_assoc]
  ihave HR := (halves c (q := fullShare.right) (s := 3) (fun _ => fin m t)) $$ HR
  icases HR with ⟨HR, HR'⟩
  iapply (ow_go m c false t 6 (oh63f c) (gy62 hi c) o_sem6 (ym m c)) $$ [HR HO V6]
  · isplitl [HR]
    · iexact HR
    isplitl [HO]
    · iexact HO
    iexact V6
  iintro F6
  iapply (ow_go m c true t 7 (oh65t c) (gy64 hi c) o_sem7 (ym m c)) $$ [HR' HO' V7]
  · isplitl [HR']
    · iexact HR'
    isplitl [HO']
    · iexact HO'
    iexact V7
  iintro F7
  iapply Hk
  isplitl [HC]
  · iexact HC
  isplitl [HX]
  · iexact HX
  isplitl [HWM]
  · iexact HWM
  isplitl [HN]
  · iexact HN
  isplitl [F6]
  · iexact F6
  iexact F7

end Cert.KernelIdeal.Ring
end
-- ==== Proof.StageH.lean ====
/- Finished half-columns arrive and are passed on. -/
module

public import proofs.«01_k».proof.Proof.StageC

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The first passing on of finished half-columns. -/
theorem stH {α : Type} {Q : α → sProp 𝕄} (c : Dev nD) {i : grid0.Coords} {t : ℕ} (hi : At i t) (v13 : BitVec 32) (v24 : BitVec 32) (v2 : BitVec 32) (kk : (Σ' (_ : BitVec 32), BitVec 32) → Prog (TpuEff nD τ sig (Elt F) Λ₀ .tc) α) :
    iprop(Ctl m c (48 * t + 32) (48 * t + 24) (48 * t + 24) ∗ UD fun d u => Perm (F := F) d c 4 u t)
      ⊢ iprop((∀ v1807 : BitVec 32, ∀ c0_i32_1445 : BitVec 32, (Ctl m c (48 * t + 40) (48 * t + 32) (48 * t + 24) ∗ (UD fun d u => Cp d c 3 u fullShare.right (slotV m d c 3 t)) ∗ UD fun d u => give (F := F) d c 3 u t) -∗ WP c (kk ⟨v1807, c0_i32_1445⟩) Q)
        -∗ WP c (do
          k0_part67 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part68 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part69 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part70 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part71 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24 >>= kk) Q) := by
  have ht := hi.lt
  iintro ⟨HC, ⟨P0, P1, P2, P3⟩⟩ Hk
  rw [k0_part67_eq_skeleton, k0_part68_eq_skeleton, k0_part69_eq_skeleton, k0_part70_eq_skeleton, k0_part71_eq_skeleton]
  unfold k0_part67_skel k0_part68_skel k0_part69_skel k0_part70_skel k0_part71_skel
  simp only [Prog.lift, Prog.bind_op, Prog.bind_ret, Prog.pure_eq_ret, Prog.bind_assoc]
  iapply (recv2 m c 3 0 t (a := 32) (b := 24) (e := 24) ht (by decide) (by decide) rfl (by decide) sRR12 sRL12) $$ HC
  iintro ⟨HC, HR, HS⟩
  ihave H := (arr2 m c 0 t (s := 3) (by decide)) $$ [HR HS]
  · isplitl [HR]
    · iexact HR
    iexact HS
  icases H with ⟨HW, R0, G0⟩
  iapply (send2c m c 4 0 t (a := 32) (b := 26) (e := 24) ht (by decide) (by decide) (by decide) rfl (by decide) (by decide) rfl rfl rfl rfl (dv35 c _) (dv36 c _) sSR16 sRR16 sSL16 sRL16) $$ [HC HW P0]
  · isplitl [HC]
    · iexact HC
    isplitl [HW]
    · iexact HW
    iexact P0
  iintro HC
  iapply (recv2 m c 3 1 t (a := 34) (b := 26) (e := 24) ht (by decide) (by decide) rfl (by decide) sRR13 sRL13) $$ HC
  iintro ⟨HC, HR, HS⟩
  ihave H := (arr2 m c 1 t (s := 3) (by decide)) $$ [HR HS]
  · isplitl [HR]
    · iexact HR
    iexact HS
  icases H with ⟨HW, R1, G1⟩
  iapply (send2c m c 4 1 t (a := 34) (b := 28) (e := 24) ht (by decide) (by decide) (by decide) rfl (by decide) (by decide) rfl rfl rfl rfl (dv37 c _) (dv38 c _) sSR17 sRR17 sSL17 sRL17) $$ [HC HW P1]
  · isplitl [HC]
    · iexact HC
    isplitl [HW]
    · iexact HW
    iexact P1
  iintro HC
  iapply (recv2 m c 3 2 t (a := 36) (b := 28) (e := 24) ht (by decide) (by decide) rfl (by decide) sRR14 sRL14) $$ HC
  iintro ⟨HC, HR, HS⟩
  ihave H := (arr2 m c 2 t (s := 3) (by decide)) $$ [HR HS]
  · isplitl [HR]
    · iexact HR
    iexact HS
  icases H with ⟨HW, R2, G2⟩
  iapply (send2c m c 4 2 t (a := 36) (b := 30) (e := 24) ht (by decide) (by decide) (by decide) rfl (by decide) (by decide) rfl rfl rfl rfl (dv39 c _) (dv40 c _) sSR18 sRR18 sSL18 sRL18) $$ [HC HW P2]
  · isplitl [HC]
    · iexact HC
    isplitl [HW]
    · iexact HW
    iexact P2
  iintro HC
  iapply (recv2 m c 3 3 t (a := 38) (b := 30) (e := 24) ht (by decide) (by decide) rfl (by decide) sRR15 sRL15) $$ HC
  iintro ⟨HC, HR, HS⟩
  ihave H := (arr2 m c 3 t (s := 3) (by decide)) $$ [HR HS]
  · isplitl [HR]
    · iexact HR
    iexact HS
  icases H with ⟨HW, R3, G3⟩
  iapply (send2c m c 4 3 t (a := 38) (b := 32) (e := 24) ht (by decide) (by decide) (by decide) rfl (by decide) (by decide) rfl rfl rfl rfl (dv41 c _) (dv42 c _) sSR19 sRR19 sSL19 sRL19) $$ [HC HW P3]
  · isplitl [HC]
    · iexact HC
    isplitl [HW]
    · iexact HW
    iexact P3
  iintro HC
  iapply Hk
  isplitl [HC]
  · iexact HC
  isplitl [R0 R1 R2 R3]
  · isplitl [R0]
    · iexact R0
    isplitl [R1]
    · iexact R1
    isplitl [R2]
    · iexact R2
    iexact R3
  isplitl [G0]
  · iexact G0
  isplitl [G1]
  · iexact G1
  isplitl [G2]
  · iexact G2
  iexact G3

end Cert.KernelIdeal.Ring
end
-- ==== Proof.StageI.lean ====
/- The copies of the first arrivals. -/
module

public import proofs.«01_k».proof.Proof.StageC
public import proofs.«01_k».proof.Proof.Gemm2

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- Copies out of the first arrivals; the half-columns sent are given back. -/
theorem stI {α : Type} {Q : α → sProp 𝕄} (c : Dev nD) {i : grid0.Coords} {t : ℕ} (hi : At i t) (v2 : BitVec 32) (v1807 : BitVec 32) (c0_i32_1445 : BitVec 32) (arg0 : BitVec 32) (v24 : BitVec 32) (v27 : BitVec 1) (v43 : BitVec 32) (v54 : BitVec 32) (kk : Prog (TpuEff nD τ sig (Elt F) Λ₀ .tc) α) :
    iprop(Ctl m c (48 * t + 40) (48 * t + 32) (48 * t + 24) ∗ XD m c t ∗ WM m c ∗ (UD fun d u => Cp d c 3 u fullShare.right (slotV m d c 3 t)) ∗ (D2 fun d => ohR c t (hc d c 0) (ym m c)) ∗ sv (F := F) c (oS 0) ∗ sv (F := F) c (oS 1) ∗ OWFl m c false t 6 ∗ OWFl m c true t 7)
      ⊢ iprop(((Ctl m c (48 * t + 40) (48 * t + 32) (48 * t + 32) ∗ XD m c t ∗ WM m c ∗ WN m c t 3 ∗ OCFl m c false 3 t 0 fullShare.right ∗ OCFl m c true 3 t 1 fullShare.right ∗ (D2 fun d => ohR c t (hc d c 3) (YB m)) ∗ sv (F := F) c (oS 6) ∗ sv (F := F) c (oS 7)) -∗ WP c (kk) Q)
        -∗ WP c (do
          k0_part72 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1807 c0_i32_1445
          k0_part73 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          k0_part74 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v24 v27 v43 v54
          kk) Q) := by
  have ht := hi.lt
  iintro ⟨HC, HX, HWM, HR, ⟨HO, HO'⟩, V0, V1, F6, F7⟩ Hk
  rw [k0_part72_eq_skeleton, k0_part73_eq_skeleton, k0_part74_eq_skeleton]
  unfold k0_part72_skel k0_part73_skel k0_part74_skel
  simp only [Prog.lift, Prog.bind_op, Prog.bind_ret, Prog.pure_eq_ret, Prog.bind_assoc]
  ihave HR := (slots c (q := fullShare.right) (s := 3) (fun d => slotV m d c 3 t)) $$ HR
  icases HR with ⟨HR, HR'⟩
  iapply (oc_go m c false 3 t 0 (by decide) fullShare.right rfl rfl (gy66_0 hi c) o_sem0 (ym m c)) $$ [HR HO V0]
  · isplitl [HR]
    · iexact HR
    isplitl [HO]
    · iexact HO
    iexact V0
  iintro F0
  iapply (oc_go m c true 3 t 1 (by decide) fullShare.right rfl rfl (gy67_0 hi c) o_sem1 (ym m c)) $$ [HR' HO' V1]
  · isplitl [HR']
    · iexact HR'
    isplitl [HO']
    · iexact HO'
    iexact V1
  iintro F1
  iapply (left2w m c 3 0 t (a := 40) (b := 32) (e := 24) ht (by decide) (by decide) rfl (by decide) sSR12 sSL12) $$ HC
  iintro ⟨HC, S0⟩
  iapply (left2w m c 3 1 t (a := 40) (b := 32) (e := 26) ht (by decide) (by decide) rfl (by decide) sSR13 sSL13) $$ HC
  iintro ⟨HC, S1⟩
  iapply (left2w m c 3 2 t (a := 40) (b := 32) (e := 28) ht (by decide) (by decide) rfl (by decide) sSR14 sSL14) $$ HC
  iintro ⟨HC, S2⟩
  iapply (left2w m c 3 3 t (a := 40) (b := 32) (e := 30) ht (by decide) (by decide) rfl (by decide) sSR15 sSL15) $$ HC
  iintro ⟨HC, S3⟩
  iapply (ow_end m c false t 6 (by decide) o_sem6) $$ [HC F6]
  · isplitl [HC]
    · iexact HC
    iexact F6
  iintro ⟨HC, B, Y, V6⟩
  iapply (ow_end m c true t 7 (by decide) o_sem7) $$ [HC F7]
  · isplitl [HC]
    · iexact HC
    iexact F7
  iintro ⟨HC, B', Y', V7⟩
  ihave B := (unhalves c (q := fullShare.right) (s := 3) (fun _ => fin m t)) $$ [B B']
  · isplitl [B]; · iexact B
    iexact B'
  icases B with ⟨B0, B1, B2, B3⟩
  ihave S0 := (unfin2 m c 0 t) $$ [S0 B0]
  · isplitl [S0]
    · iexact S0
    iexact B0
  ihave S1 := (unfin2 m c 1 t) $$ [S1 B1]
  · isplitl [S1]
    · iexact S1
    iexact B1
  ihave S2 := (unfin2 m c 2 t) $$ [S2 B2]
  · isplitl [S2]
    · iexact S2
    iexact B2
  ihave S3 := (unfin2 m c 3 t) $$ [S3 B3]
  · isplitl [S3]
    · iexact S3
    iexact B3
  iapply (wp_if c iprop(XD m c t ∗ WM m c ∗ UD fun d u => Wp d c 3 u fullShare ((fun _ => fin m t) d)) iprop(XD m c t ∗ WM m c ∗ WN m c t 3))
  isplitr
  · iintro %h ⟨HX, HWM, HW⟩ HK
    have h1 := (cd9 hi).mp h
    rw [k0_part12_eq_skeleton]
    unfold k0_part12_skel
    simp only [Prog.lift, Prog.bind_op, Prog.bind_ret, Prog.pure_eq_ret, Prog.bind_assoc]
    iapply (gemm2 m c t 3 h1 (gx68 hi h1) (gx68 hi h1) (oh69f c) (oh71t c) (oh70f c) (oh72t c) (fun _ => fin m t)) $$ [HX HWM HW]
    · isplitl [HX]
      · iexact HX
      isplitl [HWM]
      · iexact HWM
      iexact HW
    iintro HX
    iapply HK $$ HX
  isplitr
  · iintro %h ⟨HX, HWM, HW⟩
    have h1 := fun h1 => h ((cd9 hi).mpr h1)
    isplitl [HX]; · iexact HX
    isplitl [HWM]; · iexact HWM
    iapply (wn_last m c t 3 h1 (fun _ => fin m t)) $$ HW
  isplitl [HX HWM S0 S1 S2 S3]
  · isplitl [HX]
    · iexact HX
    isplitl [HWM]
    · iexact HWM
    isplitl [S0]
    · iexact S0
    isplitl [S1]
    · iexact S1
    isplitl [S2]
    · iexact S2
    iexact S3
  iintro ⟨HX, HWM, HN⟩
  simp only [Prog.lift, Prog.bind_op, Prog.bind_ret, Prog.pure_eq_ret, Prog.bind_assoc]
  iapply Hk
  isplitl [HC]
  · iexact HC
  isplitl [HX]
  · iexact HX
  isplitl [HWM]
  · iexact HWM
  isplitl [HN]
  · iexact HN
  isplitl [F0]
  · iexact F0
  isplitl [F1]
  · iexact F1
  isplitl [Y Y']
  · isplitl [Y]
    · iexact Y
    iexact Y'
  isplitl [V6]
  · iexact V6
  iexact V7

end Cert.KernelIdeal.Ring
end
-- ==== Proof.Half.lean ====
/- The first part of a tile. -/
module

public import proofs.«01_k».proof.Proof.StageA
public import proofs.«01_k».proof.Proof.StageC
public import proofs.«01_k».proof.Proof.StageE
public import proofs.«01_k».proof.Proof.StageF
public import proofs.«01_k».proof.Proof.StageG
public import proofs.«01_k».proof.Proof.StageH
public import proofs.«01_k».proof.Proof.StageI

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem wp_seq {α β : Type} {Q : α → sProp 𝕄} (c : Dev nD) (R : β → sProp 𝕄) {p : Prog (TpuEff nD τ sig (Elt F) Λ₀ .tc) β} {k : β → Prog (TpuEff nD τ sig (Elt F) Λ₀ .tc) α} :
    iprop(WP c p R ∗ ∀ a, R a -∗ WP c (k a) Q) ⊢ WP c (p >>= k) Q := by
  unfold WP
  rw [wp_bind]
  exact wp_wand_r _ _ _
/-- A part that only computes. -/
theorem wp_pure {α β : Type} {Q : α → sProp 𝕄} (c : Dev nD) {p : Prog (TpuEff nD τ sig (Elt F) Λ₀ .tc) β} {k : β → Prog (TpuEff nD τ sig (Elt F) Λ₀ .tc) α} (h : ∃ r, p = Pure.pure r) (R : sProp 𝕄) :
    R ⊢ iprop((∀ a, R -∗ WP c (k a) Q) -∗ WP c (p >>= k) Q) := by
  obtain ⟨r, rfl⟩ := h
  show R ⊢ iprop((∀ a, R -∗ WP c (k a) Q) -∗ WP c (k r) Q)
  iintro H Hk
  iapply Hk $$ H
theorem pu16 (i : grid0.Coords) (v2 : BitVec 32) (c1_i32_17 : BitVec 32) : ∃ r, k0_part16 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 c1_i32_17 = Pure.pure r := by
  rw [k0_part16_eq_skeleton]; exact ⟨_, rfl⟩
theorem pu17 (i : grid0.Coords) (v2 : BitVec 32) (v65 : BitVec 32) (v66 : BitVec 32) (v68 : BitVec 32) : ∃ r, k0_part17 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v65 v66 v68 = Pure.pure r := by
  rw [k0_part17_eq_skeleton]; exact ⟨_, rfl⟩
theorem pu18 (i : grid0.Coords) (v2 : BitVec 32) (c0_i32_64 : BitVec 32) : ∃ r, k0_part18 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 c0_i32_64 = Pure.pure r := by
  rw [k0_part18_eq_skeleton]; exact ⟨_, rfl⟩
theorem pu19 (i : grid0.Coords) (v2 : BitVec 32) (v140 : BitVec 32) (c0_i32_88 : BitVec 32) : ∃ r, k0_part19 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v140 c0_i32_88 = Pure.pure r := by
  rw [k0_part19_eq_skeleton]; exact ⟨_, rfl⟩
theorem pu20 (i : grid0.Coords) (v2 : BitVec 32) (v165 : BitVec 32) (v176 : BitVec 32) (c1024_i32_112 : BitVec 32) : ∃ r, k0_part20 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v165 v176 c1024_i32_112 = Pure.pure r := by
  rw [k0_part20_eq_skeleton]; exact ⟨_, rfl⟩
theorem pu21 (i : grid0.Coords) (v2 : BitVec 32) (v207 : BitVec 32) (v208 : BitVec 32) (v209 : BitVec 1) (v210 : BitVec 1) (c0_i32_138 : BitVec 32) : ∃ r, k0_part21 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v207 v208 v209 v210 c0_i32_138 = Pure.pure r := by
  rw [k0_part21_eq_skeleton]; exact ⟨_, rfl⟩
theorem pu22 (i : grid0.Coords) (v2 : BitVec 32) (v240 : BitVec 32) (v243 : BitVec 32) (v244 : BitVec 32) (v245 : BitVec 1) (v246 : BitVec 1) (c0_i32_162 : BitVec 32) : ∃ r, k0_part22 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v240 v243 v244 v245 v246 c0_i32_162 = Pure.pure r := by
  rw [k0_part22_eq_skeleton]; exact ⟨_, rfl⟩
theorem pu23 (i : grid0.Coords) (v2 : BitVec 32) (v280 : BitVec 32) (v282 : BitVec 32) : ∃ r, k0_part23 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v280 v282 = Pure.pure r := by
  rw [k0_part23_eq_skeleton]; exact ⟨_, rfl⟩
theorem pu24 (i : grid0.Coords) (v2 : BitVec 32) (v315 : BitVec 32) (v316 : BitVec 32) (v318 : BitVec 32) : ∃ r, k0_part24 (F := F) i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v315 v316 v318 = Pure.pure r := by
  rw [k0_part24_eq_skeleton]; exact ⟨_, rfl⟩

theorem ot_open (c : Dev nD) (t : ℕ) : oT m c false t ⊢ iprop((D2 fun d => ohR c t (hc d c 0) (ym m c)) ∗ (D2 fun d => ohR c t (hc d c 1) (ym m c)) ∗ (D2 fun d => ohR c t (hc d c 2) (ym m c)) ∗ D2 fun d => ohR c t (hc d c 3) (ym m c)) := .rfl
theorem ot_close (c : Dev nD) (t : ℕ) : iprop((D2 fun d => ohR c t (hc d c 0) (YB m)) ∗ (D2 fun d => ohR c t (hc d c 1) (YB m)) ∗ (D2 fun d => ohR c t (hc d c 2) (YB m)) ∗ D2 fun d => ohR c t (hc d c 3) (YB m)) ⊢ oT m c true t := .rfl
theorem rst_open (c : Dev nD) (t : ℕ) (ht : t < 16) : Rst m c t ⊢ iprop((UD fun d u => own (F := F) d c 3 u) ∗ (UD fun d u => own (F := F) d c 4 u) ∗ (UD fun d u => own (F := F) d c 5 u)
    ∗ ((D2 fun d => ohR c t (hc d c 0) (ym m c)) ∗ (D2 fun d => ohR c t (hc d c 1) (ym m c)) ∗ (D2 fun d => ohR c t (hc d c 2) (ym m c)) ∗ D2 fun d => ohR c t (hc d c 3) (ym m c))
    ∗ (oT m c true t -∗ OUT m c (t + 1)) ∗ SVO (F := F) c ∗ semVal (barC c) 0) := by
  have h := out_step m c t ht
  have h' := ot_open m c t
  unfold Rst OW3
  iintro ⟨⟨H3, H4, H5⟩, HO, HS⟩
  ihave HO := h $$ HO
  icases HO with ⟨HO, HK⟩
  isplitl [H3]; · iexact H3
  isplitl [H4]; · iexact H4
  isplitl [H5]; · iexact H5
  isplitl [HO]; · iapply h' $$ HO
  isplitl [HK] <;> iassumption
theorem sent_open (c : Dev nD) (t : ℕ) : Sent m c t ⊢ iprop(Ctl m c (48 * t + 8) (48 * t + 0) (48 * t + 0) ∗ ((UD fun d u => Wp d c 1 u fullShare (P m c t)) ∗ (UD fun d u => Wp d c 2 u fullShare (P m c t)) ∗ (UD fun d u => Wp d c 3 u fullShare (P m c t))
    ∗ (UD fun d u => Perm (F := F) d c 1 u t) ∗ UD fun d u => Perm (F := F) d c 2 u t) ∗ XF m c t ∗ WM m c) := .rfl
theorem svo_open (c : Dev nD) : SVO (F := F) c ⊢ iprop(sv (F := F) c (oS 0) ∗ sv (F := F) c (oS 1) ∗ sv (F := F) c (oS 2) ∗ sv (F := F) c (oS 3) ∗ sv (F := F) c (oS 4) ∗ sv (F := F) c (oS 5) ∗ sv (F := F) c (oS 6) ∗ sv (F := F) c (oS 7)) := .rfl

/-- What a device holds at the end of the long first part of a tile. -/
def Half (c : Dev nD) (t : ℕ) : sProp 𝕄 := iprop(Ctl m c (48 * t + 40) (48 * t + 32) (48 * t + 32) ∗ XD m c t ∗ WM m c ∗ (WN m c t 0 ∗ WN m c t 1 ∗ WN m c t 2 ∗ WN m c t 3) ∗ OCFl m c false 3 t 0 fullShare.right ∗ OCFl m c true 3 t 1 fullShare.right ∗ (D2 fun d => ohR c t (hc d c 3) (YB m)) ∗ sv (F := F) c (oS 6) ∗ sv (F := F) c (oS 7) ∗ (D2 fun d => ohR c t (hc d c 1) (ym m c)) ∗ (D2 fun d => ohR c t (hc d c 2) (ym m c)) ∗ sv (F := F) c (oS 2) ∗ sv (F := F) c (oS 3) ∗ sv (F := F) c (oS 4) ∗ sv (F := F) c (oS 5) ∗ (UD fun d u => Perm (F := F) d c 5 u t) ∗ (UD fun d u => keep (F := F) d c u t) ∗ (UD fun d u => give (F := F) d c 3 u t) ∗ (oT m c true t -∗ OUT m c (t + 1)) ∗ semVal (barC c) 0)

theorem half_intro (c : Dev nD) (t : ℕ) : iprop(Ctl m c (48 * t + 40) (48 * t + 32) (48 * t + 32) ∗ XD m c t ∗ WM m c ∗ (WN m c t 0 ∗ WN m c t 1 ∗ WN m c t 2 ∗ WN m c t 3) ∗ OCFl m c false 3 t 0 fullShare.right ∗ OCFl m c true 3 t 1 fullShare.right ∗ (D2 fun d => ohR c t (hc d c 3) (YB m)) ∗ sv (F := F) c (oS 6) ∗ sv (F := F) c (oS 7) ∗ (D2 fun d => ohR c t (hc d c 1) (ym m c)) ∗ (D2 fun d => ohR c t (hc d c 2) (ym m c)) ∗ sv (F := F) c (oS 2) ∗ sv (F := F) c (oS 3) ∗ sv (F := F) c (oS 4) ∗ sv (F := F) c (oS 5) ∗ (UD fun d u => Perm (F := F) d c 5 u t) ∗ (UD fun d u => keep (F := F) d c u t) ∗ (UD fun d u => give (F := F) d c 3 u t) ∗ (oT m c true t -∗ OUT m c (t + 1)) ∗ semVal (barC c) 0) ⊢ Half m c t := .rfl
theorem half_open (c : Dev nD) (t : ℕ) : Half m c t ⊢ iprop(Ctl m c (48 * t + 40) (48 * t + 32) (48 * t + 32) ∗ XD m c t ∗ WM m c ∗ (WN m c t 0 ∗ WN m c t 1 ∗ WN m c t 2 ∗ WN m c t 3) ∗ OCFl m c false 3 t 0 fullShare.right ∗ OCFl m c true 3 t 1 fullShare.right ∗ (D2 fun d => ohR c t (hc d c 3) (YB m)) ∗ sv (F := F) c (oS 6) ∗ sv (F := F) c (oS 7) ∗ (D2 fun d => ohR c t (hc d c 1) (ym m c)) ∗ (D2 fun d => ohR c t (hc d c 2) (ym m c)) ∗ sv (F := F) c (oS 2) ∗ sv (F := F) c (oS 3) ∗ sv (F := F) c (oS 4) ∗ sv (F := F) c (oS 5) ∗ (UD fun d u => Perm (F := F) d c 5 u t) ∗ (UD fun d u => keep (F := F) d c u t) ∗ (UD fun d u => give (F := F) d c 3 u t) ∗ (oT m c true t -∗ OUT m c (t + 1)) ∗ semVal (barC c) 0) := .rfl

/-- The first part of a tile, from its first arrivals on. -/
theorem half_run {α : Type} {Q : α → sProp 𝕄} (c : Dev nD) {i : grid0.Coords} {t : ℕ} (hi : At i t) (arg0 v2 v13 v24 : BitVec 32) (v27 : BitVec 1) (v43 v54 : BitVec 32)
    (kk : Prog (TpuEff nD τ sig (Elt F) Λ₀ .tc) α) :
    iprop(Sent m c t ∗ Rst m c t) ⊢ iprop((Half m c t -∗ WP c kk Q) -∗ WP c (do
          let ⟨v398, v400, v402⟩ : Σ' (v398 : BitVec 32) (v400 : BitVec 32), BitVec 32 ← k0_part26 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part27 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v398 v400 v402
          k0_part28 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let v490 : BitVec 32 ← k0_part29 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part30 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v490
          let ⟨v558, v560, v562⟩ : Σ' (v558 : BitVec 32) (v560 : BitVec 32), BitVec 32 ← k0_part31 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part32 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v558 v560 v562
          k0_part33 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let v650 : BitVec 32 ← k0_part34 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part35 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v650
          k0_part36 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          let ⟨v737, v738, v739, v740, c0_i32_581⟩ : Σ' (v737 : BitVec 32) (v738 : BitVec 32) (v739 : BitVec 1) (v740 : BitVec 1), BitVec 32 ← k0_part37 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v27
          let c1_i32_606 : BitVec 32 ← k0_part38 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v13 v24 v27 v737 v738 v739 v740 c0_i32_581
          let ⟨v796, v808⟩ : Σ' (v796 : BitVec 32), BitVec 32 ← k0_part39 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c1_i32_606
          k0_part40 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v796 v808
          let ⟨v864, v868, v869, c0_i32_681⟩ : Σ' (v864 : BitVec 32) (v868 : BitVec 32) (v869 : BitVec 32), BitVec 32 ← k0_part41 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part42 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v864 v868 v869 c0_i32_681
          let c1_i32_731 : BitVec 32 ← k0_part43 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let ⟨v956, v968⟩ : Σ' (v956 : BitVec 32), BitVec 32 ← k0_part44 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c1_i32_731
          k0_part45 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v956 v968
          let ⟨v1024, v1028, v1029, c0_i32_807⟩ : Σ' (v1024 : BitVec 32) (v1028 : BitVec 32) (v1029 : BitVec 32), BitVec 32 ← k0_part46 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part47 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v1024 v1028 v1029 c0_i32_807
          k0_part48 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13
          k0_part49 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          k0_part50 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v2 v24 v27
          let ⟨v1168, v1172, v1173, v1174, v1177⟩ : Σ' (v1168 : BitVec 32) (v1172 : BitVec 32) (v1173 : BitVec 32) (v1174 : BitVec 1), BitVec 1 ← k0_part51 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13
          let ⟨v1213, v1214⟩ : Σ' (v1213 : FVec F S128x512 .f32), BitVec 32 ← k0_part52 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v1168 v1172 v1173 v1174 v1177
          k0_part53 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v54 v1213 v1214
          let ⟨v1278, c2_i32_1010⟩ : Σ' (v1278 : BitVec 32), BitVec 32 ← k0_part54 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          let v1314 : FVec F S128x512 .f32 ← k0_part55 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1278 c2_i32_1010
          k0_part56 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v24 v43 v54 v1314
          let ⟨v1378, c4_i32_1081⟩ : Σ' (v1378 : BitVec 32), BitVec 32 ← k0_part57 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          let v1400 : BitVec 32 ← k0_part58 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1378 c4_i32_1081
          let ⟨v1448, v1452⟩ : Σ' (v1448 : FVec F S128x512 .f32), Vec F S128x512 .f32 ← k0_part59 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v54 v1400
          let v1480 : BitVec 32 ← k0_part60 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v1448 v1452
          let ⟨v1498, v1510, v1513, v1514⟩ : Σ' (v1498 : BitVec 32) (v1510 : BitVec 32) (v1513 : Vec F S128x512 .f32), Vec F S1x128x512 .f32 ← k0_part61 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1480
          k0_part62 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v43 v54 v1498 v1510 v1513 v1514
          k0_part63 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v54
          k0_part64 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          let ⟨v1633, v1634, c4_i32_1280⟩ : Σ' (v1633 : BitVec 32) (v1634 : BitVec 32), BitVec 32 ← k0_part65 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part66 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v24 v27 v43 v54 v1633 v1634 c4_i32_1280
          k0_part67 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part68 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part69 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part70 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          let ⟨v1807, c0_i32_1445⟩ : Σ' (v1807 : BitVec 32), BitVec 32 ← k0_part71 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v13 v24
          k0_part72 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1807 c0_i32_1445
          k0_part73 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          k0_part74 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 arg0 c v24 v27 v43 v54
          kk) Q) := by
  have ht := hi.lt
  have hs := sent_open m c t
  have hr := rst_open m c t ht
  have hv := svo_open (F := F) c
  iintro ⟨H, HR⟩ Hk
  ihave H := hs $$ H
  ihave HR := hr $$ HR
  icases H with ⟨HC, ⟨W1, W2, W3, P1, P2⟩, HX, HM⟩
  icases HR with ⟨O3, O4, O5, ⟨Y0, Y1, Y2, Y3⟩, HO, HV, HZ⟩
  ihave HV := hv $$ HV
  icases HV with ⟨V0, V1, V2, V3, V4, V5, V6, V7⟩
  iapply (stC m c hi _ _ _) $$ [HC W1 P1 O3 O4 O5]
  · isplitl [HC]
    · iexact HC
    isplitl [W1]
    · iexact W1
    isplitl [P1]
    · iexact P1
    isplitl [O3]
    · iexact O3
    isplitl [O4]
    · iexact O4
    iexact O5
  iintro ⟨HC, O0⟩
  iapply (stE m c hi _ _ _ _ _) $$ [HC HX HM W2 P2]
  · isplitl [HC]
    · iexact HC
    isplitl [HX]
    · iexact HX
    isplitl [HM]
    · iexact HM
    isplitl [W2]
    · iexact W2
    iexact P2
  iintro ⟨HC, HX, HM, N0, N1, O1, P3, P4, P5⟩
  iapply (stF m c hi _ _ _ _ _) $$ [HC W3 P3 O0 O1]
  · isplitl [HC]
    · iexact HC
    isplitl [W3]
    · iexact W3
    isplitl [P3]
    · iexact P3
    isplitl [O0]
    · iexact O0
    iexact O1
  iintro ⟨HC, W3, HK⟩
  iapply (stG m c hi _ _ _ _ _ _) $$ [HC HX HM W3 Y3 V6 V7]
  · isplitl [HC]
    · iexact HC
    isplitl [HX]
    · iexact HX
    isplitl [HM]
    · iexact HM
    isplitl [W3]
    · iexact W3
    isplitl [Y3]
    · iexact Y3
    isplitl [V6]
    · iexact V6
    iexact V7
  iintro ⟨HC, HX, HM, N2, F6, F7⟩
  iapply (stH m c hi _ _ _) $$ [HC P4]
  · isplitl [HC]
    · iexact HC
    iexact P4
  iintro %_ %_ ⟨HC, C3, HG⟩
  iapply (stI m c hi _ _ _ _ _ _ _ _) $$ [HC HX HM C3 Y0 V0 V1 F6 F7]
  · isplitl [HC]
    · iexact HC
    isplitl [HX]
    · iexact HX
    isplitl [HM]
    · iexact HM
    isplitl [C3]
    · iexact C3
    isplitl [Y0]
    · iexact Y0
    isplitl [V0]
    · iexact V0
    isplitl [V1]
    · iexact V1
    isplitl [F6]
    · iexact F6
    iexact F7
  iintro ⟨HC, HX, HM, N3, F0, F1, Y3, V6, V7⟩
  iapply Hk
  iapply (half_intro m c t)
  isplitl [HC]
  · iexact HC
  isplitl [HX]
  · iexact HX
  isplitl [HM]
  · iexact HM
  isplitl [N0 N1 N2 N3]
  · isplitl [N0]
    · iexact N0
    isplitl [N1]
    · iexact N1
    isplitl [N2]
    · iexact N2
    iexact N3
  isplitl [F0]
  · iexact F0
  isplitl [F1]
  · iexact F1
  isplitl [Y3]
  · iexact Y3
  isplitl [V6]
  · iexact V6
  isplitl [V7]
  · iexact V7
  isplitl [Y1]
  · iexact Y1
  isplitl [Y2]
  · iexact Y2
  isplitl [V2]
  · iexact V2
  isplitl [V3]
  · iexact V3
  isplitl [V4]
  · iexact V4
  isplitl [V5]
  · iexact V5
  isplitl [P5]
  · iexact P5
  isplitl [HK]
  · iexact HK
  isplitl [HG]
  · iexact HG
  isplitl [HO]
  · iexact HO
  iexact HZ

end Cert.KernelIdeal.Ring
end
-- ==== Proof.StageJ.lean ====
/- The last two arrivals of a tile. -/
module

public import proofs.«01_k».proof.Proof.StageC

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The last two arrivals and the copies out of them. -/
theorem stJ {α : Type} {Q : α → sProp 𝕄} (c : Dev nD) {i : grid0.Coords} {t : ℕ} (hi : At i t) (v13 : BitVec 32) (v24 : BitVec 32) (v2 : BitVec 32) (v27 : BitVec 1) (kk : BitVec 32 → Prog (TpuEff nD τ sig (Elt F) Λ₀ .tc) α) :
    iprop(Ctl m c (48 * t + 40) (48 * t + 32) (48 * t + 32) ∗ (UD fun d u => Perm (F := F) d c 5 u t) ∗ (D2 fun d => ohR c t (hc d c 1) (ym m c)) ∗ (D2 fun d => ohR c t (hc d c 2) (ym m c)) ∗ sv (F := F) c (oS 2) ∗ sv (F := F) c (oS 3) ∗ sv (F := F) c (oS 4) ∗ sv (F := F) c (oS 5))
      ⊢ iprop((∀ v2256 : BitVec 32, (Ctl m c (48 * t + 48) (48 * t + 48) (48 * t + 48) ∗ OCFl m c false 4 t 2 fullShare.right ∗ OCFl m c true 4 t 3 fullShare.right ∗ OCFl m c false 5 t 4 fullShare ∗ OCFl m c true 5 t 5 fullShare ∗ (UD fun d u => srcPay m d c 4 u t) ∗ UD fun d u => srcPay m d c 5 u t) -∗ WP c (kk v2256) Q)
        -∗ WP c (do
          k0_part75 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part76 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part77 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part78 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part79 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24
          k0_part80 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2
          k0_part81 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c
          k0_part82 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
          let ⟨v2125, c0_i32_1802⟩ : Σ' (v2125 : BitVec 32), BitVec 32 ← k0_part83 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v13 v24
          k0_part84 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v13 v24 v2125 c0_i32_1802
          let ⟨v2175, v2176, v2177, v2178, c0_i32_1863⟩ : Σ' (v2175 : BitVec 32) (v2176 : BitVec 32) (v2177 : BitVec 1) (v2178 : BitVec 1), BitVec 32 ← k0_part85 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v13 v24
          k0_part86 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v2175 v2176 v2177 v2178 c0_i32_1863
          k0_part87 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
          k0_part88 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v27 >>= kk) Q) := by
  have ht := hi.lt
  iintro ⟨HC, ⟨P0, P1, P2, P3⟩, ⟨HO1, HO1'⟩, ⟨HO2, HO2'⟩, V2, V3, V4, V5⟩ Hk
  rw [k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
  unfold k0_part75_skel k0_part76_skel k0_part77_skel k0_part78_skel k0_part79_skel k0_part80_skel k0_part81_skel k0_part82_skel k0_part83_skel k0_part84_skel k0_part85_skel k0_part86_skel k0_part87_skel k0_part88_skel
  simp only [Prog.lift, Prog.bind_op, Prog.bind_ret, Prog.pure_eq_ret, Prog.bind_assoc]
  iapply (recv2 m c 4 0 t (a := 40) (b := 32) (e := 32) ht (by decide) (by decide) rfl (by decide) sRR16 sRL16) $$ HC
  iintro ⟨HC, HR, HS⟩
  ihave H := (arr2 m c 0 t (s := 4) (by decide)) $$ [HR HS]
  · isplitl [HR]
    · iexact HR
    iexact HS
  icases H with ⟨HW, R0, -⟩
  iapply (send2c m c 5 0 t (a := 40) (b := 34) (e := 32) ht (by decide) (by decide) (by decide) rfl (by decide) (by decide) rfl rfl rfl rfl (dv43 c _) (dv44 c _) sSR20 sRR20 sSL20 sRL20) $$ [HC HW P0]
  · isplitl [HC]
    · iexact HC
    isplitl [HW]
    · iexact HW
    iexact P0
  iintro HC
  iapply (recv2 m c 4 1 t (a := 42) (b := 34) (e := 32) ht (by decide) (by decide) rfl (by decide) sRR17 sRL17) $$ HC
  iintro ⟨HC, HR, HS⟩
  ihave H := (arr2 m c 1 t (s := 4) (by decide)) $$ [HR HS]
  · isplitl [HR]
    · iexact HR
    iexact HS
  icases H with ⟨HW, R1, -⟩
  iapply (send2c m c 5 1 t (a := 42) (b := 36) (e := 32) ht (by decide) (by decide) (by decide) rfl (by decide) (by decide) rfl rfl rfl rfl (dv45 c _) (dv46 c _) sSR21 sRR21 sSL21 sRL21) $$ [HC HW P1]
  · isplitl [HC]
    · iexact HC
    isplitl [HW]
    · iexact HW
    iexact P1
  iintro HC
  iapply (recv2 m c 4 2 t (a := 44) (b := 36) (e := 32) ht (by decide) (by decide) rfl (by decide) sRR18 sRL18) $$ HC
  iintro ⟨HC, HR, HS⟩
  ihave H := (arr2 m c 2 t (s := 4) (by decide)) $$ [HR HS]
  · isplitl [HR]
    · iexact HR
    iexact HS
  icases H with ⟨HW, R2, -⟩
  iapply (send2c m c 5 2 t (a := 44) (b := 38) (e := 32) ht (by decide) (by decide) (by decide) rfl (by decide) (by decide) rfl rfl rfl rfl (dv47 c _) (dv48 c _) sSR22 sRR22 sSL22 sRL22) $$ [HC HW P2]
  · isplitl [HC]
    · iexact HC
    isplitl [HW]
    · iexact HW
    iexact P2
  iintro HC
  iapply (recv2 m c 4 3 t (a := 46) (b := 38) (e := 32) ht (by decide) (by decide) rfl (by decide) sRR19 sRL19) $$ HC
  iintro ⟨HC, HR, HS⟩
  ihave H := (arr2 m c 3 t (s := 4) (by decide)) $$ [HR HS]
  · isplitl [HR]
    · iexact HR
    iexact HS
  icases H with ⟨HW, R3, -⟩
  iapply (send2c m c 5 3 t (a := 46) (b := 40) (e := 32) ht (by decide) (by decide) (by decide) rfl (by decide) (by decide) rfl rfl rfl rfl (dv49 c _) (dv50 c _) sSR23 sRR23 sSL23 sRL23) $$ [HC HW P3]
  · isplitl [HC]
    · iexact HC
    isplitl [HW]
    · iexact HW
    iexact P3
  iintro HC
  ihave HR := (slots c (q := fullShare.right) (s := 4) (fun d => slotV m d c 4 t)) $$ [R0 R1 R2 R3]
  · isplitl [R0]
    · iexact R0
    isplitl [R1]
    · iexact R1
    isplitl [R2]
    · iexact R2
    iexact R3
  icases HR with ⟨HR, HR'⟩
  iapply (oc_go m c false 4 t 2 (by decide) fullShare.right rfl rfl (gy66_1 hi c) o_sem2 (ym m c)) $$ [HR HO1 V2]
  · isplitl [HR]
    · iexact HR
    isplitl [HO1]
    · iexact HO1
    iexact V2
  iintro F2
  iapply (oc_go m c true 4 t 3 (by decide) fullShare.right rfl rfl (gy67_1 hi c) o_sem3 (ym m c)) $$ [HR' HO1' V3]
  · isplitl [HR']
    · iexact HR'
    isplitl [HO1']
    · iexact HO1'
    iexact V3
  iintro F3
  iapply (left2c m c 4 0 t (a := 48) (b := 40) (e := 32) ht (by decide) (by decide) rfl (by decide) sSR16 sSL16) $$ HC
  iintro ⟨HC, S0⟩
  iapply (left2c m c 4 1 t (a := 48) (b := 40) (e := 34) ht (by decide) (by decide) rfl (by decide) sSR17 sSL17) $$ HC
  iintro ⟨HC, S1⟩
  iapply (left2c m c 4 2 t (a := 48) (b := 40) (e := 36) ht (by decide) (by decide) rfl (by decide) sSR18 sSL18) $$ HC
  iintro ⟨HC, S2⟩
  iapply (left2c m c 4 3 t (a := 48) (b := 40) (e := 38) ht (by decide) (by decide) rfl (by decide) sSR19 sSL19) $$ HC
  iintro ⟨HC, S3⟩
  iapply (recv2 m c 5 0 t (a := 48) (b := 40) (e := 40) ht (by decide) (by decide) rfl (by decide) sRR20 sRL20) $$ HC
  iintro ⟨HC, HR, HS⟩
  ihave R0 := (arr5 m c 0 t) $$ [HR HS]
  · isplitl [HR]
    · iexact HR
    iexact HS
  iapply (recv2 m c 5 1 t (a := 48) (b := 42) (e := 40) ht (by decide) (by decide) rfl (by decide) sRR21 sRL21) $$ HC
  iintro ⟨HC, HR, HS⟩
  ihave R1 := (arr5 m c 1 t) $$ [HR HS]
  · isplitl [HR]
    · iexact HR
    iexact HS
  iapply (recv2 m c 5 2 t (a := 48) (b := 44) (e := 40) ht (by decide) (by decide) rfl (by decide) sRR22 sRL22) $$ HC
  iintro ⟨HC, HR, HS⟩
  ihave R2 := (arr5 m c 2 t) $$ [HR HS]
  · isplitl [HR]
    · iexact HR
    iexact HS
  iapply (recv2 m c 5 3 t (a := 48) (b := 46) (e := 40) ht (by decide) (by decide) rfl (by decide) sRR23 sRL23) $$ HC
  iintro ⟨HC, HR, HS⟩
  ihave R3 := (arr5 m c 3 t) $$ [HR HS]
  · isplitl [HR]
    · iexact HR
    iexact HS
  ihave HR := (slots c (q := fullShare) (s := 5) (fun d => slotV m d c 5 t)) $$ [R0 R1 R2 R3]
  · isplitl [R0]
    · iexact R0
    isplitl [R1]
    · iexact R1
    isplitl [R2]
    · iexact R2
    iexact R3
  icases HR with ⟨HR, HR'⟩
  iapply (oc_go m c false 5 t 4 (by decide) fullShare rfl rfl (gy66_2 hi c) o_sem4 (ym m c)) $$ [HR HO2 V4]
  · isplitl [HR]
    · iexact HR
    isplitl [HO2]
    · iexact HO2
    iexact V4
  iintro F4
  iapply (oc_go m c true 5 t 5 (by decide) fullShare rfl rfl (gy67_2 hi c) o_sem5 (ym m c)) $$ [HR' HO2' V5]
  · isplitl [HR']
    · iexact HR'
    isplitl [HO2']
    · iexact HO2'
    iexact V5
  iintro F5
  iapply (left2c m c 5 0 t (a := 48) (b := 48) (e := 40) ht (by decide) (by decide) rfl (by decide) sSR20 sSL20) $$ HC
  iintro ⟨HC, T0⟩
  iapply (left2c m c 5 1 t (a := 48) (b := 48) (e := 42) ht (by decide) (by decide) rfl (by decide) sSR21 sSL21) $$ HC
  iintro ⟨HC, T1⟩
  iapply (left2c m c 5 2 t (a := 48) (b := 48) (e := 44) ht (by decide) (by decide) rfl (by decide) sSR22 sSL22) $$ HC
  iintro ⟨HC, T2⟩
  iapply (left2c m c 5 3 t (a := 48) (b := 48) (e := 46) ht (by decide) (by decide) rfl (by decide) sSR23 sSL23) $$ HC
  iintro ⟨HC, T3⟩
  iapply Hk
  isplitl [HC]
  · iexact HC
  isplitl [F2]
  · iexact F2
  isplitl [F3]
  · iexact F3
  isplitl [F4]
  · iexact F4
  isplitl [F5]
  · iexact F5
  isplitl [S0 S1 S2 S3]
  · isplitl [S0]
    · iexact S0
    isplitl [S1]
    · iexact S1
    isplitl [S2]
    · iexact S2
    iexact S3
  isplitl [T0]
  · iexact T0
  isplitl [T1]
  · iexact T1
  isplitl [T2]
  · iexact T2
  iexact T3

end Cert.KernelIdeal.Ring
end
-- ==== Proof.StageK.lean ====
/- The end of a tile. -/
module

public import proofs.«01_k».proof.Proof.StageC
public import proofs.«01_k».proof.Proof.Gemm2
public import proofs.«01_k».proof.Proof.Inv

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The next tile's first messages; the copies of the result begin to finish. -/
theorem stK {α : Type} {Q : α → sProp 𝕄} (c : Dev nD) {i : grid0.Coords} {t : ℕ} (hi : At i t) (v13 : BitVec 32) (v24 : BitVec 32) (v2256 : BitVec 32) (kk : Prog (TpuEff nD τ sig (Elt F) Λ₀ .tc) α) :
    iprop(Ctl m c (48 * t + 48) (48 * t + 48) (48 * t + 48) ∗ (WN m c t 0 ∗ WN m c t 1 ∗ WN m c t 2 ∗ WN m c t 3) ∗ (UD fun d u => keep (F := F) d c u t) ∗ (UD fun d u => give (F := F) d c 3 u t) ∗ OCFl m c false 3 t 0 fullShare.right ∗ OCFl m c true 3 t 1 fullShare.right ∗ OCFl m c false 4 t 2 fullShare.right)
      ⊢ iprop(((Ctl m c (ksT (t + 1)) (48 * (t + 1)) (48 * (t + 1)) ∗ NWk m c (t + 1) ∗ commR false c (sset 3) fullShare.right (CB (slotV m false c 3 t)) ∗ ohR c t (hc false c (3 - 3)) (YB m) ∗ sv (F := F) c (oS 0) ∗ commR true c (sset 3) fullShare.right (CB (slotV m true c 3 t)) ∗ ohR c t (hc true c (3 - 3)) (YB m) ∗ sv (F := F) c (oS 1) ∗ commR false c (sset 4) fullShare.right (CB (slotV m false c 4 t)) ∗ ohR c t (hc false c (4 - 3)) (YB m) ∗ sv (F := F) c (oS 2)) -∗ WP c (kk) Q)
        -∗ WP c (do
          k0_part89 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v13 v24 v2256
          kk) Q) := by
  have ht := hi.lt
  iintro ⟨HC, HN, HKp, HG, F0, F1, F2⟩ Hk
  rw [k0_part89_eq_skeleton]
  unfold k0_part89_skel
  simp only [Prog.lift, Prog.bind_op, Prog.bind_ret, Prog.pure_eq_ret, Prog.bind_assoc]
  iapply (wp_if c iprop(Ctl m c (48 * t + 48) (48 * t + 48) (48 * t + 48) ∗ (WN m c t 0 ∗ WN m c t 1 ∗ WN m c t 2 ∗ WN m c t 3) ∗ (UD fun d u => keep (F := F) d c u t) ∗ UD fun d u => give (F := F) d c 3 u t) iprop(Ctl m c (ksT (t + 1)) (48 * (t + 1)) (48 * (t + 1)) ∗ NWk m c (t + 1)))
  isplitr
  · iintro %h ⟨HC, HN, HKp, HG⟩ HK
    have h1 := (cd10 hi).mp h
    rw [k0_part13_eq_skeleton]
    unfold k0_part13_skel
    simp only [Prog.lift, Prog.bind_op, Prog.bind_ret, Prog.pure_eq_ret, Prog.bind_assoc]
    icases HN with ⟨N0, N123⟩
    ihave N0 := (wn_elim m c t 0 h1) $$ N0
    icases N0 with ⟨W0, W1, W2, W3⟩
    icases HG with ⟨G0, G1, G2, G3⟩
    ihave H := (perm012 (F := F) c 0 t h1) $$ G0
    icases H with ⟨P0, A0, B0⟩
    ihave H := (perm012 (F := F) c 1 t h1) $$ G1
    icases H with ⟨P1, A1, B1⟩
    ihave H := (perm012 (F := F) c 2 t h1) $$ G2
    icases H with ⟨P2, A2, B2⟩
    ihave H := (perm012 (F := F) c 3 t h1) $$ G3
    icases H with ⟨P3, A3, B3⟩
    ihave HC := (Entails.of_eq (ctl_turn m c t)) $$ HC
    rw [k0_part14_eq_skeleton]
    unfold k0_part14_skel
    simp only [Prog.lift, Prog.bind_op, Prog.bind_ret, Prog.pure_eq_ret, Prog.bind_assoc]
    ihave W0 := (src0 m c 0 (t + 1)) $$ W0
    ihave HG := (give2_nil (F := F) c 0 (t + 1) (s := 0) (by decide) (by decide))
    iapply (send2w m c 0 0 (t + 1) (a := 0) (b := 0) (e := 0) h1 (by decide) (by decide) rfl (by decide) (by decide) (o73 c) (o74 c) rfl rfl (dv51 c _) (dv52 c _) sSR0 sRR0 sSL0 sRL0) $$ [HC W0 P0 HG]
    · isplitl [HC]
      · iexact HC
      isplitl [W0]
      · iexact W0
      isplitl [P0]
      · iexact P0
      iexact HG
    iintro HC
    ihave W1 := (src0 m c 1 (t + 1)) $$ W1
    ihave HG := (give2_nil (F := F) c 1 (t + 1) (s := 0) (by decide) (by decide))
    iapply (send2w m c 0 1 (t + 1) (a := 2) (b := 0) (e := 0) h1 (by decide) (by decide) rfl (by decide) (by decide) (o75 c) (o76 c) rfl rfl (dv53 c _) (dv54 c _) sSR1 sRR1 sSL1 sRL1) $$ [HC W1 P1 HG]
    · isplitl [HC]
      · iexact HC
      isplitl [W1]
      · iexact W1
      isplitl [P1]
      · iexact P1
      iexact HG
    iintro HC
    ihave W2 := (src0 m c 2 (t + 1)) $$ W2
    ihave HG := (give2_nil (F := F) c 2 (t + 1) (s := 0) (by decide) (by decide))
    iapply (send2w m c 0 2 (t + 1) (a := 4) (b := 0) (e := 0) h1 (by decide) (by decide) rfl (by decide) (by decide) (o77 c) (o78 c) rfl rfl (dv55 c _) (dv56 c _) sSR2 sRR2 sSL2 sRL2) $$ [HC W2 P2 HG]
    · isplitl [HC]
      · iexact HC
      isplitl [W2]
      · iexact W2
      isplitl [P2]
      · iexact P2
      iexact HG
    iintro HC
    ihave W3 := (src0 m c 3 (t + 1)) $$ W3
    ihave HG := (give2_nil (F := F) c 3 (t + 1) (s := 0) (by decide) (by decide))
    iapply (send2w m c 0 3 (t + 1) (a := 6) (b := 0) (e := 0) h1 (by decide) (by decide) rfl (by decide) (by decide) (o79 c) (o80 c) rfl rfl (dv57 c _) (dv58 c _) sSR3 sRR3 sSL3 sRL3) $$ [HC W3 P3 HG]
    · isplitl [HC]
      · iexact HC
      isplitl [W3]
      · iexact W3
      isplitl [P3]
      · iexact P3
      iexact HG
    iintro HC
    ihave HC := (Entails.of_eq (ctl_next m c t h1)) $$ HC
    iapply HK
    isplitl [HC]; · iexact HC
    iapply (nw_next m c t h1)
    isplitl [N123]
    · iexact N123
    isplitl [A0 A1 A2 A3]
    · isplitl [A0]
      · iexact A0
      isplitl [A1]
      · iexact A1
      isplitl [A2]
      · iexact A2
      iexact A3
    isplitl [B0]
    · iexact B0
    isplitl [B1]
    · iexact B1
    isplitl [B2]
    · iexact B2
    iexact B3
  isplitr
  · iintro %h ⟨HC, HN, HKp, HG⟩
    have h1 := fun h1 => h ((cd10 hi).mpr h1)
    ihave HC := (Entails.of_eq (ctl_last m c t ht h1)) $$ HC
    isplitl [HC]; · iexact HC
    iapply (nw_last m c t h1)
    isplitl [HN]; · iexact HN
    iexact HKp
  isplitl [HC HN HKp HG]
  · isplitl [HC]
    · iexact HC
    isplitl [HN]
    · iexact HN
    isplitl [HKp]
    · iexact HKp
    iexact HG
  iintro ⟨HC, HNW⟩
  simp only [Prog.lift, Prog.bind_op, Prog.bind_ret, Prog.pure_eq_ret, Prog.bind_assoc]
  iapply (oc_end m c false 3 t 0 fullShare.right (by decide) o_sem0) $$ [HC F0]
  · isplitl [HC]
    · iexact HC
    iexact F0
  iintro ⟨HC, R0, Y0, V0⟩
  iapply (oc_end m c true 3 t 1 fullShare.right (by decide) o_sem1) $$ [HC F1]
  · isplitl [HC]
    · iexact HC
    iexact F1
  iintro ⟨HC, R1, Y1, V1⟩
  iapply (oc_end m c false 4 t 2 fullShare.right (by decide) o_sem2) $$ [HC F2]
  · isplitl [HC]
    · iexact HC
    iexact F2
  iintro ⟨HC, R2, Y2, V2⟩
  iapply Hk
  isplitl [HC]
  · iexact HC
  isplitl [HNW]
  · iexact HNW
  isplitl [R0]
  · iexact R0
  isplitl [Y0]
  · iexact Y0
  isplitl [V0]
  · iexact V0
  isplitl [R1]
  · iexact R1
  isplitl [Y1]
  · iexact Y1
  isplitl [V1]
  · iexact V1
  isplitl [R2]
  · iexact R2
  isplitl [Y2]
  · iexact Y2
  iexact V2

end Cert.KernelIdeal.Ring
end
-- ==== Proof.Body.lean ====
/- One tile. -/
module

public import proofs.«01_k».proof.Proof.Half
public import proofs.«01_k».proof.Proof.StageJ
public import proofs.«01_k».proof.Proof.StageK

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem zero_in (c : Dev nD) {t : ℕ} (h0 : t = 0) : iprop(Sent m c 0 ∗ Rst m c 0) ⊢ iprop(Sent m c t ∗ Rst m c t) := by
  subst h0; exact .rfl
/-- The buffers of arrivals 3, 4 and 5 are whole again. -/
theorem ow_back {s : ℕ} (hs : 3 ≤ s) (c : Dev nD) (t : ℕ) : iprop((UD fun d u => srcPay m d c (s + 1) u t) ∗ D2 fun d => commR d c (sset s) fullShare.right (CB (slotV m d c s t)))
    ⊢ UD fun d u => own (F := F) d c s u :=
  ((BIClass.sep_mono .rfl (unslots c fun d => slotV m d c s t)).trans ud_sep).trans (ud_mono fun d u _ => unarr m c u t hs d)
theorem ow_last (c : Dev nD) (t : ℕ) : (D2 fun d => commR d c (sset 5) fullShare (CB (slotV m d c 5 t))) ⊢ UD fun d u => own (F := F) d c 5 u :=
  (unslots c fun d => slotV m d c 5 t).trans (ud_mono fun d u _ => own_intro c 5 u d _)
theorem inv_close (c : Dev nD) (t : ℕ) : iprop(Ctl m c (ksT (t + 1)) (48 * (t + 1)) (48 * (t + 1)) ∗ NWk m c (t + 1) ∗ OW3 (F := F) c ∗ Xs m c (t + 1) ∗ WM m c ∗ OUT m c (t + 1) ∗ SVO (F := F) c ∗ semVal (barC c) 0) ⊢ Inv m c (t + 1) := .rfl
theorem ow3_close (c : Dev nD) : iprop((UD fun d u => own (F := F) d c 3 u) ∗ (UD fun d u => own (F := F) d c 4 u) ∗ UD fun d u => own (F := F) d c 5 u) ⊢ OW3 (F := F) c := .rfl
theorem svo_close (c : Dev nD) : iprop(sv (F := F) c (oS 0) ∗ sv (F := F) c (oS 1) ∗ sv (F := F) c (oS 2) ∗ sv (F := F) c (oS 3) ∗ sv (F := F) c (oS 4) ∗ sv (F := F) c (oS 5) ∗ sv (F := F) c (oS 6) ∗ sv (F := F) c (oS 7)) ⊢ SVO (F := F) c := .rfl

/-- The long first part of a tile. -/
theorem half_all {Q : (Σ' (d0 : Dev nD) (v2 : BitVec 32) (v13 : BitVec 32) (v24 : BitVec 32), BitVec 1) → sProp 𝕄} (c : Dev nD) {i : grid0.Coords} {t : ℕ} (hi : At i t) :
    Pre m c t ⊢ iprop((∀ (v2 v13 v24 : BitVec 32) (v27 : BitVec 1), Half m c t -∗ Q ⟨c, v2, v13, v24, v27⟩) -∗ WP c (k0_part90 i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) Q) := by
  rw [k0_part90_eq_skeleton]; unfold k0_part90_skel
  unfold Pre
  by_cases h0 : t = 0
  · rw [if_pos h0]
    iintro H Hk
    iapply (st150 m c hi h0 _) $$ H
    iintro %arg0 %v2 %v13 %v24 %v27 %c1_i32_17 H
    iapply (wp_pure c (pu16 i v2 c1_i32_17) _) $$ H
    iintro %r H
    obtain ⟨v43, v54, v65, v66, v68⟩ := r
    iapply (wp_pure c (pu17 i v2 v65 v66 v68) _) $$ H
    iintro %c0_i32_64 H
    iapply (wp_pure c (pu18 i v2 c0_i32_64) _) $$ H
    iintro %r H
    obtain ⟨v140, c0_i32_88⟩ := r
    iapply (wp_pure c (pu19 i v2 v140 c0_i32_88) _) $$ H
    iintro %r H
    obtain ⟨v165, v176, c1024_i32_112⟩ := r
    iapply (wp_pure c (pu20 i v2 v165 v176 c1024_i32_112) _) $$ H
    iintro %r H
    obtain ⟨v207, v208, v209, v210, c0_i32_138⟩ := r
    iapply (wp_pure c (pu21 i v2 v207 v208 v209 v210 c0_i32_138) _) $$ H
    iintro %r H
    obtain ⟨v240, v243, v244, v245, v246, c0_i32_162⟩ := r
    iapply (wp_pure c (pu22 i v2 v240 v243 v244 v245 v246 c0_i32_162) _) $$ H
    iintro %r H
    obtain ⟨v280, v282⟩ := r
    iapply (wp_pure c (pu23 i v2 v280 v282) _) $$ H
    iintro %r H
    obtain ⟨v315, v316, v318⟩ := r
    iapply (wp_pure c (pu24 i v2 v315 v316 v318) _) $$ H
    iintro %c1024_i32_233 H
    icases H with ⟨H, HR⟩
    iapply (st250 m c hi h0 _ _ _ _ _ _ _ _) $$ H
    iintro H
    ihave H := (zero_in m c h0) $$ [H HR]
    · isplitl [H] <;> iassumption
    iapply (half_run m c hi _ _ _ _ _ _ _ _) $$ H
    iintro H
    iapply (wp_done c)
    iapply Hk $$ H
  · rw [if_neg h0]
    iintro H Hk
    iapply (st15s m c hi h0 _) $$ H
    iintro %arg0 %v2 %v13 %v24 %v27 %c1_i32_17 H
    iapply (wp_pure c (pu16 i v2 c1_i32_17) _) $$ H
    iintro %r H
    obtain ⟨v43, v54, v65, v66, v68⟩ := r
    iapply (wp_pure c (pu17 i v2 v65 v66 v68) _) $$ H
    iintro %c0_i32_64 H
    iapply (wp_pure c (pu18 i v2 c0_i32_64) _) $$ H
    iintro %r H
    obtain ⟨v140, c0_i32_88⟩ := r
    iapply (wp_pure c (pu19 i v2 v140 c0_i32_88) _) $$ H
    iintro %r H
    obtain ⟨v165, v176, c1024_i32_112⟩ := r
    iapply (wp_pure c (pu20 i v2 v165 v176 c1024_i32_112) _) $$ H
    iintro %r H
    obtain ⟨v207, v208, v209, v210, c0_i32_138⟩ := r
    iapply (wp_pure c (pu21 i v2 v207 v208 v209 v210 c0_i32_138) _) $$ H
    iintro %r H
    obtain ⟨v240, v243, v244, v245, v246, c0_i32_162⟩ := r
    iapply (wp_pure c (pu22 i v2 v240 v243 v244 v245 v246 c0_i32_162) _) $$ H
    iintro %r H
    obtain ⟨v280, v282⟩ := r
    iapply (wp_pure c (pu23 i v2 v280 v282) _) $$ H
    iintro %r H
    obtain ⟨v315, v316, v318⟩ := r
    iapply (wp_pure c (pu24 i v2 v315 v316 v318) _) $$ H
    iintro %c1024_i32_233 H
    icases H with ⟨H, HR⟩
    iapply (st25s m c hi h0 _ _ _ _ _ _ _ _) $$ H
    iintro H
    iapply (half_run m c hi _ _ _ _ _ _ _ _) $$ [H HR]
    · isplitl [H] <;> iassumption
    iintro H
    iapply (wp_done c)
    iapply Hk $$ H

/-- The second part of a tile. -/
theorem sound (c : Dev nD) {i : grid0.Coords} {t : ℕ} (hi : At i t) {Q : PUnit → sProp 𝕄} :
    Pre m c t ⊢ iprop((Inv m c (t + 1) -∗ Q ⟨⟩) -∗ WP c (cc0_body i (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) Q) := by
  rw [cc0_body_eq_skeleton]; unfold cc0_body_skel
  have hh := half_open m c t
  iintro H Hk
  iapply (wp_seq c (fun r => iprop(⌜r.1 = c⌝ ∗ Half m c t)))
  isplitl [H]
  · iapply (half_all m c hi) $$ H
    iintro %_ %_ %_ %_ H
    isplitr
    · ipureintro; trivial
    iexact H
  iintro %r ⟨%hd, H⟩
  obtain ⟨d0, v2, v13, v24, v27⟩ := r
  dsimp only at hd
  subst hd
  ihave H := hh $$ H
  icases H with ⟨HC, HX, HM, N, F0, F1, Y3, V6, V7, Y1, Y2, V2, V3, V4, V5, P5, HK, HG, HO, HZ⟩
  iapply (stJ m d0 hi _ _ _ _ _) $$ [HC P5 Y1 Y2 V2 V3 V4 V5]
  · isplitl [HC]
    · iexact HC
    isplitl [P5]
    · iexact P5
    isplitl [Y1]
    · iexact Y1
    isplitl [Y2]
    · iexact Y2
    isplitl [V2]
    · iexact V2
    isplitl [V3]
    · iexact V3
    isplitl [V4]
    · iexact V4
    iexact V5
  iintro %_ ⟨HC, F2, F3, F4, F5, S4, S5⟩
  iapply (stK m d0 hi _ _ _ _) $$ [HC N HK HG F0 F1 F2]
  · isplitl [HC]
    · iexact HC
    isplitl [N]
    · iexact N
    isplitl [HK]
    · iexact HK
    isplitl [HG]
    · iexact HG
    isplitl [F0]
    · iexact F0
    isplitl [F1]
    · iexact F1
    iexact F2
  iintro ⟨HC, HN, R3, Z0, V0, R3', Z0', V1, R4, Z1, V2⟩
  simp only [Prog.lift, Prog.bind_op, Prog.bind_ret, Prog.pure_eq_ret, Prog.bind_assoc]
  iapply (oc_end m d0 true 4 t 3 fullShare.right (by decide) o_sem3) $$ [HC F3]
  · isplitl [HC]
    · iexact HC
    iexact F3
  iintro ⟨HC, R4', Z1', V3⟩
  iapply (oc_end m d0 false 5 t 4 fullShare (by decide) o_sem4) $$ [HC F4]
  · isplitl [HC]
    · iexact HC
    iexact F4
  iintro ⟨HC, R5, Z2, V4⟩
  iapply (oc_end m d0 true 5 t 5 fullShare (by decide) o_sem5) $$ [HC F5]
  · isplitl [HC]
    · iexact HC
    iexact F5
  iintro ⟨HC, R5', Z2', V5⟩
  iapply (wp_done d0)
  iapply Hk
  iapply (inv_close m d0 t)
  isplitl [HC]; · iexact HC
  isplitl [HN]; · iexact HN
  isplitl [S4 R3 R3' S5 R4 R4' R5 R5']
  · iapply (ow3_close d0)
    isplitl [S4 R3 R3']
    · iapply (ow_back m (s := 3) (by decide) d0 t)
      isplitl [S4]; · iexact S4
      isplitl [R3]; · iexact R3
      iexact R3'
    isplitl [S5 R4 R4']
    · iapply (ow_back m (s := 4) (by decide) d0 t)
      isplitl [S5]; · iexact S5
      isplitl [R4]; · iexact R4
      iexact R4'
    iapply (ow_last m d0 t)
    isplitl [R5]; · iexact R5
    iexact R5'
  isplitl [HX]; · iapply (xd_next' m d0 t) $$ HX
  isplitl [HM]; · iexact HM
  isplitl [HO Y3 Z0 Z0' Z1 Z1' Z2 Z2']
  · iapply HO
    iapply (ot_close m d0 t)
    isplitl [Z0 Z0']
    · isplitl [Z0]; · iexact Z0
      iexact Z0'
    isplitl [Z1 Z1']
    · isplitl [Z1]; · iexact Z1
      iexact Z1'
    isplitl [Z2 Z2']
    · isplitl [Z2]; · iexact Z2
      iexact Z2'
    iexact Y3
  isplitr [HZ]
  rotate_left
  · iexact HZ
  iapply (svo_close d0)
  isplitl [V0]
  · iexact V0
  isplitl [V1]
  · iexact V1
  isplitl [V2]
  · iexact V2
  isplitl [V3]
  · iexact V3
  isplitl [V4]
  · iexact V4
  isplitl [V5]
  · iexact V5
  isplitl [V6]
  · iexact V6
  iexact V7

end Cert.KernelIdeal.Ring
end
-- ==== Proof.Ends.lean ====
/- The buffers before the first tile and after the last. -/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (c : Dev nD)

/-! ## Joining and splitting buffers -/

theorem any_bi {ℓ : Loc nD τ sig} {I : Type} (T : Finset I) (S : I → Finset (Idx ℓ)) (f₀ : Buf (Elt F) ℓ)
    (h : ∀ t ∈ T, ∀ t' ∈ T, t ≠ t' → Disjoint (S t) (S t')) :
    bigSep T (fun t => iprop(∃ f, ℓ ↦[S t]{fullShare} f)) ⊢ (iprop(∃ f, ℓ ↦[T.biUnion S]{fullShare} f) : sProp 𝕄) := by
  classical
  induction T using Finset.induction_on with
  | empty =>
    iintro -
    iexists f₀
    rw [Finset.biUnion_empty, pointsTo_empty]; iempintro
  | insert t T ht ih =>
    rw [BI.bigSep_insert ht, Finset.biUnion_insert]
    have hd : Disjoint (S t) (T.biUnion S) :=
      (Finset.disjoint_biUnion_right _ _ _).mpr fun t' ht' =>
        h t (Finset.mem_insert_self _ _) t' (Finset.mem_insert_of_mem ht') (fun e => ht (e ▸ ht'))
    have ih' := ih fun t₁ h₁ t₂ h₂ => h t₁ (Finset.mem_insert_of_mem h₁) t₂ (Finset.mem_insert_of_mem h₂)
    refine (show iprop((∃ f, ℓ ↦[S t]{fullShare} f) ∗ bigSep T (fun t => iprop(∃ f, ℓ ↦[S t]{fullShare} f))) ⊢ _ from ?_)
    iintro ⟨⟨%f, Ht⟩, HS⟩
    ihave H := ih' $$ HS
    icases H with ⟨%g, HS⟩
    iexists (T.biUnion S).piecewise g f
    iapply (pointsTo_join hd)
    isplitl [Ht]; · iexact Ht
    iexact HS
theorem d2_big (A : Bool → sProp 𝕄) : bigSep Finset.univ A = D2 A := by
  rw [show (Finset.univ : Finset Bool) = {false, true} from by decide, peel (i := false) (by decide), show ({false, true} : Finset Bool).erase false = {true} from by decide, BI.bigSep_singleton]

/-! ### The landing buffers -/

theorem disj_s {s t : ℕ} (h : s ≠ t) : Disjoint (sset s) (sset t) := by
  refine Finset.disjoint_left.mpr fun i hi hj => h ?_
  unfold sset at hi hj
  rw [Finset.mem_filter] at hi hj
  exact hi.2.symm.trans hj.2
theorem s_all : (Finset.univ : Finset S6x512x512.Idx) = (Finset.range 6).biUnion sset := by
  ext i
  have h0 : ((i : S6x512x512.Idx) 0).val < 6 := ((i : S6x512x512.Idx) 0).isLt
  unfold sset
  simp only [Finset.mem_biUnion, Finset.mem_filter, Finset.mem_univ, true_and, Finset.mem_range, true_iff]
  exact ⟨_, h0, rfl⟩
theorem c_all (s : ℕ) : sset s = (Finset.range 4).biUnion (cset s) := by
  ext i
  have h0 : ((i : S6x512x512.Idx) 1).val < 512 := ((i : S6x512x512.Idx) 1).isLt
  unfold sset cset
  simp only [Finset.mem_biUnion, Finset.mem_filter, Finset.mem_univ, true_and, Finset.mem_range]
  exact ⟨fun h => ⟨_, by omega, h, rfl⟩, fun ⟨_, _, h, _⟩ => h⟩
/-- Six things in a row. -/
def U6 (A : ℕ → sProp 𝕄) : sProp 𝕄 := iprop(A 0 ∗ A 1 ∗ A 2 ∗ A 3 ∗ A 4 ∗ A 5)
theorem range6 (A : ℕ → sProp 𝕄) : bigSep (Finset.range 6) A = U6 A := by
  rw [show Finset.range 6 = {0, 1, 2, 3, 4, 5} from rfl]
  rw [peel (i := 0) (by decide), peel (i := 1) (by decide), peel (i := 2) (by decide), peel (i := 3) (by decide), peel (i := 4) (by decide),
    show ((((({0, 1, 2, 3, 4, 5} : Finset ℕ).erase 0).erase 1).erase 2).erase 3).erase 4 = {5} from by decide, BI.bigSep_singleton]
  rfl
theorem own_bi (d : Bool) {I : Type} (T : Finset I) (S : I → Finset S6x512x512.Idx) (h : ∀ t ∈ T, ∀ t' ∈ T, t ≠ t' → Disjoint (S t) (S t')) :
    bigSep T (fun t => iprop(∃ f, commR d c (S t) fullShare f)) ⊢ (iprop(∃ f, commR d c (T.biUnion S) fullShare f) : sProp 𝕄) := by
  unfold commR
  cases d
  · exact any_bi (ℓ := (c : Thread nD τ).loc cc0_scratch3) T S (fun _ => (Scalar.ofBits .f32 0x00000000#32 : F .f32)) h
  · exact any_bi (ℓ := (c : Thread nD τ).loc cc0_scratch4) T S (fun _ => (Scalar.ofBits .f32 0x00000000#32 : F .f32)) h
theorem own_join (d : Bool) : (U6 fun s => U4 fun u => own (F := F) d c s u) ⊢ iprop(∃ f, commR d c Finset.univ fullShare f) := by
  rw [← range6, s_all]
  simp only [← range4]
  unfold own
  exact (BI.bigSep_mono fun s _ => (own_bi c d (Finset.range 4) (cset s) fun u _ v _ huv => disj_c huv).trans (by rw [← c_all])).trans
    (own_bi c d (Finset.range 6) sset fun s _ t _ hst => disj_s hst)
theorem comm_six (d : Bool) (f : S6x512x512.Idx → Elt F .f32) : commR d c Finset.univ fullShare f = U6 fun s => commR d c (sset s) fullShare f := by
  rw [← range6, s_all]
  unfold commR
  cases d
  · exact pointsTo_biUnion (ℓ := (c : Thread nD τ).loc cc0_scratch3) (Finset.range 6) sset fun s _ t _ hst => disj_s hst
  · exact pointsTo_biUnion (ℓ := (c : Thread nD τ).loc cc0_scratch4) (Finset.range 6) sset fun s _ t _ hst => disj_s hst
theorem own_split (d : Bool) : iprop(∃ f, commR d c Finset.univ fullShare f) ⊢ (U6 fun s => U4 fun u => own (F := F) d c s u) := by
  iintro ⟨%f, H⟩
  ihave H := (Entails.of_eq (comm_six c d f)) $$ H
  have e : ∀ s, commR d c (sset s) fullShare f ⊢ U4 fun u => own (F := F) d c s u := fun s =>
    (slot_iff c d fullShare s f).1.trans (u4_mono fun u _ => by unfold own; iintro H; iexists f; iexact H)
  iapply (show (U6 fun s => commR d c (sset s) fullShare f) ⊢ U6 fun s => U4 fun u => own (F := F) d c s u from
    BIClass.sep_mono (e 0) (BIClass.sep_mono (e 1) (BIClass.sep_mono (e 2) (BIClass.sep_mono (e 3) (BIClass.sep_mono (e 4) (e 5)))))) $$ H
/-- All the slots of both landing buffers. -/
def owns : sProp 𝕄 := U6 fun s => UD fun d u => own (F := F) d c s u
theorem owns_intro : iprop((∃ f, commR false c Finset.univ fullShare f) ∗ ∃ f, commR true c Finset.univ fullShare f) ⊢ owns (F := F) c := by
  refine (BIClass.sep_mono (own_split c false) (own_split c true)).trans ?_
  unfold owns U6
  iintro ⟨⟨A0, A1, A2, A3, A4, A5⟩, B0, B1, B2, B3, B4, B5⟩
  isplitl [A0 B0]; · iapply (ud_unswap (fun d u => own (F := F) d c 0 u)); isplitl [A0] <;> iassumption
  isplitl [A1 B1]; · iapply (ud_unswap (fun d u => own (F := F) d c 1 u)); isplitl [A1] <;> iassumption
  isplitl [A2 B2]; · iapply (ud_unswap (fun d u => own (F := F) d c 2 u)); isplitl [A2] <;> iassumption
  isplitl [A3 B3]; · iapply (ud_unswap (fun d u => own (F := F) d c 3 u)); isplitl [A3] <;> iassumption
  isplitl [A4 B4]; · iapply (ud_unswap (fun d u => own (F := F) d c 4 u)); isplitl [A4] <;> iassumption
  iapply (ud_unswap (fun d u => own (F := F) d c 5 u)); isplitl [A5] <;> iassumption
theorem owns_elim : owns (F := F) c ⊢ iprop((∃ f, commR false c Finset.univ fullShare f) ∗ ∃ f, commR true c Finset.univ fullShare f) := by
  refine .trans ?_ (BIClass.sep_mono (own_join c false) (own_join c true))
  have e : ∀ s, (UD fun d u => own (F := F) d c s u) ⊢ iprop((U4 fun u => own (F := F) false c s u) ∗ U4 fun u => own (F := F) true c s u) := fun s => ud_swap _
  refine (show owns (F := F) c ⊢ _ from BIClass.sep_mono (e 0) (BIClass.sep_mono (e 1) (BIClass.sep_mono (e 2) (BIClass.sep_mono (e 3) (BIClass.sep_mono (e 4) (e 5)))))).trans ?_
  unfold U6
  iintro ⟨⟨A0, B0⟩, ⟨A1, B1⟩, ⟨A2, B2⟩, ⟨A3, B3⟩, ⟨A4, B4⟩, A5, B5⟩
  isplitl [A0 A1 A2 A3 A4 A5]
  · isplitl [A0]; · iexact A0
    isplitl [A1]; · iexact A1
    isplitl [A2]; · iexact A2
    isplitl [A3]; · iexact A3
    isplitl [A4] <;> iassumption
  · isplitl [B0]; · iexact B0
    isplitl [B1]; · iexact B1
    isplitl [B2]; · iexact B2
    isplitl [B3]; · iexact B3
    isplitl [B4] <;> iassumption

/-! ### The work buffer -/

theorem hc_inj : ∀ c : Dev nD, ∀ d d' : Bool, ∀ s < 4, ∀ s' < 4, hc d c s = hc d' c s' → d = d' ∧ s = s' := by decide
theorem hc_all : ∀ c : Dev nD, ∀ k < 8, ∃ s < 4, ∃ d, hc d c s = k := by decide
theorem mem_h {k : ℕ} {i : S512x4096.Idx} : i ∈ hset k ↔ (i 1).val / 512 = k := by
  unfold hset; rw [Finset.mem_filter]; exact ⟨fun h => h.2, fun h => ⟨Finset.mem_univ _, h⟩⟩
theorem h_all : (Finset.univ : Finset S512x4096.Idx) = (Finset.range 4).biUnion fun s => (Finset.univ : Finset Bool).biUnion fun d => hset (hc d c s) := by
  ext i
  have h0 : ((i : S512x4096.Idx) 1).val < 4096 := ((i : S512x4096.Idx) 1).isLt
  obtain ⟨s, h1, d, h2⟩ := hc_all c (((i : S512x4096.Idx) 1).val / 512) (by omega)
  simp only [Finset.mem_biUnion, Finset.mem_univ, true_and, Finset.mem_range, true_iff, mem_h]
  exact ⟨s, h1, d, h2.symm⟩
theorem wn_any (t s : ℕ) : WN m c t s ⊢ D2 fun d => iprop(∃ f, ((c : Thread nD τ).loc cc0_scratch2) ↦[hset (hc d c s)]{fullShare} f) := by
  unfold WN
  iintro ⟨%g, -, H⟩
  ihave H := (halves c g) $$ H
  have e : ∀ d, workR c (hset (hc d c s)) fullShare (WB (g d)) ⊢ iprop(∃ f, ((c : Thread nD τ).loc cc0_scratch2) ↦[hset (hc d c s)]{fullShare} f) := fun d => by
    unfold workR; iintro H; iexists (WB (g d)); iexact H
  iapply (d2_mono e) $$ H
theorem work_join (t : ℕ) : (U4 fun s => WN m c t s) ⊢ iprop(∃ f, workR c Finset.univ fullShare f) := by
  rw [← range4, h_all c]
  refine (BI.bigSep_mono fun s hs => ?_).trans (any_bi (ℓ := (c : Thread nD τ).loc cc0_scratch2) (Finset.range 4) (fun s => (Finset.univ : Finset Bool).biUnion fun d => hset (hc d c s))
    (fun _ => (Scalar.ofBits .f32 0x00000000#32 : F .f32)) fun s hs s' hs' hne => Finset.disjoint_left.mpr fun i hi hj => ?_)
  · refine .trans ?_ (any_bi (ℓ := (c : Thread nD τ).loc cc0_scratch2) (Finset.univ : Finset Bool) (fun d => hset (hc d c s))
      (fun _ => (Scalar.ofBits .f32 0x00000000#32 : F .f32)) fun d _ d' _ hne => Finset.disjoint_left.mpr fun i hi hj => ?_)
    · rw [d2_big]
      exact wn_any m c t s
    · rw [mem_h] at hi hj
      exact hne (hc_inj c d d' s (Finset.mem_range.mp hs) s (Finset.mem_range.mp hs) (hi.symm.trans hj)).1
  · rw [Finset.mem_biUnion] at hi hj
    obtain ⟨d, _, hi⟩ := hi
    obtain ⟨d', _, hj⟩ := hj
    rw [mem_h] at hi hj
    exact hne (hc_inj c d d' s (Finset.mem_range.mp hs) s' (Finset.mem_range.mp hs') (hi.symm.trans hj)).2

/-! ### The buffer of tiles -/

theorem b_all : (Finset.univ : Finset S2x512x2048.Idx) = bset 0 ∪ bset 1 := by
  ext i
  have h0 : ((i : S2x512x2048.Idx) 0).val < 2 := ((i : S2x512x2048.Idx) 0).isLt
  unfold bset
  simp only [Finset.mem_union, Finset.mem_filter, Finset.mem_univ, true_and, true_iff]
  omega
theorem disj_b : Disjoint (bset 0) (bset 1) := by
  refine Finset.disjoint_left.mpr fun i hi hj => ?_
  unfold bset at hi hj
  rw [Finset.mem_filter] at hi hj
  have := hi.2.symm.trans hj.2
  omega
/-- The whole buffer of tiles. -/
def xall : sProp 𝕄 := iprop(∃ f : S2x512x2048.Idx → Elt F .f32, ((c : Thread nD τ).loc cc0_scratch1) ↦[Finset.univ]{fullShare} f)
theorem x_split : xall (F := F) c ⊢ iprop(xany (F := F) c 0 ∗ xany (F := F) c 1) := by
  unfold xall xany xbR
  rw [b_all]
  iintro ⟨%f, H⟩
  ihave H := (pointsTo_union (ℓ := (c : Thread nD τ).loc cc0_scratch1) disj_b).1 $$ H
  icases H with ⟨H0, H1⟩
  isplitl [H0]
  · iexists f; iexact H0
  · iexists f; iexact H1
theorem x_join : iprop(xany (F := F) c 0 ∗ xany (F := F) c 1) ⊢ xall (F := F) c := by
  unfold xall xany xbR
  rw [b_all]
  iintro ⟨⟨%f, H0⟩, %g, H1⟩
  iexists (bset 1).piecewise g f
  iapply (pointsTo_join (ℓ := (c : Thread nD τ).loc cc0_scratch1) disj_b)
  isplitl [H0] <;> iassumption

/-! ### The result -/

theorem mem_o {t k : ℕ} {i : S8192x4096.Idx} : i ∈ oset t k ↔ (i 0).val / 512 = t ∧ (i 1).val / 512 = k := by
  unfold oset; rw [Finset.mem_filter]; exact ⟨fun h => h.2, fun h => ⟨Finset.mem_univ _, h⟩⟩
theorem o_all : (Finset.univ : Finset S8192x4096.Idx) = (Finset.range 16).biUnion fun t => (Finset.range 4).biUnion fun s => (Finset.univ : Finset Bool).biUnion fun d => oset t (hc d c s) := by
  ext i
  have h0 : ((i : S8192x4096.Idx) 0).val < 8192 := ((i : S8192x4096.Idx) 0).isLt
  have h0 : ((i : S8192x4096.Idx) 1).val < 4096 := ((i : S8192x4096.Idx) 1).isLt
  obtain ⟨s, h1, d, h2⟩ := hc_all c (((i : S8192x4096.Idx) 1).val / 512) (by omega)
  simp only [Finset.mem_biUnion, Finset.mem_univ, true_and, Finset.mem_range, true_iff, mem_o]
  exact ⟨_, by omega, s, h1, d, rfl, h2.symm⟩
theorem out_eq (f : S8192x4096.Idx → Elt F .f32) : ((((c : Thread nD τ).loc main_v1) ↦[Finset.univ]{fullShare} f : sProp 𝕄))
    = bigSep (Finset.range 16) fun t => U4 fun s => D2 fun d => ohR c t (hc d c s) f := by
  rw [o_all c]
  refine (pointsTo_biUnion (ℓ := (c : Thread nD τ).loc main_v1) (Finset.range 16) _ fun t _ t' _ hne => Finset.disjoint_left.mpr fun i hi hj => ?_).trans
    (BI.bigSep_congr fun t _ => (pointsTo_biUnion (ℓ := (c : Thread nD τ).loc main_v1) (Finset.range 4) _ fun s hs s' hs' hne => Finset.disjoint_left.mpr fun i hi hj => ?_).trans
      (Eq.trans (BI.bigSep_congr fun s hs => (pointsTo_biUnion (ℓ := (c : Thread nD τ).loc main_v1) (Finset.univ : Finset Bool) _ fun d _ d' _ hne => Finset.disjoint_left.mpr fun i hi hj => ?_).trans
        (d2_big _)) (range4 _)))
  · rw [Finset.mem_biUnion] at hi hj
    obtain ⟨s, _, hi⟩ := hi
    obtain ⟨s', _, hj⟩ := hj
    rw [Finset.mem_biUnion] at hi hj
    obtain ⟨d, _, hi⟩ := hi
    obtain ⟨d', _, hj⟩ := hj
    rw [mem_o] at hi hj
    exact hne (hi.1.symm.trans hj.1)
  · rw [Finset.mem_biUnion] at hi hj
    obtain ⟨d, _, hi⟩ := hi
    obtain ⟨d', _, hj⟩ := hj
    rw [mem_o] at hi hj
    exact hne (hc_inj c d d' s (Finset.mem_range.mp hs) s' (Finset.mem_range.mp hs') (hi.2.symm.trans hj.2)).2
  · rw [mem_o] at hi hj
    exact hne (hc_inj c d d' s (Finset.mem_range.mp hs) s (Finset.mem_range.mp hs) (hi.2.symm.trans hj.2)).1
theorem out_intro : ((((c : Thread nD τ).loc main_v1) ↦[Finset.univ]{fullShare} (ym m c) : sProp 𝕄)) ⊢ OUT m c 0 := by
  refine (Entails.of_eq (out_eq c (ym m c))).trans (BI.bigSep_mono fun t _ => ?_)
  rw [show decide (t < 0) = false from by simp]
  exact (show (U4 fun s => D2 fun d => ohR c t (hc d c s) (ym m c)) ⊢ oT m c false t from .rfl)
theorem out_elim : OUT m c 16 ⊢ ((((c : Thread nD τ).loc main_v1) ↦[Finset.univ]{fullShare} (YB m) : sProp 𝕄)) := by
  refine .trans (BI.bigSep_mono fun t ht => ?_) (Entails.of_eq (out_eq c (YB m)).symm)
  rw [show decide (t < 16) = true from by simpa using ht]
  exact (show oT m c true t ⊢ (U4 fun s => D2 fun d => ohR c t (hc d c s) (YB m)) from .rfl)

end Cert.KernelIdeal.Ring
end
-- ==== Proof.Close.lean ====
/- What a device holds before the first tile and after the last. -/
module

public import proofs.«01_k».proof.Proof.Ends

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (c : Dev nD)

/-! ## All the semaphores of a device -/

theorem sep_img {I J : Type} [DecidableEq I] [DecidableEq J] (s : Finset I) (f : I → J) (hf : ∀ a ∈ s, ∀ b ∈ s, f a = f b → a = b) (Φ : J → sProp 𝕄) :
    bigSep (s.image f) Φ = bigSep s fun i => Φ (f i) := by
  induction s using Finset.induction_on with
  | empty => rw [Finset.image_empty, BI.bigSep_empty, BI.bigSep_empty]
  | insert a s ha ih =>
    rw [Finset.image_insert, BI.bigSep_insert, BI.bigSep_insert ha, ih fun a ha b hb => hf a (Finset.mem_insert_of_mem ha) b (Finset.mem_insert_of_mem hb)]
    intro h
    obtain ⟨b, hb, e⟩ := Finset.mem_image.mp h
    have := hf b (Finset.mem_insert_of_mem hb) a (Finset.mem_insert_self _ _) e
    exact ha (this ▸ hb)
theorem sep_cup {J : Type} [DecidableEq J] {s t : Finset J} (h : Disjoint s t) (Φ : J → sProp 𝕄) : bigSep (s ∪ t) Φ = iprop(bigSep s Φ ∗ bigSep t Φ) := by
  rw [BI.bigSep_union h]; rfl

/-- The copy semaphores, as the launch numbers them. -/
abbrev osem : Fin 110 → SemLoc sig := fun x => .dma (x : DmaSem sig)

def sI (q : ℕ) : Fin 110 := ⟨(48 * (q % 2) + q / 2 % 24) % 110, Nat.mod_lt _ (by decide)⟩
def rI (q : ℕ) : Fin 110 := ⟨(48 * (q % 2) + 24 + q / 2 % 24) % 110, Nat.mod_lt _ (by decide)⟩
def tI (j : ℕ) : Fin 110 := ⟨(96 + j) % 110, Nat.mod_lt _ (by decide)⟩

theorem sI_val {q : ℕ} (h : q < 48) : (sI q).val = 48 * (q % 2) + q / 2 := by unfold sI; show (48 * (q % 2) + q / 2 % 24) % 110 = _; rw [Nat.mod_eq_of_lt (show q / 2 < 24 by omega)]; omega
theorem rI_val {q : ℕ} (h : q < 48) : (rI q).val = 48 * (q % 2) + 24 + q / 2 := by unfold rI; show (48 * (q % 2) + 24 + q / 2 % 24) % 110 = _; rw [Nat.mod_eq_of_lt (show q / 2 < 24 by omega)]; omega
theorem tI_val {q : ℕ} (h : q < 14) : (tI q).val = 96 + q := by unfold tI; show (96 + q) % 110 = _; omega

theorem f110 : (Finset.univ : Finset (Fin 110)) = (Finset.range 48).image sI ∪ ((Finset.range 48).image rI ∪ (Finset.range 14).image tI) := by
  ext i
  simp only [Finset.mem_univ, Finset.mem_union, Finset.mem_image, Finset.mem_range, true_iff]
  have := i.isLt
  by_cases h : i.val < 96
  · by_cases h' : i.val % 48 < 24
    · have hq : i.val % 48 * 2 + i.val / 48 < 48 := by omega
      exact .inl ⟨_, hq, Fin.ext (by rw [sI_val hq]; omega)⟩
    · have hq : (i.val % 48 - 24) * 2 + i.val / 48 < 48 := by omega
      exact .inr (.inl ⟨_, hq, Fin.ext (by rw [rI_val hq]; omega)⟩)
  · have hq : i.val - 96 < 14 := by omega
    exact .inr (.inr ⟨_, hq, Fin.ext (by rw [tI_val hq]; omega)⟩)
theorem sI_inj : ∀ a ∈ Finset.range 48, ∀ b ∈ Finset.range 48, sI a = sI b → a = b := fun a ha b hb h => by
  rw [Finset.mem_range] at ha hb
  have := congrArg Fin.val h
  rw [sI_val ha, sI_val hb] at this
  omega
theorem rI_inj : ∀ a ∈ Finset.range 48, ∀ b ∈ Finset.range 48, rI a = rI b → a = b := fun a ha b hb h => by
  rw [Finset.mem_range] at ha hb
  have := congrArg Fin.val h
  rw [rI_val ha, rI_val hb] at this
  omega
theorem tI_inj : ∀ a ∈ Finset.range 14, ∀ b ∈ Finset.range 14, tI a = tI b → a = b := fun a ha b hb h => by
  rw [Finset.mem_range] at ha hb
  have := congrArg Fin.val h
  rw [tI_val ha, tI_val hb] at this
  omega
theorem in_s {i : Fin 110} (h : i ∈ (Finset.range 48).image sI) : i.val < 96 ∧ i.val % 48 < 24 := by
  obtain ⟨a, ha, e⟩ := Finset.mem_image.mp h
  rw [Finset.mem_range] at ha
  have e := congrArg Fin.val e
  rw [sI_val ha] at e
  have h2 : a % 2 = 0 ∨ a % 2 = 1 := by omega
  rcases h2 with h2 | h2 <;> rw [h2] at e <;> omega
theorem in_r {i : Fin 110} (h : i ∈ (Finset.range 48).image rI) : i.val < 96 ∧ 24 ≤ i.val % 48 := by
  obtain ⟨a, ha, e⟩ := Finset.mem_image.mp h
  rw [Finset.mem_range] at ha
  have e := congrArg Fin.val e
  rw [rI_val ha] at e
  have h2 : a % 2 = 0 ∨ a % 2 = 1 := by omega
  rcases h2 with h2 | h2 <;> rw [h2] at e <;> omega
theorem in_t {i : Fin 110} (h : i ∈ (Finset.range 14).image tI) : 96 ≤ i.val := by
  obtain ⟨a, ha, e⟩ := Finset.mem_image.mp h
  rw [Finset.mem_range] at ha
  have e := congrArg Fin.val e
  rw [tI_val ha] at e
  omega
theorem srt_disj : Disjoint ((Finset.range 48).image sI) ((Finset.range 48).image rI ∪ (Finset.range 14).image tI) := by
  refine Finset.disjoint_left.mpr fun i hi hj => ?_
  have := in_s hi
  rcases Finset.mem_union.mp hj with hj | hj
  · have := in_r hj; omega
  · have := in_t hj; omega
theorem rt_disj : Disjoint ((Finset.range 48).image rI) ((Finset.range 14).image tI) := by
  refine Finset.disjoint_left.mpr fun i hi hj => ?_
  have := in_r hi
  have := in_t hj
  omega
theorem range14 (A : ℕ → sProp 𝕄) : bigSep (Finset.range 14) A = iprop(A 0 ∗ A 1 ∗ A 2 ∗ A 3 ∗ A 4 ∗ A 5 ∗ A 6 ∗ A 7 ∗ A 8 ∗ A 9 ∗ A 10 ∗ A 11 ∗ A 12 ∗ A 13) := by
  rw [show Finset.range 14 = {0, 1, 2, 3, 4, 5, 6, 7, 8, 9, 10, 11, 12, 13} from rfl]
  iterate 13 rw [BI.bigSep_insert (by decide)]
  rw [BI.bigSep_singleton]
  rfl
/-- The semaphores of the local copies, at rest. -/
def Rest : sProp 𝕄 := iprop((U4 fun j => sv (F := F) c (wS j)) ∗ (sv (F := F) c (xS 0) ∗ sv (F := F) c (xS 1)) ∗ SVO (F := F) c)
theorem sems_eq : (Pipeline.ownSems0 (Ix := ℕ) (Name := ℕ) (U := UU) (Lvl := ℕ) (Val := Elt F) (τ := τ) osem c : sProp 𝕄)
    ⊣⊢ iprop((bigSep (Finset.range 48) fun q => semVal (sendC q c) 0) ∗ (bigSep (Finset.range 48) fun q => semVal (recvC q c) 0) ∗ Rest (F := F) c) := by
  unfold Pipeline.ownSems0
  rw [f110, sep_cup srt_disj, sep_cup rt_disj, sep_img _ _ sI_inj, sep_img _ _ rI_inj, sep_img _ _ tI_inj, range14]
  unfold Rest SVO U4 sv
  constructor
  · iintro ⟨HS, HR, W0, W1, W2, W3, X0, X1, O0, O1, O2, O3, O4, O5, O6, O7⟩
    isplitl [HS]; · iexact HS
    isplitl [HR]; · iexact HR
    isplitl [W0 W1 W2 W3]
    · isplitl [W0]; · iexact W0
      isplitl [W1]; · iexact W1
      isplitl [W2]; · iexact W2
      iexact W3
    isplitl [X0 X1]
    · isplitl [X0]; · iexact X0
      iexact X1
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  · iintro ⟨HS, HR, ⟨W0, W1, W2, W3⟩, ⟨X0, X1⟩, O0, O1, O2, O3, O4, O5, O6, O7⟩
    isplitl [HS]; · iexact HS
    isplitl [HR]; · iexact HR
    isplitl [W0]; · iexact W0
    isplitl [W1]; · iexact W1
    isplitl [W2]; · iexact W2
    isplitl [W3]; · iexact W3
    isplitl [X0]; · iexact X0
    isplitl [X1]; · iexact X1
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7

/-! ## After the last tile -/

/-- The buffers a launch hands a device, whole. -/
def Bufs : sProp 𝕄 := iprop((∃ f, wvR c Finset.univ f) ∗ xall (F := F) c ∗ (∃ f, workR c Finset.univ fullShare f) ∗ (∃ f, commR false c Finset.univ fullShare f) ∗ ∃ f, commR true c Finset.univ fullShare f)
/-- The operands and the result, and the semaphore of the greeting. -/
def Fin0 : sProp 𝕄 := iprop((xhR m c Finset.univ ∗ whR m c Finset.univ ∗ (((c : Thread nD τ).loc main_v1) ↦[Finset.univ]{fullShare} (YB m))) ∗ semVal (barC c) 0)

theorem persist_big {R : sProp 𝕄} [BI.Persistent R] (A B : ℕ → sProp 𝕄) (h : ∀ q < 48, iprop(R ∗ A q) ⊢ B q) :
    iprop(R ∗ bigSep (Finset.range 48) A) ⊢ bigSep (Finset.range 48) B :=
  (sep_mono_left (BI.bigSep_of_persistent (Finset.range 48) R)).trans (by
    rw [← BI.bigSep_sep']; exact BI.bigSep_mono fun q hq => h q (Finset.mem_range.mp hq))
theorem ctl_close : Ctl m c 768 768 768 ⊢ iprop(|={Set.univ}=> ((∃ W, owes (c : Thread nD τ) (O c 768) W)
    ∗ (bigSep (Finset.range 48) fun q => semVal (sendC q c) 0) ∗ bigSep (Finset.range 48) fun q => semVal (recvC q c) 0)) := by
  have e : ∀ q, q < 48 → (768 + 47 - q) / 48 = 16 := fun q hq => by omega
  unfold Ctl Rx Sx
  iintro ⟨%κ, #HR, Ho, -, ⟨-, Hr⟩, -, Hs⟩
  have er : iprop(Rec m κ ∗ bigSep (Finset.range 48) fun q => iprop(atPos ER (recvC q c) ((768 + 47 - q) / 48) ∅ 0 ∗ reached ER (recvC q c) ((768 + 47 - q) / 48)))
      ⊢ iprop(|={Set.univ}=> bigSep (Finset.range 48) fun q => semVal (recvC q c) 0) :=
    (persist_big (F := F) _ (fun q => iprop(|={Set.univ}=> semVal (recvC q c) 0)) fun q hq => by
      rw [e q hq]
      iintro ⟨#HR, Ha, -⟩
      iapply (Rounds.cell_close ER (Rd m) (Set.mem_univ (κ (c, ⟨48 * (q % 2) + 24 + q / 2, by omega⟩))) (fun h => h) (R := 16) (fun r hr => duties_late m c (recvS q) hr))
      isplitr; · iapply (rec_recv m κ hq c); iexact HR
      iexact Ha).trans (BI.bigSep_fupd _ _)
  have es : iprop(Rec m κ ∗ bigSep (Finset.range 48) fun q => iprop(atPos ER (sendC q c) ((768 + 47 - q) / 48) ∅ 0 ∗ reached ER (sendC q c) ((768 + 47 - q) / 48)))
      ⊢ iprop(|={Set.univ}=> bigSep (Finset.range 48) fun q => semVal (sendC q c) 0) :=
    (persist_big (F := F) _ (fun q => iprop(|={Set.univ}=> semVal (sendC q c) 0)) fun q hq => by
      rw [e q hq]
      iintro ⟨#HR, Ha, -⟩
      iapply (Rounds.cell_close ER (Rd m) (Set.mem_univ (κ (c, ⟨48 * (q % 2) + q / 2, by omega⟩))) (fun h => h) (R := 16) (fun r hr => duties_late m c (sendS q) hr))
      isplitr; · iapply (rec_send m κ hq c); iexact HR
      iexact Ha).trans (BI.bigSep_fupd _ _)
  imod er $$ [Hr] with Hr
  · isplitr; · iexact HR
    iexact Hr
  imod es $$ [Hs] with Hs
  · isplitr; · iexact HR
    iexact Hs
  imodintro
  isplitl [Ho]; · iexact Ho
  isplitl [Hs] <;> iassumption
theorem nwk_end : NWk m c 16 ⊢ iprop((U4 fun s => WN m c 15 s) ∗ (UD fun d u => own (F := F) d c 0 u) ∗ (UD fun d u => own (F := F) d c 1 u) ∗ UD fun d u => own (F := F) d c 2 u) := by
  unfold NWk; rw [if_neg (by decide)]
  iintro ⟨H0, H1, H2, H3, H⟩
  isplitl [H0 H1 H2 H3]
  · isplitl [H0]; · iexact H0
    isplitl [H1]; · iexact H1
    isplitl [H2]; · iexact H2
    iexact H3
  iexact H
theorem xs_end : Xs m c 16 ⊢ iprop(xhR m c Finset.univ ∗ xall (F := F) c ∗ sv (F := F) c (xS 0) ∗ sv (F := F) c (xS 1)) := by
  unfold Xs
  iintro ⟨Hx, H0, H1, S0, S1⟩
  isplitl [Hx]; · iexact Hx
  isplitl [H0 H1]
  · iapply (x_join c)
    isplitl [H0]; · iexact H0
    iexact H1
  isplitl [S0]; · iexact S0
  iexact S1
theorem inv_end : Inv m c 16 ⊢ iprop(|={Set.univ}=> ((∃ W, owes (c : Thread nD τ) (O c 768) W) ∗ Fin0 m c
    ∗ Pipeline.ownSems0 (Ix := ℕ) (Name := ℕ) (U := UU) (Lvl := ℕ) (Val := Elt F) (τ := τ) osem c ∗ Bufs (F := F) c)) := by
  unfold Inv OW3 WM
  rw [show ksT 16 = 768 from rfl, show 48 * 16 = 768 from rfl]
  iintro ⟨HC, HN, ⟨K3, K4, K5⟩, HX, ⟨Hw, Hv, Sw⟩, HO, So, Sb⟩
  imod (ctl_close m c) $$ HC with ⟨Ho, Ss, Sr⟩
  ihave HN := (nwk_end m c) $$ HN
  icases HN with ⟨HW, K0, K1, K2⟩
  ihave HX := (xs_end m c) $$ HX
  icases HX with ⟨Hx, Hxb, S0, S1⟩
  ihave HO := (out_elim m c) $$ HO
  ihave HW := (work_join m c 15) $$ HW
  ihave HK := (owns_elim c) $$ [K0 K1 K2 K3 K4 K5]
  · unfold owns U6
    isplitl [K0]; · iexact K0
    isplitl [K1]; · iexact K1
    isplitl [K2]; · iexact K2
    isplitl [K3]; · iexact K3
    isplitl [K4] <;> iassumption
  icases HK with ⟨Kf, Kt⟩
  imodintro
  isplitl [Ho]; · iexact Ho
  unfold Fin0 Bufs
  isplitl [Hx Hw HO Sb]
  · isplitr [Sb]
    · isplitl [Hx]; · iexact Hx
      isplitl [Hw]; · iexact Hw
      iexact HO
    · iexact Sb
  isplitl [Ss Sr Sw S0 S1 So]
  · iapply (sems_eq c).2
    isplitl [Ss]; · iexact Ss
    isplitl [Sr]; · iexact Sr
    unfold Rest
    isplitl [Sw]; · iexact Sw
    isplitl [S0 S1]
    · isplitl [S0]; · iexact S0
      iexact S1
    iexact So
  isplitl [Hv]; · iexists (wm m c); iexact Hv
  isplitl [Hxb]; · iexact Hxb
  isplitl [HW]; · iexact HW
  isplitl [Kf]; · iexact Kf
  iexact Kt

/-! ## Before the first tile -/

/-- What a device has besides its buffers and what goes through the other devices. -/
theorem init_intro : iprop((Ctl0 m c ∗ Hi (F := F) c) ∗ Bufs (F := F) c ∗ Rest (F := F) c ∗ xhR m c Finset.univ ∗ whR m c Finset.univ ∗ (((c : Thread nD τ).loc main_v1) ↦[Finset.univ]{fullShare} (ym m c)))
    ⊢ Init m c := by
  unfold Bufs Rest Init WI Xs OW3
  iintro ⟨⟨HC, HH⟩, ⟨Hv, Hx, HW, Kf, Kt⟩, ⟨Sw, ⟨S0, S1⟩, So⟩, Ha, Hw, HO⟩
  ihave HK := (owns_intro c) $$ [Kf Kt]
  · isplitl [Kf] <;> iassumption
  unfold owns U6
  icases HK with ⟨K0, K1, K2, K3, K4, K5⟩
  ihave Hx := (x_split c) $$ Hx
  icases Hx with ⟨X0, X1⟩
  isplitl [HC HH K0 K1 K2]
  · isplitl [HC]; · iexact HC
    isplitl [HH]; · iexact HH
    isplitl [K0]; · iexact K0
    isplitl [K1] <;> iassumption
  isplitl [K3 K4 K5]
  · isplitl [K3]; · iexact K3
    isplitl [K4] <;> iassumption
  isplitl [Ha X0 X1 S0 S1]
  · isplitl [Ha]; · iexact Ha
    isplitl [X0]; · iexact X0
    isplitl [X1]; · iexact X1
    isplitl [S0]; · iexact S0
    iexact S1
  isplitl [Hw Hv HW Sw]
  · isplitl [Hw]; · iexact Hw
    isplitl [Hv]; · iexact Hv
    isplitl [HW] <;> iassumption
  isplitl [HO]
  · iapply (out_intro m c); iexact HO
  iexact So

end Cert.KernelIdeal.Ring
end
-- ==== Proof.Ghost.lean ====
/- The semaphores of all devices before the first tile, dealt around the ring. -/
module

public import proofs.«01_k».proof.Proof.Close

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The cells and the tokens of all devices -/

set_option backward.proofsInPublic true in
theorem csem_inj {a b : Fin 97} (h : csem a = csem b) : a = b := by
  unfold csem at h
  by_cases ha : a.val < 96
  · by_cases hb : b.val < 96
    · rw [dif_pos ha, dif_pos hb] at h
      injection h with h
      exact Fin.ext (by injection h)
    · rw [dif_pos ha, dif_neg hb] at h; cases h
  · by_cases hb : b.val < 96
    · rw [dif_neg ha, dif_pos hb] at h; cases h
    · exact Fin.ext (by have := a.isLt; have := b.isLt; omega)
theorem kcell_inj : Function.Injective (kcell : Dev nD × Fin 97 → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- The cells of the ring. -/
def rcells : Finset (GSem nD τ sig) := Finset.univ.map ⟨kcell, kcell_inj⟩

/-- The tokens of a device's copy cells, -/
def tokA (x : Dev nD × Bool × Fin 768) : GSem nD τ sig × ℕ × Bool :=
  (((x.1 : Thread nD τ), if x.2.1 then .dma (recvS (x.2.2.val % 48)) else .dma (sendS (x.2.2.val % 48))), x.2.2.val / 48, false)
/-- and of its handshake cell. -/
def tokB (x : Dev nD × Bool) : GSem nD τ sig × ℕ × Bool := (barC x.1, 0, x.2)

theorem tokA_inj : Function.Injective tokA := by
  rintro ⟨c, b, j⟩ ⟨c', b', j'⟩ h
  have h1 : c = c' := congrArg (fun x : GSem nD τ sig × ℕ × Bool => x.1.1.1) h
  have h2 : (if b then SemLoc.dma (sig := sig) (recvS (j.val % 48)) else .dma (sendS (j.val % 48))) = if b' then .dma (recvS (j'.val % 48)) else .dma (sendS (j'.val % 48)) :=
    congrArg (fun x : GSem nD τ sig × ℕ × Bool => x.1.2) h
  have h3 : j.val / 48 = j'.val / 48 := congrArg (fun x : GSem nD τ sig × ℕ × Bool => x.2.1) h
  have s1 := sendS_val (Nat.mod_lt j.val (by decide : 0 < 48))
  have s2 := sendS_val (Nat.mod_lt j'.val (by decide : 0 < 48))
  have r1 := recvS_val (Nat.mod_lt j.val (by decide : 0 < 48))
  have r2 := recvS_val (Nat.mod_lt j'.val (by decide : 0 < 48))
  have h4 : b = b' ∧ j.val % 48 = j'.val % 48 := by
    have l1 := Nat.mod_lt j.val (by decide : 0 < 48)
    have l2 := Nat.mod_lt j'.val (by decide : 0 < 48)
    generalize j.val % 48 = p at *
    generalize j'.val % 48 = p' at *
    have q2 : p % 2 = 0 ∨ p % 2 = 1 := by omega
    have q2' : p' % 2 = 0 ∨ p' % 2 = 1 := by omega
    cases b <;> cases b' <;> simp only [if_true, if_false, Bool.false_eq_true] at h2 <;> injection h2 with h2 <;> replace h2 := congrArg Fin.val h2
    · rw [s1, s2] at h2; exact ⟨rfl, by rcases q2 with q2 | q2 <;> rcases q2' with q2' | q2' <;> rw [q2, q2'] at h2 <;> omega⟩
    · rw [s1, r2] at h2; exfalso; rcases q2 with q2 | q2 <;> rcases q2' with q2' | q2' <;> rw [q2, q2'] at h2 <;> omega
    · rw [r1, s2] at h2; exfalso; rcases q2 with q2 | q2 <;> rcases q2' with q2' | q2' <;> rw [q2, q2'] at h2 <;> omega
    · rw [r1, r2] at h2; exact ⟨rfl, by rcases q2 with q2 | q2 <;> rcases q2' with q2' | q2' <;> rw [q2, q2'] at h2 <;> omega⟩
  have h5 : j = j' := Fin.ext (by have := h4.2; omega)
  rw [h1, h4.1, h5]
theorem tokB_inj : Function.Injective tokB := by
  rintro ⟨c, b⟩ ⟨c', b'⟩ h
  have h1 : c = c' := congrArg (fun x : GSem nD τ sig × ℕ × Bool => x.1.1.1) h
  have h2 : b = b' := congrArg (fun x : GSem nD τ sig × ℕ × Bool => x.2.2) h
  rw [h1, h2]
theorem tok_disj : Disjoint (Finset.univ.map ⟨tokA, tokA_inj⟩) (Finset.univ.map ⟨tokB, tokB_inj⟩) := by
  rw [Finset.disjoint_left]
  intro x hx hy
  obtain ⟨⟨c, b, j⟩, -, rfl⟩ := Finset.mem_map.mp hx
  obtain ⟨y, -, e⟩ := Finset.mem_map.mp hy
  have h2 : SemLoc.reg (sig := sig) barS = if b then SemLoc.dma (recvS (j.val % 48)) else .dma (sendS (j.val % 48)) := congrArg (fun x : GSem nD τ sig × ℕ × Bool => x.1.2) e
  cases b <;> cases h2
/-- All the tokens. -/
def rtoks : Finset (GSem nD τ sig × ℕ × Bool) := Finset.univ.map ⟨tokA, tokA_inj⟩ ∪ Finset.univ.map ⟨tokB, tokB_inj⟩

theorem fin_range (n : ℕ) (Φ : ℕ → sProp 𝕄) : bigSep (Finset.univ : Finset (Fin n)) (fun j => Φ j.val) = bigSep (Finset.range n) Φ := by
  rw [show Finset.range n = (Finset.univ : Finset (Fin n)).map Fin.valEmbedding from Finset.ext fun i => by simp [Fin.exists_iff], BI.bigSep_map]; rfl

/-- The tokens of device `c`'s own cells. -/
def tS (c : Dev nD) : sProp 𝕄 := bigSep (Finset.range 768) fun j => dutyTok ER (sendC (j % 48) c) (j / 48) false
def tR (c : Dev nD) : sProp 𝕄 := bigSep (Finset.range 768) fun j => dutyTok ER (recvC (j % 48) c) (j / 48) false
def tB (b : Bool) (c : Dev nD) : sProp 𝕄 := dutyTok ER (barC c) 0 b
def toks (c : Dev nD) : sProp 𝕄 := iprop((tS c ∗ tR c) ∗ tB false c ∗ tB true c)

theorem tok_a (c : Dev nD) (b : Bool) : (bigSep Finset.univ fun j : Fin 768 => (dutyTok ER (tokA (c, b, j)).1 (tokA (c, b, j)).2.1 (tokA (c, b, j)).2.2 : sProp 𝕄))
    = if b then tR c else tS c := by
  cases b
  · exact fin_range 768 fun j => dutyTok ER (sendC (j % 48) c) (j / 48) false
  · exact fin_range 768 fun j => dutyTok ER (recvC (j % 48) c) (j / 48) false
theorem two_big (Φ : Bool → sProp 𝕄) : bigSep Finset.univ Φ = iprop(Φ false ∗ Φ true) := bigSep_univ_eq_bigSepL [false, true] (by decide) (by decide) Φ
theorem tok_split : bigSep rtoks (fun x => (dutyTok ER x.1 x.2.1 x.2.2 : sProp 𝕄)) = bigSep Finset.univ fun c : Dev nD => toks c := by
  unfold rtoks
  rw [sep_cup tok_disj, BI.bigSep_map, BI.bigSep_map, BI.bigSep_univ_prod, BI.bigSep_univ_prod, ← BI.bigSep_sep']
  refine BI.bigSep_congr fun c _ => ?_
  rw [BI.bigSep_univ_prod, two_big, two_big]
  have h1 := tok_a (F := F) c false
  have h2 := tok_a (F := F) c true
  unfold toks
  rw [show tS (F := F) c = _ from h1.symm, show tR (F := F) c = _ from h2.symm]
  rfl

/-- What is laid out for device `c`; -/
def G (c : Dev nD) : sProp 𝕄 :=
  iprop((bigSep Finset.univ fun k : Fin 97 => roundState ER (Rd m) (kcell (c, k)) 0)
    ∗ (bigSep Finset.univ fun k : Fin 97 => iprop(atPos ER (kcell (c, k)) 0 ∅ 0 ∗ reached ER (kcell (c, k)) 0)) ∗ toks c)

theorem fund_ring : BI.own (ER (initOf rcells rtoks)) ⊢ (|==> bigSep Finset.univ (G m) : sProp 𝕄) := by
  have hX (Φ : GSem nD τ sig → sProp 𝕄) : bigSep rcells Φ = bigSep Finset.univ fun c : Dev nD => bigSep Finset.univ fun k : Fin 97 => Φ (kcell (c, k)) := by
    unfold rcells; rw [BI.bigSep_map, BI.bigSep_univ_prod]; rfl
  iintro HX
  imod (Rounds.fund ER (Rd m) rcells rtoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (tok_split (F := F))) $$ Htok
  unfold G; simp only [BI.bigSep_sep']
  isplitl [Hst']; · iexact Hst'
  isplitl [Hat' Hr']
  · isplitl [Hat'] <;> iassumption
  iexact Htok'

/-! ## The cells of one device by kind -/

def sK (q : ℕ) : Fin 97 := ⟨(48 * (q % 2) + q / 2 % 24) % 97, Nat.mod_lt _ (by decide)⟩
def rK (q : ℕ) : Fin 97 := ⟨(48 * (q % 2) + 24 + q / 2 % 24) % 97, Nat.mod_lt _ (by decide)⟩
theorem sK_val {q : ℕ} (h : q < 48) : (sK q).val = 48 * (q % 2) + q / 2 := by unfold sK; show (48 * (q % 2) + q / 2 % 24) % 97 = _; rw [Nat.mod_eq_of_lt (show q / 2 < 24 by omega)]; omega
theorem rK_val {q : ℕ} (h : q < 48) : (rK q).val = 48 * (q % 2) + 24 + q / 2 := by unfold rK; show (48 * (q % 2) + 24 + q / 2 % 24) % 97 = _; rw [Nat.mod_eq_of_lt (show q / 2 < 24 by omega)]; omega

theorem f97 : (Finset.univ : Finset (Fin 97)) = (Finset.range 48).image sK ∪ ((Finset.range 48).image rK ∪ {(96 : Fin 97)}) := by
  ext i
  simp only [Finset.mem_univ, Finset.mem_union, Finset.mem_image, Finset.mem_range, Finset.mem_singleton, true_iff]
  have := i.isLt
  by_cases h : i.val < 96
  · by_cases h' : i.val % 48 < 24
    · have hq : i.val % 48 * 2 + i.val / 48 < 48 := by omega
      exact .inl ⟨_, hq, Fin.ext (by rw [sK_val hq]; omega)⟩
    · have hq : (i.val % 48 - 24) * 2 + i.val / 48 < 48 := by omega
      exact .inr (.inl ⟨_, hq, Fin.ext (by rw [rK_val hq]; omega)⟩)
  · exact .inr (.inr (Fin.ext (by show i.val = 96; omega)))
theorem sK_inj : ∀ a ∈ Finset.range 48, ∀ b ∈ Finset.range 48, sK a = sK b → a = b := fun a ha b hb h => by
  have h := congrArg Fin.val h
  have ha := Finset.mem_range.mp ha; have hb := Finset.mem_range.mp hb
  rw [sK_val ha, sK_val hb] at h
  have q2 : a % 2 = 0 ∨ a % 2 = 1 := by omega
  rcases q2 with q2 | q2 <;> rw [q2] at h <;> omega
theorem rK_inj : ∀ a ∈ Finset.range 48, ∀ b ∈ Finset.range 48, rK a = rK b → a = b := fun a ha b hb h => by
  have h := congrArg Fin.val h
  have ha := Finset.mem_range.mp ha; have hb := Finset.mem_range.mp hb
  rw [rK_val ha, rK_val hb] at h
  have q2 : a % 2 = 0 ∨ a % 2 = 1 := by omega
  rcases q2 with q2 | q2 <;> rw [q2] at h <;> omega
theorem rb_disj : Disjoint ((Finset.range 48).image rK) {(96 : Fin 97)} := by
  rw [Finset.disjoint_singleton_right]
  intro hx
  obtain ⟨a, ha, e⟩ := Finset.mem_image.mp hx
  have ha := Finset.mem_range.mp ha
  have h := congrArg Fin.val e
  rw [rK_val ha] at h
  have : (96 : Fin 97).val = 96 := rfl
  omega
theorem srb_disj : Disjoint ((Finset.range 48).image sK) ((Finset.range 48).image rK ∪ {(96 : Fin 97)}) := by
  rw [Finset.disjoint_left]
  intro x hx hy
  obtain ⟨a, ha, rfl⟩ := Finset.mem_image.mp hx
  have ha := Finset.mem_range.mp ha
  have q2 : a % 2 = 0 ∨ a % 2 = 1 := by omega
  rcases Finset.mem_union.mp hy with hy | hy
  · obtain ⟨b, hb, e⟩ := Finset.mem_image.mp hy
    have hb := Finset.mem_range.mp hb
    have h := congrArg Fin.val e
    rw [sK_val ha, rK_val hb] at h
    have q3 : b % 2 = 0 ∨ b % 2 = 1 := by omega
    rcases q2 with q2 | q2 <;> rcases q3 with q3 | q3 <;> rw [q2, q3] at h <;> omega
  · have h := congrArg Fin.val (Finset.mem_singleton.mp hy)
    rw [sK_val ha] at h
    have : (96 : Fin 97).val = 96 := rfl
    omega
theorem kcell_s (c : Dev nD) {q : ℕ} (h : q < 48) : kcell (c, sK q) = sendC q c := by
  rw [show sK q = ⟨48 * (q % 2) + q / 2, by omega⟩ from Fin.ext (sK_val h)]; unfold kcell; rw [csem_send h]
theorem kcell_r (c : Dev nD) {q : ℕ} (h : q < 48) : kcell (c, rK q) = recvC q c := by
  rw [show rK q = ⟨48 * (q % 2) + 24 + q / 2, by omega⟩ from Fin.ext (rK_val h)]; unfold kcell; rw [csem_recv h]
theorem kcell_b (c : Dev nD) : kcell (c, 96) = barC c := by unfold kcell; rw [csem_bar]
theorem split97 (Φ : GSem nD τ sig → sProp 𝕄) (c : Dev nD) : (bigSep Finset.univ fun k : Fin 97 => Φ (kcell (c, k)))
    = iprop((bigSep (Finset.range 48) fun q => Φ (sendC q c)) ∗ (bigSep (Finset.range 48) fun q => Φ (recvC q c)) ∗ Φ (barC c)) := by
  rw [f97, sep_cup srb_disj, sep_cup rb_disj, sep_img _ _ sK_inj, sep_img _ _ rK_inj, BI.bigSep_singleton, kcell_b,
    BI.bigSep_congr (fun q hq => by rw [kcell_s c (Finset.mem_range.mp hq)] : ∀ q ∈ Finset.range 48, Φ (kcell (c, sK q)) = Φ (sendC q c)),
    BI.bigSep_congr (fun q hq => by rw [kcell_r c (Finset.mem_range.mp hq)] : ∀ q ∈ Finset.range 48, Φ (kcell (c, rK q)) = Φ (recvC q c))]

/-! ## Opening the cells -/

def pz (g : GSem nD τ sig) : sProp 𝕄 := iprop(atPos ER g 0 ∅ 0 ∗ reached ER g 0)
def Inv97 (c : Dev nD) : sProp 𝕄 := bigSep Finset.univ fun k : Fin 97 => iprop(∃ κ : ℕ, cellInv ER (Rd m) κ (kcell (c, k)))
def Pos97 (c : Dev nD) : sProp 𝕄 := bigSep Finset.univ fun k : Fin 97 => pz (kcell (c, k))

theorem bar0_eq (c : Dev nD) : (unscopedSems0 c : sProp 𝕄) = semVal (barC c) 0 := by
  unfold unscopedSems0; rw [bigSep_eq_bigSepL_of_eq [SemLoc.reg barS] (by decide) (by decide)]; rfl
theorem sems97 (c : Dev nD) : iprop(Pipeline.ownSems0 (Ix := ℕ) (Name := ℕ) (U := UU) (Lvl := ℕ) (Val := Elt F) (τ := τ) osem c ∗ unscopedSems0 c)
    ⊢ (iprop((bigSep Finset.univ fun k : Fin 97 => semVal (kcell (c, k)) 0) ∗ Rest c) : sProp 𝕄) := by
  rw [split97 (fun g => semVal g 0) c, bar0_eq]
  iintro ⟨Ho, Hb⟩
  ihave Ho := ((sems_eq (F := F) c).1) $$ Ho
  icases Ho with ⟨Hs, Hr, Hx⟩
  isplitl [Hs Hr Hb]
  · isplitl [Hs]; · iexact Hs
    isplitl [Hr]; · iexact Hr
    iexact Hb
  iexact Hx
theorem alloc97 (c : Dev nD) : iprop((bigSep Finset.univ fun k : Fin 97 => semVal (kcell (c, k)) 0) ∗ bigSep Finset.univ fun k : Fin 97 => roundState ER (Rd m) (kcell (c, k)) 0)
    ⊢ (|={Set.univ}=> Inv97 m c : sProp 𝕄) := by
  unfold Inv97
  rw [← BI.bigSep_sep']
  exact (BI.bigSep_mono fun k _ => (Rounds.body_intro ER (Rd m) (kcell (c, k))).trans inv_alloc).trans (BI.bigSep_fupd _ _)
theorem core_open (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(Inv97 m c ∗ Pos97 c ∗ toks c ∗ Rest c) := by
  unfold G
  iintro ⟨Hos, Hus, Hst, Hat, Htok⟩
  ihave Hv := (sems97 (F := F) c) $$ [Hos Hus]
  · isplitl [Hos] <;> iassumption
  icases Hv with ⟨Hv, Hx⟩
  imod (alloc97 m c) $$ [Hv Hst] with Hinv
  · isplitl [Hv] <;> iassumption
  imodintro
  isplitl [Hinv]; · iexact Hinv
  isplitl [Hat]; · iapply (show (bigSep Finset.univ fun k : Fin 97 => iprop(atPos ER (kcell (c, k)) 0 ∅ 0 ∗ reached ER (kcell (c, k)) 0)) ⊢ Pos97 (F := F) c from .rfl); iexact Hat
  isplitl [Htok]; · iexact Htok
  iexact Hx

/-! ## Dealing around the ring -/

def nbE (d : Bool) : Dev nD ≃ Dev nD := ⟨nb d, nb (!d), nb_not_nb d, nb_nb_not d⟩
theorem turn (d : Bool) (Φ : Dev nD → sProp 𝕄) : bigSep Finset.univ Φ = bigSep Finset.univ fun c => Φ (nb d c) := BI.bigSep_univ_equiv (nbE d) Φ
theorem big_swap (n : ℕ) (Φ : Dev nD → ℕ → sProp 𝕄) : (bigSep Finset.univ fun c => bigSep (Finset.range n) (Φ c)) = bigSep (Finset.range n) fun j => bigSep Finset.univ fun c => Φ c j := by
  induction n with
  | zero =>
    rw [Finset.range_zero, BI.bigSep_empty]
    rw [BI.bigSep_congr (fun c _ => by rw [BI.bigSep_empty] : ∀ c ∈ (Finset.univ : Finset (Dev nD)), bigSep ∅ (Φ c) = (BI.emp : sProp 𝕄))]
    exact BI.bigSep_emp_const _
  | succ n ih =>
    rw [BI.bigSep_range_succ, ← ih, ← BI.bigSep_sep']
    exact BI.bigSep_congr fun c _ => BI.bigSep_range_succ n (Φ c)
theorem turn_r : (bigSep Finset.univ fun c => tR (F := F) c) = bigSep Finset.univ fun c : Dev nD => bigSep (Finset.range 768) fun j => (dutyTok ER (recvC (j % 48) (nb (qd j) c)) (j / 48) false : sProp 𝕄) := by
  unfold tR
  rw [big_swap, big_swap 768 fun c j => (dutyTok ER (recvC (j % 48) (nb (qd j) c)) (j / 48) false : sProp 𝕄)]
  exact BI.bigSep_congr fun j _ => turn (qd j) fun c => (dutyTok ER (recvC (j % 48) c) (j / 48) false : sProp 𝕄)

/-- What device `c` keeps for itself. -/
def Lin (c : Dev nD) : sProp 𝕄 :=
  iprop((bigSep (Finset.range 48) fun q => pz (sendC q c)) ∗ (bigSep (Finset.range 48) fun q => pz (recvC q c)) ∗ Tk c 0
    ∗ atPos ER (barC c) 0 ∅ 0 ∗ tB false (nb true c) ∗ tB true (nb false c) ∗ Rest c)
/-- What a device knows of all the handshake cells. -/
def Bk : sProp 𝕄 := bigSep Finset.univ fun c : Dev nD => reached ER (barC c) 0
instance Bk_persistent : BI.Persistent (Bk (F := F)) := by unfold Bk; infer_instance

theorem pos_split : (bigSep Finset.univ fun c => Pos97 (F := F) c) = iprop((bigSep Finset.univ fun c : Dev nD => bigSep (Finset.range 48) fun q => pz (sendC q c))
    ∗ (bigSep Finset.univ fun c : Dev nD => bigSep (Finset.range 48) fun q => pz (recvC q c)) ∗ (bigSep Finset.univ fun c : Dev nD => atPos ER (barC c) 0 ∅ 0) ∗ Bk (F := F)) := by
  have e : ∀ c : Dev nD, Pos97 (F := F) c = _ := fun c => split97 pz c
  rw [BI.bigSep_congr fun c _ => e c]
  unfold Bk
  rw [← BI.bigSep_sep' Finset.univ (fun c : Dev nD => atPos ER (barC c) 0 ∅ 0), ← BI.bigSep_sep', ← BI.bigSep_sep']
  rfl
theorem tk_split (c : Dev nD) : Tk (F := F) c 0 = iprop(tS c ∗ bigSep (Finset.range 768) fun j => dutyTok ER (recvC (j % 48) (nb (qd j) c)) (j / 48) false) := by
  unfold Tk tS; rw [← Finset.range_eq_Ico, BI.bigSep_sep']
theorem deal : iprop((bigSep Finset.univ fun c => Pos97 (F := F) c) ∗ (bigSep Finset.univ fun c => toks (F := F) c) ∗ bigSep Finset.univ fun c => Rest (F := F) c)
    ⊢ iprop(Bk (F := F) ∗ bigSep Finset.univ fun c => Lin (F := F) c) := by
  unfold toks Lin
  rw [pos_split]
  simp only [BI.bigSep_sep', tk_split]
  rw [turn_r, turn true (tB (F := F) false), turn false (tB (F := F) true)]
  iintro ⟨⟨H1, H2, H3, H4⟩, ⟨⟨T1, T2⟩, T3, T4⟩, Hx⟩
  isplitl [H4]; · iexact H4
  isplitl [H1]; · iexact H1
  isplitl [H2]; · iexact H2
  isplitl [T1 T2]
  · isplitl [T1]; · iexact T1
    iexact T2
  isplitl [H3]; · iexact H3
  isplitl [T3]; · iexact T3
  isplitl [T4]; · iexact T4
  iexact Hx

def invs (κ : Dev nD × Fin 97 → ℕ) : sProp 𝕄 := bigSep Finset.univ fun ck => cellInv ER (Rd m) (κ ck) (kcell ck)
instance invs_persistent (κ) : BI.Persistent (invs (F := F) m κ) := by unfold invs; infer_instance
/-- What device `c` starts with. -/
def G' (c : Dev nD) : sProp 𝕄 := iprop(∃ κ, invs m κ ∗ Bk ∗ Lin c)

theorem big_keep {R : sProp 𝕄} [BI.Persistent R] {A B : Dev nD → sProp 𝕄} (h : ∀ c, iprop(R ∗ A c) ⊢ B c) : iprop(R ∗ bigSep Finset.univ A) ⊢ bigSep Finset.univ B :=
  (sep_mono_left (BI.bigSep_of_persistent Finset.univ R)).trans (by rw [← BI.bigSep_sep']; exact BI.bigSep_mono fun c _ => h c)
theorem g_intro (κ) (c : Dev nD) : iprop((invs m κ ∗ Bk (F := F)) ∗ Lin c) ⊢ G' m c := by
  unfold G'
  iintro ⟨⟨HI, HB⟩, HL⟩
  iexists κ
  isplitl [HI]; · iexact HI
  isplitl [HB]; · iexact HB
  iexact HL
theorem inv_split : (bigSep Finset.univ fun c => Inv97 (F := F) m c) ⊢ iprop(∃ κ, invs m κ) := by
  unfold Inv97
  rw [← BI.bigSep_univ_prod (fun ck : Dev nD × Fin 97 => iprop(∃ κ : ℕ, cellInv ER (Rd m) κ (kcell ck)))]
  exact BI.bigSep_exists_pi Finset.univ (fun (ck : Dev nD × Fin 97) (κ : ℕ) => (cellInv ER (Rd m) κ (kcell ck) : sProp 𝕄))
theorem regroup : (bigSep Finset.univ fun c : Dev nD => iprop(Inv97 m c ∗ Pos97 c ∗ toks c ∗ Rest c)) ⊢ bigSep Finset.univ (G' m) := by
  simp only [BI.bigSep_sep']
  iintro ⟨HI, HP⟩
  ihave HI := (inv_split m) $$ HI
  icases HI with ⟨%κ, HI⟩
  ihave HL := (deal (F := F)) $$ HP
  icases HL with ⟨HB, HL⟩
  iapply (big_keep (R := iprop(invs m κ ∗ Bk (F := F))) fun c => g_intro m κ c)
  isplitl [HI HB]
  · isplitl [HI]; · iexact HI
    iexact HB
  iexact HL
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_open m c).trans (BI.bigSep_fupd _ _)).trans (BI.fupd_mono (regroup m))

/-! ## What the devices owe at the start -/

theorem cred_bar (c : Dev nD) : iprop(cred (tallyAt (barC c) 0 1) ∗ cred (tallyAt (barC c) 0 1)) ⊢ (cred (tallyAt (barC c) 0 2) : sProp 𝕄) := by
  have h := (cred_add (tallyAt (barC c) 0 1) (tallyAt (barC c) 0 1) : (cred _ : sProp 𝕄) ⊣⊢ _).2
  rwa [tallyAt_add] at h
theorem creds (c : Dev nD) : (Pipeline.launchCred O00 c : sProp 𝕄)
    ⊢ iprop((bigSep (Finset.Ico 0 768) fun j => cred (tallyAt (recvC (j % 48) c) (j / 48) N)) ∗ cred (tallyAt (barC c) 0 2)) := by
  have e : (O00 : Dev nD → _) = fun d => ((fun d => ∑ j ∈ Finset.Ico 0 768, (fun j d => tallyAt (recvC (j % 48) (nb (qd j) d)) (j / 48) N) j d) d
      + (fun d => tallyAt (barC (nb false d)) 0 1) d) + (fun d => tallyAt (barC (nb true d)) 0 1) d := rfl
  rw [e, Pipeline.launchCred_add, Pipeline.launchCred_add, Pipeline.launchCred_sum]
  have h1 := Pipeline.launchCred_tallyAt (τ := τ) (sig := sig) (Val := Elt F) (Name := ℕ) (U := UU) (Lvl := ℕ) (.reg barS) (nb false) (nb true) (nb_nb_not false) (nb_not_nb false) (0 : ℕ) 1 c
  have h2 := Pipeline.launchCred_tallyAt (τ := τ) (sig := sig) (Val := Elt F) (Name := ℕ) (U := UU) (Lvl := ℕ) (.reg barS) (nb true) (nb false) (nb_nb_not true) (nb_not_nb true) (0 : ℕ) 1 c
  have h3 : ∀ j, _ := fun j : ℕ => Pipeline.launchCred_tallyAt (τ := τ) (sig := sig) (Val := Elt F) (Name := ℕ) (U := UU) (Lvl := ℕ) (.dma (recvS (j % 48))) (nb (qd j)) (nb (!qd j)) (nb_nb_not (qd j)) (nb_not_nb (qd j)) (j / 48) N c
  iintro ⟨⟨H3, H1⟩, H2⟩
  isplitl [H3]
  · iapply (show _ ⊢ _ from BI.bigSep_mono (s := Finset.Ico 0 768) fun j _ => h3 j); iexact H3
  iapply (cred_bar (F := F) c)
  isplitl [H1]
  · iapply h1; iexact H1
  iapply h2; iexact H2

end Cert.KernelIdeal.Ring
end
-- ==== Proof.Launch.lean ====
/- The kernel started on all devices. -/
module

public import proofs.«01_k».proof.Proof.Ghost
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

/-! ## The state of a device before each tile, what it owes put apart -/

def CtlR (c : Dev nD) (ks kr kw : ℕ) : sProp 𝕄 := iprop(∃ κ, Rec m κ ∗ Tk c ks ∗ Rx c kr ∗ Sx c ks kw)
/-- What a device begins with, its buffers apart; -/
def St (c : Dev nD) : sProp 𝕄 :=
  iprop((CtlR m c 0 0 0 ∗ Hi (F := F) c) ∗ Rest (F := F) c ∗ xhR m c Finset.univ ∗ whR m c Finset.univ ∗ (((c : Thread nD τ).loc main_v1) ↦[Finset.univ]{fullShare} (ym m c)))
def InvR (c : Dev nD) (t : ℕ) : sProp 𝕄 :=
  iprop(CtlR m c (ksT t) (48 * t) (48 * t) ∗ NWk m c t ∗ OW3 (F := F) c ∗ Xs m c t ∗ WM m c ∗ OUT m c t ∗ SVO (F := F) c ∗ semVal (barC c) 0)
def osems (c : Dev nD) : sProp 𝕄 := Pipeline.ownSems0 (Ix := ℕ) (Name := ℕ) (U := UU) (Lvl := ℕ) (Val := Elt F) (τ := τ) osem c
def PhiAt (c : Dev nD) (t : ℕ) : sProp 𝕄 :=
  if t = 0 then iprop(St m c ∗ Bufs (F := F) c) else if t = 16 then iprop(Fin0 m c ∗ osems (F := F) c ∗ Bufs (F := F) c) else InvR m c t
def ow (c : Dev nD) (t : ℕ) : CellTallies nD τ sig ℕ := if t = 0 then O00 c else O c (ksT t)
def owe (c : Dev nD) (t : ℕ) : sProp 𝕄 := iprop(∃ W, owes (c : Thread nD τ) (ow c t) W)

theorem phi_in (c : Dev nD) {t : ℕ} (ht : t < 16) : iprop(PhiAt m c t ∗ owe (F := F) c t) ⊢ Pre m c t := by
  unfold PhiAt Pre owe ow
  by_cases h : t = 0
  · simp only [if_pos h]
    unfold St CtlR
    iintro ⟨⟨⟨⟨⟨%κ, HR, HT, HX, HS⟩, HH⟩, Hx⟩, HB⟩, Ho⟩
    icases Hx with ⟨H1, H2, H3, H4⟩
    iapply (init_intro m c)
    unfold Ctl0
    isplitl [HR HT HX HS HH Ho]
    · isplitl [HR HT HX HS Ho]
      · iexists κ
        isplitl [HR]; · iexact HR
        isplitl [Ho]; · iexact Ho
        isplitl [HT]; · iexact HT
        isplitl [HX]; · iexact HX
        iexact HS
      iexact HH
    isplitl [HB]; · iexact HB
    isplitl [H1]; · iexact H1
    isplitl [H2]; · iexact H2
    isplitl [H3]; · iexact H3
    iexact H4
  · simp only [if_neg h, if_neg (show ¬ t = 16 by omega)]
    unfold InvR CtlR Inv Ctl
    iintro ⟨⟨⟨%κ, HR, HT, HX, HS⟩, Hx⟩, Ho⟩
    isplitl [HR HT HX HS Ho]
    · iexists κ
      isplitl [HR]; · iexact HR
      isplitl [Ho]; · iexact Ho
      isplitl [HT]; · iexact HT
      isplitl [HX]; · iexact HX
      iexact HS
    iexact Hx
theorem phi_out (c : Dev nD) {t : ℕ} : Inv m c (t + 1) ⊢ |={Set.univ}=> iprop(PhiAt m c (t + 1) ∗ owe (F := F) c (t + 1)) := by
  unfold PhiAt owe ow
  simp only [if_neg (show ¬ t + 1 = 0 by omega)]
  by_cases h : t + 1 = 16
  · simp only [if_pos h]
    rw [h]
    refine (inv_end m c).trans (BI.fupd_mono ?_)
    unfold osems
    iintro ⟨Ho, Hx⟩
    isplitl [Hx]; · iexact Hx
    iexact Ho
  · simp only [if_neg h]
    unfold InvR CtlR Inv Ctl
    iintro ⟨⟨%κ, HR, Ho, HT, HX, HS⟩, Hx⟩
    imodintro
    isplitl [HR HT HX HS Hx]
    · isplitl [HR HT HX HS]
      · iexists κ
        isplitl [HR]; · iexact HR
        isplitl [HT]; · iexact HT
        isplitl [HX]; · iexact HX
        iexact HS
      iexact Hx
    iexact Ho

def dats (_ : Fin 1) (c : Dev nD) : Dat τ (Elt F) ℕ ℕ UU ℕ cfg0 c where
  A w := m ((cfg0.win w).arr.view.loc (c : Thread nD τ))
  after w _ := w.elim0
  Φ t := PhiAt m c t.val
  q _ := fullShare
  owed t := ow c t.val

theorem no_w (Φ : Fin cfg0.W → sProp 𝕄) : bigSep Finset.univ Φ = BI.emp := rfl

theorem body_ob (c : Dev nD) : BodyObligation (dats (F := F) m 0 c) (defs₀ (F := F)) 𝒱₀ (0 : ℕ) Set.univ := fun t => by
  have ht : t.val < 16 := Nat.lt_of_lt_of_eq t.isLt N_0
  rw [no_w, no_w]
  unfold Dat.owesAt Pipeline.owesWithin
  show iprop(PhiAt m c t.val ∗ (∃ W, ⌜_⌝ ∗ owes (c : Thread nD τ) (ow c t.val) W) ∗ BI.emp)
    ⊢ WP c (cc0_body (grid0.coords t) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11)
      (fun _ => iprop(PhiAt m c (t.val + 1) ∗ (∃ W, ⌜_⌝ ∗ owes (c : Thread nD τ) (ow c (t.val + 1)) W) ∗ BI.emp))
  iintro ⟨HP, ⟨%W, -, Ho⟩, -⟩
  iapply (wp_fupd _ _ _ _ _)
  iapply (sound m c (i := grid0.coords t) (t := t.val) ⟨t, rfl, rfl⟩) $$ [HP Ho]
  · iapply (phi_in m c ht)
    isplitl [HP]; · iexact HP
    unfold owe; iexists W; iexact Ho
  iintro HI
  imod (phi_out m c) $$ HI with ⟨HP, Ho⟩
  imodintro
  unfold owe
  icases Ho with ⟨%W', Ho⟩
  isplitl [HP]; · iexact HP
  isplitl [Ho]
  · iexists W'
    isplitr; · ipureintro; exact fun _ _ => Or.inl trivial
    iexact Ho
  iempintro

/-! ## The launch -/

theorem osem_facts : Pipeline.OwnSemFacts cfg0.spec osem := by decide
theorem share_eq (c : Dev nD) (w : Fin cfg0.W) : (dats m 0 c).share w = fullShare := w.elim0
theorem L_ne (g : GSem nD τ sig) (h : g.1.2 ≠ .tc) : L g = ∅ := if_neg h

def u₀ : UU := (initOf (Pipeline.cells cfgs cellOf_inj) (Pipeline.launchToks cfgs cellOf_inj), (initOf rcells rtoks, 1))

theorem fund0 : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb embR _ _) $$ HX
  icases HX with ⟨HX, -⟩
  ihave HX := (show BI.own ((Emb.inl.trans embR).toFun (initOf rcells rtoks)) ⊢ (BI.own (ER (initOf rcells rtoks)) : sProp 𝕄) from .rfl) $$ HX
  imod (fund_ring m) $$ HX with HG
  imodintro
  isplitl [HP]; · iexact HP
  iexact HG

theorem bar_known (c : Dev nD) : Bk (F := F) ⊢ reached ER (barC c) 0 := by
  unfold Bk; exact BI.bigSep_elim (Finset.mem_univ c)
theorem pz_zero (f : ℕ → GSem nD τ sig) : (bigSep (Finset.range 48) fun q => pz (F := F) (f q))
    ⊢ bigSep (Finset.range 48) fun q => iprop(atPos ER (f q) ((0 + 47 - q) / 48) ∅ 0 ∗ reached ER (f q) ((0 + 47 - q) / 48)) :=
  BI.bigSep_mono fun q hq => by
    have := Finset.mem_range.mp hq
    rw [show (0 + 47 - q) / 48 = 0 by omega]; exact (show pz (F := F) (f q) ⊢ iprop(atPos ER (f q) 0 ∅ 0 ∗ reached ER (f q) 0) from .rfl)
theorem start_intro (c : Dev nD) :
    iprop(Pipeline.unscopedRestP Pipeline.Prefetch.none cfg0.spec c (fun b => m ((c : Thread nD τ).loc b)) ∗ levAts L lv
        ∗ Pipeline.launchCred O00 c ∗ prngReg c (ρ c) ∗ G' m c)
      ⊢ |={Set.univ}=> iprop(St m c ∗ BI.emp) := by
  rw [Pipeline.unscopedRestP_none, unscopedRest0_eq]
  unfold G' Lin
  iintro ⟨⟨H1, H2, H3⟩, Hl, Hcr, -, ⟨%κ, HI, #HB, P1, P2, HT, PB, T1, T2, HR⟩⟩
  ihave Hc := (creds (F := F) c) $$ Hcr
  icases Hc with ⟨C1, C2⟩
  imodintro
  isplitl
  · unfold St CtlR Hi Rec Rx Sx tB invs
    isplitl [Hl HI P1 P2 HT PB T1 T2 C1 C2]
    · isplitl [Hl HI P1 P2 HT C1]
      · iexists κ
        isplitl [Hl HI]
        · isplitl [Hl]; · iexact Hl
          iexact HI
        isplitl [HT]; · iexact HT
        isplitl [C1 P2]
        · isplitl [C1]; · iexact C1
          iapply (pz_zero (F := F) fun q => recvC q c); iexact P2
        isplitr
        · rw [show Finset.Ico 0 0 = ∅ from rfl, BI.bigSep_empty]; iempintro
        iapply (pz_zero (F := F) fun q => sendC q c); iexact P1
      isplitl [PB]; · iexact PB
      isplitl [T1]
      · isplitr; · iapply (bar_known (F := F) (nb true c)); iexact HB
        iexact T1
      isplitl [T2]
      · isplitr; · iapply (bar_known (F := F) (nb false c)); iexact HB
        iexact T2
      iexact C2
    isplitl [HR]; · iexact HR
    isplitl [H1]; · iapply (show ((((c : Thread nD τ).loc main_arg0) ↦{fullShare} m ((c : Thread nD τ).loc main_arg0)) : sProp 𝕄) ⊢ xhR m c Finset.univ from .rfl); iexact H1
    isplitl [H2]; · iapply (show ((((c : Thread nD τ).loc main_arg1) ↦{fullShare} m ((c : Thread nD τ).loc main_arg1)) : sProp 𝕄) ⊢ whR m c Finset.univ from .rfl); iexact H2
    iapply (show ((((c : Thread nD τ).loc main_v1) ↦{fullShare} m ((c : Thread nD τ).loc main_v1)) : sProp 𝕄) ⊢ (((c : Thread nD τ).loc main_v1) ↦[Finset.univ]{fullShare} (ym m c)) from .rfl); iexact H3
  · iempintro

theorem bufs_eq (c : Dev nD) : Pipeline.scopedRest (Ix := ℕ) (Name := ℕ) (U := UU) (Lvl := ℕ) (Val := Elt F) cfg0.spec c = Bufs (F := F) c := by
  rw [scopedRest0_eq]; rfl
theorem phi_first (c : Dev nD) :
    iprop(St m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(St m c ∗ Bufs (F := F) c) from rfl, bufs_eq]
  iintro ⟨Hs, -, HB⟩
  isplitl [Hs]; · iexact Hs
  iexact HB
theorem phi_last (c : Dev nD) :
    (dats m 0 c).Φ (Fin.last cfg0.N) ⊢ iprop(Fin0 m c ∗ Pipeline.ownSems0 osem c ∗ Pipeline.scopedRest cfg0.spec c) := by
  rw [bufs_eq]; exact .rfl
theorem waits (c : Dev nD) : (levAts L lv : sProp 𝕄) ⊢ Pipeline.cellsWaits cfgs (dats m) (0 : ℕ) 0 c :=
  Pipeline.cellsWaits_intro cfgs (dats m) (0 : ℕ) 0 c fun w => w.elim0

/-- What the memory says of device `c` at the end. -/
def QY (c : Dev nD) (s : MemSt nD τ sig (Elt F)) : Prop :=
  s.mem ((c : Thread nD τ).loc main_arg0) = xm m c ∧ s.mem ((c : Thread nD τ).loc main_arg1) = wm m c ∧ s.mem ((c : Thread nD τ).loc main_v1) = YB m
    ∧ ∀ sm : SemLoc sig, sm.isScoped .tc = false → s.sem ((c.tc : Thread nD τ), sm) = 0

theorem read_all {ℓ : Loc nD τ sig} (f : Buf (Elt F) ℓ) (s : Phys nD τ sig (Elt F)) :
    iprop(SI s ∗ (ℓ ↦[Finset.univ]{fullShare} f)) ⊢ (iprop(⌜s.mem.mem ℓ = f⌝ ∗ (SI s ∗ (ℓ ↦[Finset.univ]{fullShare} f))) : sProp 𝕄) := by
  have h : iprop(SI s ∗ (ℓ ↦[Finset.univ]{fullShare} f)) ⊢ (⌜s.mem.mem ℓ = f⌝ : sProp 𝕄) :=
    SI_pointsTo_agree.trans (BI.pure_mono fun h => funext fun i => h i (Finset.mem_univ i))
  exact persistent_entails_right h
theorem read_end (c : Dev nD) (s : Phys nD τ sig (Elt F)) :
    iprop(Fin0 m c ∗ BI.emp ∗ SI s) ⊢ |={Set.univ}=> iprop(⌜QY m c s.mem⌝ ∗ SI s) := by
  unfold Fin0 xhR whR
  iintro ⟨⟨⟨H1, H2, H3⟩, Hb⟩, -, HS⟩
  ihave H := (read_all _ s) $$ [HS H1]
  · isplitl [HS]; · iexact HS
    iexact H1
  icases H with ⟨%h1, HS, -⟩
  ihave H := (read_all _ s) $$ [HS H2]
  · isplitl [HS]; · iexact HS
    iexact H2
  icases H with ⟨%h2, HS, -⟩
  ihave H := (read_all _ s) $$ [HS H3]
  · isplitl [HS]; · iexact HS
    iexact H3
  icases H with ⟨%h3, HS, -⟩
  imod (Pipeline.unscopedSems0_read (X := unscopedSems0 c) (c := c) Idealize.SL.BI.fupd_intro s) $$ [Hb HS] with ⟨%h4, HS⟩
  · rw [bar0_eq]
    isplitl [Hb]; · iexact Hb
    iexact HS
  imodintro
  isplitr; · ipureintro; exact ⟨h1, h2, h3, h4⟩
  iexact HS

set_option maxRecDepth 8000 in
/-- Every fair run of the four kernels from any memory with zero counters ends; then `x` and `w` are unchanged, every device's
    result holds `YB`, and every counter is zero. -/
theorem run_main : θ_run defs (onTc (τ := τ) (main (F := F))) ⟨m, fun _ => 0, ρ⟩ (fun r => (∀ c : Dev nD,
    r.2.mem ((c : Thread nD τ).loc main_arg0) = xm m c ∧ r.2.mem ((c : Thread nD τ).loc main_arg1) = wm m c ∧ r.2.mem ((c : Thread nD τ).loc main_v1) = YB m)
    ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ osem_facts (Pipeline.PreFacts.none _) EP defs₀ 𝒱₀ m ρ main
    (hmain := fun _ => rfl)
    (hbody := body_ob m) (hne := fun w => w.elim0) (harr := arr_whole0) (hstage := stage_whole0) (hshare := share_eq m)
    (hdistinct := winFacts0.arr_inj)
    (O₀ := O00) (howed₀ := fun _ => rfl) (howedN := fun c => O_end c)
    (L := L) (lv := lv) (hL := L_ne) (hwaits := waits m)
    (G := G m) (G' := G' m) (u₀ := u₀)
    (hu₀ := fund0 m)
    (hglob := glob m)
    (hA := fun _ _ => rfl) (hpf := fun _ k => k.elim0)
    (X := St m) (Y := Fin0 m) (Z := fun _ => BI.emp)
    (hX := start_intro m ρ) (hin := phi_first m) (hout := phi_last m)
    (QY := QY m)
    (hY := read_end m)
    (hQ := fun _ h hs => ⟨fun c => ⟨(h c).2.2.1, (h c).2.2.2.1, (h c).2.2.2.2.1⟩, sem_eq_zero hs fun c => (h c).2.2.2.2.2⟩)

end Cert.KernelIdeal.Ring
end
-- ==== Proof.Twin.lean ====
/- The kernel as written, whose run is the run of its reading over any numbers. -/
module

public import proofs.«01_k».proof.Proof.Launch
public import proofs.«01_k».proof.Kernel
public import proofs.«01_k».proof.Proof.Gen.Kernel

@[expose] public section

noncomputable section

namespace Cert.Twin

open Idealize.ShloMosaic Idealize.SL.Sem

variable {F : FTy → Type} [FloatOps F]

theorem run_args (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Cert.KernelIdeal.Ring.run_main (F := F) m g)

set_option maxRecDepth 100000 in
/-- The two texts have the same body, -/
theorem body_eq : @Cert.Kernel.cc0_body F _ Cert.Kernel.Gen.facts = @Cert.KernelIdeal.cc0_body F _ Cert.KernelIdeal.Gen.facts := by
  with_unfolding_all rfl

set_option maxRecDepth 100000 in
/-- so a run of the one is a run of the other. -/
theorem run_main (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  with_unfolding_all exact run_args m g

end Cert.Twin
end
-- ==== Proof.Value.lean ====
/- The value of the result over extended reals: the running sum of the four devices' partial products is the product of
   the whole matrices, and the last step is the reference's. -/
module

public import proofs.«01_k».proof.Defs
public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Pointwise.Sums

@[expose] public section

noncomputable section

namespace Cert.Value

open Idealize.ShloMosaic hiding ix2
open Idealize.ShloMosaic.ValueIdx (ix2)
open Idealize.SL.Sem
open Cert.KernelIdeal Cert.KernelIdeal.Gen Cert.KernelIdeal.Ring
open scoped BigOperators

/-- Two indices of a matrix are one when their coordinates have the same numbers. -/
theorem idx_ext {n k : ℕ} {i j : (⟨2, ![n, k]⟩ : Shape).Idx} (h0 : (i 0).val = (j 0).val) (h1 : (i 1).val = (j 1).val) : i = j := by
  funext a
  match a with
  | ⟨0, _⟩ => exact Fin.ext h0
  | ⟨1, _⟩ => exact Fin.ext h1

theorem ix_eq {n k : ℕ} (hn : 0 < n) (hk : 0 < k) {r j : ℕ} (hr : r < n) (hj : j < k) : ix n k hn hk r j = ix2 ⟨r, hr⟩ ⟨j, hj⟩ :=
  idx_ext (Nat.mod_eq_of_lt hr) (Nat.mod_eq_of_lt hj)

/-- The first tile's product at an entry: a sum over the 2048 shared positions; -/
theorem pay9_apply (x : Vec Ideal S1x512x2048 .f32) (w : Vec Ideal S2048x1024 .f32) (r : Fin 512) (j : Fin 1024) :
    k0_pay9 x w (ix2 r j) = ∑ k : Fin 2048, x (Fin.cons ⟨0, Nat.one_pos⟩ (ix2 r k)) * w (ix2 k j) := by
  unfold k0_pay9
  rw [shapeCast_self]
  refine (Ideal.matmul_plain_apply (M := 512) (K := 2048) (N := 1024) none _ w _ r j).trans ?_
  rw [show (constant S512x1024 .f32 0x00000000#32 : FVec Ideal S512x1024 .f32) (ix2 r j) = 0 from Ideal.ofBits_zero_f32, zero_add]
  exact Finset.sum_congr rfl fun k _ => congrArg (· * w (ix2 k j)) (shapeCast_dropUnit_apply ![512, 2048] x _ (ix2 r k))

/-- and a later tile's. -/
theorem pay6_apply (x : Vec Ideal S1x512x2048 .f32) (w : Vec Ideal S2048x512 .f32) (r : Fin 512) (j : Fin 512) :
    k0_pay6 x w (ix2 r j) = ∑ k : Fin 2048, x (Fin.cons ⟨0, Nat.one_pos⟩ (ix2 r k)) * w (ix2 k j) := by
  unfold k0_pay6
  rw [shapeCast_self]
  refine (Ideal.matmul_plain_apply (M := 512) (K := 2048) (N := 512) none _ w _ r j).trans ?_
  rw [show (constant S512x512 .f32 0x00000000#32 : FVec Ideal S512x512 .f32) (ix2 r j) = 0 from Ideal.ofBits_zero_f32, zero_add]
  exact Finset.sum_congr rfl fun k _ => congrArg (· * w (ix2 k j)) (shapeCast_dropUnit_apply ![512, 2048] x _ (ix2 r k))

variable (m : (ℓ : Loc nD τ sig) → Buf (Elt Ideal) ℓ)

/-- A device's partial product at row `r` of tile `t` and column `j`. -/
theorem P_eq (c : Dev nD) {t r j : ℕ} (hr : r < 512) (hj : j < 4096) :
    P m c t r j = ∑ k : Fin 2048, (xm m c (ix 8192 2048 (by decide) (by decide) (512 * t + r) k.val) : EReal) * wm m c (ix 2048 4096 (by decide) (by decide) k.val j) := by
  unfold P
  split_ifs with ht
  · subst ht
    have e : ix 512 1024 (by decide) (by decide) r j = ix2 ⟨r, hr⟩ ⟨j % 1024, Nat.mod_lt _ (by decide)⟩ := idx_ext (Nat.mod_eq_of_lt hr) rfl
    rw [e, pay9_apply]
    refine Finset.sum_congr rfl fun k _ => congrArg₂ (· * ·) rfl ?_
    show wm m c (ix 2048 4096 _ _ k.val (1024 * (j / 1024) + j % 1024)) = _
    rw [Nat.div_add_mod]
  · have e : ix 512 512 (by decide) (by decide) r j = ix2 ⟨r, hr⟩ ⟨j % 512, Nat.mod_lt _ (by decide)⟩ := idx_ext (Nat.mod_eq_of_lt hr) rfl
    rw [e, pay6_apply]
    refine Finset.sum_congr rfl fun k _ => congrArg₂ (· * ·) rfl ?_
    show wm m c (ix 2048 4096 _ _ k.val (512 * (j / 512) + j % 512)) = _
    rw [Nat.div_add_mod]

/-- Going once round the ring visits every device once. -/
theorem acc_eq (d : Bool) (c : Dev nD) (t r j : ℕ) : acc m d 3 c t r j = ∑ e : Fin 4, (P m e t r j : EReal) := by
  have key : ∀ f : Dev nD → EReal,
      f c + (f (nb (!d) c) + (f (nb (!d) (nb (!d) c)) + f (nb (!d) (nb (!d) (nb (!d) c))))) = ∑ e : Fin 4, f e := by
    intro f
    rw [Fin.sum_univ_four]
    have hc : c = 0 ∨ c = 1 ∨ c = 2 ∨ c = 3 := by revert c; decide
    rcases hc with rfl | rfl | rfl | rfl <;> cases d
    · show f 0 + (f 3 + (f 2 + f 1)) = _; abel
    · show f 0 + (f 1 + (f 2 + f 3)) = _; abel
    · show f 1 + (f 0 + (f 3 + f 2)) = _; abel
    · show f 1 + (f 2 + (f 3 + f 0)) = _; abel
    · show f 2 + (f 1 + (f 0 + f 3)) = _; abel
    · show f 2 + (f 3 + (f 0 + f 1)) = _; abel
    · show f 3 + (f 2 + (f 1 + f 0)) = _; abel
    · show f 3 + (f 0 + (f 1 + f 2)) = _; abel
  exact key fun e => P m e t r j

/-- The reference's arguments, whole. -/
abbrev WX : Type := (⟨2, ![8192, 8192]⟩ : Shape).Idx → EReal
abbrev WW : Type := (⟨2, ![8192, 4096]⟩ : Shape).Idx → EReal

/-- Device `c`'s entries of `x` and `w` in the whole arrays. -/
theorem x_block (X : WX) (c : Fin 4) (r : Fin 8192) (k : Fin 2048) :
    Layout.block ⟨2, ![8192, 2048]⟩ ⟨2, ![8192, 8192]⟩ 1 4 c X (by decide) (ix2 r k) = X (ix2 r ⟨c.val * 2048 + k.val, by omega⟩) :=
  congrArg X (idx_ext rfl rfl)

theorem w_block (W : WW) (c : Fin 4) (k : Fin 2048) (j : Fin 4096) :
    Layout.block ⟨2, ![2048, 4096]⟩ ⟨2, ![8192, 4096]⟩ 0 4 c W (by decide) (ix2 k j) = W (ix2 ⟨c.val * 2048 + k.val, by omega⟩ j) :=
  congrArg W (idx_ext rfl rfl)

/-- The four partial products sum to the product of the whole matrices. -/
theorem sum_P (X : WX) (W : WW)
    (hx : ∀ c : Dev nD, xm m c = Layout.block ⟨2, ![8192, 2048]⟩ ⟨2, ![8192, 8192]⟩ 1 4 c X)
    (hw : ∀ c : Dev nD, wm m c = Layout.block ⟨2, ![2048, 4096]⟩ ⟨2, ![8192, 4096]⟩ 0 4 c W)
    (i : Fin 8192) (j : Fin 4096) :
    (∑ e : Fin 4, (P m e (i.val / 512) (i.val % 512) j.val : EReal)) = ∑ K : Fin 8192, X (ix2 i K) * W (ix2 K j) := by
  rw [Fin.sum_univ_tiles 4 2048 (by norm_num) (fun K : Fin 8192 => X (ix2 i K) * W (ix2 K j))]
  refine Finset.sum_congr rfl fun e _ => ?_
  rw [P_eq m e (Nat.mod_lt _ (by decide)) j.isLt]
  refine Finset.sum_congr rfl fun k _ => ?_
  rw [Nat.div_add_mod, ix_eq _ _ i.isLt k.isLt, ix_eq _ _ k.isLt j.isLt, hx e, hw e]
  exact congrArg₂ (· * ·) (x_block X e i k) (w_block W e k j)

/-- The reference's result. -/
abbrev refV (X : WX) (W : WW) : FVec Ideal ⟨2, ![8192, 4096]⟩ .f32 :=
  Host.divf (F := Ideal) (Host.dotGeneral (F := Ideal) (φ₁ := .f32) (φ₂ := .f32) Cert.ReferenceIdeal.dot_S8192x8192_S8192x4096_S8192x4096_1_0_0_1_n_n none X W)
    (addf (broadcastInDim Cert.ReferenceIdeal.S8192x4096 ![] (Cert.ReferenceIdeal.Gen.facts.bcast_S_S8192x4096) (constant Cert.ReferenceIdeal.S_ .f32 0x3F800000#32))
      (Host.exp (Host.negf (Host.dotGeneral (F := Ideal) (φ₁ := .f32) (φ₂ := .f32) Cert.ReferenceIdeal.dot_S8192x8192_S8192x4096_S8192x4096_1_0_0_1_n_n none X W))))

/-- The kernel's last step is the reference's. -/
theorem silu_eq (y : EReal) : silu (F := Ideal) y = Ideal.div y (Ideal.ofBits .f32 0x3F800000#32 + Ideal.exp (-y)) := by
  show Ideal.div y (Ideal.ofBits .f32 0x3F800000#32 + Ideal.exp (Ideal.ofBits .f32 0x00000000#32 - y)) = _
  rw [Ideal.ofBits_zero_f32, zero_sub]

/-- The reference's steps after the product, at an entry. -/
theorem epi (D : FVec Ideal Cert.ReferenceIdeal.S8192x4096 .f32) (i : Cert.ReferenceIdeal.S8192x4096.Idx) :
    Host.divf D (addf (broadcastInDim Cert.ReferenceIdeal.S8192x4096 ![] (Cert.ReferenceIdeal.Gen.facts.bcast_S_S8192x4096) (constant Cert.ReferenceIdeal.S_ .f32 0x3F800000#32))
      (Host.exp (Host.negf D))) i = Ideal.div (D i) (Ideal.ofBits .f32 0x3F800000#32 + Ideal.exp (-(D i))) := rfl

theorem YB_eq (X : WX) (W : WW)
    (hx : ∀ c : Dev nD, xm m c = Layout.block ⟨2, ![8192, 2048]⟩ ⟨2, ![8192, 8192]⟩ 1 4 c X)
    (hw : ∀ c : Dev nD, wm m c = Layout.block ⟨2, ![2048, 4096]⟩ ⟨2, ![8192, 4096]⟩ 0 4 c W) :
    YB m = refV X W := by
  funext i
  have hi : i = ix2 (i 0) (i 1) := idx_ext rfl rfl
  have hd : Host.dotGeneral (F := Ideal) (φ₁ := .f32) (φ₂ := .f32) Cert.ReferenceIdeal.dot_S8192x8192_S8192x4096_S8192x4096_1_0_0_1_n_n none X W i
      = ∑ K : Fin 8192, X (ix2 (i 0) K) * W (ix2 K (i 1)) :=
    (congrArg _ hi).trans (StackMember.dotGeneral_plain_apply (m := 8192) (n := 4096) (k := 8192) none X W (i 0) (i 1))
  show silu (F := Ideal) (acc m _ 3 _ ((i 0).val / 512) ((i 0).val % 512) (i 1).val) = _
  rw [silu_eq, acc_eq, sum_P m X W hx hw (i 0) (i 1), ← hd]
  exact (epi _ i).symm

/-- The kernel's result is the reference's, on every device, for every input. -/
theorem algebraic : Cert.algebraic_KernelIdeal_ReferenceIdeal := fun m g m' g' _ h => by
  refine ⟨YB m, (θ_run _ _ _).mono (fun r h' c => ⟨(h'.1 c).2.2, (h'.1 c).1, (h'.1 c).2.1⟩) (run_main (F := Ideal) m g),
    (θ_run _ _ _).mono (fun r h' => ⟨(h' 0).1.trans ?_, (h' 0).2⟩) (Cert.ReferenceIdeal.Value.run (F := Ideal) m' g')⟩
  exact (YB_eq m _ _ (fun c => (h c).1) (fun c => (h c).2)).symm

end Cert.Value
end
-- ==== Proof.lean ====
/- The certificate of the four-device matrix product: the kernel and its reading over the extended reals end without fault with
   their arguments unchanged and every counter at zero, and the result on every device is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as written ends, with its arguments unchanged and every counter at zero; -/
theorem frame_kernel : Cert.quiescent_Kernel := fun m g _ => Cert.Twin.run_main (F := Bits) m g

/-- so does its reading over the extended reals, -/
theorem frame_kernelIdeal : Cert.quiescent_KernelIdeal := fun m g _ => Cert.Twin.run_args (F := Ideal) m g

/-- and the reference's. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- All five claims. -/
theorem claim : Cert.Claim := ⟨Cert.Kernel.Gen.facts, Cert.KernelIdeal.Gen.facts, Cert.ReferenceIdeal.Gen.facts,
  frame_kernel, frame_kernelIdeal, frame_referenceIdeal, trivial, Cert.Value.algebraic⟩

end Cert.Proof

end
